-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_routed : Cert.Pre_routed.Facts] (m : (ℓ : Loc Cert.Kernel4.nD Cert.Kernel4.τ Cert.Kernel4.sig) → Buf (Elt Bits) ℓ) : Prop :=
  ∀ c : Dev Cert.Kernel4.nD,
    (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.2.2.2.2.2.1 = (fun _ => 1#1)
    ∧ (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10)) (m ((c.tc : Thread Cert.Kernel4.nD Cert.Kernel4.τ).loc Cert.Kernel4.main_arg11)) (m ((c.tc : Thread Cert.Kernel4.nD Cert.Kernel4.τ).loc Cert.Kernel4.main_arg12))).2.2.2.2.2.2.2.2.2.2.2.2 = (fun _ => 1#1)

def Pre_Kernel4Ideal [hPre_routed : Cert.Pre_routed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routed [hPre_routed : Cert.Pre_routed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.2.2.2 = (fun _ => 1#1)

def Pre_Kernel5 [hPre_routed_up : Cert.Pre_routed_up.Facts] (m : (ℓ : Loc Cert.Kernel5.nD Cert.Kernel5.τ Cert.Kernel5.sig) → Buf (Elt Bits) ℓ) : Prop :=
  ∀ c : Dev Cert.Kernel5.nD,
    (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.2.2.2.2.2.1 = (fun _ => 1#1)
    ∧ (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10)) (m ((c.tc : Thread Cert.Kernel5.nD Cert.Kernel5.τ).loc Cert.Kernel5.main_arg11)) (m ((c.tc : Thread Cert.Kernel5.nD Cert.Kernel5.τ).loc Cert.Kernel5.main_arg12))).2.2.2.2.2.2.2.2.2.2.2.2 = (fun _ => 1#1)

def Pre_Kernel5Ideal [hPre_routed_up : Cert.Pre_routed_up.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.2.2.2.2.2.1 = (fun _ => 1#1)
    ∧ (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed_up [hPre_routed_up : Cert.Pre_routed_up.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.2.2.2.2.2.1 = (fun _ => 1#1)
    ∧ (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_routed : Cert.Pre_routed.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_routed [hReference4Ideal : Cert.Reference4Ideal.Facts] [hPre_routed : Cert.Pre_routed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routed m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] [hPre_routed_up : Cert.Pre_routed_up.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] [hPre_routed_up : Cert.Pre_routed_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_routed_up [hReference5Ideal : Cert.Reference5Ideal.Facts] [hPre_routed_up : Cert.Pre_routed_up.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed_up m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] [hPre_routed_up : Cert.Pre_routed_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hPre_routed_up : Cert.Pre_routed_up.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_routed := hPre_routed)
    ∧ quiescent_Kernel4Ideal (hKernel4Ideal := hKernel4Ideal) (hPre_routed := hPre_routed)
    ∧ quiescent_Reference4Ideal (hReference4Ideal := hReference4Ideal)
    ∧ quiescent_Reference4Ideal_pre_routed (hReference4Ideal := hReference4Ideal) (hPre_routed := hPre_routed)
    ∧ quiescent_Kernel5 (hKernel5 := hKernel5) (hPre_routed_up := hPre_routed_up)
    ∧ quiescent_Kernel5Ideal (hKernel5Ideal := hKernel5Ideal) (hPre_routed_up := hPre_routed_up)
    ∧ quiescent_Reference5Ideal (hReference5Ideal := hReference5Ideal)
    ∧ quiescent_Reference5Ideal_pre_routed_up (hReference5Ideal := hReference5Ideal) (hPre_routed_up := hPre_routed_up)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_routed := hPre_routed)
    ∧ preserves_Kernel5_Kernel5Ideal
    ∧ algebraic_Kernel5Ideal_Reference5Ideal (hKernel5Ideal := hKernel5Ideal) (hReference5Ideal := hReference5Ideal) (hPre_routed_up := hPre_routed_up)
-- ==== Pre_routed.lean ====
abbrev S81920x2048 : Shape := ⟨2, ![81920, 2048]⟩
abbrev S2x32x2048x2048 : Shape := ⟨4, ![2, 32, 2048, 2048]⟩
abbrev S32x2048 : Shape := ⟨2, ![32, 2048]⟩
abbrev S320 : Shape := ⟨1, ![320]⟩
abbrev S4x320 : Shape := ⟨2, ![4, 320]⟩
abbrev S1x320 : Shape := ⟨2, ![1, 320]⟩
abbrev S320x1 : Shape := ⟨2, ![320, 1]⟩
abbrev S_ : Shape := ⟨0, ![]⟩
abbrev S320x320 : Shape := ⟨2, ![320, 320]⟩
abbrev S319 : Shape := ⟨1, ![319]⟩

class Facts : Prop where
  bcast_S320_S1x320_1 : S320.BroadcastsInDim S1x320 (![1] : Fin 1 → Fin S1x320.rank)
  bcast_S320_S320x1_0 : S320.BroadcastsInDim S320x1 (![0] : Fin 1 → Fin S320x1.rank)
  bcast_S_S320 : S_.BroadcastsInDim S320 (![] : Fin 0 → Fin S320.rank)
  bcast_S_S4x320 : S_.BroadcastsInDim S4x320 (![] : Fin 0 → Fin S4x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  bcast_S_S320x1 : S_.BroadcastsInDim S320x1 (![] : Fin 0 → Fin S320x1.rank)
  slices_S320_S319_1 : S320.Slices ![1] S319
  bcast_S_S319 : S_.BroadcastsInDim S319 (![] : Fin 0 → Fin S319.rank)
  slices_S320_S319_0 : S320.Slices ![0] S319
  bcast_S_S1x320 : S_.BroadcastsInDim S1x320 (![] : Fin 0 → Fin S1x320.rank)
  bcast_S1x320_S4x320_0_1 : S1x320.BroadcastsInDim S4x320 (![0, 1] : Fin 2 → Fin S4x320.rank)

variable [Facts]

def fn_part5 {F : FTy → Type} [FloatOps F] (main_arg6 : IVec S320 32) (main_arg7 : IVec S320 32) (main_arg8 : IVec S320 32) (main_arg11 : IVec S4x320 32) (main_arg12 : IVec S4x320 32) (main_v8 : IVec S320 1) (main_v13 : IVec S320 1) (main_v18 : IVec S320 1) (main_v23 : IVec S4x320 1) (main_v28 : IVec S4x320 1) (main_v45 : IVec S320x320 1) (main_v64 : IVec S320x320 1) (main_v75 : IVec S320x320 1) (main_v88 : IVec S320x320 1) (main_v93 : IVec S320 1) (main_v98 : IVec S320 1) (main_v99 : IVec S319 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_c_19 : IVec S_ 32 := constantI S_ 32 1#32
  let main_v100 : IVec S319 32 := broadcastInDim S319 ![] bcast_S_S319 main_c_19
  let main_v101 : IVec S319 1 := cmpi .eq main_v99 main_v100
  let main_v102 : IVec S319 32 := (extractStridedSlice S319 ![1] · slices_S320_S319_1) main_arg7
  let main_v103 : IVec S319 32 := (extractStridedSlice S319 ![0] · slices_S320_S319_0) main_arg7
  let main_v104 : IVec S319 1 := cmpi .eq main_v102 main_v103
  let main_v105 : IVec S319 32 := (extractStridedSlice S319 ![1] · slices_S320_S319_1) main_arg6
  let main_v106 : IVec S319 32 := (extractStridedSlice S319 ![0] · slices_S320_S319_0) main_arg6
  let main_v107 : IVec S319 1 := cmpi .eq main_v105 main_v106
  let main_v108 : IVec S319 1 := andi main_v104 main_v107
  let main_v109 : IVec S319 1 := ori main_v101 main_v108
  let main_v110 : IVec S1x320 32 := broadcastInDim S1x320 ![1] bcast_S320_S1x320_1 main_arg8
  let main_c_20 : IVec S_ 32 := constantI S_ 32 1#32
  let main_v111 : IVec S1x320 32 := broadcastInDim S1x320 ![] bcast_S_S1x320 main_c_20
  let main_v112 : IVec S1x320 1 := cmpi .ne main_v110 main_v111
  let main_v113 : IVec S1x320 32 := broadcastInDim S1x320 ![1] bcast_S320_S1x320_1 main_arg7
  let main_v114 : IVec S4x320 32 := broadcastInDim S4x320 ![0, 1] bcast_S1x320_S4x320_0_1 main_v113
  let main_v115 : IVec S4x320 1 := cmpi .eq main_arg11 main_v114
  let main_v116 : IVec S1x320 32 := broadcastInDim S1x320 ![1] bcast_S320_S1x320_1 main_arg6
  let main_v117 : IVec S4x320 32 := broadcastInDim S4x320 ![0, 1] bcast_S1x320_S4x320_0_1 main_v116
  let main_v118 : IVec S4x320 1 := cmpi .eq main_arg12 main_v117
  let main_v119 : IVec S4x320 1 := andi main_v115 main_v118
  let main_v120 : IVec S4x320 1 := broadcastInDim S4x320 ![0, 1] bcast_S1x320_S4x320_0_1 main_v112
  let main_v121 : IVec S4x320 1 := ori main_v120 main_v119
  (main_v8, main_v13, main_v18, main_v23, main_v28, main_v45, main_v64, main_v75, main_v88, main_v93, main_v98, main_v109, main_v121)

def fn_part4 {F : FTy → Type} [FloatOps F] (main_arg4 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v8 : IVec S320 1) (main_v13 : IVec S320 1) (main_v18 : IVec S320 1) (main_v23 : IVec S4x320 1) (main_v28 : IVec S4x320 1) (main_v45 : IVec S320x320 1) (main_v64 : IVec S320x320 1) (main_v75 : IVec S320x320 1) (main_v79 : IVec S320x1 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v80 : IVec S320x320 32 := broadcastInDim S320x320 ![0, 1] bcast_S320x1_S320x320_0_1 main_v79
  let main_v81 : IVec S320x320 32 := broadcastInDim S320x320 ![0, 1] bcast_S1x320_S320x320_0_1 main_v2
  let main_v82 : IVec S320x320 1 := cmpi .ne main_v80 main_v81
  let main_v83 : IVec S1x320 32 := broadcastInDim S1x320 ![1] bcast_S320_S1x320_1 main_arg4
  let main_v84 : IVec S320x1 32 := broadcastInDim S320x1 ![0] bcast_S320_S320x1_0 main_arg10
  let main_v85 : IVec S320x320 32 := broadcastInDim S320x320 ![0, 1] bcast_S1x320_S320x320_0_1 main_v83
  let main_v86 : IVec S320x320 32 := broadcastInDim S320x320 ![0, 1] bcast_S320x1_S320x320_0_1 main_v84
  let main_v87 : IVec S320x320 1 := cmpi .eq main_v85 main_v86
  let main_v88 : IVec S320x320 1 := ori main_v82 main_v87
  let main_c_15 : IVec S_ 32 := constantI S_ 32 1#32
  let main_v89 : IVec S320 32 := broadcastInDim S320 ![] bcast_S_S320 main_c_15
  let main_v90 : IVec S320 1 := cmpi .eq main_arg9 main_v89
  let main_c_16 : IVec S_ 32 := constantI S_ 32 1#32
  let main_v91 : IVec S320 32 := broadcastInDim S320 ![] bcast_S_S320 main_c_16
  let main_v92 : IVec S320 1 := cmpi .ne main_arg10 main_v91
  let main_v93 : IVec S320 1 := ori main_v90 main_v92
  let main_c_17 : IVec S_ 32 := constantI S_ 32 0#32
  let main_v94 : IVec S320 32 := broadcastInDim S320 ![] bcast_S_S320 main_c_17
  let main_v95 : IVec S320 1 := cmpi .ne main_v0 main_v94
  let main_c_18 : IVec S_ 32 := constantI S_ 32 1#32
  let main_v96 : IVec S320 32 := broadcastInDim S320 ![] bcast_S_S320 main_c_18
  let main_v97 : IVec S320 1 := cmpi .eq main_arg8 main_v96
  let main_v98 : IVec S320 1 := ori main_v95 main_v97
  let main_v99 : IVec S319 32 := (extractStridedSlice S319 ![1] · slices_S320_S319_1) main_arg8
  fn_part5 (F := F) main_arg6 main_arg7 main_arg8 main_arg11 main_arg12 main_v8 main_v13 main_v18 main_v23 main_v28 main_v45 main_v64 main_v75 main_v88 main_v93 main_v98 main_v99

def fn_part3 {F : FTy → Type} [FloatOps F] (main_arg3 : IVec S320 32) (main_arg4 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v3 : IVec S320x1 32) (main_v8 : IVec S320 1) (main_v13 : IVec S320 1) (main_v18 : IVec S320 1) (main_v23 : IVec S4x320 1) (main_v28 : IVec S4x320 1) (main_v45 : IVec S320x320 1) (main_v58 : IVec S320x320 1) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v59 : IVec S1x320 32 := broadcastInDim S1x320 ![1] bcast_S320_S1x320_1 main_arg3
  let main_v60 : IVec S320x1 32 := broadcastInDim S320x1 ![0] bcast_S320_S320x1_0 main_arg7
  let main_v61 : IVec S320x320 32 := broadcastInDim S320x320 ![0, 1] bcast_S1x320_S320x320_0_1 main_v59
  let main_v62 : IVec S320x320 32 := broadcastInDim S320x320 ![0, 1] bcast_S320x1_S320x320_0_1 main_v60
  let main_v63 : IVec S320x320 1 := cmpi .eq main_v61 main_v62
  let main_v64 : IVec S320x320 1 := ori main_v58 main_v63
  let main_c_12 : IVec S_ 32 := constantI S_ 32 2#32
  let main_v65 : IVec S320x1 32 := broadcastInDim S320x1 ![] bcast_S_S320x1 main_c_12
  let main_v66 : IVec S320x1 32 := muli main_v65 main_v3
  let main_v67 : IVec S320x320 32 := broadcastInDim S320x320 ![0, 1] bcast_S320x1_S320x320_0_1 main_v66
  let main_v68 : IVec S320x320 32 := broadcastInDim S320x320 ![0, 1] bcast_S1x320_S320x320_0_1 main_v2
  let main_v69 : IVec S320x320 1 := cmpi .ne main_v67 main_v68
  let main_v70 : IVec S1x320 32 := broadcastInDim S1x320 ![1] bcast_S320_S1x320_1 main_arg4
  let main_v71 : IVec S320x1 32 := broadcastInDim S320x1 ![0] bcast_S320_S320x1_0 main_arg9
  let main_v72 : IVec S320x320 32 := broadcastInDim S320x320 ![0, 1] bcast_S1x320_S320x320_0_1 main_v70
  let main_v73 : IVec S320x320 32 := broadcastInDim S320x320 ![0, 1] bcast_S320x1_S320x320_0_1 main_v71
  let main_v74 : IVec S320x320 1 := cmpi .eq main_v72 main_v73
  let main_v75 : IVec S320x320 1 := ori main_v69 main_v74
  let main_c_13 : IVec S_ 32 := constantI S_ 32 2#32
  let main_v76 : IVec S320x1 32 := broadcastInDim S320x1 ![] bcast_S_S320x1 main_c_13
  let main_v77 : IVec S320x1 32 := muli main_v76 main_v3
  let main_c_14 : IVec S_ 32 := constantI S_ 32 1#32
  let main_v78 : IVec S320x1 32 := broadcastInDim S320x1 ![] bcast_S_S320x1 main_c_14
  let main_v79 : IVec S320x1 32 := addi main_v77 main_v78
  fn_part4 (F := F) main_arg4 main_arg6 main_arg7 main_arg8 main_arg9 main_arg10 main_arg11 main_arg12 main_v0 main_v2 main_v8 main_v13 main_v18 main_v23 main_v28 main_v45 main_v64 main_v75 main_v79

def fn_part2 {F : FTy → Type} [FloatOps F] (main_arg3 : IVec S320 32) (main_arg4 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v3 : IVec S320x1 32) (main_v8 : IVec S320 1) (main_v13 : IVec S320 1) (main_v18 : IVec S320 1) (main_v23 : IVec S4x320 1) (main_v28 : IVec S4x320 1) (main_v33 : IVec S320x320 1) (main_v36 : IVec S320x320 32) (main_v37 : IVec S320x320 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v38 : IVec S320x320 1 := cmpi .ne main_v36 main_v37
  let main_v39 : IVec S320x320 1 := ori main_v33 main_v38
  let main_v40 : IVec S320x1 32 := broadcastInDim S320x1 ![0] bcast_S320_S320x1_0 main_arg6
  let main_v41 : IVec S1x320 32 := broadcastInDim S1x320 ![1] bcast_S320_S1x320_1 main_arg6
  let main_v42 : IVec S320x320 32 := broadcastInDim S320x320 ![0, 1] bcast_S320x1_S320x320_0_1 main_v40
  let main_v43 : IVec S320x320 32 := broadcastInDim S320x320 ![0, 1] bcast_S1x320_S320x320_0_1 main_v41
  let main_v44 : IVec S320x320 1 := cmpi .ne main_v42 main_v43
  let main_v45 : IVec S320x320 1 := ori main_v39 main_v44
  let main_c_9 : IVec S_ 32 := constantI S_ 32 2#32
  let main_v46 : IVec S320x1 32 := broadcastInDim S320x1 ![] bcast_S_S320x1 main_c_9
  let main_v47 : IVec S320x1 32 := muli main_v46 main_v3
  let main_v48 : IVec S320x320 32 := broadcastInDim S320x320 ![0, 1] bcast_S320x1_S320x320_0_1 main_v47
  let main_v49 : IVec S320x320 32 := broadcastInDim S320x320 ![0, 1] bcast_S1x320_S320x320_0_1 main_v2
  let main_v50 : IVec S320x320 1 := cmpi .ne main_v48 main_v49
  let main_c_10 : IVec S_ 32 := constantI S_ 32 2#32
  let main_v51 : IVec S320x1 32 := broadcastInDim S320x1 ![] bcast_S_S320x1 main_c_10
  let main_v52 : IVec S320x1 32 := muli main_v51 main_v3
  let main_c_11 : IVec S_ 32 := constantI S_ 32 1#32
  let main_v53 : IVec S320x1 32 := broadcastInDim S320x1 ![] bcast_S_S320x1 main_c_11
  let main_v54 : IVec S320x1 32 := addi main_v52 main_v53
  let main_v55 : IVec S320x320 32 := broadcastInDim S320x320 ![0, 1] bcast_S320x1_S320x320_0_1 main_v54
  let main_v56 : IVec S320x320 32 := broadcastInDim S320x320 ![0, 1] bcast_S1x320_S320x320_0_1 main_v2
  let main_v57 : IVec S320x320 1 := cmpi .ne main_v55 main_v56
  let main_v58 : IVec S320x320 1 := andi main_v50 main_v57
  fn_part3 (F := F) main_arg3 main_arg4 main_arg6 main_arg7 main_arg8 main_arg9 main_arg10 main_arg11 main_arg12 main_v0 main_v2 main_v3 main_v8 main_v13 main_v18 main_v23 main_v28 main_v45 main_v58

def fn_part1 {F : FTy → Type} [FloatOps F] (main_arg3 : IVec S320 32) (main_arg4 : IVec S320 32) (main_arg5 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v3 : IVec S320x1 32) (main_v8 : IVec S320 1) (main_v13 : IVec S320 1) (main_v15 : IVec S320 1) (main_v17 : IVec S320 1) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v18 : IVec S320 1 := andi main_v15 main_v17
  let main_c_5 : IVec S_ 32 := constantI S_ 32 0#32
  let main_v19 : IVec S4x320 32 := broadcastInDim S4x320 ![] bcast_S_S4x320 main_c_5
  let main_v20 : IVec S4x320 1 := cmpi .sge main_arg11 main_v19
  let main_c_6 : IVec S_ 32 := constantI S_ 32 32#32
  let main_v21 : IVec S4x320 32 := broadcastInDim S4x320 ![] bcast_S_S4x320 main_c_6
  let main_v22 : IVec S4x320 1 := cmpi .slt main_arg11 main_v21
  let main_v23 : IVec S4x320 1 := andi main_v20 main_v22
  let main_c_7 : IVec S_ 32 := constantI S_ 32 0#32
  let main_v24 : IVec S4x320 32 := broadcastInDim S4x320 ![] bcast_S_S4x320 main_c_7
  let main_v25 : IVec S4x320 1 := cmpi .sge main_arg12 main_v24
  let main_c_8 : IVec S_ 32 := constantI S_ 32 2#32
  let main_v26 : IVec S4x320 32 := broadcastInDim S4x320 ![] bcast_S_S4x320 main_c_8
  let main_v27 : IVec S4x320 1 := cmpi .slt main_arg12 main_v26
  let main_v28 : IVec S4x320 1 := andi main_v25 main_v27
  let main_v29 : IVec S320x1 32 := broadcastInDim S320x1 ![0] bcast_S320_S320x1_0 main_v0
  let main_v30 : IVec S1x320 32 := broadcastInDim S1x320 ![1] bcast_S320_S1x320_1 main_v0
  let main_v31 : IVec S320x320 32 := broadcastInDim S320x320 ![0, 1] bcast_S320x1_S320x320_0_1 main_v29
  let main_v32 : IVec S320x320 32 := broadcastInDim S320x320 ![0, 1] bcast_S1x320_S320x320_0_1 main_v30
  let main_v33 : IVec S320x320 1 := cmpi .eq main_v31 main_v32
  let main_v34 : IVec S320x1 32 := broadcastInDim S320x1 ![0] bcast_S320_S320x1_0 main_arg5
  let main_v35 : IVec S1x320 32 := broadcastInDim S1x320 ![1] bcast_S320_S1x320_1 main_arg5
  let main_v36 : IVec S320x320 32 := broadcastInDim S320x320 ![0, 1] bcast_S320x1_S320x320_0_1 main_v34
  let main_v37 : IVec S320x320 32 := broadcastInDim S320x320 ![0, 1] bcast_S1x320_S320x320_0_1 main_v35
  fn_part2 (F := F) main_arg3 main_arg4 main_arg6 main_arg7 main_arg8 main_arg9 main_arg10 main_arg11 main_arg12 main_v0 main_v2 main_v3 main_v8 main_v13 main_v18 main_v23 main_v28 main_v33 main_v36 main_v37

def fn {F : FTy → Type} [FloatOps F] (main_arg0 : FVec F S81920x2048 .bf16) (main_arg1 : FVec F S2x32x2048x2048 .f32) (main_arg2 : FVec F S32x2048 .f32) (main_arg3 : IVec S320 32) (main_arg4 : IVec S320 32) (main_arg5 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v0 : IVec S320 32 := iotaInDim S320 32 0
  let main_v1 : IVec S320 32 := iotaInDim S320 32 0
  let main_v2 : IVec S1x320 32 := broadcastInDim S1x320 ![1] bcast_S320_S1x320_1 main_v1
  let main_v3 : IVec S320x1 32 := broadcastInDim S320x1 ![0] bcast_S320_S320x1_0 main_arg5
  let main_c : IVec S_ 32 := constantI S_ 32 0#32
  let main_v4 : IVec S320 32 := broadcastInDim S320 ![] bcast_S_S320 main_c
  let main_v5 : IVec S320 1 := cmpi .sge main_arg3 main_v4
  let main_c_0 : IVec S_ 32 := constantI S_ 32 32#32
  let main_v6 : IVec S320 32 := broadcastInDim S320 ![] bcast_S_S320 main_c_0
  let main_v7 : IVec S320 1 := cmpi .slt main_arg3 main_v6
  let main_v8 : IVec S320 1 := andi main_v5 main_v7
  let main_c_1 : IVec S_ 32 := constantI S_ 32 0#32
  let main_v9 : IVec S320 32 := broadcastInDim S320 ![] bcast_S_S320 main_c_1
  let main_v10 : IVec S320 1 := cmpi .sge main_arg5 main_v9
  let main_c_2 : IVec S_ 32 := constantI S_ 32 160#32
  let main_v11 : IVec S320 32 := broadcastInDim S320 ![] bcast_S_S320 main_c_2
  let main_v12 : IVec S320 1 := cmpi .slt main_arg5 main_v11
  let main_v13 : IVec S320 1 := andi main_v10 main_v12
  let main_c_3 : IVec S_ 32 := constantI S_ 32 0#32
  let main_v14 : IVec S320 32 := broadcastInDim S320 ![] bcast_S_S320 main_c_3
  let main_v15 : IVec S320 1 := cmpi .sge main_arg6 main_v14
  let main_c_4 : IVec S_ 32 := constantI S_ 32 2#32
  let main_v16 : IVec S320 32 := broadcastInDim S320 ![] bcast_S_S320 main_c_4
  let main_v17 : IVec S320 1 := cmpi .slt main_arg6 main_v16
  fn_part1 (F := F) main_arg3 main_arg4 main_arg5 main_arg6 main_arg7 main_arg8 main_arg9 main_arg10 main_arg11 main_arg12 main_v0 main_v2 main_v3 main_v8 main_v13 main_v15 main_v17
-- ==== Pre_routed_up.lean ====
abbrev S655360x128 : Shape := ⟨2, ![655360, 128]⟩
abbrev S2x32x2048x4096 : Shape := ⟨4, ![2, 32, 2048, 4096]⟩
abbrev S32x4096 : Shape := ⟨2, ![32, 4096]⟩
abbrev S320 : Shape := ⟨1, ![320]⟩
abbrev S4x320 : Shape := ⟨2, ![4, 320]⟩
abbrev S1x320 : Shape := ⟨2, ![1, 320]⟩
abbrev S320x1 : Shape := ⟨2, ![320, 1]⟩
abbrev S_ : Shape := ⟨0, ![]⟩
abbrev S320x320 : Shape := ⟨2, ![320, 320]⟩
abbrev S319 : Shape := ⟨1, ![319]⟩

class Facts : Prop where
  bcast_S320_S1x320_1 : S320.BroadcastsInDim S1x320 (![1] : Fin 1 → Fin S1x320.rank)
  bcast_S320_S320x1_0 : S320.BroadcastsInDim S320x1 (![0] : Fin 1 → Fin S320x1.rank)
  bcast_S_S320 : S_.BroadcastsInDim S320 (![] : Fin 0 → Fin S320.rank)
  bcast_S_S4x320 : S_.BroadcastsInDim S4x320 (![] : Fin 0 → Fin S4x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  bcast_S_S320x1 : S_.BroadcastsInDim S320x1 (![] : Fin 0 → Fin S320x1.rank)
  slices_S320_S319_1 : S320.Slices ![1] S319
  bcast_S_S319 : S_.BroadcastsInDim S319 (![] : Fin 0 → Fin S319.rank)
  slices_S320_S319_0 : S320.Slices ![0] S319
  bcast_S_S1x320 : S_.BroadcastsInDim S1x320 (![] : Fin 0 → Fin S1x320.rank)
  bcast_S1x320_S4x320_0_1 : S1x320.BroadcastsInDim S4x320 (![0, 1] : Fin 2 → Fin S4x320.rank)

variable [Facts]

def fn_part5 {F : FTy → Type} [FloatOps F] (main_arg6 : IVec S320 32) (main_arg7 : IVec S320 32) (main_arg8 : IVec S320 32) (main_arg11 : IVec S4x320 32) (main_arg12 : IVec S4x320 32) (main_v8 : IVec S320 1) (main_v13 : IVec S320 1) (main_v18 : IVec S320 1) (main_v23 : IVec S4x320 1) (main_v28 : IVec S4x320 1) (main_v45 : IVec S320x320 1) (main_v64 : IVec S320x320 1) (main_v75 : IVec S320x320 1) (main_v88 : IVec S320x320 1) (main_v93 : IVec S320 1) (main_v98 : IVec S320 1) (main_v99 : IVec S319 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_c_19 : IVec S_ 32 := constantI S_ 32 1#32
  let main_v100 : IVec S319 32 := broadcastInDim S319 ![] bcast_S_S319 main_c_19
  let main_v101 : IVec S319 1 := cmpi .eq main_v99 main_v100
  let main_v102 : IVec S319 32 := (extractStridedSlice S319 ![1] · slices_S320_S319_1) main_arg7
  let main_v103 : IVec S319 32 := (extractStridedSlice S319 ![0] · slices_S320_S319_0) main_arg7
  let main_v104 : IVec S319 1 := cmpi .eq main_v102 main_v103
  let main_v105 : IVec S319 32 := (extractStridedSlice S319 ![1] · slices_S320_S319_1) main_arg6
  let main_v106 : IVec S319 32 := (extractStridedSlice S319 ![0] · slices_S320_S319_0) main_arg6
  let main_v107 : IVec S319 1 := cmpi .eq main_v105 main_v106
  let main_v108 : IVec S319 1 := andi main_v104 main_v107
  let main_v109 : IVec S319 1 := ori main_v101 main_v108
  let main_v110 : IVec S1x320 32 := broadcastInDim S1x320 ![1] bcast_S320_S1x320_1 main_arg8
  let main_c_20 : IVec S_ 32 := constantI S_ 32 1#32
  let main_v111 : IVec S1x320 32 := broadcastInDim S1x320 ![] bcast_S_S1x320 main_c_20
  let main_v112 : IVec S1x320 1 := cmpi .ne main_v110 main_v111
  let main_v113 : IVec S1x320 32 := broadcastInDim S1x320 ![1] bcast_S320_S1x320_1 main_arg7
  let main_v114 : IVec S4x320 32 := broadcastInDim S4x320 ![0, 1] bcast_S1x320_S4x320_0_1 main_v113
  let main_v115 : IVec S4x320 1 := cmpi .eq main_arg11 main_v114
  let main_v116 : IVec S1x320 32 := broadcastInDim S1x320 ![1] bcast_S320_S1x320_1 main_arg6
  let main_v117 : IVec S4x320 32 := broadcastInDim S4x320 ![0, 1] bcast_S1x320_S4x320_0_1 main_v116
  let main_v118 : IVec S4x320 1 := cmpi .eq main_arg12 main_v117
  let main_v119 : IVec S4x320 1 := andi main_v115 main_v118
  let main_v120 : IVec S4x320 1 := broadcastInDim S4x320 ![0, 1] bcast_S1x320_S4x320_0_1 main_v112
  let main_v121 : IVec S4x320 1 := ori main_v120 main_v119
  (main_v8, main_v13, main_v18, main_v23, main_v28, main_v45, main_v64, main_v75, main_v88, main_v93, main_v98, main_v109, main_v121)

def fn_part4 {F : FTy → Type} [FloatOps F] (main_arg4 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v8 : IVec S320 1) (main_v13 : IVec S320 1) (main_v18 : IVec S320 1) (main_v23 : IVec S4x320 1) (main_v28 : IVec S4x320 1) (main_v45 : IVec S320x320 1) (main_v64 : IVec S320x320 1) (main_v75 : IVec S320x320 1) (main_v79 : IVec S320x1 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v80 : IVec S320x320 32 := broadcastInDim S320x320 ![0, 1] bcast_S320x1_S320x320_0_1 main_v79
  let main_v81 : IVec S320x320 32 := broadcastInDim S320x320 ![0, 1] bcast_S1x320_S320x320_0_1 main_v2
  let main_v82 : IVec S320x320 1 := cmpi .ne main_v80 main_v81
  let main_v83 : IVec S1x320 32 := broadcastInDim S1x320 ![1] bcast_S320_S1x320_1 main_arg4
  let main_v84 : IVec S320x1 32 := broadcastInDim S320x1 ![0] bcast_S320_S320x1_0 main_arg10
  let main_v85 : IVec S320x320 32 := broadcastInDim S320x320 ![0, 1] bcast_S1x320_S320x320_0_1 main_v83
  let main_v86 : IVec S320x320 32 := broadcastInDim S320x320 ![0, 1] bcast_S320x1_S320x320_0_1 main_v84
  let main_v87 : IVec S320x320 1 := cmpi .eq main_v85 main_v86
  let main_v88 : IVec S320x320 1 := ori main_v82 main_v87
  let main_c_15 : IVec S_ 32 := constantI S_ 32 1#32
  let main_v89 : IVec S320 32 := broadcastInDim S320 ![] bcast_S_S320 main_c_15
  let main_v90 : IVec S320 1 := cmpi .eq main_arg9 main_v89
  let main_c_16 : IVec S_ 32 := constantI S_ 32 1#32
  let main_v91 : IVec S320 32 := broadcastInDim S320 ![] bcast_S_S320 main_c_16
  let main_v92 : IVec S320 1 := cmpi .ne main_arg10 main_v91
  let main_v93 : IVec S320 1 := ori main_v90 main_v92
  let main_c_17 : IVec S_ 32 := constantI S_ 32 0#32
  let main_v94 : IVec S320 32 := broadcastInDim S320 ![] bcast_S_S320 main_c_17
  let main_v95 : IVec S320 1 := cmpi .ne main_v0 main_v94
  let main_c_18 : IVec S_ 32 := constantI S_ 32 1#32
  let main_v96 : IVec S320 32 := broadcastInDim S320 ![] bcast_S_S320 main_c_18
  let main_v97 : IVec S320 1 := cmpi .eq main_arg8 main_v96
  let main_v98 : IVec S320 1 := ori main_v95 main_v97
  let main_v99 : IVec S319 32 := (extractStridedSlice S319 ![1] · slices_S320_S319_1) main_arg8
  fn_part5 (F := F) main_arg6 main_arg7 main_arg8 main_arg11 main_arg12 main_v8 main_v13 main_v18 main_v23 main_v28 main_v45 main_v64 main_v75 main_v88 main_v93 main_v98 main_v99

def fn_part3 {F : FTy → Type} [FloatOps F] (main_arg3 : IVec S320 32) (main_arg4 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v3 : IVec S320x1 32) (main_v8 : IVec S320 1) (main_v13 : IVec S320 1) (main_v18 : IVec S320 1) (main_v23 : IVec S4x320 1) (main_v28 : IVec S4x320 1) (main_v45 : IVec S320x320 1) (main_v58 : IVec S320x320 1) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v59 : IVec S1x320 32 := broadcastInDim S1x320 ![1] bcast_S320_S1x320_1 main_arg3
  let main_v60 : IVec S320x1 32 := broadcastInDim S320x1 ![0] bcast_S320_S320x1_0 main_arg7
  let main_v61 : IVec S320x320 32 := broadcastInDim S320x320 ![0, 1] bcast_S1x320_S320x320_0_1 main_v59
  let main_v62 : IVec S320x320 32 := broadcastInDim S320x320 ![0, 1] bcast_S320x1_S320x320_0_1 main_v60
  let main_v63 : IVec S320x320 1 := cmpi .eq main_v61 main_v62
  let main_v64 : IVec S320x320 1 := ori main_v58 main_v63
  let main_c_12 : IVec S_ 32 := constantI S_ 32 2#32
  let main_v65 : IVec S320x1 32 := broadcastInDim S320x1 ![] bcast_S_S320x1 main_c_12
  let main_v66 : IVec S320x1 32 := muli main_v65 main_v3
  let main_v67 : IVec S320x320 32 := broadcastInDim S320x320 ![0, 1] bcast_S320x1_S320x320_0_1 main_v66
  let main_v68 : IVec S320x320 32 := broadcastInDim S320x320 ![0, 1] bcast_S1x320_S320x320_0_1 main_v2
  let main_v69 : IVec S320x320 1 := cmpi .ne main_v67 main_v68
  let main_v70 : IVec S1x320 32 := broadcastInDim S1x320 ![1] bcast_S320_S1x320_1 main_arg4
  let main_v71 : IVec S320x1 32 := broadcastInDim S320x1 ![0] bcast_S320_S320x1_0 main_arg9
  let main_v72 : IVec S320x320 32 := broadcastInDim S320x320 ![0, 1] bcast_S1x320_S320x320_0_1 main_v70
  let main_v73 : IVec S320x320 32 := broadcastInDim S320x320 ![0, 1] bcast_S320x1_S320x320_0_1 main_v71
  let main_v74 : IVec S320x320 1 := cmpi .eq main_v72 main_v73
  let main_v75 : IVec S320x320 1 := ori main_v69 main_v74
  let main_c_13 : IVec S_ 32 := constantI S_ 32 2#32
  let main_v76 : IVec S320x1 32 := broadcastInDim S320x1 ![] bcast_S_S320x1 main_c_13
  let main_v77 : IVec S320x1 32 := muli main_v76 main_v3
  let main_c_14 : IVec S_ 32 := constantI S_ 32 1#32
  let main_v78 : IVec S320x1 32 := broadcastInDim S320x1 ![] bcast_S_S320x1 main_c_14
  let main_v79 : IVec S320x1 32 := addi main_v77 main_v78
  fn_part4 (F := F) main_arg4 main_arg6 main_arg7 main_arg8 main_arg9 main_arg10 main_arg11 main_arg12 main_v0 main_v2 main_v8 main_v13 main_v18 main_v23 main_v28 main_v45 main_v64 main_v75 main_v79

def fn_part2 {F : FTy → Type} [FloatOps F] (main_arg3 : IVec S320 32) (main_arg4 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v3 : IVec S320x1 32) (main_v8 : IVec S320 1) (main_v13 : IVec S320 1) (main_v18 : IVec S320 1) (main_v23 : IVec S4x320 1) (main_v28 : IVec S4x320 1) (main_v33 : IVec S320x320 1) (main_v36 : IVec S320x320 32) (main_v37 : IVec S320x320 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v38 : IVec S320x320 1 := cmpi .ne main_v36 main_v37
  let main_v39 : IVec S320x320 1 := ori main_v33 main_v38
  let main_v40 : IVec S320x1 32 := broadcastInDim S320x1 ![0] bcast_S320_S320x1_0 main_arg6
  let main_v41 : IVec S1x320 32 := broadcastInDim S1x320 ![1] bcast_S320_S1x320_1 main_arg6
  let main_v42 : IVec S320x320 32 := broadcastInDim S320x320 ![0, 1] bcast_S320x1_S320x320_0_1 main_v40
  let main_v43 : IVec S320x320 32 := broadcastInDim S320x320 ![0, 1] bcast_S1x320_S320x320_0_1 main_v41
  let main_v44 : IVec S320x320 1 := cmpi .ne main_v42 main_v43
  let main_v45 : IVec S320x320 1 := ori main_v39 main_v44
  let main_c_9 : IVec S_ 32 := constantI S_ 32 2#32
  let main_v46 : IVec S320x1 32 := broadcastInDim S320x1 ![] bcast_S_S320x1 main_c_9
  let main_v47 : IVec S320x1 32 := muli main_v46 main_v3
  let main_v48 : IVec S320x320 32 := broadcastInDim S320x320 ![0, 1] bcast_S320x1_S320x320_0_1 main_v47
  let main_v49 : IVec S320x320 32 := broadcastInDim S320x320 ![0, 1] bcast_S1x320_S320x320_0_1 main_v2
  let main_v50 : IVec S320x320 1 := cmpi .ne main_v48 main_v49
  let main_c_10 : IVec S_ 32 := constantI S_ 32 2#32
  let main_v51 : IVec S320x1 32 := broadcastInDim S320x1 ![] bcast_S_S320x1 main_c_10
  let main_v52 : IVec S320x1 32 := muli main_v51 main_v3
  let main_c_11 : IVec S_ 32 := constantI S_ 32 1#32
  let main_v53 : IVec S320x1 32 := broadcastInDim S320x1 ![] bcast_S_S320x1 main_c_11
  let main_v54 : IVec S320x1 32 := addi main_v52 main_v53
  let main_v55 : IVec S320x320 32 := broadcastInDim S320x320 ![0, 1] bcast_S320x1_S320x320_0_1 main_v54
  let main_v56 : IVec S320x320 32 := broadcastInDim S320x320 ![0, 1] bcast_S1x320_S320x320_0_1 main_v2
  let main_v57 : IVec S320x320 1 := cmpi .ne main_v55 main_v56
  let main_v58 : IVec S320x320 1 := andi main_v50 main_v57
  fn_part3 (F := F) main_arg3 main_arg4 main_arg6 main_arg7 main_arg8 main_arg9 main_arg10 main_arg11 main_arg12 main_v0 main_v2 main_v3 main_v8 main_v13 main_v18 main_v23 main_v28 main_v45 main_v58

def fn_part1 {F : FTy → Type} [FloatOps F] (main_arg3 : IVec S320 32) (main_arg4 : IVec S320 32) (main_arg5 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) (main_v0 : IVec S320 32) (main_v2 : IVec S1x320 32) (main_v3 : IVec S320x1 32) (main_v8 : IVec S320 1) (main_v13 : IVec S320 1) (main_v15 : IVec S320 1) (main_v17 : IVec S320 1) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v18 : IVec S320 1 := andi main_v15 main_v17
  let main_c_5 : IVec S_ 32 := constantI S_ 32 0#32
  let main_v19 : IVec S4x320 32 := broadcastInDim S4x320 ![] bcast_S_S4x320 main_c_5
  let main_v20 : IVec S4x320 1 := cmpi .sge main_arg11 main_v19
  let main_c_6 : IVec S_ 32 := constantI S_ 32 32#32
  let main_v21 : IVec S4x320 32 := broadcastInDim S4x320 ![] bcast_S_S4x320 main_c_6
  let main_v22 : IVec S4x320 1 := cmpi .slt main_arg11 main_v21
  let main_v23 : IVec S4x320 1 := andi main_v20 main_v22
  let main_c_7 : IVec S_ 32 := constantI S_ 32 0#32
  let main_v24 : IVec S4x320 32 := broadcastInDim S4x320 ![] bcast_S_S4x320 main_c_7
  let main_v25 : IVec S4x320 1 := cmpi .sge main_arg12 main_v24
  let main_c_8 : IVec S_ 32 := constantI S_ 32 2#32
  let main_v26 : IVec S4x320 32 := broadcastInDim S4x320 ![] bcast_S_S4x320 main_c_8
  let main_v27 : IVec S4x320 1 := cmpi .slt main_arg12 main_v26
  let main_v28 : IVec S4x320 1 := andi main_v25 main_v27
  let main_v29 : IVec S320x1 32 := broadcastInDim S320x1 ![0] bcast_S320_S320x1_0 main_v0
  let main_v30 : IVec S1x320 32 := broadcastInDim S1x320 ![1] bcast_S320_S1x320_1 main_v0
  let main_v31 : IVec S320x320 32 := broadcastInDim S320x320 ![0, 1] bcast_S320x1_S320x320_0_1 main_v29
  let main_v32 : IVec S320x320 32 := broadcastInDim S320x320 ![0, 1] bcast_S1x320_S320x320_0_1 main_v30
  let main_v33 : IVec S320x320 1 := cmpi .eq main_v31 main_v32
  let main_v34 : IVec S320x1 32 := broadcastInDim S320x1 ![0] bcast_S320_S320x1_0 main_arg5
  let main_v35 : IVec S1x320 32 := broadcastInDim S1x320 ![1] bcast_S320_S1x320_1 main_arg5
  let main_v36 : IVec S320x320 32 := broadcastInDim S320x320 ![0, 1] bcast_S320x1_S320x320_0_1 main_v34
  let main_v37 : IVec S320x320 32 := broadcastInDim S320x320 ![0, 1] bcast_S1x320_S320x320_0_1 main_v35
  fn_part2 (F := F) main_arg3 main_arg4 main_arg6 main_arg7 main_arg8 main_arg9 main_arg10 main_arg11 main_arg12 main_v0 main_v2 main_v3 main_v8 main_v13 main_v18 main_v23 main_v28 main_v33 main_v36 main_v37

def fn {F : FTy → Type} [FloatOps F] (main_arg0 : IVec S655360x128 32) (main_arg1 : FVec F S2x32x2048x4096 .f32) (main_arg2 : FVec F S32x4096 .f32) (main_arg3 : IVec S320 32) (main_arg4 : IVec S320 32) (main_arg5 : IVec S320 32) (main_arg6 : IVec S320 32) (main_arg7 : IVec S320 32) (main_arg8 : IVec S320 32) (main_arg9 : IVec S320 32) (main_arg10 : IVec S320 32) (main_arg11 : IVec S4x320 32) (main_arg12 : IVec S4x320 32) : IVec S320 1 × IVec S320 1 × IVec S320 1 × IVec S4x320 1 × IVec S4x320 1 × IVec S320x320 1 × IVec S320x320 1 × IVec S320x320 1 × IVec S320x320 1 × IVec S320 1 × IVec S320 1 × IVec S319 1 × IVec S4x320 1 :=
  let main_v0 : IVec S320 32 := iotaInDim S320 32 0
  let main_v1 : IVec S320 32 := iotaInDim S320 32 0
  let main_v2 : IVec S1x320 32 := broadcastInDim S1x320 ![1] bcast_S320_S1x320_1 main_v1
  let main_v3 : IVec S320x1 32 := broadcastInDim S320x1 ![0] bcast_S320_S320x1_0 main_arg5
  let main_c : IVec S_ 32 := constantI S_ 32 0#32
  let main_v4 : IVec S320 32 := broadcastInDim S320 ![] bcast_S_S320 main_c
  let main_v5 : IVec S320 1 := cmpi .sge main_arg3 main_v4
  let main_c_0 : IVec S_ 32 := constantI S_ 32 32#32
  let main_v6 : IVec S320 32 := broadcastInDim S320 ![] bcast_S_S320 main_c_0
  let main_v7 : IVec S320 1 := cmpi .slt main_arg3 main_v6
  let main_v8 : IVec S320 1 := andi main_v5 main_v7
  let main_c_1 : IVec S_ 32 := constantI S_ 32 0#32
  let main_v9 : IVec S320 32 := broadcastInDim S320 ![] bcast_S_S320 main_c_1
  let main_v10 : IVec S320 1 := cmpi .sge main_arg5 main_v9
  let main_c_2 : IVec S_ 32 := constantI S_ 32 160#32
  let main_v11 : IVec S320 32 := broadcastInDim S320 ![] bcast_S_S320 main_c_2
  let main_v12 : IVec S320 1 := cmpi .slt main_arg5 main_v11
  let main_v13 : IVec S320 1 := andi main_v10 main_v12
  let main_c_3 : IVec S_ 32 := constantI S_ 32 0#32
  let main_v14 : IVec S320 32 := broadcastInDim S320 ![] bcast_S_S320 main_c_3
  let main_v15 : IVec S320 1 := cmpi .sge main_arg6 main_v14
  let main_c_4 : IVec S_ 32 := constantI S_ 32 2#32
  let main_v16 : IVec S320 32 := broadcastInDim S320 ![] bcast_S_S320 main_c_4
  let main_v17 : IVec S320 1 := cmpi .slt main_arg6 main_v16
  fn_part1 (F := F) main_arg3 main_arg4 main_arg5 main_arg6 main_arg7 main_arg8 main_arg9 main_arg10 main_arg11 main_arg12 main_v0 main_v2 main_v3 main_v8 main_v13 main_v15 main_v17
-- ==== Kernel.lean ====
abbrev S8x2048x6656 : Shape := ⟨3, ![8, 2048, 6656]⟩
abbrev S1536 : Shape := ⟨1, ![1536]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S6 : Shape := ⟨1, ![6]⟩
abbrev S6x1 : Shape := ⟨2, ![6, 1]⟩
abbrev S6x2 : Shape := ⟨2, ![6, 2]⟩
abbrev S6x2x1 : Shape := ⟨3, ![6, 2, 1]⟩
abbrev S6x2x2048 : Shape := ⟨3, ![6, 2, 2048]⟩
abbrev S1x1536 : Shape := ⟨2, ![1, 1536]⟩
abbrev S8x2048x1536 : Shape := ⟨3, ![8, 2048, 1536]⟩
abbrev S1x2048x256 : Shape := ⟨3, ![1, 2048, 256]⟩
abbrev S1x2x2048 : Shape := ⟨3, ![1, 2, 2048]⟩
abbrev S1x256 : Shape := ⟨2, ![1, 256]⟩
abbrev S2048x256 : Shape := ⟨2, ![2048, 256]⟩
abbrev S2048x2048 : Shape := ⟨2, ![2048, 2048]⟩
abbrev S1x1x2048 : Shape := ⟨3, ![1, 1, 2048]⟩
abbrev S1x2048 : Shape := ⟨2, ![1, 2048]⟩
abbrev S256x2048 : Shape := ⟨2, ![256, 2048]⟩
abbrev S1x2048x128 : Shape := ⟨3, ![1, 2048, 128]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩

abbrev nBuf : Space → Nat
  | .hbm => 42
  | .vmem => 20
  | .smem => 0
  | _ => 0

abbrev bufTy : (tb : Table) → Fin (tcTables nBuf tb) → BufTy
  | .hbm, ⟨0, _⟩ => ⟨S8x2048x6656, .f32⟩
  | .hbm, ⟨1, _⟩ => ⟨S1536, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048, .f32⟩
  | .hbm, ⟨17, _⟩ => ⟨S2048x1, .f32⟩
  | .hbm, ⟨18, _⟩ => ⟨S1x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S6, .f32⟩
  | .hbm, ⟨25, _⟩ => ⟨S_, .f32⟩
  | .hbm, ⟨26, _⟩ => ⟨S6, .f32⟩
  | .hbm, ⟨27, _⟩ => ⟨S6, .f32⟩
  | .hbm, ⟨28, _⟩ => ⟨S_, .f32⟩
  | .hbm, ⟨29, _⟩ => ⟨S6, .f32⟩
  | .hbm, ⟨30, _⟩ => ⟨S6, .f32⟩
  | .hbm, ⟨31, _⟩ => ⟨S6, .f32⟩
  | .hbm, ⟨32, _⟩ => ⟨S6, .f32⟩
  | .hbm, ⟨33, _⟩ => ⟨S6, .f32⟩
  | .hbm, ⟨34, _⟩ => ⟨S6, .f32⟩
  | .hbm, ⟨35, _⟩ => ⟨S6x1, .f32⟩
  | .hbm, ⟨36, _⟩ => ⟨S6x1, .f32⟩
  | .hbm, ⟨37, _⟩ => ⟨S6x2, .f32⟩
  | .hbm, ⟨38, _⟩ => ⟨S6x2x1, .f32⟩
  | .hbm, ⟨39, _⟩ => ⟨S6x2x2048, .f32⟩
  | .hbm, ⟨40, _⟩ => ⟨S1x1536, .f32⟩
  | .hbm, ⟨41, _⟩ => ⟨S8x2048x1536, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S2048x128, .f32⟩
  | .local _ .vmem, ⟨9, _⟩ => ⟨S2048x128, .f32⟩
  | .local _ .vmem, ⟨10, _⟩ => ⟨S1x2x2048, .f32⟩
  | .local _ .vmem, ⟨11, _⟩ => ⟨S1x2x2048, .f32⟩
  | .local _ .vmem, ⟨12, _⟩ => ⟨S1x256, .f32⟩
  | .local _ .vmem, ⟨13, _⟩ => ⟨S1x256, .f32⟩
  | .local _ .vmem, ⟨14, _⟩ => ⟨S1x2048x256, .bf16⟩
  | .local _ .vmem, ⟨15, _⟩ => ⟨S1x2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x2048, .f32⟩
  | _, _ => ⟨S8x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

@[reducible] def k0_t1_loop : Scf.Loop 32 :=
  let c0_i32_36 : BitVec 32 := 0#32
  let c8_i32 : BitVec 32 := 8#32
  let v58 : BitVec 32 := Scalar.addi c0_i32_36 c8_i32
  let c1_i32_37 : BitVec 32 := 1#32
  ⟨c0_i32_36, v58, c1_i32_37⟩
def k0_mult1 (k0_t1 : Fin k0_t1_loop.trips) : BitVec 32 :=
  let c0_i32_36 : BitVec 32 := 0#32
  let c1_i32_37 : BitVec 32 := 1#32
  let arg15 : BitVec 32 := Scf.iv c0_i32_36 c1_i32_37 k0_t1
  let c256_i32 : BitVec 32 := 256#32
  let v59 : BitVec 32 := Scalar.muli arg15 c256_i32
  v59
def k0_off1 (k0_t1 : Fin k0_t1_loop.trips) : Fin 2 → Nat :=
  let c0_i32_36 : BitVec 32 := 0#32
  let c1_i32_37 : BitVec 32 := 1#32
  let arg15 : BitVec 32 := Scf.iv c0_i32_36 c1_i32_37 k0_t1
  let c256_i32 : BitVec 32 := 256#32
  let v59 : BitVec 32 := Scalar.muli arg15 c256_i32
  let v60 : BitVec 32 := v59
  let v78 : Index := Scalar.indexCast v60
  let c0_42 : Index := 0#32
  ![v78.toNat, 0]
@[reducible] def k0_t2_loop : Scf.Loop 32 :=
  let c0_i32_29 : BitVec 32 := 0#32
  let c4_i32 : BitVec 32 := 4#32
  let v53 : BitVec 32 := Scalar.addi c0_i32_29 c4_i32
  let c1_i32 : BitVec 32 := 1#32
  ⟨c0_i32_29, v53, c1_i32⟩
def k0_mult2 (k0_t2 : Fin k0_t2_loop.trips) : BitVec 32 :=
  let c2_i32 : BitVec 32 := 2#32
  let c0_i32_29 : BitVec 32 := 0#32
  let c1_i32 : BitVec 32 := 1#32
  let arg15 : BitVec 32 := Scf.iv c0_i32_29 c1_i32 k0_t2
  let v54 : BitVec 32 := Scalar.muli c2_i32 arg15
  let c0_i32_31 : BitVec 32 := 0#32
  let v55 : BitVec 32 := Scalar.addi v54 c0_i32_31
  let c256_i32 : BitVec 32 := 256#32
  let v56 : BitVec 32 := Scalar.muli v55 c256_i32
  v56
def k0_mult3 (k0_t2 : Fin k0_t2_loop.trips) : BitVec 32 :=
  let c2_i32_32 : BitVec 32 := 2#32
  let c0_i32_29 : BitVec 32 := 0#32
  let c1_i32 : BitVec 32 := 1#32
  let arg15 : BitVec 32 := Scf.iv c0_i32_29 c1_i32 k0_t2
  let v58 : BitVec 32 := Scalar.muli c2_i32_32 arg15
  let c1_i32_33 : BitVec 32 := 1#32
  let v59 : BitVec 32 := Scalar.addi v58 c1_i32_33
  let c256_i32_34 : BitVec 32 := 256#32
  let v60 : BitVec 32 := Scalar.muli v59 c256_i32_34
  v60
def k0_off2 (k0_t2 : Fin k0_t2_loop.trips) (c0_i32_31 : BitVec 32) : Fin 2 → Nat :=
  let c2_i32 : BitVec 32 := 2#32
  let c0_i32_29 : BitVec 32 := 0#32
  let c1_i32 : BitVec 32 := 1#32
  let arg15 : BitVec 32 := Scf.iv c0_i32_29 c1_i32 k0_t2
  let v54 : BitVec 32 := Scalar.muli c2_i32 arg15
  let v55 : BitVec 32 := Scalar.addi v54 c0_i32_31
  let c256_i32 : BitVec 32 := 256#32
  let v56 : BitVec 32 := Scalar.muli v55 c256_i32
  let v57 : BitVec 32 := v56
  let v62 : Index := Scalar.indexCast v57
  let c0_35 : Index := 0#32
  ![v62.toNat, 0]
def k0_off3 (k0_t2 : Fin k0_t2_loop.trips) (c0_i32_31 : BitVec 32) : Fin 2 → Nat :=
  let c2_i32 : BitVec 32 := 2#32
  let c0_i32_29 : BitVec 32 := 0#32
  let c1_i32 : BitVec 32 := 1#32
  let arg15 : BitVec 32 := Scf.iv c0_i32_29 c1_i32 k0_t2
  let v54 : BitVec 32 := Scalar.muli c2_i32 arg15
  let v55 : BitVec 32 := Scalar.addi v54 c0_i32_31
  let c256_i32 : BitVec 32 := 256#32
  let v56 : BitVec 32 := Scalar.muli v55 c256_i32
  let v57 : BitVec 32 := v56
  let v70 : Index := Scalar.indexCast v57
  let c0_43 : Index := 0#32
  ![v70.toNat, 0]
def k0_off4 (k0_t2 : Fin k0_t2_loop.trips) (c0_i32_31 : BitVec 32) : Fin 3 → Nat :=
  let c0_54 : Index := 0#32
  let c2_i32 : BitVec 32 := 2#32
  let c0_i32_29 : BitVec 32 := 0#32
  let c1_i32 : BitVec 32 := 1#32
  let arg15 : BitVec 32 := Scf.iv c0_i32_29 c1_i32 k0_t2
  let v54 : BitVec 32 := Scalar.muli c2_i32 arg15
  let v55 : BitVec 32 := Scalar.addi v54 c0_i32_31
  let c256_i32 : BitVec 32 := 256#32
  let v56 : BitVec 32 := Scalar.muli v55 c256_i32
  let v57 : BitVec 32 := v56
  let v94 : Index := Scalar.indexCast v57
  let c0_55 : Index := 0#32
  ![0, v94.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![arg1.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x6656 : Shape := ⟨3, ![8, 2048, 6656]⟩
abbrev S1536 : Shape := ⟨1, ![1536]⟩
abbrev S8x2048x1536 : Shape := ⟨3, ![8, 2048, 1536]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S8x2048x6x256 : Shape := ⟨4, ![8, 2048, 6, 256]⟩
abbrev S8x2048x6x128 : Shape := ⟨4, ![8, 2048, 6, 128]⟩
abbrev S1x2048x1x128 : Shape := ⟨4, ![1, 2048, 1, 128]⟩
abbrev S6 : Shape := ⟨1, ![6]⟩
abbrev S1x2048 : Shape := ⟨2, ![1, 2048]⟩
abbrev S2048x2048 : Shape := ⟨2, ![2048, 2048]⟩
abbrev S1x2048x2048 : Shape := ⟨3, ![1, 2048, 2048]⟩
abbrev S6x1x1 : Shape := ⟨3, ![6, 1, 1]⟩
abbrev S6x2048x2048 : Shape := ⟨3, ![6, 2048, 2048]⟩
abbrev S8x6x2048x2048 : Shape := ⟨4, ![8, 6, 2048, 2048]⟩
abbrev S1x6x2048x2048 : Shape := ⟨4, ![1, 6, 2048, 2048]⟩
abbrev S8x6x256x2048 : Shape := ⟨4, ![8, 6, 256, 2048]⟩
abbrev S6x256 : Shape := ⟨2, ![6, 256]⟩
abbrev S8x2048x6 : Shape := ⟨3, ![8, 2048, 6]⟩
abbrev S8x2048x6x1 : Shape := ⟨4, ![8, 2048, 6, 1]⟩
abbrev S1x1x6x256 : Shape := ⟨4, ![1, 1, 6, 256]⟩

abbrev nBuf : Space → Nat
  | .hbm => 175
  | .vmem => 0
  | .smem => 0
  | _ => 0

abbrev hbmTy0_0 (i : Nat) : BufTy := match i % 128 with
  | 0 => ⟨S8x2048x6656, .f32⟩
  | 1 => ⟨S1536, .f32⟩
  | 2 => ⟨S8x2048x1536, .f32⟩
  | 3 => ⟨S8x2048x1536, .f32⟩
  | 4 => ⟨S8x2048x1536, .f32⟩
  | 5 => ⟨S8x2048x1536, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S2048, .f32⟩
  | 21 => ⟨S2048x1, .f32⟩
  | 22 => ⟨S1x128, .f32⟩
  | 23 => ⟨S2048x128, .f32⟩
  | 24 => ⟨S2048x128, .f32⟩
  | 25 => ⟨S2048x128, .f32⟩
  | 26 => ⟨S2048x128, .f32⟩
  | 27 => ⟨S2048x1x128, .f32⟩
  | 28 => ⟨S2048x128, .f32⟩
  | 29 => ⟨S2048x1x128, .f32⟩
  | 30 => ⟨S8x2048x6x256, .f32⟩
  | 31 => ⟨S8x2048x6x128, .f32⟩
  | 32 => ⟨S8x2048x6x128, .f32⟩
  | 33 => ⟨S1x2048x1x128, .f32⟩
  | 34 => ⟨S8x2048x6x128, .f32⟩
  | 35 => ⟨S8x2048x6x128, .f32⟩
  | 36 => ⟨S1x2048x1x128, .f32⟩
  | 37 => ⟨S8x2048x6x128, .f32⟩
  | 38 => ⟨S8x2048x6x128, .f32⟩
  | 39 => ⟨S8x2048x6x128, .f32⟩
  | 40 => ⟨S1x2048x1x128, .f32⟩
  | 41 => ⟨S8x2048x6x128, .f32⟩
  | 42 => ⟨S8x2048x6x128, .f32⟩
  | 43 => ⟨S1x2048x1x128, .f32⟩
  | 44 => ⟨S8x2048x6x128, .f32⟩
  | 45 => ⟨S8x2048x6x128, .f32⟩
  | 46 => ⟨S8x2048x6x128, .f32⟩
  | 47 => ⟨S8x2048x6x256, .f32⟩
  | 48 => ⟨S8x2048x6x256, .f32⟩
  | 49 => ⟨S8x2048x6x128, .f32⟩
  | 50 => ⟨S8x2048x6x128, .f32⟩
  | 51 => ⟨S1x2048x1x128, .f32⟩
  | 52 => ⟨S8x2048x6x128, .f32⟩
  | 53 => ⟨S8x2048x6x128, .f32⟩
  | 54 => ⟨S1x2048x1x128, .f32⟩
  | 55 => ⟨S8x2048x6x128, .f32⟩
  | 56 => ⟨S8x2048x6x128, .f32⟩
  | 57 => ⟨S8x2048x6x128, .f32⟩
  | 58 => ⟨S1x2048x1x128, .f32⟩
  | 59 => ⟨S8x2048x6x128, .f32⟩
  | 60 => ⟨S8x2048x6x128, .f32⟩
  | 61 => ⟨S1x2048x1x128, .f32⟩
  | 62 => ⟨S8x2048x6x128, .f32⟩
  | 63 => ⟨S8x2048x6x128, .f32⟩
  | 64 => ⟨S8x2048x6x128, .f32⟩
  | 65 => ⟨S8x2048x6x256, .f32⟩
  | 66 => ⟨S_, .f32⟩
  | 67 => ⟨S8x2048x6x256, .f32⟩
  | 68 => ⟨S8x2048x6x256, .f32⟩
  | 69 => ⟨S8x2048x6x256, .f32⟩
  | 70 => ⟨S6, .f32⟩
  | 71 => ⟨S_, .f32⟩
  | 72 => ⟨S6, .f32⟩
  | 73 => ⟨S6, .f32⟩
  | 74 => ⟨S_, .f32⟩
  | 75 => ⟨S6, .f32⟩
  | 76 => ⟨S6, .f32⟩
  | 77 => ⟨S6, .f32⟩
  | 78 => ⟨S6, .f32⟩
  | 79 => ⟨S6, .f32⟩
  | 80 => ⟨S2048, .f32⟩
  | 81 => ⟨S2048x1, .f32⟩
  | 82 => ⟨S1x2048, .f32⟩
  | 83 => ⟨S2048x2048, .f32⟩
  | 84 => ⟨S2048x2048, .f32⟩
  | 85 => ⟨S2048x2048, .f32⟩
  | 86 => ⟨S_, .f32⟩
  | 87 => ⟨S2048x2048, .f32⟩
  | 88 => ⟨S2048x2048, .i1⟩
  | 89 => ⟨S1x2048x2048, .i1⟩
  | 90 => ⟨S6x1x1, .f32⟩
  | 91 => ⟨S_, .f32⟩
  | 92 => ⟨S2048x2048, .f32⟩
  | 93 => ⟨S2048x2048, .f32⟩
  | 94 => ⟨S1x2048x2048, .f32⟩
  | 95 => ⟨S6x2048x2048, .f32⟩
  | 96 => ⟨S6x2048x2048, .f32⟩
  | 97 => ⟨S6x2048x2048, .f32⟩
  | 98 => ⟨S6x2048x2048, .f32⟩
  | 99 => ⟨S_, .f32⟩
  | 100 => ⟨S_, .f32⟩
  | 101 => ⟨S6x2048x2048, .i1⟩
  | 102 => ⟨S6x2048x2048, .f32⟩
  | 103 => ⟨S6x2048x2048, .f32⟩
  | 104 => ⟨S8x6x2048x2048, .f32⟩
  | 105 => ⟨S1x6x2048x2048, .f32⟩
  | 106 => ⟨S8x6x2048x2048, .f32⟩
  | 107 => ⟨S8x6x2048x2048, .f32⟩
  | 108 => ⟨S8x6x256x2048, .f32⟩
  | 109 => ⟨S8x2048x6x256, .f32⟩
  | 110 => ⟨S8x2048x6x256, .f32⟩
  | 111 => ⟨S8x2048x6x256, .f32⟩
  | 112 => ⟨S8x2048x6x256, .f32⟩
  | 113 => ⟨S6, .f32⟩
  | 114 => ⟨S2048, .f32⟩
  | 115 => ⟨S2048x1, .f32⟩
  | 116 => ⟨S1x2048, .f32⟩
  | 117 => ⟨S2048x2048, .f32⟩
  | 118 => ⟨S2048x2048, .f32⟩
  | 119 => ⟨S2048x2048, .f32⟩
  | 120 => ⟨S_, .f32⟩
  | 121 => ⟨S2048x2048, .f32⟩
  | 122 => ⟨S2048x2048, .i1⟩
  | 123 => ⟨S1x2048x2048, .i1⟩
  | 124 => ⟨S6x1x1, .f32⟩
  | 125 => ⟨S_, .f32⟩
  | 126 => ⟨S2048x2048, .f32⟩
  | 127 => ⟨S2048x2048, .f32⟩
  | _ => ⟨S8x2048x6656, .f32⟩

abbrev hbmTy0_1 (i : Nat) : BufTy := match i % 128 with
  | 0 => ⟨S1x2048x2048, .f32⟩
  | 1 => ⟨S6x2048x2048, .f32⟩
  | 2 => ⟨S6x2048x2048, .f32⟩
  | 3 => ⟨S6x2048x2048, .f32⟩
  | 4 => ⟨S6x2048x2048, .f32⟩
  | 5 => ⟨S_, .f32⟩
  | 6 => ⟨S_, .f32⟩
  | 7 => ⟨S6x2048x2048, .i1⟩
  | 8 => ⟨S6x2048x2048, .f32⟩
  | 9 => ⟨S6x2048x2048, .f32⟩
  | 10 => ⟨S8x6x2048x2048, .f32⟩
  | 11 => ⟨S1x6x2048x2048, .f32⟩
  | 12 => ⟨S8x6x2048x2048, .f32⟩
  | 13 => ⟨S8x6x2048x2048, .f32⟩
  | 14 => ⟨S8x6x256x2048, .f32⟩
  | 15 => ⟨S8x2048x6x256, .f32⟩
  | 16 => ⟨S8x2048x6x256, .f32⟩
  | 17 => ⟨S8x2048x6x256, .f32⟩
  | 18 => ⟨S6x256, .f32⟩
  | 19 => ⟨S8x2048x6x256, .f32⟩
  | 20 => ⟨S_, .f32⟩
  | 21 => ⟨S8x2048x6, .f32⟩
  | 22 => ⟨S8x2048x6x1, .f32⟩
  | 23 => ⟨S_, .f32⟩
  | 24 => ⟨S8x2048x6x1, .f32⟩
  | 25 => ⟨S8x2048x6x1, .f32⟩
  | 26 => ⟨S_, .f32⟩
  | 27 => ⟨S8x2048x6x1, .f32⟩
  | 28 => ⟨S8x2048x6x1, .f32⟩
  | 29 => ⟨S8x2048x6x1, .f32⟩
  | 30 => ⟨S8x2048x6x256, .f32⟩
  | 31 => ⟨S8x2048x6x256, .f32⟩
  | 32 => ⟨S1x1x6x256, .f32⟩
  | 33 => ⟨S8x2048x6x256, .f32⟩
  | 34 => ⟨S8x2048x6x256, .f32⟩
  | 35 => ⟨S8x2048x1536, .f32⟩
  | 36 => ⟨S8x2048x1536, .f32⟩
  | 37 => ⟨S8x2048x1536, .f32⟩
  | 38 => ⟨S_, .f32⟩
  | 39 => ⟨S8x2048x1536, .f32⟩
  | 40 => ⟨S8x2048x1536, .f32⟩
  | 41 => ⟨S_, .f32⟩
  | 42 => ⟨S8x2048x1536, .f32⟩
  | 43 => ⟨S8x2048x1536, .f32⟩
  | 44 => ⟨S8x2048x1536, .f32⟩
  | 45 => ⟨S8x2048x1536, .f32⟩
  | 46 => ⟨S8x2048x1536, .bf16⟩
  | _ => ⟨S8x2048x6656, .f32⟩

abbrev hbmTy (i : Nat) : BufTy := match i / 128 with
  | 0 => hbmTy0_0 i
  | 1 => hbmTy0_1 i
  | _ => ⟨S8x2048x6656, .f32⟩

abbrev bufTy : (tb : Table) → Fin (tcTables nBuf tb) → BufTy
  | .hbm, ⟨i, _⟩ => hbmTy i
  | _, _ => ⟨S8x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_cst_3 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_4 : Ref sig .tc := ⟨.hbm, 71, rfl⟩
abbrev main_v64 : Ref sig .tc := ⟨.hbm, 72, rfl⟩
abbrev main_v65 : Ref sig .tc := ⟨.hbm, 73, rfl⟩
abbrev main_cst_5 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_7 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_8 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_9 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_11 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_12 : Ref sig .tc := ⟨.hbm, 148, rfl⟩
abbrev main_v127 : Ref sig .tc := ⟨.hbm, 149, rfl⟩
abbrev main_v128 : Ref sig .tc := ⟨.hbm, 150, rfl⟩
abbrev main_cst_13 : Ref sig .tc := ⟨.hbm, 151, rfl⟩
abbrev main_v129 : Ref sig .tc := ⟨.hbm, 152, rfl⟩
abbrev main_v130 : Ref sig .tc := ⟨.hbm, 153, rfl⟩
abbrev main_cst_14 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_call6_v0 : Ref sig .tc := ⟨.hbm, 164, rfl⟩
abbrev main_call6_v1 : Ref sig .tc := ⟨.hbm, 165, rfl⟩
abbrev main_call6_cst : Ref sig .tc := ⟨.hbm, 166, rfl⟩
abbrev main_call6_v2 : Ref sig .tc := ⟨.hbm, 167, rfl⟩
abbrev main_call6_v3 : Ref sig .tc := ⟨.hbm, 168, rfl⟩
abbrev main_call6_cst_0 : Ref sig .tc := ⟨.hbm, 169, rfl⟩
abbrev main_call6_v4 : Ref sig .tc := ⟨.hbm, 170, rfl⟩
abbrev main_call6_v5 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S8x2048 : Shape := ⟨2, ![8, 2048]⟩
abbrev S2048x6656 : Shape := ⟨2, ![2048, 6656]⟩
abbrev S16384x2048 : Shape := ⟨2, ![16384, 2048]⟩
abbrev S8x1x2048 : Shape := ⟨3, ![8, 1, 2048]⟩
abbrev S1x2048 : Shape := ⟨2, ![1, 2048]⟩
abbrev S16384x6656 : Shape := ⟨2, ![16384, 6656]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6656, .f32⟩
  | .hbm, ⟨5, _⟩ => ⟨S16384x2048, .f32⟩
  | .hbm, ⟨6, _⟩ => ⟨S8x1x2048, .f32⟩
  | .hbm, ⟨7, _⟩ => ⟨S8x1x2048, .f32⟩
  | .hbm, ⟨8, _⟩ => ⟨S2048x6656, .bf16⟩
  | .hbm, ⟨9, _⟩ => ⟨S1x2048, .f32⟩
  | .hbm, ⟨10, _⟩ => ⟨S16384x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c128_i32 : BitVec 32 := 128#32
  let v9 : BitVec 32 := Scalar.muli arg9 c128_i32
  v9
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c128_i32 : BitVec 32 := 128#32
  let v9 : BitVec 32 := Scalar.muli arg9 c128_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x2048 : Shape := ⟨3, ![8, 2048, 2048]⟩
abbrev S2048 : Shape := ⟨1, ![2048]⟩
abbrev S8x2048 : Shape := ⟨2, ![8, 2048]⟩
abbrev S2048x6656 : Shape := ⟨2, ![2048, 6656]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x2048x6656 : Shape := ⟨3, ![8, 2048, 6656]⟩
abbrev S16384x6656 : Shape := ⟨2, ![16384, 6656]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6656, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x6656, .f32⟩
  | .hbm, ⟨31, _⟩ => ⟨S16384x6656, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S8x2048x2048 : Shape := ⟨3, ![8, 2048, 2048]⟩
abbrev S2048 : Shape := ⟨1, ![2048]⟩
abbrev S8x2048 : Shape := ⟨2, ![8, 2048]⟩
abbrev S2048x6144 : Shape := ⟨2, ![2048, 6144]⟩
abbrev S16384x2048 : Shape := ⟨2, ![16384, 2048]⟩
abbrev S8x1x2048 : Shape := ⟨3, ![8, 1, 2048]⟩
abbrev S1x2048 : Shape := ⟨2, ![1, 2048]⟩
abbrev S16384x6144 : Shape := ⟨2, ![16384, 6144]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S16384x2048, .f32⟩
  | .hbm, ⟨6, _⟩ => ⟨S8x1x2048, .f32⟩
  | .hbm, ⟨7, _⟩ => ⟨S8x1x2048, .f32⟩
  | .hbm, ⟨8, _⟩ => ⟨S2048x6144, .bf16⟩
  | .hbm, ⟨9, _⟩ => ⟨S1x2048, .f32⟩
  | .hbm, ⟨10, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c128_i32 : BitVec 32 := 128#32
  let v9 : BitVec 32 := Scalar.muli arg9 c128_i32
  v9
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c128_i32 : BitVec 32 := 128#32
  let v9 : BitVec 32 := Scalar.muli arg9 c128_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x2048x2048 : Shape := ⟨3, ![8, 2048, 2048]⟩
abbrev S2048 : Shape := ⟨1, ![2048]⟩
abbrev S8x2048 : Shape := ⟨2, ![8, 2048]⟩
abbrev S2048x6144 : Shape := ⟨2, ![2048, 6144]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x2048x6144 : Shape := ⟨3, ![8, 2048, 6144]⟩
abbrev S16384x6144 : Shape := ⟨2, ![16384, 6144]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x6144, .f32⟩
  | .hbm, ⟨31, _⟩ => ⟨S16384x6144, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel4.lean ====
abbrev S81920x2048 : Shape := ⟨2, ![81920, 2048]⟩
abbrev S2x32x2048x2048 : Shape := ⟨4, ![2, 32, 2048, 2048]⟩
abbrev S32x2048 : Shape := ⟨2, ![32, 2048]⟩
abbrev S320 : Shape := ⟨1, ![320]⟩
abbrev S4x320 : Shape := ⟨2, ![4, 320]⟩
abbrev S32x1x2048 : Shape := ⟨3, ![32, 1, 2048]⟩
abbrev S512x2048 : Shape := ⟨2, ![512, 2048]⟩
abbrev S1 : Shape := ⟨1, ![1]⟩
abbrev S1x1x512x1024 : Shape := ⟨4, ![1, 1, 512, 1024]⟩
abbrev S1x1 : Shape := ⟨2, ![1, 1]⟩
abbrev S1x1x1024 : Shape := ⟨3, ![1, 1, 1024]⟩
abbrev S512x1024 : Shape := ⟨2, ![512, 1024]⟩
abbrev S2048x1024 : Shape := ⟨2, ![2048, 1024]⟩
abbrev S256x1024 : Shape := ⟨2, ![256, 1024]⟩
abbrev S1x1024 : Shape := ⟨2, ![1, 1024]⟩
abbrev S256x2048 : Shape := ⟨2, ![256, 2048]⟩

abbrev nBuf : Space → Nat
  | .hbm => 7
  | .vmem => 15
  | .smem => 8
  | _ => 0

abbrev bufTy : (tb : Table) → Fin (tcTables nBuf tb) → BufTy
  | .hbm, ⟨0, _⟩ => ⟨S81920x2048, .bf16⟩
  | .hbm, ⟨1, _⟩ => ⟨S2x32x2048x2048, .f32⟩
  | .hbm, ⟨2, _⟩ => ⟨S32x2048, .f32⟩
  | .hbm, ⟨3, _⟩ => ⟨S320, .i32⟩
  | .hbm, ⟨4, _⟩ => ⟨S320, .i32⟩
  | .hbm, ⟨5, _⟩ => ⟨S32x1x2048, .f32⟩
  | .hbm, ⟨6, _⟩ => ⟨S81920x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x512x1024, .f32⟩
  | .local _ .vmem, ⟨3, _⟩ => ⟨S1x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .smem, ⟨0, _⟩ => ⟨S320, .i32⟩
  | .local _ .smem, ⟨1, _⟩ => ⟨S320, .i32⟩
  | .local _ .smem, ⟨2, _⟩ => ⟨S320, .i32⟩
  | .local _ .smem, ⟨3, _⟩ => ⟨S320, .i32⟩
  | .local _ .smem, ⟨4, _⟩ => ⟨S320, .i32⟩
  | .local _ .smem, ⟨5, _⟩ => ⟨S320, .i32⟩
  | .local _ .smem, ⟨6, _⟩ => ⟨S4x320, .i32⟩
  | .local _ .smem, ⟨7, _⟩ => ⟨S4x320, .i32⟩
  | _, _ => ⟨S81920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev main_arg8 : Ref sig .tc := ⟨.smem, 3, rfl⟩
abbrev main_arg9 : Ref sig .tc := ⟨.smem, 4, rfl⟩
abbrev main_arg10 : Ref sig .tc := ⟨.smem, 5, rfl⟩
abbrev main_arg11 : Ref sig .tc := ⟨.smem, 6, rfl⟩
abbrev main_arg12 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![320], ![false]⟩

abbrev pre0 : Pipeline.Prefetch sig := ⟨8, ![main_arg5.idx, main_arg6.idx, main_arg7.idx, main_arg8.idx, main_arg9.idx, main_arg10.idx, main_arg11.idx, main_arg12.idx], fun | 0 => main_arg5.names | 1 => main_arg6.names | 2 => main_arg7.names | 3 => main_arg8.names | 4 => main_arg9.names | 5 => main_arg10.names | 6 => main_arg11.names | 7 => main_arg12.names | ⟨_ + 8, h⟩ => absurd h (Nat.not_lt.2 (Nat.le_add_left _ _)), fun | 0 => rfl | 1 => rfl | 2 => rfl | 3 => rfl | 4 => rfl | 5 => rfl | 6 => rfl | 7 => rfl | ⟨_ + 8, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let c0 : Index := 0#32
  let arg0 : BitVec 32 := BitVec.ofNat 32 (i 0).val
  let v0 : Index := Scalar.indexCast arg0
  ![0, v0.toNat]
def k0_off3 (i : grid0.Coords) : Fin 2 → Nat :=
  let c1 : Index := 1#32
  let arg0 : BitVec 32 := BitVec.ofNat 32 (i 0).val
  let v0 : Index := Scalar.indexCast arg0
  ![1, v0.toNat]
def k0_off4 (i : grid0.Coords) : Fin 2 → Nat :=
  let c2 : Index := 2#32
  let arg0 : BitVec 32 := BitVec.ofNat 32 (i 0).val
  let v0 : Index := Scalar.indexCast arg0
  ![2, v0.toNat]
def k0_off5 (i : grid0.Coords) : Fin 2 → Nat :=
  let c3 : Index := 3#32
  let arg0 : BitVec 32 := BitVec.ofNat 32 (i 0).val
  let v0 : Index := Scalar.indexCast arg0
  ![3, v0.toNat]
@[reducible] def k0_t1_loop : Scf.Loop 32 :=
  let c0_i32_8 : BitVec 32 := 0#32
  let c2_i32 : BitVec 32 := 2#32
  let v20 : BitVec 32 := Scalar.addi c0_i32_8 c2_i32
  let c1_i32_9 : BitVec 32 := 1#32
  ⟨c0_i32_8, v20, c1_i32_9⟩
def k0_mult1 (k0_t1 : Fin k0_t1_loop.trips) : BitVec 32 :=
  let c0_i32_8 : BitVec 32 := 0#32
  let c1_i32_9 : BitVec 32 := 1#32
  let arg17 : BitVec 32 := Scf.iv c0_i32_8 c1_i32_9 k0_t1
  let c256_i32 : BitVec 32 := 256#32
  let v24 : BitVec 32 := Scalar.muli arg17 c256_i32
  v24
def k0_off6 (k0_t1 : Fin k0_t1_loop.trips) : Fin 2 → Nat :=
  let c0_i32_8 : BitVec 32 := 0#32
  let c1_i32_9 : BitVec 32 := 1#32
  let arg17 : BitVec 32 := Scf.iv c0_i32_8 c1_i32_9 k0_t1
  let c256_i32 : BitVec 32 := 256#32
  let v24 : BitVec 32 := Scalar.muli arg17 c256_i32
  let v25 : BitVec 32 := v24
  let v28 : Index := Scalar.indexCast v25
  let c0 : Index := 0#32
  ![v28.toNat, 0]
def k0_off7 (k0_t1 : Fin k0_t1_loop.trips) : Fin 2 → Nat :=
  let c0_i32_8 : BitVec 32 := 0#32
  let c1_i32_9 : BitVec 32 := 1#32
  let arg17 : BitVec 32 := Scf.iv c0_i32_8 c1_i32_9 k0_t1
  let c256_i32 : BitVec 32 := 256#32
  let v24 : BitVec 32 := Scalar.muli arg17 c256_i32
  let v25 : BitVec 32 := v24
  let v32 : Index := Scalar.indexCast v25
  let c0_i32_32 : BitVec 32 := 0#32
  ![v32.toNat, 0]
@[reducible] def k0_t2_loop : Scf.Loop 32 :=
  let c0_i32_13 : BitVec 32 := 0#32
  let c2_i32_14 : BitVec 32 := 2#32
  let v21 : BitVec 32 := Scalar.addi c0_i32_13 c2_i32_14
  let c1_i32_15 : BitVec 32 := 1#32
  ⟨c0_i32_13, v21, c1_i32_15⟩
def k0_mult2 (k0_t2 : Fin k0_t2_loop.trips) : BitVec 32 :=
  let c0_i32_13 : BitVec 32 := 0#32
  let c1_i32_15 : BitVec 32 := 1#32
  let arg17 : BitVec 32 := Scf.iv c0_i32_13 c1_i32_15 k0_t2
  let c256_i32 : BitVec 32 := 256#32
  let v24 : BitVec 32 := Scalar.muli arg17 c256_i32
  v24
def k0_off8 (k0_t2 : Fin k0_t2_loop.trips) : Fin 2 → Nat :=
  let c0_i32_13 : BitVec 32 := 0#32
  let c1_i32_15 : BitVec 32 := 1#32
  let arg17 : BitVec 32 := Scf.iv c0_i32_13 c1_i32_15 k0_t2
  let c256_i32 : BitVec 32 := 256#32
  let v24 : BitVec 32 := Scalar.muli arg17 c256_i32
  let v25 : BitVec 32 := v24
  let v28 : Index := Scalar.indexCast v25
  let c0 : Index := 0#32
  ![v28.toNat, 0]
def k0_off9 (k0_t2 : Fin k0_t2_loop.trips) : Fin 2 → Nat :=
  let c0_i32_13 : BitVec 32 := 0#32
  let c1_i32_15 : BitVec 32 := 1#32
  let arg17 : BitVec 32 := Scf.iv c0_i32_13 c1_i32_15 k0_t2
  let c256_i32 : BitVec 32 := 256#32
  let v24 : BitVec 32 := Scalar.muli arg17 c256_i32
  let v25 : BitVec 32 := v24
  let v32 : Index := Scalar.indexCast v25
  let c0_i32_31 : BitVec 32 := 0#32
  ![Nat.add v32.toNat 512, 0]
@[reducible] def k0_t3_loop : Scf.Loop 32 :=
  let c0_i32_19 : BitVec 32 := 0#32
  let c2_i32_20 : BitVec 32 := 2#32
  let v22 : BitVec 32 := Scalar.addi c0_i32_19 c2_i32_20
  let c1_i32_21 : BitVec 32 := 1#32
  ⟨c0_i32_19, v22, c1_i32_21⟩
def k0_mult3 (k0_t3 : Fin k0_t3_loop.trips) : BitVec 32 :=
  let c0_i32_19 : BitVec 32 := 0#32
  let c1_i32_21 : BitVec 32 := 1#32
  let arg17 : BitVec 32 := Scf.iv c0_i32_19 c1_i32_21 k0_t3
  let c256_i32 : BitVec 32 := 256#32
  let v24 : BitVec 32 := Scalar.muli arg17 c256_i32
  v24
def k0_off10 (k0_t3 : Fin k0_t3_loop.trips) : Fin 2 → Nat :=
  let c0_i32_19 : BitVec 32 := 0#32
  let c1_i32_21 : BitVec 32 := 1#32
  let arg17 : BitVec 32 := Scf.iv c0_i32_19 c1_i32_21 k0_t3
  let c256_i32 : BitVec 32 := 256#32
  let v24 : BitVec 32 := Scalar.muli arg17 c256_i32
  let v25 : BitVec 32 := v24
  let v28 : Index := Scalar.indexCast v25
  let c0 : Index := 0#32
  ![v28.toNat, 0]
def k0_off11 (k0_t3 : Fin k0_t3_loop.trips) : Fin 2 → Nat :=
  let c0_i32_19 : BitVec 32 := 0#32
  let c1_i32_21 : BitVec 32 := 1#32
  let arg17 : BitVec 32 := Scf.iv c0_i32_19 c1_i32_21 k0_t3
  let c256_i32 : BitVec 32 := 256#32
  let v24 : BitVec 32 := Scalar.muli arg17 c256_i32
  let v25 : BitVec 32 := v24
  let v32 : Index := Scalar.indexCast v25
  let c0_i32_31 : BitVec 32 := 0#32
  ![Nat.add v32.toNat 1024, 0]
@[reducible] def k0_t4_loop : Scf.Loop 32 :=
  let c0_i32_25 : BitVec 32 := 0#32
  let c2_i32_26 : BitVec 32 := 2#32
  let v23 : BitVec 32 := Scalar.addi c0_i32_25 c2_i32_26
  let c1_i32_27 : BitVec 32 := 1#32
  ⟨c0_i32_25, v23, c1_i32_27⟩
def k0_mult4 (k0_t4 : Fin k0_t4_loop.trips) : BitVec 32 :=
  let c0_i32_25 : BitVec 32 := 0#32
  let c1_i32_27 : BitVec 32 := 1#32
  let arg17 : BitVec 32 := Scf.iv c0_i32_25 c1_i32_27 k0_t4
  let c256_i32 : BitVec 32 := 256#32
  let v24 : BitVec 32 := Scalar.muli arg17 c256_i32
  v24
def k0_off12 (k0_t4 : Fin k0_t4_loop.trips) : Fin 2 → Nat :=
  let c0_i32_25 : BitVec 32 := 0#32
  let c1_i32_27 : BitVec 32 := 1#32
  let arg17 : BitVec 32 := Scf.iv c0_i32_25 c1_i32_27 k0_t4
  let c256_i32 : BitVec 32 := 256#32
  let v24 : BitVec 32 := Scalar.muli arg17 c256_i32
  let v25 : BitVec 32 := v24
  let v28 : Index := Scalar.indexCast v25
  let c0 : Index := 0#32
  ![v28.toNat, 0]
def k0_off13 (k0_t4 : Fin k0_t4_loop.trips) : Fin 2 → Nat :=
  let c0_i32_25 : BitVec 32 := 0#32
  let c1_i32_27 : BitVec 32 := 1#32
  let arg17 : BitVec 32 := Scf.iv c0_i32_25 c1_i32_27 k0_t4
  let c256_i32 : BitVec 32 := 256#32
  let v24 : BitVec 32 := Scalar.muli arg17 c256_i32
  let v25 : BitVec 32 := v24
  let v32 : Index := Scalar.indexCast v25
  let c0_i32_31 : BitVec 32 := 0#32
  ![Nat.add v32.toNat 1536, 0]
def k0_off14 (i : grid0.Coords) : Fin 1 → Nat :=
  let arg0 : BitVec 32 := BitVec.ofNat 32 (i 0).val
  let v5 : Index := Scalar.indexCast arg0
  ![v5.toNat]
def k0_cond2 (v9 : BitVec 32) : BitVec 1 :=
  let c1_i32_1 : BitVec 32 := 1#32
  let v10 : BitVec 1 := Scalar.cmpi .eq v9 c1_i32_1
  let v11 : BitVec 32 := Scalar.extui v10
  let c0_i32_2 : BitVec 32 := 0#32
  let v12 : BitVec 1 := Scalar.cmpi .ne v11 c0_i32_2
  v12

def k0_cond3 (v6 : BitVec 32) (v9 : BitVec 32) : BitVec 1 :=
  let c1_i32_0 : BitVec 32 := 1#32
  let v7 : BitVec 1 := Scalar.cmpi .eq v6 c1_i32_0
  let c1_i32_1 : BitVec 32 := 1#32
  let v10 : BitVec 1 := Scalar.cmpi .eq v9 c1_i32_1
  let v_true : BitVec 1 := 1#1
  let v13 : BitVec 1 := Scalar.xori v10 v_true
  let v14 : BitVec 1 := Scalar.andi v7 v13
  let v15 : BitVec 32 := Scalar.extui v14
  let c0_i32_3 : BitVec 32 := 0#32
  let v16 : BitVec 1 := Scalar.cmpi .ne v15 c0_i32_3
  v16

def k0_cond4 (v6 : BitVec 32) : BitVec 1 :=
  let c1_i32_0 : BitVec 32 := 1#32
  let v7 : BitVec 1 := Scalar.cmpi .eq v6 c1_i32_0
  let true_4 : BitVec 1 := 1#1
  let v17 : BitVec 1 := Scalar.xori v7 true_4
  let v18 : BitVec 32 := Scalar.extui v17
  let c0_i32_5 : BitVec 32 := 0#32
  let v19 : BitVec 1 := Scalar.cmpi .ne v18 c0_i32_5
  v19

def cc0_transform_0 (k0_off1_inb : ∀ i : grid0.Coords, ∀ a, (k0_off1 i) a + S1.size a ≤ S320.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 6 (Rect.unit (s := S4x320) ![0, v0.toNat] S1x1.size (k0_off2_inb i)) numel1_S1x1
  let c0_0 : Index := 0#32
  let v2 : Index := Scalar.indexCast arg0
  let v3 : BitVec 32 := pf.at 7 (Rect.unit (s := S4x320) ![0, v2.toNat] S1x1.size (k0_off2_inb i)) numel1_S1x1
  let c1_i32 : BitVec 32 := 1#32
  let c0_i32 : BitVec 32 := 0#32
  let c0_i32_1 : BitVec 32 := 0#32
  ![c1_i32.toNat, v1.toNat, c0_i32.toNat, v3.toNat]

def cc0_transform_2 (k0_off3_inb : ∀ i : grid0.Coords, ∀ a, (k0_off3 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 6 (Rect.unit (s := S4x320) ![1, v0.toNat] S1x1.size (k0_off3_inb i)) numel1_S1x1
  let c1_0 : Index := 1#32
  let v2 : Index := Scalar.indexCast arg0
  let v3 : BitVec 32 := pf.at 7 (Rect.unit (s := S4x320) ![1, v2.toNat] S1x1.size (k0_off3_inb i)) numel1_S1x1
  let c1_i32 : BitVec 32 := 1#32
  let c1_i32_1 : BitVec 32 := 1#32
  let c0_i32 : BitVec 32 := 0#32
  ![c1_i32.toNat, v1.toNat, c1_i32_1.toNat, v3.toNat]

def cc0_transform_3 (k0_off4_inb : ∀ i : grid0.Coords, ∀ a, (k0_off4 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c2 : Index := 2#32
  let v0 : Index := Scalar.indexCast arg0
  let v1 : BitVec 32 := pf.at 6 (Rect.unit (s := S4x320) ![2, v0.toNat] S1x1.size (k0_off4_inb i)) numel1_S1x1
  let c2_0 : Index := 2#32
  let v2 : Index := Scalar.indexCast arg0
  let v3 : BitVec 32 := pf.at 7 (Rect.unit (s := S4x320) ![2, v2.toNat] S1x1.size (k0_off4_inb i)) numel1_S1x1
  let c1_i32 : BitVec 32 := 1#32
  let c2_i32 : BitVec 32 := 2#32
  let c0_i32 : BitVec 32 := 0#32
  ![c1_i32.toNat, v1.toNat, c2_i32.toNat, v3.toNat]

def cc0_transform_4 (k0_off5_inb : ∀ i : grid0.Coords, ∀ a, (k0_off5 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c3 : Index := 3#32
  let v0 : Index := Scalar.indexCast arg0
  let v1 : BitVec 32 := pf.at 6 (Rect.unit (s := S4x320) ![3, v0.toNat] S1x1.size (k0_off5_inb i)) numel1_S1x1
  let c3_0 : Index := 3#32
  let v2 : Index := Scalar.indexCast arg0
  let v3 : BitVec 32 := pf.at 7 (Rect.unit (s := S4x320) ![3, v2.toNat] S1x1.size (k0_off5_inb i)) numel1_S1x1
  let c1_i32 : BitVec 32 := 1#32
  let c3_i32 : BitVec 32 := 3#32
  let c0_i32 : BitVec 32 := 0#32
  ![c1_i32.toNat, v1.toNat, c3_i32.toNat, v3.toNat]

def cc0_transform_5 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S320) ![v0.toNat] S1.size (k0_off1_inb i)) numel1_S1
  let v2 : Index := Scalar.indexCast arg0
  let v3 : BitVec 32 := pf.at 1 (Rect.unit (s := S320) ![v2.toNat] S1.size (k0_off1_inb i)) numel1_S1
  let c0_i32 : BitVec 32 := 0#32
  let c0_i32_0 : BitVec 32 := 0#32
  ![v1.toNat, c0_i32.toNat, v3.toNat]

def cc0_transform_6 (k0_off1_inb : ∀ i : grid0.Coords, ∀ a, (k0_off1 i) a + S1.size a ≤ S320.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let v2 : Index := Scalar.indexCast arg0
  let v3 : BitVec 32 := pf.at 1 (Rect.unit (s := S320) ![v2.toNat] S1.size (k0_off1_inb i)) numel1_S1
  let c0_i32 : BitVec 32 := 0#32
  ![v1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S81920x2048 : Shape := ⟨2, ![81920, 2048]⟩
abbrev S2x32x2048x2048 : Shape := ⟨4, ![2, 32, 2048, 2048]⟩
abbrev S32x2048 : Shape := ⟨2, ![32, 2048]⟩
abbrev S320 : Shape := ⟨1, ![320]⟩
abbrev S4x320 : Shape := ⟨2, ![4, 320]⟩
abbrev S320x256x2048 : Shape := ⟨3, ![320, 256, 2048]⟩
abbrev S1x32x2048x2048 : Shape := ⟨4, ![1, 32, 2048, 2048]⟩
abbrev S32x2048x2048 : Shape := ⟨3, ![32, 2048, 2048]⟩
abbrev S320x1 : Shape := ⟨2, ![320, 1]⟩
abbrev S320x2048x2048 : Shape := ⟨3, ![320, 2048, 2048]⟩
abbrev S320x2048 : Shape := ⟨2, ![320, 2048]⟩
abbrev S320x1x2048 : Shape := ⟨3, ![320, 1, 2048]⟩
abbrev S_ : Shape := ⟨0, ![]⟩
abbrev S320x1x1 : Shape := ⟨3, ![320, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S81920x2048, .bf16⟩
  | .hbm, ⟨1, _⟩ => ⟨S2x32x2048x2048, .f32⟩
  | .hbm, ⟨2, _⟩ => ⟨S32x2048, .f32⟩
  | .hbm, ⟨3, _⟩ => ⟨S320, .i32⟩
  | .hbm, ⟨4, _⟩ => ⟨S320, .i32⟩
  | .hbm, ⟨5, _⟩ => ⟨S320, .i32⟩
  | .hbm, ⟨6, _⟩ => ⟨S320, .i32⟩
  | .hbm, ⟨7, _⟩ => ⟨S320, .i32⟩
  | .hbm, ⟨8, _⟩ => ⟨S320, .i32⟩
  | .hbm, ⟨9, _⟩ => ⟨S320, .i32⟩
  | .hbm, ⟨10, _⟩ => ⟨S320, .i32⟩
  | .hbm, ⟨11, _⟩ => ⟨S4x320, .i32⟩
  | .hbm, ⟨12, _⟩ => ⟨S4x320, .i32⟩
  | .hbm, ⟨13, _⟩ => ⟨S81920x2048, .f32⟩
  | .hbm, ⟨14, _⟩ => ⟨S320x256x2048, .f32⟩
  | .hbm, ⟨15, _⟩ => ⟨S1x32x2048x2048, .f32⟩
  | .hbm, ⟨16, _⟩ => ⟨S32x2048x2048, .f32⟩
  | .hbm, ⟨17, _⟩ => ⟨S320x1, .i32⟩
  | .hbm, ⟨18, _⟩ => ⟨S320x2048x2048, .f32⟩
  | .hbm, ⟨19, _⟩ => ⟨S320x1, .i32⟩
  | .hbm, ⟨20, _⟩ => ⟨S320x2048, .f32⟩
  | .hbm, ⟨21, _⟩ => ⟨S320x256x2048, .f32⟩
  | .hbm, ⟨22, _⟩ => ⟨S320x1x2048, .f32⟩
  | .hbm, ⟨23, _⟩ => ⟨S320x256x2048, .f32⟩
  | .hbm, ⟨24, _⟩ => ⟨S320x256x2048, .f32⟩
  | .hbm, ⟨25, _⟩ => ⟨S_, .i32⟩
  | .hbm, ⟨26, _⟩ => ⟨S320, .i32⟩
  | .hbm, ⟨27, _⟩ => ⟨S320, .i1⟩
  | .hbm, ⟨28, _⟩ => ⟨S320x1x1, .i1⟩
  | .hbm, ⟨29, _⟩ => ⟨S_, .f32⟩
  | .hbm, ⟨30, _⟩ => ⟨S_, .f32⟩
  | .hbm, ⟨31, _⟩ => ⟨S320x256x2048, .i1⟩
  | .hbm, ⟨32, _⟩ => ⟨S320x256x2048, .f32⟩
  | .hbm, ⟨33, _⟩ => ⟨S320x256x2048, .f32⟩
  | .hbm, ⟨34, _⟩ => ⟨S81920x2048, .f32⟩
  | _, _ => ⟨S81920x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_v4 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel5.lean ====
abbrev S655360x128 : Shape := ⟨2, ![655360, 128]⟩
abbrev S2x32x2048x4096 : Shape := ⟨4, ![2, 32, 2048, 4096]⟩
abbrev S32x4096 : Shape := ⟨2, ![32, 4096]⟩
abbrev S320 : Shape := ⟨1, ![320]⟩
abbrev S4x320 : Shape := ⟨2, ![4, 320]⟩
abbrev S32x1x4096 : Shape := ⟨3, ![32, 1, 4096]⟩
abbrev S81920x2048 : Shape := ⟨2, ![81920, 2048]⟩
abbrev S4096x128 : Shape := ⟨2, ![4096, 128]⟩
abbrev S1 : Shape := ⟨1, ![1]⟩
abbrev S1x1x512x1024 : Shape := ⟨4, ![1, 1, 512, 1024]⟩
abbrev S1x1 : Shape := ⟨2, ![1, 1]⟩
abbrev S1x1x1024 : Shape := ⟨3, ![1, 1, 1024]⟩
abbrev S512x1024 : Shape := ⟨2, ![512, 1024]⟩
abbrev S2048x1024 : Shape := ⟨2, ![2048, 1024]⟩
abbrev S256x1024 : Shape := ⟨2, ![256, 1024]⟩
abbrev S512x128 : Shape := ⟨2, ![512, 128]⟩
abbrev S1024x1024 : Shape := ⟨2, ![1024, 1024]⟩
abbrev S1x1024 : Shape := ⟨2, ![1, 1024]⟩
abbrev S2048x128 : Shape := ⟨2, ![2048, 128]⟩
abbrev S256x128 : Shape := ⟨2, ![256, 128]⟩

abbrev nBuf : Space → Nat
  | .hbm => 7
  | .vmem => 26
  | .smem => 8
  | _ => 0

abbrev bufTy : (tb : Table) → Fin (tcTables nBuf tb) → BufTy
  | .hbm, ⟨0, _⟩ => ⟨S655360x128, .i32⟩
  | .hbm, ⟨1, _⟩ => ⟨S2x32x2048x4096, .f32⟩
  | .hbm, ⟨2, _⟩ => ⟨S32x4096, .f32⟩
  | .hbm, ⟨3, _⟩ => ⟨S320, .i32⟩
  | .hbm, ⟨4, _⟩ => ⟨S320, .i32⟩
  | .hbm, ⟨5, _⟩ => ⟨S32x1x4096, .f32⟩
  | .hbm, ⟨6, _⟩ => ⟨S81920x2048, .bf16⟩
  | .local _ .vmem, ⟨0, _⟩ => ⟨S4096x128, .i32⟩
  | .local _ .vmem, ⟨1, _⟩ => ⟨S4096x128, .i32⟩
  | .local _ .vmem, ⟨2, _⟩ => ⟨S1x1x512x1024, .f32⟩
  | .local _ .vmem, ⟨3, _⟩ => ⟨S1x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1x512x1024, .f32⟩
  | .local _ .vmem, ⟨11, _⟩ => ⟨S1x1x512x1024, .f32⟩
  | .local _ .vmem, ⟨12, _⟩ => ⟨S1x1x512x1024, .f32⟩
  | .local _ .vmem, ⟨13, _⟩ => ⟨S1x1x512x1024, .f32⟩
  | .local _ .vmem, ⟨14, _⟩ => ⟨S1x1x512x1024, .f32⟩
  | .local _ .vmem, ⟨15, _⟩ => ⟨S1x1x512x1024, .f32⟩
  | .local _ .vmem, ⟨16, _⟩ => ⟨S1x1x512x1024, .f32⟩
  | .local _ .vmem, ⟨17, _⟩ => ⟨S1x1x512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S512x1024, .bf16⟩
  | .local _ .vmem, ⟨23, _⟩ => ⟨S512x1024, .bf16⟩
  | .local _ .vmem, ⟨24, _⟩ => ⟨S2048x1024, .bf16⟩
  | .local _ .vmem, ⟨25, _⟩ => ⟨S2048x1024, .bf16⟩
  | .local _ .smem, ⟨0, _⟩ => ⟨S320, .i32⟩
  | .local _ .smem, ⟨1, _⟩ => ⟨S320, .i32⟩
  | .local _ .smem, ⟨2, _⟩ => ⟨S320, .i32⟩
  | .local _ .smem, ⟨3, _⟩ => ⟨S320, .i32⟩
  | .local _ .smem, ⟨4, _⟩ => ⟨S320, .i32⟩
  | .local _ .smem, ⟨5, _⟩ => ⟨S320, .i32⟩
  | .local _ .smem, ⟨6, _⟩ => ⟨S4x320, .i32⟩
  | .local _ .smem, ⟨7, _⟩ => ⟨S4x320, .i32⟩
  | _, _ => ⟨S655360x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev main_arg8 : Ref sig .tc := ⟨.smem, 3, rfl⟩
abbrev main_arg9 : Ref sig .tc := ⟨.smem, 4, rfl⟩
abbrev main_arg10 : Ref sig .tc := ⟨.smem, 5, rfl⟩
abbrev main_arg11 : Ref sig .tc := ⟨.smem, 6, rfl⟩
abbrev main_arg12 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![320], ![false]⟩

abbrev pre0 : Pipeline.Prefetch sig := ⟨8, ![main_arg5.idx, main_arg6.idx, main_arg7.idx, main_arg8.idx, main_arg9.idx, main_arg10.idx, main_arg11.idx, main_arg12.idx], fun | 0 => main_arg5.names | 1 => main_arg6.names | 2 => main_arg7.names | 3 => main_arg8.names | 4 => main_arg9.names | 5 => main_arg10.names | 6 => main_arg11.names | 7 => main_arg12.names | ⟨_ + 8, h⟩ => absurd h (Nat.not_lt.2 (Nat.le_add_left _ _)), fun | 0 => rfl | 1 => rfl | 2 => rfl | 3 => rfl | 4 => rfl | 5 => rfl | 6 => rfl | 7 => rfl | ⟨_ + 8, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let c0 : Index := 0#32
  let arg0 : BitVec 32 := BitVec.ofNat 32 (i 0).val
  let v0 : Index := Scalar.indexCast arg0
  ![0, v0.toNat]
def k0_off3 (i : grid0.Coords) : Fin 2 → Nat :=
  let c1 : Index := 1#32
  let arg0 : BitVec 32 := BitVec.ofNat 32 (i 0).val
  let v0 : Index := Scalar.indexCast arg0
  ![1, v0.toNat]
def k0_off4 (i : grid0.Coords) : Fin 2 → Nat :=
  let c2 : Index := 2#32
  let arg0 : BitVec 32 := BitVec.ofNat 32 (i 0).val
  let v0 : Index := Scalar.indexCast arg0
  ![2, v0.toNat]
def k0_off5 (i : grid0.Coords) : Fin 2 → Nat :=
  let c3 : Index := 3#32
  let arg0 : BitVec 32 := BitVec.ofNat 32 (i 0).val
  let v0 : Index := Scalar.indexCast arg0
  ![3, v0.toNat]
@[reducible] def k0_t1_loop : Scf.Loop 32 :=
  let c0_i32_8 : BitVec 32 := 0#32
  let c2_i32 : BitVec 32 := 2#32
  let v20 : BitVec 32 := Scalar.addi c0_i32_8 c2_i32
  let c1_i32_9 : BitVec 32 := 1#32
  ⟨c0_i32_8, v20, c1_i32_9⟩
def k0_mult1 (k0_t1 : Fin k0_t1_loop.trips) : BitVec 32 :=
  let c0_i32_8 : BitVec 32 := 0#32
  let c1_i32_9 : BitVec 32 := 1#32
  let arg23 : BitVec 32 := Scf.iv c0_i32_8 c1_i32_9 k0_t1
  let c256_i32 : BitVec 32 := 256#32
  let v28 : BitVec 32 := Scalar.muli arg23 c256_i32
  v28
def k0_off6 (k0_t1 : Fin k0_t1_loop.trips) : Fin 2 → Nat :=
  let c0_i32_8 : BitVec 32 := 0#32
  let c1_i32_9 : BitVec 32 := 1#32
  let arg23 : BitVec 32 := Scf.iv c0_i32_8 c1_i32_9 k0_t1
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off7 (k0_t1 : Fin k0_t1_loop.trips) : Fin 2 → Nat :=
  let c0_i32_8 : BitVec 32 := 0#32
  let c1_i32_9 : BitVec 32 := 1#32
  let arg23 : BitVec 32 := Scf.iv c0_i32_8 c1_i32_9 k0_t1
  let c256_i32 : BitVec 32 := 256#32
  let v28 : BitVec 32 := Scalar.muli arg23 c256_i32
  let v29 : BitVec 32 := v28
  let v36 : Index := Scalar.indexCast v29
  let c0_i32_56 : BitVec 32 := 0#32
  ![v36.toNat, 0]
@[reducible] def k0_t2_loop : Scf.Loop 32 :=
  let c0_i32_13 : BitVec 32 := 0#32
  let c2_i32_14 : BitVec 32 := 2#32
  let v21 : BitVec 32 := Scalar.addi c0_i32_13 c2_i32_14
  let c1_i32_15 : BitVec 32 := 1#32
  ⟨c0_i32_13, v21, c1_i32_15⟩
def k0_mult2 (k0_t2 : Fin k0_t2_loop.trips) : BitVec 32 :=
  let c0_i32_13 : BitVec 32 := 0#32
  let c1_i32_15 : BitVec 32 := 1#32
  let arg23 : BitVec 32 := Scf.iv c0_i32_13 c1_i32_15 k0_t2
  let c256_i32 : BitVec 32 := 256#32
  let v28 : BitVec 32 := Scalar.muli arg23 c256_i32
  v28
def k0_off8 (k0_t2 : Fin k0_t2_loop.trips) : Fin 2 → Nat :=
  let c0_i32_13 : BitVec 32 := 0#32
  let c1_i32_15 : BitVec 32 := 1#32
  let arg23 : BitVec 32 := Scf.iv c0_i32_13 c1_i32_15 k0_t2
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off9 (k0_t2 : Fin k0_t2_loop.trips) : Fin 2 → Nat :=
  let c0_i32_13 : BitVec 32 := 0#32
  let c1_i32_15 : BitVec 32 := 1#32
  let arg23 : BitVec 32 := Scf.iv c0_i32_13 c1_i32_15 k0_t2
  let c256_i32 : BitVec 32 := 256#32
  let v28 : BitVec 32 := Scalar.muli arg23 c256_i32
  let v29 : BitVec 32 := v28
  let v36 : Index := Scalar.indexCast v29
  let c0_i32_56 : BitVec 32 := 0#32
  ![v36.toNat, 0]
@[reducible] def k0_t3_loop : Scf.Loop 32 :=
  let c0_i32_19 : BitVec 32 := 0#32
  let c2_i32_20 : BitVec 32 := 2#32
  let v22 : BitVec 32 := Scalar.addi c0_i32_19 c2_i32_20
  let c1_i32_21 : BitVec 32 := 1#32
  ⟨c0_i32_19, v22, c1_i32_21⟩
def k0_mult3 (k0_t3 : Fin k0_t3_loop.trips) : BitVec 32 :=
  let c0_i32_19 : BitVec 32 := 0#32
  let c1_i32_21 : BitVec 32 := 1#32
  let arg23 : BitVec 32 := Scf.iv c0_i32_19 c1_i32_21 k0_t3
  let c256_i32 : BitVec 32 := 256#32
  let v28 : BitVec 32 := Scalar.muli arg23 c256_i32
  v28
def k0_off10 (k0_t3 : Fin k0_t3_loop.trips) : Fin 2 → Nat :=
  let c0_i32_19 : BitVec 32 := 0#32
  let c1_i32_21 : BitVec 32 := 1#32
  let arg23 : BitVec 32 := Scf.iv c0_i32_19 c1_i32_21 k0_t3
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off11 (k0_t3 : Fin k0_t3_loop.trips) : Fin 2 → Nat :=
  let c0_i32_19 : BitVec 32 := 0#32
  let c1_i32_21 : BitVec 32 := 1#32
  let arg23 : BitVec 32 := Scf.iv c0_i32_19 c1_i32_21 k0_t3
  let c256_i32 : BitVec 32 := 256#32
  let v28 : BitVec 32 := Scalar.muli arg23 c256_i32
  let v29 : BitVec 32 := v28
  let v36 : Index := Scalar.indexCast v29
  let c0_i32_55 : BitVec 32 := 0#32
  ![Nat.add v36.toNat 512, 0]
@[reducible] def k0_t4_loop : Scf.Loop 32 :=
  let c0_i32_25 : BitVec 32 := 0#32
  let c2_i32_26 : BitVec 32 := 2#32
  let v23 : BitVec 32 := Scalar.addi c0_i32_25 c2_i32_26
  let c1_i32_27 : BitVec 32 := 1#32
  ⟨c0_i32_25, v23, c1_i32_27⟩
def k0_mult4 (k0_t4 : Fin k0_t4_loop.trips) : BitVec 32 :=
  let c0_i32_25 : BitVec 32 := 0#32
  let c1_i32_27 : BitVec 32 := 1#32
  let arg23 : BitVec 32 := Scf.iv c0_i32_25 c1_i32_27 k0_t4
  let c256_i32 : BitVec 32 := 256#32
  let v28 : BitVec 32 := Scalar.muli arg23 c256_i32
  v28
def k0_off12 (k0_t4 : Fin k0_t4_loop.trips) : Fin 2 → Nat :=
  let c0_i32_25 : BitVec 32 := 0#32
  let c1_i32_27 : BitVec 32 := 1#32
  let arg23 : BitVec 32 := Scf.iv c0_i32_25 c1_i32_27 k0_t4
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off13 (k0_t4 : Fin k0_t4_loop.trips) : Fin 2 → Nat :=
  let c0_i32_25 : BitVec 32 := 0#32
  let c1_i32_27 : BitVec 32 := 1#32
  let arg23 : BitVec 32 := Scf.iv c0_i32_25 c1_i32_27 k0_t4
  let c256_i32 : BitVec 32 := 256#32
  let v28 : BitVec 32 := Scalar.muli arg23 c256_i32
  let v29 : BitVec 32 := v28
  let v36 : Index := Scalar.indexCast v29
  let c0_i32_55 : BitVec 32 := 0#32
  ![Nat.add v36.toNat 512, 0]
@[reducible] def k0_t5_loop : Scf.Loop 32 :=
  let c0_i32_31 : BitVec 32 := 0#32
  let c2_i32_32 : BitVec 32 := 2#32
  let v24 : BitVec 32 := Scalar.addi c0_i32_31 c2_i32_32
  let c1_i32_33 : BitVec 32 := 1#32
  ⟨c0_i32_31, v24, c1_i32_33⟩
def k0_mult5 (k0_t5 : Fin k0_t5_loop.trips) : BitVec 32 :=
  let c0_i32_31 : BitVec 32 := 0#32
  let c1_i32_33 : BitVec 32 := 1#32
  let arg23 : BitVec 32 := Scf.iv c0_i32_31 c1_i32_33 k0_t5
  let c256_i32 : BitVec 32 := 256#32
  let v28 : BitVec 32 := Scalar.muli arg23 c256_i32
  v28
def k0_off14 (k0_t5 : Fin k0_t5_loop.trips) : Fin 2 → Nat :=
  let c0_i32_31 : BitVec 32 := 0#32
  let c1_i32_33 : BitVec 32 := 1#32
  let arg23 : BitVec 32 := Scf.iv c0_i32_31 c1_i32_33 k0_t5
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off15 (k0_t5 : Fin k0_t5_loop.trips) : Fin 2 → Nat :=
  let c0_i32_31 : BitVec 32 := 0#32
  let c1_i32_33 : BitVec 32 := 1#32
  let arg23 : BitVec 32 := Scf.iv c0_i32_31 c1_i32_33 k0_t5
  let c256_i32 : BitVec 32 := 256#32
  let v28 : BitVec 32 := Scalar.muli arg23 c256_i32
  let v29 : BitVec 32 := v28
  let v36 : Index := Scalar.indexCast v29
  let c0_i32_55 : BitVec 32 := 0#32
  ![Nat.add v36.toNat 1024, 0]
@[reducible] def k0_t6_loop : Scf.Loop 32 :=
  let c0_i32_37 : BitVec 32 := 0#32
  let c2_i32_38 : BitVec 32 := 2#32
  let v25 : BitVec 32 := Scalar.addi c0_i32_37 c2_i32_38
  let c1_i32_39 : BitVec 32 := 1#32
  ⟨c0_i32_37, v25, c1_i32_39⟩
def k0_mult6 (k0_t6 : Fin k0_t6_loop.trips) : BitVec 32 :=
  let c0_i32_37 : BitVec 32 := 0#32
  let c1_i32_39 : BitVec 32 := 1#32
  let arg23 : BitVec 32 := Scf.iv c0_i32_37 c1_i32_39 k0_t6
  let c256_i32 : BitVec 32 := 256#32
  let v28 : BitVec 32 := Scalar.muli arg23 c256_i32
  v28
def k0_off16 (k0_t6 : Fin k0_t6_loop.trips) : Fin 2 → Nat :=
  let c0_i32_37 : BitVec 32 := 0#32
  let c1_i32_39 : BitVec 32 := 1#32
  let arg23 : BitVec 32 := Scf.iv c0_i32_37 c1_i32_39 k0_t6
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off17 (k0_t6 : Fin k0_t6_loop.trips) : Fin 2 → Nat :=
  let c0_i32_37 : BitVec 32 := 0#32
  let c1_i32_39 : BitVec 32 := 1#32
  let arg23 : BitVec 32 := Scf.iv c0_i32_37 c1_i32_39 k0_t6
  let c256_i32 : BitVec 32 := 256#32
  let v28 : BitVec 32 := Scalar.muli arg23 c256_i32
  let v29 : BitVec 32 := v28
  let v36 : Index := Scalar.indexCast v29
  let c0_i32_55 : BitVec 32 := 0#32
  ![Nat.add v36.toNat 1024, 0]
@[reducible] def k0_t7_loop : Scf.Loop 32 :=
  let c0_i32_43 : BitVec 32 := 0#32
  let c2_i32_44 : BitVec 32 := 2#32
  let v26 : BitVec 32 := Scalar.addi c0_i32_43 c2_i32_44
  let c1_i32_45 : BitVec 32 := 1#32
  ⟨c0_i32_43, v26, c1_i32_45⟩
def k0_mult7 (k0_t7 : Fin k0_t7_loop.trips) : BitVec 32 :=
  let c0_i32_43 : BitVec 32 := 0#32
  let c1_i32_45 : BitVec 32 := 1#32
  let arg23 : BitVec 32 := Scf.iv c0_i32_43 c1_i32_45 k0_t7
  let c256_i32 : BitVec 32 := 256#32
  let v28 : BitVec 32 := Scalar.muli arg23 c256_i32
  v28
def k0_off18 (k0_t7 : Fin k0_t7_loop.trips) : Fin 2 → Nat :=
  let c0_i32_43 : BitVec 32 := 0#32
  let c1_i32_45 : BitVec 32 := 1#32
  let arg23 : BitVec 32 := Scf.iv c0_i32_43 c1_i32_45 k0_t7
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off19 (k0_t7 : Fin k0_t7_loop.trips) : Fin 2 → Nat :=
  let c0_i32_43 : BitVec 32 := 0#32
  let c1_i32_45 : BitVec 32 := 1#32
  let arg23 : BitVec 32 := Scf.iv c0_i32_43 c1_i32_45 k0_t7
  let c256_i32 : BitVec 32 := 256#32
  let v28 : BitVec 32 := Scalar.muli arg23 c256_i32
  let v29 : BitVec 32 := v28
  let v36 : Index := Scalar.indexCast v29
  let c0_i32_55 : BitVec 32 := 0#32
  ![Nat.add v36.toNat 1536, 0]
@[reducible] def k0_t8_loop : Scf.Loop 32 :=
  let c0_i32_49 : BitVec 32 := 0#32
  let c2_i32_50 : BitVec 32 := 2#32
  let v27 : BitVec 32 := Scalar.addi c0_i32_49 c2_i32_50
  let c1_i32_51 : BitVec 32 := 1#32
  ⟨c0_i32_49, v27, c1_i32_51⟩
def k0_mult8 (k0_t8 : Fin k0_t8_loop.trips) : BitVec 32 :=
  let c0_i32_49 : BitVec 32 := 0#32
  let c1_i32_51 : BitVec 32 := 1#32
  let arg23 : BitVec 32 := Scf.iv c0_i32_49 c1_i32_51 k0_t8
  let c256_i32 : BitVec 32 := 256#32
  let v28 : BitVec 32 := Scalar.muli arg23 c256_i32
  v28
def k0_off20 (k0_t8 : Fin k0_t8_loop.trips) : Fin 2 → Nat :=
  let c0_i32_49 : BitVec 32 := 0#32
  let c1_i32_51 : BitVec 32 := 1#32
  let arg23 : BitVec 32 := Scf.iv c0_i32_49 c1_i32_51 k0_t8
  let c256_i32 : BitVec 32 := 256#32
  let v28 : BitVec 32 := Scalar.muli arg23 c256_i32
  let v29 : BitVec 32 := v28
  let v32 : Index := Scalar.indexCast v29
  let c0 : Index := 0#32
  ![v32.toNat, 0]
def k0_off21 (k0_t8 : Fin k0_t8_loop.trips) : Fin 2 → Nat :=
  let c0_i32_49 : BitVec 32 := 0#32
  let c1_i32_51 : BitVec 32 := 1#32
  let arg23 : BitVec 32 := Scf.iv c0_i32_49 c1_i32_51 k0_t8
  let c256_i32 : BitVec 32 := 256#32
  let v28 : BitVec 32 := Scalar.muli arg23 c256_i32
  let v29 : BitVec 32 := v28
  let v36 : Index := Scalar.indexCast v29
  let c0_i32_55 : BitVec 32 := 0#32
  ![Nat.add v36.toNat 1536, 0]
def k0_off22 (i : grid0.Coords) : Fin 1 → Nat :=
  let arg0 : BitVec 32 := BitVec.ofNat 32 (i 0).val
  let v5 : Index := Scalar.indexCast arg0
  ![v5.toNat]
def k0_cond2 (v9 : BitVec 32) : BitVec 1 :=
  let c1_i32_1 : BitVec 32 := 1#32
  let v10 : BitVec 1 := Scalar.cmpi .eq v9 c1_i32_1
  let v11 : BitVec 32 := Scalar.extui v10
  let c0_i32_2 : BitVec 32 := 0#32
  let v12 : BitVec 1 := Scalar.cmpi .ne v11 c0_i32_2
  v12

def k0_cond3 (v6 : BitVec 32) (v9 : BitVec 32) : BitVec 1 :=
  let c1_i32_0 : BitVec 32 := 1#32
  let v7 : BitVec 1 := Scalar.cmpi .eq v6 c1_i32_0
  let c1_i32_1 : BitVec 32 := 1#32
  let v10 : BitVec 1 := Scalar.cmpi .eq v9 c1_i32_1
  let v_true : BitVec 1 := 1#1
  let v13 : BitVec 1 := Scalar.xori v10 v_true
  let v14 : BitVec 1 := Scalar.andi v7 v13
  let v15 : BitVec 32 := Scalar.extui v14
  let c0_i32_3 : BitVec 32 := 0#32
  let v16 : BitVec 1 := Scalar.cmpi .ne v15 c0_i32_3
  v16

def k0_cond4 (v6 : BitVec 32) : BitVec 1 :=
  let c1_i32_0 : BitVec 32 := 1#32
  let v7 : BitVec 1 := Scalar.cmpi .eq v6 c1_i32_0
  let true_4 : BitVec 1 := 1#1
  let v17 : BitVec 1 := Scalar.xori v7 true_4
  let v18 : BitVec 32 := Scalar.extui v17
  let c0_i32_5 : BitVec 32 := 0#32
  let v19 : BitVec 1 := Scalar.cmpi .ne v18 c0_i32_5
  v19

def cc0_transform_0 (k0_off1_inb : ∀ i : grid0.Coords, ∀ a, (k0_off1 i) a + S1.size a ≤ S320.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 6 (Rect.unit (s := S4x320) ![0, v0.toNat] S1x1.size (k0_off2_inb i)) numel1_S1x1
  let c0_0 : Index := 0#32
  let v2 : Index := Scalar.indexCast arg0
  let v3 : BitVec 32 := pf.at 7 (Rect.unit (s := S4x320) ![0, v2.toNat] S1x1.size (k0_off2_inb i)) numel1_S1x1
  let c0_i32 : BitVec 32 := 0#32
  let v4 : BitVec 32 := Scalar.addi c0_i32 v3
  let c1_i32 : BitVec 32 := 1#32
  let c0_i32_1 : BitVec 32 := 0#32
  let c0_i32_2 : BitVec 32 := 0#32
  ![c1_i32.toNat, v1.toNat, c0_i32_1.toNat, v4.toNat]

def cc0_transform_2 (k0_off3_inb : ∀ i : grid0.Coords, ∀ a, (k0_off3 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 6 (Rect.unit (s := S4x320) ![1, v0.toNat] S1x1.size (k0_off3_inb i)) numel1_S1x1
  let c1_0 : Index := 1#32
  let v2 : Index := Scalar.indexCast arg0
  let v3 : BitVec 32 := pf.at 7 (Rect.unit (s := S4x320) ![1, v2.toNat] S1x1.size (k0_off3_inb i)) numel1_S1x1
  let c0_i32 : BitVec 32 := 0#32
  let v4 : BitVec 32 := Scalar.addi c0_i32 v3
  let c1_i32 : BitVec 32 := 1#32
  let c1_i32_1 : BitVec 32 := 1#32
  let c0_i32_2 : BitVec 32 := 0#32
  ![c1_i32.toNat, v1.toNat, c1_i32_1.toNat, v4.toNat]

def cc0_transform_3 (k0_off4_inb : ∀ i : grid0.Coords, ∀ a, (k0_off4 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c2 : Index := 2#32
  let v0 : Index := Scalar.indexCast arg0
  let v1 : BitVec 32 := pf.at 6 (Rect.unit (s := S4x320) ![2, v0.toNat] S1x1.size (k0_off4_inb i)) numel1_S1x1
  let c2_0 : Index := 2#32
  let v2 : Index := Scalar.indexCast arg0
  let v3 : BitVec 32 := pf.at 7 (Rect.unit (s := S4x320) ![2, v2.toNat] S1x1.size (k0_off4_inb i)) numel1_S1x1
  let c0_i32 : BitVec 32 := 0#32
  let v4 : BitVec 32 := Scalar.addi c0_i32 v3
  let c1_i32 : BitVec 32 := 1#32
  let c2_i32 : BitVec 32 := 2#32
  let c0_i32_1 : BitVec 32 := 0#32
  ![c1_i32.toNat, v1.toNat, c2_i32.toNat, v4.toNat]

def cc0_transform_4 (k0_off5_inb : ∀ i : grid0.Coords, ∀ a, (k0_off5 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c3 : Index := 3#32
  let v0 : Index := Scalar.indexCast arg0
  let v1 : BitVec 32 := pf.at 6 (Rect.unit (s := S4x320) ![3, v0.toNat] S1x1.size (k0_off5_inb i)) numel1_S1x1
  let c3_0 : Index := 3#32
  let v2 : Index := Scalar.indexCast arg0
  let v3 : BitVec 32 := pf.at 7 (Rect.unit (s := S4x320) ![3, v2.toNat] S1x1.size (k0_off5_inb i)) numel1_S1x1
  let c0_i32 : BitVec 32 := 0#32
  let v4 : BitVec 32 := Scalar.addi c0_i32 v3
  let c1_i32 : BitVec 32 := 1#32
  let c3_i32 : BitVec 32 := 3#32
  let c0_i32_1 : BitVec 32 := 0#32
  ![c1_i32.toNat, v1.toNat, c3_i32.toNat, v4.toNat]

def cc0_transform_5 (k0_off2_inb : ∀ i : grid0.Coords, ∀ a, (k0_off2 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 6 (Rect.unit (s := S4x320) ![0, v0.toNat] S1x1.size (k0_off2_inb i)) numel1_S1x1
  let c0_0 : Index := 0#32
  let v2 : Index := Scalar.indexCast arg0
  let v3 : BitVec 32 := pf.at 7 (Rect.unit (s := S4x320) ![0, v2.toNat] S1x1.size (k0_off2_inb i)) numel1_S1x1
  let c2_i32 : BitVec 32 := 2#32
  let v4 : BitVec 32 := Scalar.addi c2_i32 v3
  let c1_i32 : BitVec 32 := 1#32
  let c0_i32 : BitVec 32 := 0#32
  let c0_i32_1 : BitVec 32 := 0#32
  ![c1_i32.toNat, v1.toNat, c0_i32.toNat, v4.toNat]

def cc0_transform_6 (k0_off3_inb : ∀ i : grid0.Coords, ∀ a, (k0_off3 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 6 (Rect.unit (s := S4x320) ![1, v0.toNat] S1x1.size (k0_off3_inb i)) numel1_S1x1
  let c1_0 : Index := 1#32
  let v2 : Index := Scalar.indexCast arg0
  let v3 : BitVec 32 := pf.at 7 (Rect.unit (s := S4x320) ![1, v2.toNat] S1x1.size (k0_off3_inb i)) numel1_S1x1
  let c2_i32 : BitVec 32 := 2#32
  let v4 : BitVec 32 := Scalar.addi c2_i32 v3
  let c1_i32 : BitVec 32 := 1#32
  let c1_i32_1 : BitVec 32 := 1#32
  let c0_i32 : BitVec 32 := 0#32
  ![c1_i32.toNat, v1.toNat, c1_i32_1.toNat, v4.toNat]

def cc0_transform_7 (k0_off4_inb : ∀ i : grid0.Coords, ∀ a, (k0_off4 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c2 : Index := 2#32
  let v0 : Index := Scalar.indexCast arg0
  let v1 : BitVec 32 := pf.at 6 (Rect.unit (s := S4x320) ![2, v0.toNat] S1x1.size (k0_off4_inb i)) numel1_S1x1
  let c2_0 : Index := 2#32
  let v2 : Index := Scalar.indexCast arg0
  let v3 : BitVec 32 := pf.at 7 (Rect.unit (s := S4x320) ![2, v2.toNat] S1x1.size (k0_off4_inb i)) numel1_S1x1
  let c2_i32 : BitVec 32 := 2#32
  let v4 : BitVec 32 := Scalar.addi c2_i32 v3
  let c1_i32 : BitVec 32 := 1#32
  let c2_i32_1 : BitVec 32 := 2#32
  let c0_i32 : BitVec 32 := 0#32
  ![c1_i32.toNat, v1.toNat, c2_i32_1.toNat, v4.toNat]

def cc0_transform_8 (k0_off5_inb : ∀ i : grid0.Coords, ∀ a, (k0_off5 i) a + S1x1.size a ≤ S4x320.size a) (numel1_S1x1 : S1x1.numel = 1) (pf : pre0.Contents (Elt F)) (i : grid0.Coords) : Fin 4 → Nat :=
  let arg0 : BitVec 32 := BitVec.ofNat 32 (i 0).val
  let c3 : Index := 3#32
  let v0 : Index := Scalar.indexCast arg0
  let v1 : BitVec 32 := pf.at 6 (Rect.unit (s := S4x320) ![3, v0.toNat] S1x1.size (k0_off5_inb i)) numel1_S1x1
  let c3_0 : Index := 3#32
  let v2 : Index := Scalar.indexCast arg0
  let v3 : BitVec 32 := pf.at 7 (Rect.unit (s := S4x320) ![3, v2.toNat] S1x1.size (k0_off5_inb i)) numel1_S1x1
  let c2_i32 : BitVec 32 := 2#32
  let v4 : BitVec 32 := Scalar.addi c2_i32 v3
  let c1_i32 : BitVec 32 := 1#32
  let c3_i32 : BitVec 32 := 3#32
  let c0_i32 : BitVec 32 := 0#32
  ![c1_i32.toNat, v1.toNat, c3_i32.toNat, v4.toNat]

def cc0_transform_9 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S320) ![v0.toNat] S1.size (k0_off1_inb i)) numel1_S1
  let v2 : Index := Scalar.indexCast arg0
  let v3 : BitVec 32 := pf.at 1 (Rect.unit (s := S320) ![v2.toNat] S1.size (k0_off1_inb i)) numel1_S1
  let c0_i32 : BitVec 32 := 0#32
  let c0_i32_0 : BitVec 32 := 0#32
  ![v1.toNat, c0_i32.toNat, v3.toNat]

def cc0_transform_10 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S320) ![v0.toNat] S1.size (k0_off1_inb i)) numel1_S1
  let v2 : Index := Scalar.indexCast arg0
  let v3 : BitVec 32 := pf.at 1 (Rect.unit (s := S320) ![v2.toNat] S1.size (k0_off1_inb i)) numel1_S1
  let c2_i32 : BitVec 32 := 2#32
  let v4 : BitVec 32 := Scalar.addi c2_i32 v3
  let c0_i32 : BitVec 32 := 0#32
  let c0_i32_0 : BitVec 32 := 0#32
  ![v1.toNat, c0_i32.toNat, v4.toNat]

def cc0_transform_11 (k0_off1_inb : ∀ i : grid0.Coords, ∀ a, (k0_off1 i) a + S1.size a ≤ S320.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let v2 : Index := Scalar.indexCast arg0
  let v3 : BitVec 32 := pf.at 1 (Rect.unit (s := S320) ![v2.toNat] S1.size (k0_off1_inb i)) numel1_S1
  let c0_i32 : BitVec 32 := 0#32
  ![v1.toNat, v3.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S655360x128 : Shape := ⟨2, ![655360, 128]⟩
abbrev S2x32x2048x4096 : Shape := ⟨4, ![2, 32, 2048, 4096]⟩
abbrev S32x4096 : Shape := ⟨2, ![32, 4096]⟩
abbrev S320 : Shape := ⟨1, ![320]⟩
abbrev S4x320 : Shape := ⟨2, ![4, 320]⟩
abbrev S320x256x1024 : Shape := ⟨3, ![320, 256, 1024]⟩
abbrev S_ : Shape := ⟨0, ![]⟩
abbrev S320x256x2048 : Shape := ⟨3, ![320, 256, 2048]⟩
abbrev S1x32x2048x4096 : Shape := ⟨4, ![1, 32, 2048, 4096]⟩
abbrev S32x2048x4096 : Shape := ⟨3, ![32, 2048, 4096]⟩
abbrev S320x1 : Shape := ⟨2, ![320, 1]⟩
abbrev S320x2048x4096 : Shape := ⟨3, ![320, 2048, 4096]⟩
abbrev S320x4096 : Shape := ⟨2, ![320, 4096]⟩
abbrev S320x256x4096 : Shape := ⟨3, ![320, 256, 4096]⟩
abbrev S320x1x4096 : Shape := ⟨3, ![320, 1, 4096]⟩
abbrev S320x1x1 : Shape := ⟨3, ![320, 1, 1]⟩
abbrev S81920x2048 : Shape := ⟨2, ![81920, 2048]⟩

abbrev nBuf : Space → Nat
  | .hbm => 73
  | .vmem => 0
  | .smem => 0
  | _ => 0

abbrev bufTy : (tb : Table) → Fin (tcTables nBuf tb) → BufTy
  | .hbm, ⟨0, _⟩ => ⟨S655360x128, .i32⟩
  | .hbm, ⟨1, _⟩ => ⟨S2x32x2048x4096, .f32⟩
  | .hbm, ⟨2, _⟩ => ⟨S32x4096, .f32⟩
  | .hbm, ⟨3, _⟩ => ⟨S320, .i32⟩
  | .hbm, ⟨4, _⟩ => ⟨S320, .i32⟩
  | .hbm, ⟨5, _⟩ => ⟨S320, .i32⟩
  | .hbm, ⟨6, _⟩ => ⟨S320, .i32⟩
  | .hbm, ⟨7, _⟩ => ⟨S320, .i32⟩
  | .hbm, ⟨8, _⟩ => ⟨S320, .i32⟩
  | .hbm, ⟨9, _⟩ => ⟨S320, .i32⟩
  | .hbm, ⟨10, _⟩ => ⟨S320, .i32⟩
  | .hbm, ⟨11, _⟩ => ⟨S4x320, .i32⟩
  | .hbm, ⟨12, _⟩ => ⟨S4x320, .i32⟩
  | .hbm, ⟨13, _⟩ => ⟨S320x256x1024, .i32⟩
  | .hbm, ⟨14, _⟩ => ⟨S_, .i32⟩
  | .hbm, ⟨15, _⟩ => ⟨S320x256x1024, .i32⟩
  | .hbm, ⟨16, _⟩ => ⟨S320x256x1024, .i32⟩
  | .hbm, ⟨17, _⟩ => ⟨S320x256x1024, .f32⟩
  | .hbm, ⟨18, _⟩ => ⟨S_, .i32⟩
  | .hbm, ⟨19, _⟩ => ⟨S320x256x1024, .i32⟩
  | .hbm, ⟨20, _⟩ => ⟨S320x256x1024, .i32⟩
  | .hbm, ⟨21, _⟩ => ⟨S320x256x1024, .f32⟩
  | .hbm, ⟨22, _⟩ => ⟨S320x256x2048, .f32⟩
  | .hbm, ⟨23, _⟩ => ⟨S1x32x2048x4096, .f32⟩
  | .hbm, ⟨24, _⟩ => ⟨S32x2048x4096, .f32⟩
  | .hbm, ⟨25, _⟩ => ⟨S320x1, .i32⟩
  | .hbm, ⟨26, _⟩ => ⟨S320x2048x4096, .f32⟩
  | .hbm, ⟨27, _⟩ => ⟨S320x1, .i32⟩
  | .hbm, ⟨28, _⟩ => ⟨S320x4096, .f32⟩
  | .hbm, ⟨29, _⟩ => ⟨S320x256x4096, .f32⟩
  | .hbm, ⟨30, _⟩ => ⟨S320x1x4096, .f32⟩
  | .hbm, ⟨31, _⟩ => ⟨S320x256x4096, .f32⟩
  | .hbm, ⟨32, _⟩ => ⟨S320x256x4096, .f32⟩
  | .hbm, ⟨33, _⟩ => ⟨S320x256x2048, .f32⟩
  | .hbm, ⟨34, _⟩ => ⟨S320x256x2048, .f32⟩
  | .hbm, ⟨35, _⟩ => ⟨S_, .f32⟩
  | .hbm, ⟨36, _⟩ => ⟨S320x256x2048, .f32⟩
  | .hbm, ⟨37, _⟩ => ⟨S320x256x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S320x256x2048, .f32⟩
  | .hbm, ⟨42, _⟩ => ⟨S320x256x2048, .f32⟩
  | .hbm, ⟨43, _⟩ => ⟨S_, .f32⟩
  | .hbm, ⟨44, _⟩ => ⟨S320x256x2048, .f32⟩
  | .hbm, ⟨45, _⟩ => ⟨S320x256x2048, .f32⟩
  | .hbm, ⟨46, _⟩ => ⟨S_, .f32⟩
  | .hbm, ⟨47, _⟩ => ⟨S320x256x2048, .f32⟩
  | .hbm, ⟨48, _⟩ => ⟨S320x256x2048, .f32⟩
  | .hbm, ⟨49, _⟩ => ⟨S320x256x2048, .f32⟩
  | .hbm, ⟨50, _⟩ => ⟨S_, .f32⟩
  | .hbm, ⟨51, _⟩ => ⟨S320x256x2048, .f32⟩
  | .hbm, ⟨52, _⟩ => ⟨S320x256x2048, .f32⟩
  | .hbm, ⟨53, _⟩ => ⟨S320x256x2048, .f32⟩
  | .hbm, ⟨54, _⟩ => ⟨S320x256x2048, .f32⟩
  | .hbm, ⟨55, _⟩ => ⟨S_, .f32⟩
  | .hbm, ⟨56, _⟩ => ⟨S320x256x2048, .f32⟩
  | .hbm, ⟨57, _⟩ => ⟨S320x256x2048, .f32⟩
  | .hbm, ⟨58, _⟩ => ⟨S_, .f32⟩
  | .hbm, ⟨59, _⟩ => ⟨S320x256x2048, .f32⟩
  | .hbm, ⟨60, _⟩ => ⟨S320x256x2048, .f32⟩
  | .hbm, ⟨61, _⟩ => ⟨S320x256x2048, .f32⟩
  | .hbm, ⟨62, _⟩ => ⟨S_, .i32⟩
  | .hbm, ⟨63, _⟩ => ⟨S320, .i32⟩
  | .hbm, ⟨64, _⟩ => ⟨S320, .i1⟩
  | .hbm, ⟨65, _⟩ => ⟨S320x1x1, .i1⟩
  | .hbm, ⟨66, _⟩ => ⟨S_, .f32⟩
  | .hbm, ⟨67, _⟩ => ⟨S_, .f32⟩
  | .hbm, ⟨68, _⟩ => ⟨S320x256x2048, .i1⟩
  | .hbm, ⟨69, _⟩ => ⟨S320x256x2048, .f32⟩
  | .hbm, ⟨70, _⟩ => ⟨S320x256x2048, .f32⟩
  | .hbm, ⟨71, _⟩ => ⟨S81920x2048, .f32⟩
  | .hbm, ⟨72, _⟩ => ⟨S81920x2048, .bf16⟩
  | _, _ => ⟨S655360x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_v0 : Ref sig .tc := ⟨.hbm, 25, rfl⟩
abbrev main_v10 : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_cst_2 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]
-- ==== Proof.Ret.Forms.lean ====
/-
  What a grid point computes, over any float values: the decay table by bands of 256 rows, the rotated queries and keys, and the
  result block by tiles of 256 rows.
-/
module

public import proofs.«01_k».proof.Proof.Gen.KernelIdeal.Frame.Runs
public import Idealize.ShloMosaic.Lib.Pointwise

@[expose] public section

set_option maxRecDepth 16384

noncomputable section

namespace Cert.KernelIdeal.Ret

open Idealize.ShloMosaic Idealize.ShloMosaic.TcCoe Idealize.SL.Sem
open Cert.KernelIdeal Cert.KernelIdeal.Gen

variable {F : FTy → Type} [FloatOps F]

theorem trips_table : k0_t1_loop.trips = 8 := by decide +kernel

theorem off1_eq : ∀ k : Fin k0_t1_loop.trips, k0_off1 k = ![256 * k.val, 0] := by decide +kernel
theorem off2_eq : ∀ (k : Fin k0_t2_loop.trips) (r : Fin 2), k0_off2 k (BitVec.ofNat 32 r.val) = ![512 * k.val + 256 * r.val, 0] := by decide +kernel
theorem off3_eq : ∀ (k : Fin k0_t2_loop.trips) (r : Fin 2), k0_off3 k (BitVec.ofNat 32 r.val) = ![512 * k.val + 256 * r.val, 0] := by decide +kernel
theorem off4_eq : ∀ (k : Fin k0_t2_loop.trips) (r : Fin 2), k0_off4 k (BitVec.ofNat 32 r.val) = ![0, 512 * k.val + 256 * r.val, 0] := by decide +kernel

/-- Rows `256 n …` of an array of 256 columns. -/
def rowsAt (Q : Vec F S2048x256 .bf16) (n : Fin 8) : Vec F S256x256 .bf16 := fun z =>
  Q (ix2 ⟨256 * n.val + (z 0).val, by have : (z 0).val < 256 := (z 0).isLt; omega⟩ (z 1))

/-- Rows `256 n …` of the decay table. -/
def bandAt (D : Vec F S2048x2048 .f32) (n : Fin 8) : Vec F S256x2048 .f32 := fun z =>
  D (ix2 ⟨256 * n.val + (z 0).val, by have : (z 0).val < 256 := (z 0).isLt; omega⟩ (z 1))

/-- Rows `256 n …` of a block. -/
def tileAt (G : Vec F S1x2048x256 .f32) (n : Fin 8) : Vec F S1x256x256 .f32 := fun z =>
  G (ix3 0 ⟨256 * n.val + (z 1).val, by have : (z 1).val < 256 := (z 1).isLt; omega⟩ (z 2))

/-- The tile a row lies in. -/
def tileOf (r : Fin 2048) : Fin 8 := ⟨r.val / 256, by omega⟩

/-- Its row in the tile. -/
def rowIn (r : Fin 2048) : Fin 256 := ⟨r.val % 256, by omega⟩

theorem tileOf_eq (n : Fin 8) (a : Fin 256) (h : 256 * n.val + a.val < 2048) : tileOf ⟨256 * n.val + a.val, h⟩ = n :=
  Fin.ext (by show (256 * n.val + a.val) / 256 = n.val; omega)

theorem rowIn_eq (n : Fin 8) (a : Fin 256) (h : 256 * n.val + a.val < 2048) : rowIn ⟨256 * n.val + a.val, h⟩ = a :=
  Fin.ext (by show (256 * n.val + a.val) % 256 = a.val; omega)

/-- The decay table from the two rows of logarithms. -/
def table (u w : Vec F S1x1x2048 .f32) : Vec F S2048x2048 .f32 := fun y =>
  k0_pay12 u w ⟨(tileOf (y 0)).val, lt_of_lt_of_eq (tileOf (y 0)).isLt trips_table.symm⟩ (ix2 (rowIn (y 0)) (y 1))

/-- The result block from queries, keys, values, decay table, gates and gain. -/
def outs (Q K V : Vec F S2048x256 .bf16) (D : Vec F S2048x2048 .f32) (G : Vec F S1x2048x256 .f32) (gain : Vec F S1x256 .f32) : Vec F S1x2048x256 .bf16 := fun y =>
  k0_pay5 gain (k0_pay6 (rowsAt Q (tileOf (y 1))) K (bandAt D (tileOf (y 1))) V) (tileAt G (tileOf (y 1))) (ix3 0 (rowIn (y 1)) (y 2))

/-- The first half of a block's channels. -/
def low (x : Vec F S1x2048x256 .f32) : Vec F S1x2048x128 .f32 := fun y => x (ix3 0 (y 1) ⟨(y 2).val, by have : (y 2).val < 128 := (y 2).isLt; omega⟩)

/-- The second half. -/
def high (x : Vec F S1x2048x256 .f32) : Vec F S1x2048x128 .f32 := fun y => x (ix3 0 (y 1) ⟨128 + (y 2).val, by have : (y 2).val < 128 := (y 2).isLt; omega⟩)

/-- The rotated queries. -/
def turnQ (x : Vec F S1x2048x256 .f32) (cs sn : Vec F S2048x128 .f32) : Vec F S2048x256 .bf16 := k0_pay13 cs sn (low x) (high x)

/-- The rotated, scaled keys. -/
def turnK (x : Vec F S1x2048x256 .f32) (cs sn : Vec F S2048x128 .f32) : Vec F S2048x256 .bf16 :=
  k0_pay1 (k0_pay10 cs) (k0_pay11 sn) (k0_pay14 (low x)) (k0_pay15 (high x)) (k0_pay16 cs sn (low x) (high x)) (Scalar.ofBits .f32 0x3D800000#32)

/-- The decay table of a head, from its block of logarithms. -/
def tab (x6 : Vec F S1x2x2048 .f32) : Vec F S2048x2048 .f32 := table (fun y => x6 (ix3 0 0 (y 2))) (fun y => x6 (ix3 0 1 (y 2)))

/-- The block a point stores, from its input blocks and the decay table. -/
def blk (x0 x1 x2 x3 : Vec F S1x2048x256 .f32) (x4 x5 : Vec F S2048x128 .f32) (D : Vec F S2048x2048 .f32) (x7 : Vec F S1x256 .f32) : Vec F S1x2048x256 .bf16 :=
  outs (turnQ x0 x4 x5) (turnK x1 x4 x5) (k0_pay2 x2) D x3 x7

/-- The two forms the tiles of a trip are stored in are one. -/
theorem pay45 (gain : Vec F S1x256 .f32) (q : Vec F S256x256 .bf16) (K : Vec F S2048x256 .bf16) (D : Vec F S256x2048 .f32) (V : Vec F S2048x256 .bf16) (G : Vec F S1x256x256 .f32) :
    k0_pay4 gain (k0_pay6 q K D V) (k0_pay8 q K D V) k0_pay9 G = k0_pay5 gain (k0_pay6 q K D V) G := rfl

theorem pay67 (q : Vec F S256x256 .bf16) (K : Vec F S2048x256 .bf16) (D : Vec F S256x2048 .f32) (V : Vec F S2048x256 .bf16) :
    k0_pay7 q K D V = k0_pay6 q K D V := rfl

end Cert.KernelIdeal.Ret

end
-- ==== Proof.Ret.Loops.lean ====
/-
  The two counted loops of a grid point: the first fills the decay table, the second stores the block, two tiles a trip.
  What each leaves is read off its stored pieces, which tile the buffer.
-/
module

public import proofs.«01_k».proof.Proof.Ret.Forms

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- A band of the decay table, placed. -/
theorem emb_band (off : Fin 2 → ℕ) (o : ℕ) (h : off = ![o, 0]) (inb : ∀ a, off a + S256x2048.size a ≤ S2048x2048.size a) (a : Fin 256) (b : Fin 2048) (ho : o + a.val < 2048) :
    (Rect.unit (s := S2048x2048) off S256x2048.size inb).emb (ix2 a b) = ix2 ⟨o + a.val, ho⟩ b := by
  subst h
  funext i
  refine Fin.cases ?_ (fun j => Fin.cases ?_ (fun j => j.elim0) j) i
  · apply Fin.ext; show o + 1 * a.val = o + a.val; omega
  · apply Fin.ext; show 0 + 1 * b.val = b.val; omega

/-- A tile of rows, placed. -/
theorem emb_rows (off : Fin 2 → ℕ) (o : ℕ) (h : off = ![o, 0]) (inb : ∀ a, off a + S256x256.size a ≤ S2048x256.size a) (a b : Fin 256) (ho : o + a.val < 2048) :
    (Rect.unit (s := S2048x256) off S256x256.size inb).emb (ix2 a b) = ix2 ⟨o + a.val, ho⟩ b := by
  subst h
  funext i
  refine Fin.cases ?_ (fun j => Fin.cases ?_ (fun j => j.elim0) j) i
  · apply Fin.ext; show o + 1 * a.val = o + a.val; omega
  · apply Fin.ext; show 0 + 1 * b.val = b.val; omega

/-- All rows, placed. -/
theorem emb_all (inb : ∀ a, (![0, 0] : Fin 2 → ℕ) a + S2048x256.size a ≤ S2048x256.size a) (a : Fin 2048) (b : Fin 256) :
    (Rect.unit (s := S2048x256) ![0, 0] S2048x256.size inb).emb (ix2 a b) = ix2 a b := by
  funext i
  refine Fin.cases ?_ (fun j => Fin.cases ?_ (fun j => j.elim0) j) i
  · apply Fin.ext; show 0 + 1 * a.val = a.val; omega
  · apply Fin.ext; show 0 + 1 * b.val = b.val; omega

/-- A tile of the block, placed. -/
theorem emb_tile (off : Fin 3 → ℕ) (o : ℕ) (h : off = ![0, o, 0]) (inb : ∀ a, off a + S1x256x256.size a ≤ S1x2048x256.size a) (z : Fin 1) (a b : Fin 256) (ho : o + a.val < 2048) :
    (Rect.unit (s := S1x2048x256) off S1x256x256.size inb).emb (ix3 z a b) = ix3 0 ⟨o + a.val, ho⟩ b := by
  subst h
  funext i
  refine Fin.cases ?_ (fun j => Fin.cases ?_ (fun j => Fin.cases ?_ (fun j => j.elim0) j) j) i
  · exact Subsingleton.elim (α := Fin 1) _ _
  · apply Fin.ext; show o + 1 * a.val = o + a.val; omega
  · apply Fin.ext; show 0 + 1 * b.val = b.val; omega

/-- One tile's element, from the loads of its rows: the value of the block at the placed index. -/
theorem tile_at (Q K V : Vec F S2048x256 .bf16) (D : Vec F S2048x2048 .f32) (G : Vec F S1x2048x256 .f32) (gain : Vec F S1x256 .f32)
    (q : Vec F S256x256 .bf16) (k v : Vec F S2048x256 .bf16) (d : Vec F S256x2048 .f32) (g : Vec F S1x256x256 .f32) (n : Fin 8) (z : Fin 1) (a b : Fin 256) (ho : 256 * n.val + a.val < 2048)
    (hq : q = rowsAt Q n) (hk : k = K) (hv : v = V) (hd : d = bandAt D n) (hg : g = tileAt G n) :
    k0_pay5 gain (k0_pay6 q k d v) g (ix3 z a b) = outs Q K V D G gain (ix3 0 ⟨256 * n.val + a.val, ho⟩ b) := by
  subst hq hk hv hd hg
  have hz : z = 0 := Subsingleton.elim _ _
  subst hz
  show _ = k0_pay5 gain (k0_pay6 (rowsAt Q (tileOf ⟨256 * n.val + a.val, ho⟩)) k (bandAt D (tileOf ⟨256 * n.val + a.val, ho⟩)) v)
    (tileAt G (tileOf ⟨256 * n.val + a.val, ho⟩)) (ix3 0 (rowIn ⟨256 * n.val + a.val, ho⟩) b)
  rw [tileOf_eq, rowIn_eq]

/-- A trip of the table's loop stores one band of the table. -/
theorem band (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (k0_h1 : k0_cond1 i = 1#1) (v54 : Vec F S1x1x2048 .f32) (v56 : Vec F S1x1x2048 .f32) (k : Fin k0_t1_loop.trips) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 k, ∀ x : p.1.shape.Idx, p.2 x = table v54 v56 (p.1.emb x) := by
  unfold tripL_k0_t1 trip_k0_t1
  dsimp only
  intro p hp x
  obtain rfl := List.mem_singleton.mp hp
  dsimp only at x ⊢
  change S256x2048.Idx at x
  idx_vars x
  have hk : k.val < 8 := Nat.lt_of_lt_of_le k.isLt k0_t1_abs.2.1
  refine Eq.trans ?_ (congrArg (table v54 v56) (emb_band (k0_off1 k) (256 * k.val) (off1_eq k) _ _ _ (by omega)).symm)
  rename' x0 => a, x1 => b
  show _ = k0_pay12 v54 v56 ⟨(tileOf ⟨256 * k.val + a.val, _⟩).val, _⟩ (ix2 (rowIn ⟨256 * k.val + a.val, _⟩) b)
  have hr : rowIn ⟨256 * k.val + a.val, by omega⟩ = a := rowIn_eq ⟨k.val, hk⟩ a (by omega)
  have hn : (⟨(tileOf ⟨256 * k.val + a.val, by omega⟩).val, lt_of_lt_of_eq (tileOf ⟨256 * k.val + a.val, by omega⟩).isLt trips_table.symm⟩ : Fin k0_t1_loop.trips) = k :=
    Fin.ext (congrArg Fin.val (tileOf_eq ⟨k.val, hk⟩ a (by omega)))
  rw [hr, hn]

/-- Every piece the table's loop has stored is a band of the table. -/
theorem bands (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (k0_h1 : k0_cond1 i = 1#1) (v54 : Vec F S1x1x2048 .f32) (v56 : Vec F S1x1x2048 .f32) (n : ℕ) (hn : n ≤ k0_t1_loop.trips) :
    ∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 n, ∀ x : p.1.shape.Idx, p.2 x = table v54 v56 (p.1.emb x) := by
  induction n with
  | zero => intro p hp; rw [pb_k0_t1] at hp; cases hp
  | succ n ih =>
    intro p hp
    rw [pb_k0_t1_succ (k := ⟨n, hn⟩)] at hp
    rcases List.mem_append.mp hp with h | h
    · exact band 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 ⟨n, hn⟩ p h
    · exact ih (Nat.le_of_succ_le hn) p h

/-- The bands tile the table, so after the loop the buffer reads the table. -/
theorem table_read (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (k0_h1 : k0_cond1 i = 1#1) (v54 : Vec F S1x1x2048 .f32) (v56 : Vec F S1x1x2048 .f32) (f : BufTy.Contents (Elt F) arg14.view.ty) :
    arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 k0_t1_loop.trips)) = table v54 v56 := by
  funext y
  exact View.read_writes_apply_of_pieces _ _ _ _ (bands 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 _ (le_refl _)) y
    (View.cover_of_tiledL (s := S2048x2048) _ S256x2048.size (by sl_kernel_rfl) y)

/-- A trip of the second loop stores two tiles of the block. -/
theorem tile (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (v51 : Vec F S1x256 .f32) (X_arg5 : BufTy.Contents (Elt F) arg5.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t2_loop.trips) :
    ∀ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v51 X_arg5 X_arg11 X_arg12 X_arg13 X_arg14 k, ∀ x : p.1.shape.Idx, p.2 x = outs (arg11.view.read (Elt F) X_arg11) (arg12.view.read (Elt F) X_arg12)
      (arg13.view.read (Elt F) X_arg13) (arg14.view.read (Elt F) X_arg14) (arg5.view.read (Elt F) X_arg5) v51 (p.1.emb x) := by
  have hk : k.val < 4 := Nat.lt_of_lt_of_le k.isLt k0_t2_abs.2.1
  unfold tripL_k0_t2 trip_k0_t2
  dsimp only
  intro p hp x
  rcases List.mem_cons.mp hp with hp | hp
  · obtain rfl := hp
    dsimp only at x ⊢
    change S1x256x256.Idx at x
    idx_vars x
    sl_unfold_words
    rw [pay67]
    refine (tile_at _ _ _ _ _ _ _ _ _ _ _ (⟨2 * k.val + 1, by omega⟩ : Fin 8) _ _ _ (by show 256 * (2 * k.val + 1) + _ < 2048; omega) ?_ ?_ ?_ ?_ ?_).trans
        (congrArg _ (emb_tile (k0_off4 k 1#32) (256 * (2 * k.val + 1)) ((off4_eq k 1).trans (by rw [show 512 * k.val + 256 * ((1 : Fin 2)).val = 256 * (2 * k.val + 1) by simp; omega])) _ _ _ _ (by omega)).symm)
    · funext y; idx_vars y; exact congrArg _ (emb_rows (k0_off2 k 1#32) (256 * (2 * k.val + 1)) ((off2_eq k 1).trans (by rw [show 512 * k.val + 256 * ((1 : Fin 2)).val = 256 * (2 * k.val + 1) by simp; omega])) _ _ _ (by omega))
    · funext y; idx_vars y; exact congrArg _ (emb_all _ _ _)
    · funext y; idx_vars y; exact congrArg _ (emb_all _ _ _)
    · funext y; idx_vars y; exact congrArg _ (emb_band (k0_off3 k 1#32) (256 * (2 * k.val + 1)) ((off3_eq k 1).trans (by rw [show 512 * k.val + 256 * ((1 : Fin 2)).val = 256 * (2 * k.val + 1) by simp; omega])) _ _ _ (by omega))
    · funext y; idx_vars y; exact congrArg _ (emb_tile (k0_off4 k 1#32) (256 * (2 * k.val + 1)) ((off4_eq k 1).trans (by rw [show 512 * k.val + 256 * ((1 : Fin 2)).val = 256 * (2 * k.val + 1) by simp; omega])) _ _ _ _ (by omega))
  · obtain rfl := List.mem_singleton.mp hp
    dsimp only at x ⊢
    change S1x256x256.Idx at x
    idx_vars x
    sl_unfold_words
    rw [pay45]
    refine (tile_at _ _ _ _ _ _ _ _ _ _ _ (⟨2 * k.val, by omega⟩ : Fin 8) _ _ _ (by show 256 * (2 * k.val) + _ < 2048; omega) ?_ ?_ ?_ ?_ ?_).trans
        (congrArg _ (emb_tile (k0_off4 k 0#32) (256 * (2 * k.val)) ((off4_eq k 0).trans (by rw [show 512 * k.val + 256 * ((0 : Fin 2)).val = 256 * (2 * k.val) by simp; omega])) _ _ _ _ (by omega)).symm)
    · funext y; idx_vars y; exact congrArg _ (emb_rows (k0_off2 k 0#32) (256 * (2 * k.val)) ((off2_eq k 0).trans (by rw [show 512 * k.val + 256 * ((0 : Fin 2)).val = 256 * (2 * k.val) by simp; omega])) _ _ _ (by omega))
    · funext y; idx_vars y; exact congrArg _ (emb_all _ _ _)
    · funext y; idx_vars y; exact congrArg _ (emb_all _ _ _)
    · funext y; idx_vars y; exact congrArg _ (emb_band (k0_off3 k 0#32) (256 * (2 * k.val)) ((off3_eq k 0).trans (by rw [show 512 * k.val + 256 * ((0 : Fin 2)).val = 256 * (2 * k.val) by simp; omega])) _ _ _ (by omega))
    · funext y; idx_vars y; exact congrArg _ (emb_tile (k0_off4 k 0#32) (256 * (2 * k.val)) ((off4_eq k 0).trans (by rw [show 512 * k.val + 256 * ((0 : Fin 2)).val = 256 * (2 * k.val) by simp; omega])) _ _ _ _ (by omega))

/-- Every piece the second loop has stored is a tile of the block. -/
theorem tiles (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (v51 : Vec F S1x256 .f32) (X_arg5 : BufTy.Contents (Elt F) arg5.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (n : ℕ) (hn : n ≤ k0_t2_loop.trips) :
    ∀ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v51 X_arg5 X_arg11 X_arg12 X_arg13 X_arg14 n, ∀ x : p.1.shape.Idx, p.2 x = outs (arg11.view.read (Elt F) X_arg11) (arg12.view.read (Elt F) X_arg12)
      (arg13.view.read (Elt F) X_arg13) (arg14.view.read (Elt F) X_arg14) (arg5.view.read (Elt F) X_arg5) v51 (p.1.emb x) := by
  induction n with
  | zero => intro p hp; rw [pb_k0_t2] at hp; cases hp
  | succ n ih =>
    intro p hp
    rw [pb_k0_t2_succ (k := ⟨n, hn⟩)] at hp
    rcases List.mem_append.mp hp with h | h
    · exact tile 𝒱 c bd i arg2 harg2 arg3 harg3 arg4 harg4 arg5 harg5 arg6 harg6 arg7 harg7 arg8 harg8 arg9 harg9 arg10 harg10 arg11 harg11 arg12 harg12 arg13 harg13 arg14 harg14 v51 X_arg5 X_arg11 X_arg12 X_arg13 X_arg14 ⟨n, hn⟩ p h
    · exact ih (Nat.le_of_succ_le hn) p h

/-- The tiles cover the block, so after the loop the buffer reads the block. -/
theorem block_read (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (v51 : Vec F S1x256 .f32) (X_arg5 : BufTy.Contents (Elt F) arg5.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (f : BufTy.Contents (Elt F) arg10.view.ty) :
    arg10.view.read (Elt F) (arg10.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v51 X_arg5 X_arg11 X_arg12 X_arg13 X_arg14 k0_t2_loop.trips)) = outs (arg11.view.read (Elt F) X_arg11) (arg12.view.read (Elt F) X_arg12)
      (arg13.view.read (Elt F) X_arg13) (arg14.view.read (Elt F) X_arg14) (arg5.view.read (Elt F) X_arg5) v51 := by
  funext y
  exact View.read_writes_apply_of_pieces _ _ _ _ (tiles 𝒱 c bd i arg2 harg2 arg3 harg3 arg4 harg4 arg5 harg5 arg6 harg6 arg7 harg7 arg8 harg8 arg9 harg9 arg10 harg10 arg11 harg11 arg12 harg12 arg13 harg13 arg14 harg14 v51 X_arg5 X_arg11 X_arg12 X_arg13 X_arg14 _ (le_refl _)) y
    (View.cover_of_tiledL (s := S1x2048x256) _ S1x256x256.size (by sl_kernel_rfl) y)

set_option warn.classDefReducibility false in
/-- After the table's loop the buffer is handed on at the table, whatever it held before. -/
def tableExit (𝒱 : Variants) (c : Dev nD) (bd : Option 𝒱.V) (E : Set ℕ) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (k0_h1 : k0_cond1 i = 1#1) (v54 : Vec F S1x1x2048 .f32) (v56 : Vec F S1x1x2048 .f32) (G : BufTy.Contents (Elt F) arg14.view.ty) :
    LoopExit (loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 k0_h1 v54 v56 G) where
  post _ := (arg14.view.loc (c : Thread nD τ) ↦[arg14.view.set]{fullShare} harg14.unread (table v54 v56))
  exit acc := by
    show inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 G k0_t1_loop.trips acc ⊢ _
    unfold inv_k0_t1
    iintro ⟨%f, H, %hf⟩
    obtain rfl : f = harg14.unread (table v54 v56) := harg14.eq_unread (by rw [hf]; exact table_read 𝒱 c bd i arg2 harg2 arg3 harg3 arg4 harg4 arg5 harg5 arg6 harg6 arg7 harg7 arg8 harg8 arg9 harg9 arg10 harg10 arg11 harg11 arg12 harg12 arg13 harg13 arg14 harg14 k0_h1 v54 v56 G)
    iexact H

end Cert.KernelIdeal.Ret

end
-- ==== Proof.Ret.Body.lean ====
/-
  The body at one grid point: what its staging buffers hold when it ends, in the two cases of the conditional that fills
  the decay table.
-/
module

public import proofs.«01_k».proof.Proof.Ret.Loops

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A store of the whole buffer is what the buffer then reads. -/
theorem read_whole (v : View sig .tc .vmem S2048x256 .bf16) (f : v.ty.Contents (Elt F)) (inb : ∀ a, (![0, 0] : Fin 2 → ℕ) a + S2048x256.size a ≤ S2048x256.size a)
    (P : FVec F S2048x256 .bf16) : v.read (Elt F) (v.writes (Elt F) f [⟨Rect.unit (s := S2048x256) ![0, 0] S2048x256.size inb, P⟩]) = P := by
  funext y
  refine View.read_writes_apply_of_pieces v f P _ ?_ y (View.cover_of_tiledL (s := S2048x256) _ S2048x256.size (by sl_kernel_rfl) y)
  intro p hp x
  obtain rfl := List.mem_singleton.mp hp
  change S2048x256.Idx at x
  idx_vars x
  exact congrArg P (emb_all inb _ _).symm

/-- A load of a whole angle table. -/
theorem load_angle (a : Memref sig .tc .vmem S2048x128 .f32) (h : a.IsWhole) (x : Vec F S2048x128 .f32) (inb : ∀ i, (![0, 0] : Fin 2 → ℕ) i + S2048x128.size i ≤ S2048x128.size i) :
    View.readAt (Elt F) a.view (Rect.unit (s := S2048x128) ![0, 0] S2048x128.size inb).toLoadRect (h.unread x) = x := by
  funext y
  idx_vars y
  rw [View.readAt_eq_ld, Memref.IsWhole.read_unread]
  pointwise

theorem load_gain (a : Memref sig .tc .vmem S1x256 .f32) (h : a.IsWhole) (x : Vec F S1x256 .f32) (inb : ∀ i, (![0, 0] : Fin 2 → ℕ) i + S1x256.size i ≤ S1x256.size i) :
    View.readAt (Elt F) a.view (Rect.unit (s := S1x256) ![0, 0] S1x256.size inb).toLoadRect (h.unread x) = x := by
  funext y
  idx_vars y
  rw [View.readAt_eq_ld, Memref.IsWhole.read_unread]
  have h0 : (0 : Fin 1) = _ := Subsingleton.elim _ y0
  rw [← h0]
  pointwise

theorem load_block (a : Memref sig .tc .vmem S1x2048x256 .f32) (h : a.IsWhole) (x : Vec F S1x2048x256 .f32) (inb : ∀ i, (![0, 0, 0] : Fin 3 → ℕ) i + S1x2048x256.size i ≤ S1x2048x256.size i) :
    View.readAt (Elt F) a.view (Rect.unit (s := S1x2048x256) ![0, 0, 0] S1x2048x256.size inb).toLoadRect (h.unread x) = x := by
  funext y
  idx_vars y
  rw [View.readAt_eq_ld, Memref.IsWhole.read_unread]
  have h0 : (0 : Fin 1) = _ := Subsingleton.elim _ y0
  rw [← h0]
  pointwise

theorem load_low (a : Memref sig .tc .vmem S1x2048x256 .f32) (h : a.IsWhole) (x : Vec F S1x2048x256 .f32) (inb : ∀ i, (![0, 0, 0] : Fin 3 → ℕ) i + S1x2048x128.size i ≤ S1x2048x256.size i) :
    View.readAt (Elt F) a.view (Rect.unit (s := S1x2048x256) ![0, 0, 0] S1x2048x128.size inb).toLoadRect (h.unread x) = low x := by
  funext y
  idx_vars y
  rw [View.readAt_eq_ld, Memref.IsWhole.read_unread]
  pointwise
  rfl

theorem load_high (a : Memref sig .tc .vmem S1x2048x256 .f32) (h : a.IsWhole) (x : Vec F S1x2048x256 .f32) (inb : ∀ i, (![0, 0, 128] : Fin 3 → ℕ) i + S1x2048x128.size i ≤ S1x2048x256.size i) :
    View.readAt (Elt F) a.view (Rect.unit (s := S1x2048x256) ![0, 0, 128] S1x2048x128.size inb).toLoadRect (h.unread x) = high x := by
  funext y
  idx_vars y
  rw [View.readAt_eq_ld, Memref.IsWhole.read_unread]
  pointwise
  rfl

theorem load_fwd (a : Memref sig .tc .vmem S1x2x2048 .f32) (h : a.IsWhole) (x : Vec F S1x2x2048 .f32) (inb : ∀ i, (![0, 0, 0] : Fin 3 → ℕ) i + S1x1x2048.size i ≤ S1x2x2048.size i) :
    View.readAt (Elt F) a.view (Rect.unit (s := S1x2x2048) ![0, 0, 0] S1x1x2048.size inb).toLoadRect (h.unread x) = fun y => x (ix3 0 0 (y 2)) := by
  funext y
  idx_vars y
  rw [View.readAt_eq_ld, Memref.IsWhole.read_unread]
  pointwise

theorem load_bwd (a : Memref sig .tc .vmem S1x2x2048 .f32) (h : a.IsWhole) (x : Vec F S1x2x2048 .f32) (inb : ∀ i, (![0, 1, 0] : Fin 3 → ℕ) i + S1x1x2048.size i ≤ S1x2x2048.size i) :
    View.readAt (Elt F) a.view (Rect.unit (s := S1x2x2048) ![0, 1, 0] S1x1x2048.size inb).toLoadRect (h.unread x) = fun y => x (ix3 0 1 (y 2)) := by
  funext y
  idx_vars y
  rw [View.readAt_eq_ld, Memref.IsWhole.read_unread]
  pointwise

set_option maxHeartbeats 4000000 in
set_option warn.classDefReducibility false in
attribute [local instance] tableExit in
/-- At the first point of a head the table is filled. -/
theorem body_first (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (hc0 : cond0_0 i)
    (x0 : Vec F S1x2048x256 .f32) (x1 : Vec F S1x2048x256 .f32) (x2 : Vec F S1x2048x256 .f32) (x3 : Vec F S1x2048x256 .f32) (x4 : Vec F S2048x128 .f32) (x5 : Vec F S2048x128 .f32) (x6 : Vec F S1x2x2048 .f32) (x7 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blk x0 x1 x2 x3 x4 x5 (tab x6) x7) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (tab x6)) -∗ K ⟨⟩))
    ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14) K := by
  simp only [cc0_retention_eq_skeleton]; unfold cc0_retention_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (block_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _).trans ?_
    unfold blk
    congr 1
    · sl_unfold_words
      rw [read_whole, load_low, load_high, load_angle, load_angle]; rfl
    · sl_unfold_words
      rw [read_whole, load_low, load_high, load_angle, load_angle]; rfl
    · sl_unfold_words
      rw [read_whole, load_block]
    · rw [harg14.read_unread, load_fwd, load_bwd]; rfl
    · exact load_gain _ _ _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _; isplitr; swap; · iexact HL0
  ipureintro
  · rw [harg14.read_unread, load_fwd, load_bwd]; rfl

set_option maxHeartbeats 4000000 in

/-- At a later point of a head the table is kept. -/
theorem body_later (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x2048 .f32) (harg8 : arg8.IsWhole) (arg9 : Memref sig .tc .vmem S1x256 .f32) (harg9 : arg9.IsWhole) (arg10 : Memref sig .tc .vmem S1x2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x2048 .f32) (harg14 : arg14.IsWhole) (hc0 : ¬ cond0_0 i)
    (x0 : Vec F S1x2048x256 .f32) (x1 : Vec F S1x2048x256 .f32) (x2 : Vec F S1x2048x256 .f32) (x3 : Vec F S1x2048x256 .f32) (x4 : Vec F S2048x128 .f32) (x5 : Vec F S2048x128 .f32) (x6 : Vec F S1x2x2048 .f32) (x7 : Vec F S1x256 .f32) (D : Vec F S2048x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare D
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blk x0 x1 x2 x3 x4 x5 D x7) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare D) -∗ K ⟨⟩))
    ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14) K := by
  simp only [cc0_retention_eq_skeleton]; unfold cc0_retention_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%fs3, %hfs3, HS3⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg14.eq_unread hfs3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (block_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _).trans ?_
    unfold blk
    congr 1
    · sl_unfold_words
      rw [read_whole, load_low, load_high, load_angle, load_angle]; rfl
    · sl_unfold_words
      rw [read_whole, load_low, load_high, load_angle, load_angle]; rfl
    · sl_unfold_words
      rw [read_whole, load_block]
    · exact load_gain _ _ _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _; isplitr; swap; · iexact HS3
  ipureintro
  exact harg14.read_unread _

end Cert.KernelIdeal.Ret

end
-- ==== Proof.Ret.Frame.lean ====
/-
  The whole run of the kernel: at every point the body leaves its block of the array, and the decay table it keeps is the
  one of the point's head. From the region's entry to its end nothing else moves.
-/
module

public import proofs.«01_k».proof.Proof.Ret.Body
public import Idealize.ShloMosaic.Lib.Claim
public import Idealize.ShloMosaic.Lib.Pipeline.Value

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the windows -/

theorem at0 : ∀ t : Fin cfg0.N, win0_0.index t = ![t.val % 8, 0, t.val / 8] :=
  (by decide +kernel : ∀ t : Fin grid0.N, win0_0.index t = ![t.val % 8, 0, t.val / 8])

theorem at1 : ∀ t : Fin cfg0.N, win0_1.index t = ![t.val % 8, 0, 6 + t.val / 8] :=
  (by decide +kernel : ∀ t : Fin grid0.N, win0_1.index t = ![t.val % 8, 0, 6 + t.val / 8])

theorem at2 : ∀ t : Fin cfg0.N, win0_2.index t = ![t.val % 8, 0, 12 + t.val / 8] :=
  (by decide +kernel : ∀ t : Fin grid0.N, win0_2.index t = ![t.val % 8, 0, 12 + t.val / 8])

theorem at3 : ∀ t : Fin cfg0.N, win0_3.index t = ![t.val % 8, 0, 18 + t.val / 8] :=
  (by decide +kernel : ∀ t : Fin grid0.N, win0_3.index t = ![t.val % 8, 0, 18 + t.val / 8])

theorem at4 : ∀ t : Fin cfg0.N, win0_4.index t = ![0, 0] :=
  (by decide +kernel : ∀ t : Fin grid0.N, win0_4.index t = ![0, 0])

theorem at5 : ∀ t : Fin cfg0.N, win0_5.index t = ![0, 0] :=
  (by decide +kernel : ∀ t : Fin grid0.N, win0_5.index t = ![0, 0])

theorem at6 : ∀ t : Fin cfg0.N, win0_6.index t = ![t.val / 8, 0, 0] :=
  (by decide +kernel : ∀ t : Fin grid0.N, win0_6.index t = ![t.val / 8, 0, 0])

theorem at7 : ∀ t : Fin cfg0.N, win0_7.index t = ![0, t.val / 8] :=
  (by decide +kernel : ∀ t : Fin grid0.N, win0_7.index t = ![0, t.val / 8])

theorem at8 : ∀ t : Fin cfg0.N, win0_8.index t = ![t.val % 8, 0, t.val / 8] :=
  (by decide +kernel : ∀ t : Fin grid0.N, win0_8.index t = ![t.val % 8, 0, t.val / 8])

/-- The block of queries: the point's batch entry, its head's columns. -/
theorem blk0_at (c : Dev nD) (t : Fin cfg0.N) (z : Fin 1) (r : Fin 2048) (e : Fin 256) :
    iblk m c 0 t (ix3 z r e) = m ((c : Thread nD τ).loc main_arg0) (ix3 (⟨t.val % 8, by omega⟩ : Fin 8) r (⟨256 * (0 + t.val / 8) + e.val, by have := lt_of_lt_of_eq t.isLt (show cfg0.N = 48 from N_0); omega⟩ : Fin 6656)) := by
  rw [← V_main_arg0 m c]
  refine congrArg (V m c main_arg0) ?_
  have h := at0 t
  have hz : z.val = 0 := by omega
  have h0 : win0_0.index t (0 : Fin 3) = t.val % 8 := congrFun h 0
  have h1 : win0_0.index t (1 : Fin 3) = 0 := congrFun h 1
  have h2 : win0_0.index t (2 : Fin 3) = t.val / 8 := congrFun h 2
  funext a; apply Fin.ext
  match a with
  | ⟨0, _⟩ => show win0_0.index t (0 : Fin 3) * 1 + 1 * z.val = t.val % 8; omega
  | ⟨1, _⟩ => show win0_0.index t (1 : Fin 3) * 2048 + 1 * r.val = r.val; omega
  | ⟨2, _⟩ => show win0_0.index t (2 : Fin 3) * 256 + 1 * e.val = 256 * (0 + t.val / 8) + e.val; omega

/-- The block of keys: the point's batch entry, its head's columns. -/
theorem blk1_at (c : Dev nD) (t : Fin cfg0.N) (z : Fin 1) (r : Fin 2048) (e : Fin 256) :
    iblk m c 1 t (ix3 z r e) = m ((c : Thread nD τ).loc main_arg0) (ix3 (⟨t.val % 8, by omega⟩ : Fin 8) r (⟨256 * (6 + t.val / 8) + e.val, by have := lt_of_lt_of_eq t.isLt (show cfg0.N = 48 from N_0); omega⟩ : Fin 6656)) := by
  rw [← V_main_arg0 m c]
  refine congrArg (V m c main_arg0) ?_
  have h := at1 t
  have hz : z.val = 0 := by omega
  have h0 : win0_1.index t (0 : Fin 3) = t.val % 8 := congrFun h 0
  have h1 : win0_1.index t (1 : Fin 3) = 0 := congrFun h 1
  have h2 : win0_1.index t (2 : Fin 3) = 6 + t.val / 8 := congrFun h 2
  funext a; apply Fin.ext
  match a with
  | ⟨0, _⟩ => show win0_1.index t (0 : Fin 3) * 1 + 1 * z.val = t.val % 8; omega
  | ⟨1, _⟩ => show win0_1.index t (1 : Fin 3) * 2048 + 1 * r.val = r.val; omega
  | ⟨2, _⟩ => show win0_1.index t (2 : Fin 3) * 256 + 1 * e.val = 256 * (6 + t.val / 8) + e.val; omega

/-- The block of values: the point's batch entry, its head's columns. -/
theorem blk2_at (c : Dev nD) (t : Fin cfg0.N) (z : Fin 1) (r : Fin 2048) (e : Fin 256) :
    iblk m c 2 t (ix3 z r e) = m ((c : Thread nD τ).loc main_arg0) (ix3 (⟨t.val % 8, by omega⟩ : Fin 8) r (⟨256 * (12 + t.val / 8) + e.val, by have := lt_of_lt_of_eq t.isLt (show cfg0.N = 48 from N_0); omega⟩ : Fin 6656)) := by
  rw [← V_main_arg0 m c]
  refine congrArg (V m c main_arg0) ?_
  have h := at2 t
  have hz : z.val = 0 := by omega
  have h0 : win0_2.index t (0 : Fin 3) = t.val % 8 := congrFun h 0
  have h1 : win0_2.index t (1 : Fin 3) = 0 := congrFun h 1
  have h2 : win0_2.index t (2 : Fin 3) = 12 + t.val / 8 := congrFun h 2
  funext a; apply Fin.ext
  match a with
  | ⟨0, _⟩ => show win0_2.index t (0 : Fin 3) * 1 + 1 * z.val = t.val % 8; omega
  | ⟨1, _⟩ => show win0_2.index t (1 : Fin 3) * 2048 + 1 * r.val = r.val; omega
  | ⟨2, _⟩ => show win0_2.index t (2 : Fin 3) * 256 + 1 * e.val = 256 * (12 + t.val / 8) + e.val; omega

/-- The block of gates: the point's batch entry, its head's columns. -/
theorem blk3_at (c : Dev nD) (t : Fin cfg0.N) (z : Fin 1) (r : Fin 2048) (e : Fin 256) :
    iblk m c 3 t (ix3 z r e) = m ((c : Thread nD τ).loc main_arg0) (ix3 (⟨t.val % 8, by omega⟩ : Fin 8) r (⟨256 * (18 + t.val / 8) + e.val, by have := lt_of_lt_of_eq t.isLt (show cfg0.N = 48 from N_0); omega⟩ : Fin 6656)) := by
  rw [← V_main_arg0 m c]
  refine congrArg (V m c main_arg0) ?_
  have h := at3 t
  have hz : z.val = 0 := by omega
  have h0 : win0_3.index t (0 : Fin 3) = t.val % 8 := congrFun h 0
  have h1 : win0_3.index t (1 : Fin 3) = 0 := congrFun h 1
  have h2 : win0_3.index t (2 : Fin 3) = 18 + t.val / 8 := congrFun h 2
  funext a; apply Fin.ext
  match a with
  | ⟨0, _⟩ => show win0_3.index t (0 : Fin 3) * 1 + 1 * z.val = t.val % 8; omega
  | ⟨1, _⟩ => show win0_3.index t (1 : Fin 3) * 2048 + 1 * r.val = r.val; omega
  | ⟨2, _⟩ => show win0_3.index t (2 : Fin 3) * 256 + 1 * e.val = 256 * (18 + t.val / 8) + e.val; omega

/-- The block of cosines: the whole table. -/
theorem blk4_at (c : Dev nD) (t : Fin cfg0.N) (r : Fin 2048) (e : Fin 128) :
    iblk m c 4 t (ix2 r e) = V m c main_v16 (ix2 r e) := by
  refine congrArg (V m c main_v16) ?_
  have h := at4 t
  have h0 : win0_4.index t (0 : Fin 2) = 0 := congrFun h 0
  have h1 : win0_4.index t (1 : Fin 2) = 0 := congrFun h 1
  funext a; apply Fin.ext
  match a with
  | ⟨0, _⟩ => show win0_4.index t (0 : Fin 2) * 2048 + 1 * r.val = r.val; omega
  | ⟨1, _⟩ => show win0_4.index t (1 : Fin 2) * 128 + 1 * e.val = e.val; omega

/-- The block of sines: the whole table. -/
theorem blk5_at (c : Dev nD) (t : Fin cfg0.N) (r : Fin 2048) (e : Fin 128) :
    iblk m c 5 t (ix2 r e) = V m c main_v17 (ix2 r e) := by
  refine congrArg (V m c main_v17) ?_
  have h := at5 t
  have h0 : win0_5.index t (0 : Fin 2) = 0 := congrFun h 0
  have h1 : win0_5.index t (1 : Fin 2) = 0 := congrFun h 1
  funext a; apply Fin.ext
  match a with
  | ⟨0, _⟩ => show win0_5.index t (0 : Fin 2) * 2048 + 1 * r.val = r.val; omega
  | ⟨1, _⟩ => show win0_5.index t (1 : Fin 2) * 128 + 1 * e.val = e.val; omega

/-- The block of logarithms: the head's two rows. -/
theorem blk6_at (c : Dev nD) (t : Fin cfg0.N) (z : Fin 1) (d : Fin 2) (s : Fin 2048) :
    iblk m c 6 t (ix3 z d s) = V m c main_v31 (ix3 (⟨t.val / 8, by have := lt_of_lt_of_eq t.isLt (show cfg0.N = 48 from N_0); omega⟩ : Fin 6) d s) := by
  refine congrArg (V m c main_v31) ?_
  have h := at6 t
  have hz : z.val = 0 := by omega
  have h0 : win0_6.index t (0 : Fin 3) = t.val / 8 := congrFun h 0
  have h1 : win0_6.index t (1 : Fin 3) = 0 := congrFun h 1
  have h2 : win0_6.index t (2 : Fin 3) = 0 := congrFun h 2
  funext a; apply Fin.ext
  match a with
  | ⟨0, _⟩ => show win0_6.index t (0 : Fin 3) * 1 + 1 * z.val = t.val / 8; omega
  | ⟨1, _⟩ => show win0_6.index t (1 : Fin 3) * 2 + 1 * d.val = d.val; omega
  | ⟨2, _⟩ => show win0_6.index t (2 : Fin 3) * 2048 + 1 * s.val = s.val; omega

/-- The block of gains: the head's channels. -/
theorem blk7_at (c : Dev nD) (t : Fin cfg0.N) (z : Fin 1) (e : Fin 256) :
    iblk m c 7 t (ix2 z e) = V m c main_v32 (ix2 (0 : Fin 1) (⟨256 * (t.val / 8) + e.val, by have := lt_of_lt_of_eq t.isLt (show cfg0.N = 48 from N_0); omega⟩ : Fin 1536)) := by
  refine congrArg (V m c main_v32) ?_
  have h := at7 t
  have hz : z.val = 0 := by omega
  have h0 : win0_7.index t (0 : Fin 2) = 0 := congrFun h 0
  have h1 : win0_7.index t (1 : Fin 2) = t.val / 8 := congrFun h 1
  funext a; apply Fin.ext
  match a with
  | ⟨0, _⟩ => show win0_7.index t (0 : Fin 2) * 1 + 1 * z.val = 0; omega
  | ⟨1, _⟩ => show win0_7.index t (1 : Fin 2) * 256 + 1 * e.val = 256 * (t.val / 8) + e.val; omega

/-! ## What each point leaves -/

/-- The decay table at a point: its head's. -/
def tabAt (c : Dev nD) (t : Fin cfg0.N) : Vec F S2048x2048 .f32 := tab (iblk m c 6 t)

/-- Two points of one head have the same table. -/
theorem tabAt_congr (c : Dev nD) (t u : Fin cfg0.N) (h : t.val / 8 = u.val / 8) : tabAt m c t = tabAt m c u := by
  have e : (iblk m c 6 t : Vec F S1x2x2048 .f32) = iblk m c 6 u := by
    funext y
    idx_vars y
    refine (blk6_at m c t _ _ _).trans (Eq.trans ?_ (blk6_at m c u _ _ _).symm)
    simp only [h]
  exact congrArg tab e

/-- The block a point leaves. -/
def blkAt (c : Dev nD) (t : Fin cfg0.N) : Vec F S1x2048x256 .bf16 :=
  blk (iblk m c 0 t) (iblk m c 1 t) (iblk m c 2 t) (iblk m c 3 t) (iblk m c 4 t) (iblk m c 5 t) (tabAt m c t) (iblk m c 7 t)

/-- Between points: before the first the scratch is as the region finds it, afterwards the table is the last point's head's. -/
def between (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (tabAt m c ⟨n, hn⟩)) ∗ (∃ r, prngReg c r))

theorem between_first (c : Dev nD) (n : ℕ) (h : n ≤ cfg0.N) (hz : n = 0) : between m c n h = Pipeline.ΦA spec0 c := by
  subst hz; rfl

theorem between_after (c : Dev nD) (n : ℕ) (hn : n < cfg0.N) :
    between m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (tabAt m c ⟨n, hn⟩)) ∗ (∃ r, prngReg c r)) := rfl

theorem between_later (c : Dev nD) (n : ℕ) (h : n ≤ cfg0.N) (hz : n ≠ 0) :
    between m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (tabAt m c ⟨n - 1, by omega⟩)) ∗ (∃ r, prngReg c r)) := by
  cases n with
  | zero => exact absurd rfl hz
  | succ n => rfl

/-- The data of the run: the arrays as found, each input's buffer at its block and the output's at the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blkAt m c t
  Φ t := between m c t.val (Nat.le_of_lt_succ t.isLt)
  q w := Pipeline.shareOf spec0 w
  owed _ := 0

theorem dats_A (c : Dev nD) (w : Fin cfg0.W) : (dats m 0 c).A w = V m c (Pipeline.arrRef spec0 w) := by
  dsimp only [dats]

theorem dats_before (c : Dev nD) (t : Fin cfg0.N) :
    (dats m 0 c).Φ t.castSucc = between m c t.val (Nat.le_of_lt t.isLt) := by
  dsimp only [dats]; exact Pipeline.Dat.Φ_castSucc (between m c) t

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = blkAt m c t := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d
theorem found5 (c : Dev nD) (t : Fin cfg0.N) (d) : (dats m 0 c).before 5 t d = iblk m c 5 t :=
  before0_5_of m (dats m 0 c) (dats_A m c 5) (left5 m c) t d
theorem found6 (c : Dev nD) (t : Fin cfg0.N) (d) : (dats m 0 c).before 6 t d = iblk m c 6 t :=
  before0_6_of m (dats m 0 c) (dats_A m c 6) (left6 m c) t d
theorem found7 (c : Dev nD) (t : Fin cfg0.N) (d) : (dats m 0 c).before 7 t d = iblk m c 7 t :=
  before0_7_of m (dats m 0 c) (dats_A m c 7) (left7 m c) t d

/-! ## The body at a point -/

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: at a head's first point the table is made, at the others it is the one kept. -/
theorem at_point (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, found5, found6, found7]
  rw [show (dats m 0 c).owesAt () t.succ = (dats m 0 c).owesAt () t.castSucc from rfl,
    left0, left1, left2, left3, left4, left5, left6, left7, left8]
  rw [show (dats m 0 c).Φ t.succ = between m c (t.val + 1) t.isLt from rfl, between_after]
  have hN : t.val < 48 := lt_of_lt_of_eq t.isLt (show cfg0.N = 48 from N_0)
  by_cases h0 : t.val % 8 = 0
  · by_cases hz : t.val = 0
    · rw [dats_before m c t, between_first m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [dats_before m c t, between_later m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexists _; iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases hz : t.val = 0
    · exfalso; omega
    · rw [dats_before m c t, between_later m c _ _ hz]
      rw [tabAt_congr m c ⟨t.val - 1, by omega⟩ t (by show (t.val - 1) / 8 = t.val / 8; omega)]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_later c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (tabAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ := fun t => by
  rw [bigSep_W0, bigSep_W0, row]
  exact triple_restated (at_point m c t) rfl .rfl fun _ => .rfl

theorem enter (c : Dev nD) : Pipeline.ΦA spec0 c ⊢ (dats m 0 c).Φ 0 := by
  rw [show (dats m 0 c).Φ 0 = between m c 0 (Nat.zero_le _) from rfl, between_first m c 0 _ rfl]
  try exact Idealize.SL.BI.Entails.refl _

theorem leave_at (c : Dev nD) (t : Fin (cfg0.N + 1)) (ht : t.val ≠ 0) : (dats m 0 c).Φ t ⊢ Pipeline.ΦA spec0 c := by
  rw [show (dats m 0 c).Φ t = between m c t.val (Nat.le_of_lt_succ t.isLt) from rfl, between_later m c _ _ ht, PhiA0_eq]
  iintro ⟨⟨HS0, HS1, HS2, HS3⟩, Hg⟩
  isplitl [HS0 HS1 HS2 HS3]
  · isplitl [HS0]; · iexact HS0
    isplitl [HS1]; · iexact HS1
    isplitl [HS2]; · iexact HS2
    iexists _; iexact HS3
  iexact Hg

theorem leave (c : Dev nD) : (dats m 0 c).Φ (Fin.last cfg0.N) ⊢ Pipeline.ΦA spec0 c :=
  leave_at m c _ (by rw [Fin.val_last]; have : cfg0.N = 48 := N_0; omega)

/-! ## The run -/

set_option backward.isDefEq.respectTransparency.types false in
/-- Every execution ends with the arrays at the data's values and every semaphore at zero. -/
theorem run_ends : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := enter m) (hout := leave m)

theorem run_arrays : θ_run defs (onTc (τ := τ) (main (F := F))) (s₀ m ρ) (Pipeline.FramePost cfgs (dats m) 0 (V m)) :=
  (θ_run defs _ _).mono (fun _ h => h.1) (run_ends m ρ)

/-- The arguments end as they began and the machine is quiet. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) (run_arrays m ρ)) ((θ_run defs _ _).mono (fun _ h => h.2) (run_ends m ρ))

/-! ## The array it leaves -/

/-- The result: at each index the value of the block of its batch entry and head. -/
def result (c : Dev nD) : Vec F S8x2048x1536 .bf16 := fun y =>
  blkAt m c (⟨8 * ((y 2).val / 256) + (y 0).val, by
      have h0 : (y 0).val < 8 := (y 0).isLt
      have h2 : (y 2).val < 1536 := (y 2).isLt
      exact lt_of_lt_of_eq (by omega) N_0.symm⟩ : Fin cfg0.N)
    (ix3 0 (y 1) (⟨(y 2).val % 256, by omega⟩ : Fin 256))

theorem blk_in_array (t : Fin cfg0.N) (i : S8x2048x1536.Idx) :
    i ∈ ((cfg0.win 8).blk t).view.set ↔ ∀ a : Fin 3, win0_8.index t a * S1x2048x256.size a ≤ (i a).val ∧ (i a).val < win0_8.index t a * S1x2048x256.size a + S1x2048x256.size a := by
  show i ∈ ((View.whole main_v33).slice (win0_8.rect t)).set ↔ _
  rw [View.set_slice_whole, Rect.mem_set_unit]
  exact Iff.rfl

/-- Every point writes its block back. -/
theorem flushes : ∀ t : Fin cfg0.N, (cfg0.win 8).flush t = true :=
  (by decide +kernel : ∀ t : Fin grid0.N, win0_8.flush t = true)

/-- A point writes back its block of the result. -/
theorem written (c : Dev nD) (t : Fin cfg0.N) :
    (dats m 0 c).flushed 8 t = ((cfg0.win 8).blk t).view.read (Elt F) (result m c) := by
  show (cfg0.win 8).cut (grid0.coords t) ((dats m 0 c).after 8 t) = _
  rw [left8]
  have hN : t.val < 48 := lt_of_lt_of_eq t.isLt (show cfg0.N = 48 from N_0)
  have h := at8 t
  have h0 : win0_8.index t (0 : Fin 3) = t.val % 8 := congrFun h 0
  have h1 : win0_8.index t (1 : Fin 3) = 0 := congrFun h 1
  have h2 : win0_8.index t (2 : Fin 3) = t.val / 8 := congrFun h 2
  funext y
  have hy0 : (y 0).val < 1 := (y 0).isLt
  have hy1 : (y 1).val < 2048 := (y 1).isLt
  have hy2 : (y 2).val < 256 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 2048 + 1 * (y 1).val := rfl
  have hb2 : (((cfg0.win 8).blk t).view.emb y 2).val = win0_8.index t (2 : Fin 3) * 256 + 1 * (y 2).val := rfl
  show blkAt m c t ((cfg0.win 8).xinj (grid0.coords t) y) = result m c (((cfg0.win 8).blk t).view.emb y)
  unfold result
  have ht : (⟨8 * ((((cfg0.win 8).blk t).view.emb y 2).val / 256) + (((cfg0.win 8).blk t).view.emb y 0).val, by
      rw [hb0, hb2]; exact lt_of_lt_of_eq (by omega) N_0.symm⟩ : Fin cfg0.N) = t := by
    apply Fin.ext
    show 8 * ((((cfg0.win 8).blk t).view.emb y 2).val / 256) + (((cfg0.win 8).blk t).view.emb y 0).val = t.val
    rw [hb0, hb2]; omega
  rw [ht]
  refine congrArg (blkAt m c t) ?_
  funext a; apply Fin.ext
  match a with
  | ⟨0, _⟩ => show (y 0).val = 0; omega
  | ⟨1, _⟩ => show (y 1).val = (((cfg0.win 8).blk t).view.emb y 1).val; rw [hb1]; omega
  | ⟨2, _⟩ => show (y 2).val = (((cfg0.win 8).blk t).view.emb y 2).val % 256; rw [hb2]; omega

/-- The array after the run. -/
theorem final (c : Dev nD) : (dats m 0 c).arrAt 8 cfg0.N = result m c :=
  (dats m 0 c).arrAt_eq_of_cover 8 _ (fun t _ => written m c t) (fun i => by
    have hi0 : (i 0).val < 8 := (i 0).isLt
    have hi1 : (i 1).val < 2048 := (i 1).isLt
    have hi2 : (i 2).val < 1536 := (i 2).isLt
    let t : Fin cfg0.N := ⟨8 * ((i 2).val / 256) + (i 0).val, lt_of_lt_of_eq (by omega) N_0.symm⟩
    have h := at8 t
    have h0 : win0_8.index t (0 : Fin 3) = (8 * ((i 2).val / 256) + (i 0).val) % 8 := congrFun h 0
    have h1 : win0_8.index t (1 : Fin 3) = 0 := congrFun h 1
    have h2 : win0_8.index t (2 : Fin 3) = (8 * ((i 2).val / 256) + (i 0).val) / 8 := congrFun h 2
    refine ⟨t, flushes t, ?_⟩
    rw [blk_in_array]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 2048 ≤ (i 1).val ∧ (i 1).val < win0_8.index t (1 : Fin 3) * 2048 + 2048; omega
    | ⟨2, _⟩ => show win0_8.index t (2 : Fin 3) * 256 ≤ (i 2).val ∧ (i 2).val < win0_8.index t (2 : Fin 3) * 256 + 256; omega)

/-- The run, its result named and its arguments kept. -/
theorem run : θ_run defs (onTc (τ := τ) (main (F := F))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 8).trans (final m c),
      ((h c).1 3).trans (((dats m 0 c).arrAt_in 3 rfl _).trans ((dats_A m c 3).trans (V_main_arg0 m c))),
      ((h c).2 main_arg1 (Pipeline.mem_restRefs_of main_arg1 (by decide) (by decide))).trans (V_main_arg1 m c)⟩)
    (run_arrays m ρ)

end Cert.KernelIdeal.Ret

end
-- ==== Proof.Ret.Host.lean ====
/-
  What the kernel's host code hands it: the rotary tables, the two rows of log-decays of a head, and the gain as one row.
-/
module

public import proofs.«01_k».proof.Proof.Ret.Frame
public import Idealize.ShloMosaic.Lib.StableHlo.ReadAt

@[expose] public section

set_option maxRecDepth 16384

noncomputable section

namespace Cert.KernelIdeal.Ret

open Cert.KernelIdeal Cert.KernelIdeal.Gen Idealize.ShloMosaic Idealize.ShloMosaic.TcCoe Idealize.SL.Sem

/-- The angle of position `r` in channel `e` of the rotary embedding. -/
def angle (r : Fin 2048) (e : Fin 128) : EReal :=
  FloatOps.sitofp (F := Ideal) FTy.f32 (BitVec.ofNat 32 r.val) *
    Ideal.pow (Ideal.ofBits FTy.f32 1176256512#32)
      (Ideal.div (-(Ideal.ofBits FTy.f32 1073741824#32 * FloatOps.sitofp (F := Ideal) FTy.f32 (BitVec.ofNat 32 e.val)))
        (Ideal.ofBits FTy.f32 1132462080#32))

variable (m : (ℓ : Loc nD τ sig) → Buf (Elt Ideal) ℓ)

/-- The gain is the argument, as one row. -/
theorem gain_at (c : Dev nD) (z : Fin 1) (e : Fin 1536) :
    (V m c main_v32 (ix2 z e) : EReal) = m ((c : Thread nD τ).loc main_arg1) (ix1 e) := by
  unfold V
  after_reads_at

/-- The table of cosines. -/
theorem cos_at (c : Dev nD) (r : Fin 2048) (e : Fin 128) : (V m c main_v16 (ix2 r e) : EReal) = Ideal.cos (angle r e) := by
  unfold V
  after_reads_at
  rfl

/-- The table of sines. -/
theorem sin_at (c : Dev nD) (r : Fin 2048) (e : Fin 128) : (V m c main_v17 (ix2 r e) : EReal) = Ideal.sin (angle r e) := by
  unfold V
  after_reads_at
  rfl

/-- The logarithm of a head's decay at its number. -/
def logAt (h : ℕ) : EReal :=
  Ideal.log1p (-Ideal.exp (Ideal.ofBits FTy.f32 1060205080#32 * (Ideal.ofBits FTy.f32 3231711232#32 - FloatOps.sitofp (F := Ideal) FTy.f32 (BitVec.ofNat 32 h))))

/-- A head's first row holds the logarithm of its own decay. -/
theorem row0_at (c : Dev nD) (h : Fin 6) (s : Fin 2048) : (V m c main_v31 (ix3 h (0 : Fin 2) s) : EReal) = logAt h.val := by
  unfold V
  after_reads_at
  after_reads_at
  rfl

/-- A head's second row holds the logarithm of the mirrored head's decay. -/
theorem row1_at (c : Dev nD) (h : Fin 6) (s : Fin 2048) : (V m c main_v31 (ix3 h (1 : Fin 2) s) : EReal) = logAt h.rev.val := by
  unfold V
  after_reads_at
  after_reads_at
  rfl

end Cert.KernelIdeal.Ret
-- ==== Proof.Ret.Tile.lean ====
/-
  What one grid point of the retention kernel computes, read index by index over the extended reals: the decay
  table, the rotated queries and keys, and the normalised and gated output of one row.
-/
module

public import proofs.«01_k».proof.Proof.Ret.Forms
public import Idealize.ShloMosaic.Lib.Pointwise

@[expose] public section

set_option maxRecDepth 16384

noncomputable section

open Idealize.ShloMosaic Idealize.ShloMosaic.TcCoe Idealize.SL.Sem

namespace Cert.KernelIdeal.Ret

open Cert.KernelIdeal Cert.KernelIdeal.Gen

/-- The constant 256 a mean over the head's channels divides by. -/
abbrev c256 : EReal := Ideal.ofBits .f32 0x43800000#32
/-- The constant added to the mean square before the reciprocal root. -/
abbrev ceps : EReal := Ideal.ofBits .f32 0x358637BD#32
/-- The constant 1/16 the keys are scaled by. -/
abbrev csc : EReal := Ideal.ofBits .f32 0x3D800000#32

/-- Row `r`, channel `e` of the weighted values: scores times decay, summed over the source rows. -/
def att (Q K V : S2048x256.Idx → EReal) (D : S2048x2048.Idx → EReal) (r : Fin 2048) (e : Fin 256) : EReal :=
  ∑ s : Fin 2048, ((∑ d : Fin 256, Q (ix2 r d) * K (ix2 s d)) * D (ix2 r s)) * V (ix2 s e)

/-- One normalised and gated element from the row `o` of weighted values, its gain and its gate. -/
def fin (o : Fin 256 → EReal) (e : Fin 256) (gain gate : EReal) : EReal :=
  ((o e * Ideal.rsqrt (Ideal.div (∑ f : Fin 256, o f * o f) c256 + ceps)) * gain) * (gate * Ideal.logistic gate)

/-- The block the point stores. -/
def outv (Q K V : S2048x256.Idx → EReal) (D : S2048x2048.Idx → EReal) (G : S1x2048x256.Idx → EReal)
    (gain : S1x256.Idx → EReal) : S1x2048x256.Idx → EReal := fun y =>
  fin (att Q K V D (y 1)) (y 2) (gain (ix2 0 (y 2))) (G (ix3 0 (y 1) (y 2)))

theorem pay6_at (q : FVec Ideal S256x256 .bf16) (K : FVec Ideal S2048x256 .bf16) (D : FVec Ideal S256x2048 .f32) (V : FVec Ideal S2048x256 .bf16)
    (a b : Fin 256) : k0_pay6 (F := Ideal) q K D V (ix2 a b)
      = ∑ s : Fin 2048, ((∑ d : Fin 256, q (ix2 a d) * K (ix2 s d)) * D (ix2 a s)) * V (ix2 s b) := by
  pointwise [k0_pay6]

theorem pay5_at (gain : FVec Ideal S1x256 .f32) (o : FVec Ideal S256x256 .f32) (G : FVec Ideal S1x256x256 .f32) (z : Fin 1) (a b : Fin 256) :
    k0_pay5 (F := Ideal) gain o G (ix3 z a b) = fin (fun f => o (ix2 a f)) b (gain (ix2 0 b)) (G (ix3 0 a b)) := by
  pointwise [k0_pay5, k0_pay3, fin]

/-- The distance from source row `s` to target row `t`, as an extended real. -/
def rel (t s : ℕ) : EReal := ((((t : ℤ) - (s : ℤ) : ℤ) : ℝ) : EReal)

theorem rel_word (k : ℕ) (hk : k < 8) (a : Fin 256) (b : Fin 2048) :
    (FloatOps.sitofp (F := Ideal) FTy.f32 (IntOp.subi (IntOp.addi (BitVec.ofNat 32 ↑a) (Scalar.muli (Scf.iv 0#32 1#32 k) 256#32))
              (BitVec.ofNat 32 ↑b))) = rel (256 * k + a.val) b.val := by
  have h : (IntOp.subi (IntOp.addi (BitVec.ofNat 32 ↑a) (Scalar.muli (Scf.iv 0#32 1#32 k) 256#32))
              (BitVec.ofNat 32 ↑b)).toInt = ((256 * k + a.val : ℕ) : ℤ) - (b.val : ℤ) := by
    have ha := a.isLt
    have hb := b.isLt
    have e : (IntOp.addi (BitVec.ofNat 32 ↑a) (Scalar.muli (Scf.iv 0#32 1#32 k) 256#32)) = BitVec.ofNat 32 (256 * k + a.val) := by
      apply BitVec.eq_of_toNat_eq
      simp only [IntOp.addi, Scalar.muli, IntOp.muli, Scf.iv, BitVec.toNat_add, BitVec.toNat_mul, BitVec.toNat_ofNat]
      omega
    rw [e]
    simp only [IntOp.subi, BitVec.toInt_eq_toNat_bmod, BitVec.toNat_sub, BitVec.toNat_ofNat, Int.bmod_def]
    omega
  show (((_ : ℤ) : ℝ) : EReal) = _
  rw [h, rel]

/-- The decay of target row `t` against source row `s`: forward where `t` is not before `s`, backward otherwise. -/
def decay (lf lb : EReal) (t s : ℕ) : EReal :=
  Ideal.exp (if 0 ≤ rel t s then lf * rel t s else (0 - lb) * rel t s)

/-- The decay table from the two rows of logarithms. -/
def dtab (u w : S1x1x2048.Idx → EReal) : S2048x2048.Idx → EReal := fun y =>
  decay (u (ix3 0 0 (y 1))) (w (ix3 0 0 (y 1))) (y 0).val (y 1).val

theorem pay12_at (u w : FVec Ideal S1x1x2048 .f32) (k : Fin k0_t1_loop.trips) (a : Fin 256) (b : Fin 2048) :
    k0_pay12 (F := Ideal) u w k (ix2 a b) = decay (u (ix3 0 0 b)) (w (ix3 0 0 b)) (256 * k.val + a.val) b.val := by
  have hk : k.val < 8 := Nat.lt_of_lt_of_le k.isLt k0_t1_abs.2.1
  pointwise [k0_pay12]
  simp only [rel_word k.val hk a b]
  rfl

/-- The rotated rows, times a scale: the two halves of a head's channels turned by the angle's cosine and sine. -/
def rot (x : S1x2048x256.Idx → EReal) (cs sn : S2048x128.Idx → EReal) (sc : EReal) : S2048x256.Idx → EReal := fun y =>
  if h : (y 1).val < 128 then
    (x (ix3 0 (y 0) (y 1)) * cs (ix2 (y 0) ⟨(y 1).val, h⟩) - x (ix3 0 (y 0) ⟨128 + (y 1).val, by omega⟩) * sn (ix2 (y 0) ⟨(y 1).val, h⟩)) * sc
  else
    (x (ix3 0 (y 0) ⟨(y 1).val - 128, by have := (y 1).isLt; simp at this; omega⟩) * sn (ix2 (y 0) ⟨(y 1).val - 128, by have := (y 1).isLt; simp at this; omega⟩)
      + x (ix3 0 (y 0) (y 1)) * cs (ix2 (y 0) ⟨(y 1).val - 128, by have := (y 1).isLt; simp at this; omega⟩)) * sc

theorem pay13_at (cs sn : FVec Ideal S2048x128 .f32) (x : FVec Ideal S1x2048x256 .f32) (x1 x2 : FVec Ideal S1x2048x128 .f32)
    (h1 : ∀ (r : Fin 2048) (e : Fin 128), x1 (ix3 0 r e) = x (ix3 0 r ⟨e.val, by omega⟩))
    (h2 : ∀ (r : Fin 2048) (e : Fin 128), x2 (ix3 0 r e) = x (ix3 0 r ⟨128 + e.val, by omega⟩)) (r : Fin 2048) (e : Fin 256) :
    k0_pay13 (F := Ideal) cs sn x1 x2 (ix2 r e) = rot x cs sn 1 (ix2 r e) := by
  pointwise [k0_pay13, k0_pay10, k0_pay11, rot, h1, h2]
  by_cases h : e.val < 128
  · simp only [dif_pos h]
  · have he : (⟨128 + (e.val - 128), by omega⟩ : Fin 256) = e := Fin.ext (by show 128 + (e.val - 128) = e.val; omega)
    simp only [dif_neg h, he]

theorem pay1_at (cs sn : FVec Ideal S2048x128 .f32) (x : FVec Ideal S1x2048x256 .f32) (x1 x2 : FVec Ideal S1x2048x128 .f32)
    (h1 : ∀ (r : Fin 2048) (e : Fin 128), x1 (ix3 0 r e) = x (ix3 0 r ⟨e.val, by omega⟩))
    (h2 : ∀ (r : Fin 2048) (e : Fin 128), x2 (ix3 0 r e) = x (ix3 0 r ⟨128 + e.val, by omega⟩)) (r : Fin 2048) (e : Fin 256) :
    k0_pay1 (F := Ideal) (k0_pay10 cs) (k0_pay11 sn) (k0_pay14 x1) (k0_pay15 x2) (k0_pay16 cs sn x1 x2) (Scalar.ofBits .f32 0x3D800000#32) (ix2 r e) = rot x cs sn csc (ix2 r e) := by
  pointwise [k0_pay1, k0_pay10, k0_pay11, k0_pay14, k0_pay15, k0_pay16, rot, h1, h2]
  by_cases h : e.val < 128
  · simp only [dif_pos h]
  · have he : (⟨128 + (e.val - 128), by omega⟩ : Fin 256) = e := Fin.ext (by show 128 + (e.val - 128) = e.val; omega)
    simp only [dif_neg h, he]

theorem pay2_at (x : FVec Ideal S1x2048x256 .f32) (r : Fin 2048) (e : Fin 256) :
    k0_pay2 (F := Ideal) x (ix2 r e) = x (ix3 0 r e) := by
  pointwise [k0_pay2]

end Cert.KernelIdeal.Ret

end
-- ==== Proof.Ret.Reading.lean ====
/-
  The forms of a grid point read over the extended reals: the table is the decay at each pair of positions, queries and keys are
  rotated by the angles, and the block is the normalised, gated weighted sum.
-/
module

public import proofs.«01_k».proof.Proof.Ret.Tile

@[expose] public section

set_option maxRecDepth 16384

noncomputable section

namespace Cert.KernelIdeal.Ret

open Idealize.ShloMosaic Idealize.ShloMosaic.TcCoe Idealize.SL.Sem
open Cert.KernelIdeal Cert.KernelIdeal.Gen

theorem row_split (r : Fin 2048) (h : 256 * (tileOf r).val + (rowIn r).val < 2048) : (⟨256 * (tileOf r).val + (rowIn r).val, h⟩ : Fin 2048) = r :=
  Fin.ext (by show 256 * (r.val / 256) + r.val % 256 = r.val; omega)

/-- The table at a pair of positions. -/
theorem table_ideal (u w : FVec Ideal S1x1x2048 .f32) : table (F := Ideal) u w = dtab u w := by
  funext y
  idx_vars y
  rename' y0 => t, y1 => s
  refine (pay12_at u w _ _ _).trans ?_
  show decay _ _ (256 * (t.val / 256) + t.val % 256) s.val = decay (u (ix3 0 0 s)) (w (ix3 0 0 s)) t.val s.val
  rw [show 256 * (t.val / 256) + t.val % 256 = t.val by omega]
  rfl

/-- The values of a head as rows. -/
def rows (x : S1x2048x256.Idx → EReal) : S2048x256.Idx → EReal := fun y => x (ix3 0 (y 0) (y 1))

theorem turnQ_ideal (x : FVec Ideal S1x2048x256 .f32) (cs sn : FVec Ideal S2048x128 .f32) : turnQ (F := Ideal) x cs sn = rot x cs sn 1 := by
  funext y
  idx_vars y
  exact pay13_at cs sn x (low (F := Ideal) x) (high (F := Ideal) x) (fun _ _ => rfl) (fun _ _ => rfl) _ _

theorem turnK_ideal (x : FVec Ideal S1x2048x256 .f32) (cs sn : FVec Ideal S2048x128 .f32) : turnK (F := Ideal) x cs sn = rot x cs sn csc := by
  funext y
  idx_vars y
  exact pay1_at cs sn x (low (F := Ideal) x) (high (F := Ideal) x) (fun _ _ => rfl) (fun _ _ => rfl) _ _

theorem rows_ideal (x : FVec Ideal S1x2048x256 .f32) : k0_pay2 (F := Ideal) x = rows x := by
  funext y
  idx_vars y
  exact pay2_at x _ _

/-- The block at an index. -/
theorem outs_ideal (Q K V : FVec Ideal S2048x256 .bf16) (D : FVec Ideal S2048x2048 .f32) (G : FVec Ideal S1x2048x256 .f32) (gain : FVec Ideal S1x256 .f32) :
    outs (F := Ideal) Q K V D G gain = outv Q K V D G gain := by
  funext y
  idx_vars y
  rename' y0 => z, y1 => r, y2 => e
  have ho : (fun f => k0_pay6 (F := Ideal) (rowsAt (F := Ideal) Q (tileOf r)) K (bandAt (F := Ideal) D (tileOf r)) V (ix2 (rowIn r) f)) = att Q K V D r := by
    funext f
    rw [pay6_at]
    unfold att
    refine Finset.sum_congr rfl fun s _ => congrArg₂ (· * ·) (congrArg₂ (· * ·) (Finset.sum_congr rfl fun d _ => congrArg₂ (· * ·) ?_ rfl) ?_) rfl
    · exact congrArg (fun p => Q (ix2 p d)) (row_split r _)
    · exact congrArg (fun p => D (ix2 p s)) (row_split r _)
  have hg : tileAt (F := Ideal) G (tileOf r) (ix3 0 (rowIn r) e) = G (ix3 0 r e) := congrArg (fun p => G (ix3 0 p e)) (row_split r _)
  exact (pay5_at gain _ _ 0 (rowIn r) e).trans (congrArg₂ (fun o g => fin o e (gain (ix2 0 e)) g) ho hg)

/-- The block a point stores. -/
theorem blk_ideal (x0 x1 x2 x3 : FVec Ideal S1x2048x256 .f32) (x4 x5 : FVec Ideal S2048x128 .f32) (D : FVec Ideal S2048x2048 .f32) (x7 : FVec Ideal S1x256 .f32) :
    blk (F := Ideal) x0 x1 x2 x3 x4 x5 D x7 = outv (rot x0 x4 x5 1) (rot x1 x4 x5 csc) (rows x2) D x3 x7 := by
  unfold blk
  rw [outs_ideal, turnQ_ideal, turnK_ideal, rows_ideal]

end Cert.KernelIdeal.Ret

end
-- ==== Proof.Ret.Ref.lean ====
/-
  The reference's value, stage by stage: the heads, the rotation of queries and keys, the scores, the two masked decays,
  the two directions, and the normalised, gated result. Each stage is read at an index.
-/
module

public import proofs.«01_k».proof.Proof.Gen.ReferenceIdeal.Run
public import Idealize.ShloMosaic.Lib.Pointwise

@[expose] public section

set_option maxRecDepth 16384

noncomputable section

namespace Cert.ReferenceIdeal.Ret

open Cert.ReferenceIdeal Cert.ReferenceIdeal.Gen Idealize.ShloMosaic Idealize.ShloMosaic.TcCoe Idealize.SL.Sem

/-- The six heads of a projection of 1536 columns. -/
def heads (x : FVec Ideal S8x2048x1536 .f32) : FVec Ideal S8x2048x6x256 .f32 := shapeCast _ x shapeCasts_S8x2048x1536_S8x2048x6x256

/-- The angle of each position and channel. -/
def angles : FVec Ideal S2048x128 .f32 :=
  mulf (broadcastInDim S2048x128 ![0, 1] bcast_S2048x1_S2048x128_0_1 (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
            (mulf (broadcastInDim S128 ![] bcast_S_S128 (constant S_ .f32 0x40000000#32)) (sitofp .f32 (iotaInDim S128 32 0)))))
          (broadcastInDim S128 ![] bcast_S_S128 (constant S_ .f32 0x43800000#32))))))

/-- A table over positions and channels, at every batch entry and head. -/
def spread (x : FVec Ideal S2048x128 .f32) : FVec Ideal S8x2048x6x128 .f32 :=
  broadcastInDim S8x2048x6x128 ![0, 1, 2, 3] bcast_S1x2048x1x128_S8x2048x6x128_0_1_2_3
    (broadcastInDim S1x2048x1x128 ![1, 2, 3] bcast_S2048x1x128_S1x2048x1x128_1_2_3 (broadcastInDim S2048x1x128 ![0, 2] bcast_S2048x128_S2048x1x128_0_2 x))

/-- The first half of a head's channels. -/
def lo (x : FVec Ideal S8x2048x6x256 .f32) : FVec Ideal S8x2048x6x128 .f32 :=
  extractStridedSlice S8x2048x6x128 ![0, 0, 0, 0] x slices_S8x2048x6x256_S8x2048x6x128_0_0_0_0

/-- The second half of a head's channels. -/
def hi (x : FVec Ideal S8x2048x6x256 .f32) : FVec Ideal S8x2048x6x128 .f32 :=
  extractStridedSlice S8x2048x6x128 ![0, 0, 0, 128] x slices_S8x2048x6x256_S8x2048x6x128_0_0_0_128

/-- Two halves side by side. -/
def join (a b : FVec Ideal S8x2048x6x128 .f32) : FVec Ideal S8x2048x6x256 .f32 :=
  concatenate S8x2048x6x256 3 [⟨S8x2048x6x128, a⟩, ⟨S8x2048x6x128, b⟩] concatenates_S8x2048x6x128_S8x2048x6x128_S8x2048x6x256_d3

/-- The rotation of every head by its angles. -/
def turn (cs sn : FVec Ideal S8x2048x6x128 .f32) (x : FVec Ideal S8x2048x6x256 .f32) : FVec Ideal S8x2048x6x256 .f32 :=
  join (subf (mulf (lo x) cs) (mulf (hi x) sn)) (addf (mulf (lo x) sn) (mulf (hi x) cs))

/-- The keys' scale, at every element. -/
def scale16 : FVec Ideal S8x2048x6x256 .f32 := broadcastInDim S8x2048x6x256 ![] bcast_S_S8x2048x6x256 (constant S_ .f32 0x3D800000#32)

/-- The distance between two positions, as the reference computes it. -/
def dist : FVec Ideal S2048x2048 .f32 :=
  subf (broadcastInDim S2048x2048 ![0, 1] bcast_S2048x1_S2048x2048_0_1 (broadcastInDim S2048x1 ![0] bcast_S2048_S2048x1_0 (sitofp .f32 (iotaInDim S2048 32 0))))
    (broadcastInDim S2048x2048 ![0, 1] bcast_S1x2048_S2048x2048_0_1 (broadcastInDim S1x2048 ![1] bcast_S2048_S1x2048_1 (sitofp .f32 (iotaInDim S2048 32 0))))

/-- Zero at every pair of positions. -/
def zeros : FVec Ideal S2048x2048 .f32 := broadcastInDim S2048x2048 ![] bcast_S_S2048x2048 (constant S_ .f32 0x00000000#32)

/-- The logarithm of a head's decay. -/
def logs : FVec Ideal S6 .f32 :=
  Host.log1p (Host.negf (Host.exp (mulf (broadcastInDim S6 ![] bcast_S_S6 (constant S_ .f32 0x3F317218#32))
    (subf (broadcastInDim S6 ![] bcast_S_S6 (constant S_ .f32 0xC0A00000#32)) (sitofp .f32 (iotaInDim S6 32 0))))))

/-- The masked decay of every head from the logarithms and the mask. -/
def fade (k : IVec S2048x2048 1) (l : FVec Ideal S6 .f32) : FVec Ideal S6x2048x2048 .f32 :=
  select (broadcastInDim S6x2048x2048 ![0, 1, 2] bcast_S1x2048x2048_S6x2048x2048_0_1_2 (broadcastInDim S1x2048x2048 ![1, 2] bcast_S2048x2048_S1x2048x2048_1_2 k))
    (Host.exp (mulf (broadcastInDim S6x2048x2048 ![0, 1, 2] bcast_S6x1x1_S6x2048x2048_0_1_2 (broadcastInDim S6x1x1 ![0] bcast_S6_S6x1x1_0 l))
      (broadcastInDim S6x2048x2048 ![0, 1, 2] bcast_S1x2048x2048_S6x2048x2048_0_1_2
        (broadcastInDim S1x2048x2048 ![1, 2] bcast_S2048x2048_S1x2048x2048_1_2 (maximumf dist zeros)))))
    (broadcastInDim S6x2048x2048 ![] bcast_S_S6x2048x2048 (id (constant S_ .f32 0x00000000#32)))

/-- One direction: scores, times the decay, applied to the values. -/
def direction (q k v : FVec Ideal S8x2048x6x256 .f32) (d : FVec Ideal S6x2048x2048 .f32) : FVec Ideal S8x2048x6x256 .f32 :=
  transpose S8x2048x6x256 [0, 3, 1, 2]
    (Host.dotGeneral dot_S8x2048x6x256_S8x6x2048x2048_S8x6x256x2048_1_3_3_2_02_01 none v
      (mulf (Host.dotGeneral dot_S8x2048x6x256_S8x2048x6x256_S8x6x2048x2048_3_3_1_1_02_02 none q k)
        (broadcastInDim S8x6x2048x2048 ![0, 1, 2, 3] bcast_S1x6x2048x2048_S8x6x2048x2048_0_1_2_3
          (broadcastInDim S1x6x2048x2048 ![1, 2, 3] bcast_S6x2048x2048_S1x6x2048x2048_1_2_3 d))))
    transposes_S8x6x256x2048_S8x2048x6x256_0_3_1_2

/-- The normalisation of each head, with its gain. -/
def normed (x : FVec Ideal S8x2048x6x256 .f32) (gain : FVec Ideal S1536 .f32) : FVec Ideal S8x2048x6x256 .f32 :=
  mulf (mulf x (broadcastInDim S8x2048x6x256 ![0, 1, 2, 3] bcast_S8x2048x6x1_S8x2048x6x256_0_1_2_3
      (Host.rsqrt (addf (Host.divf (broadcastInDim S8x2048x6x1 ![0, 1, 2] bcast_S8x2048x6_S8x2048x6x1_0_1_2
          (Host.reduceAdd (mulf x x) (constant S_ .f32 0x00000000#32) reducesTo_S8x2048x6x256_S8x2048x6_d3 h_S_))
        (broadcastInDim S8x2048x6x1 ![] bcast_S_S8x2048x6x1 (constant S_ .f32 0x43800000#32)))
        (broadcastInDim S8x2048x6x1 ![] bcast_S_S8x2048x6x1 (constant S_ .f32 0x358637BD#32))))))
    (broadcastInDim S8x2048x6x256 ![0, 1, 2, 3] bcast_S1x1x6x256_S8x2048x6x256_0_1_2_3 (broadcastInDim S1x1x6x256 ![2, 3] bcast_S6x256_S1x1x6x256_2_3
      (shapeCast _ gain shapeCasts_S1536_S6x256)))

/-- The gate `g·σ(g)`. -/
def gated (g : FVec Ideal S8x2048x1536 .f32) : FVec Ideal S8x2048x1536 .f32 :=
  mulf g (Host.divf (broadcastInDim S8x2048x1536 ![] bcast_S_S8x2048x1536 (constant S_ .f32 0x3F800000#32))
    (addf (broadcastInDim S8x2048x1536 ![] bcast_S_S8x2048x1536 (constant S_ .f32 0x3F800000#32)) (Host.exp (Host.negf g))))

/-- The four projections. -/
def proj0 (x : FVec Ideal S8x2048x6656 .f32) : FVec Ideal S8x2048x1536 .f32 := extractStridedSlice S8x2048x1536 ![0, 0, 0] x slices_S8x2048x6656_S8x2048x1536_0_0_0
@[inherit_doc proj0]
def proj1 (x : FVec Ideal S8x2048x6656 .f32) : FVec Ideal S8x2048x1536 .f32 := extractStridedSlice S8x2048x1536 ![0, 0, 1536] x slices_S8x2048x6656_S8x2048x1536_0_0_1536
@[inherit_doc proj0]
def proj2 (x : FVec Ideal S8x2048x6656 .f32) : FVec Ideal S8x2048x1536 .f32 := extractStridedSlice S8x2048x1536 ![0, 0, 3072] x slices_S8x2048x6656_S8x2048x1536_0_0_3072
@[inherit_doc proj0]
def proj3 (x : FVec Ideal S8x2048x6656 .f32) : FVec Ideal S8x2048x1536 .f32 := extractStridedSlice S8x2048x1536 ![0, 0, 4608] x slices_S8x2048x6656_S8x2048x1536_0_0_4608

/-- The rotated queries. -/
def qs (x : FVec Ideal S8x2048x6656 .f32) : FVec Ideal S8x2048x6x256 .f32 :=
  turn (spread (Host.cos angles)) (spread (Host.sin angles)) (heads (proj0 x))

/-- The rotated, scaled keys. -/
def ks (x : FVec Ideal S8x2048x6656 .f32) : FVec Ideal S8x2048x6x256 .f32 :=
  mulf (turn (spread (Host.cos angles)) (spread (Host.sin angles)) (heads (proj1 x))) scale16

/-- The forward direction, a position's own value included. -/
def ahead (x : FVec Ideal S8x2048x6656 .f32) : FVec Ideal S8x2048x6x256 .f32 :=
  direction (qs x) (ks x) (heads (proj2 x)) (fade (cmpf .oge dist zeros) logs)

/-- The backward direction, on the positions in reverse. -/
def back (x : FVec Ideal S8x2048x6656 .f32) : FVec Ideal S8x2048x6x256 .f32 :=
  Host.reverse [1] (direction (Host.reverse [1] (qs x)) (Host.reverse [1] (ks x)) (Host.reverse [1] (heads (proj2 x)))
    (fade (cmpf .ogt dist zeros) (Host.reverse [0] logs)))

/-- The reference's result is its stages in order. -/
theorem res_eq (m : (ℓ : Loc nD τ sig) → Buf (Elt Ideal) ℓ) (c : Dev nD) :
    Value.res_main_v142 m c =
      truncf .bf16 (mulf (shapeCast _ (normed (addf (ahead (m ((c.tc : Thread nD τ).loc main_arg0))) (back (m ((c.tc : Thread nD τ).loc main_arg0))))
        (m ((c.tc : Thread nD τ).loc main_arg1))) shapeCasts_S8x2048x6x256_S8x2048x1536) (gated (proj3 (m ((c.tc : Thread nD τ).loc main_arg0))))) bitsLt_bf16_f32 := rfl

/-- A direction at an index: the decayed scores of the row, summed against the values. -/
theorem direction_at (q k v : FVec Ideal S8x2048x6x256 .f32) (d : FVec Ideal S6x2048x2048 .f32) (b : Fin 8) (t : Fin 2048) (h : Fin 6) (e : Fin 256) :
    (direction q k v d (ix4 b t h e) : EReal)
      = ∑ s : Fin 2048, v (ix4 b s h e) * ((∑ f : Fin 256, q (ix4 b t h f) * k (ix4 b s h f)) * d (ix3 h t s)) := by
  pointwise [direction]

/-- The angle of position `r` in channel `e`. -/
def angleAt (r e : ℕ) : EReal :=
  FloatOps.sitofp (F := Ideal) FTy.f32 (BitVec.ofNat 32 r) *
    Ideal.pow (Ideal.ofBits FTy.f32 1176256512#32)
      (Ideal.div (-(Ideal.ofBits FTy.f32 1073741824#32 * FloatOps.sitofp (F := Ideal) FTy.f32 (BitVec.ofNat 32 e)))
        (Ideal.ofBits FTy.f32 1132462080#32))

/-- A rotated head at an index. -/
theorem turn_at (x : FVec Ideal S8x2048x6x256 .f32) (b : Fin 8) (t : Fin 2048) (h : Fin 6) (e : Fin 256) :
    (turn (spread (Host.cos angles)) (spread (Host.sin angles)) x (ix4 b t h e) : EReal)
      = if hl : e.val < 128 then
          x (ix4 b t h e) * Ideal.cos (angleAt t.val e.val) - x (ix4 b t h ⟨128 + e.val, by omega⟩) * Ideal.sin (angleAt t.val e.val)
        else
          x (ix4 b t h ⟨e.val - 128, by omega⟩) * Ideal.sin (angleAt t.val (e.val - 128))
            + x (ix4 b t h ⟨128 + (e.val - 128), by omega⟩) * Ideal.cos (angleAt t.val (e.val - 128)) := by
  pointwise [turn, spread, angles, lo, hi, join, angleAt]

/-- The scaled keys at an index. -/
theorem scaled_at (x : FVec Ideal S8x2048x6x256 .f32) (b : Fin 8) (t : Fin 2048) (h : Fin 6) (e : Fin 256) :
    (mulf x scale16 (ix4 b t h e) : EReal) = x (ix4 b t h e) * Ideal.ofBits .f32 0x3D800000#32 := by
  pointwise [scale16]

/-- The logarithm of a head's decay at its number. -/
def logAt (h : ℕ) : EReal :=
  Ideal.log1p (-Ideal.exp (Ideal.ofBits FTy.f32 1060205080#32 * (Ideal.ofBits FTy.f32 3231711232#32 - FloatOps.sitofp (F := Ideal) FTy.f32 (BitVec.ofNat 32 h))))

theorem logs_at (h : Fin 6) : (logs (ix1 h) : EReal) = logAt h.val := by
  pointwise [logs, logAt]

theorem logs_rev_at (h : Fin 6) : (Host.reverse [0] logs (ix1 h) : EReal) = logAt h.rev.val := by
  pointwise [logs, logAt]
  rfl

/-- The distance from `s` to `t`, as the reference takes it. -/
def gap (t s : ℕ) : EReal := FloatOps.sitofp (F := Ideal) FTy.f32 (BitVec.ofNat 32 t) - FloatOps.sitofp (F := Ideal) FTy.f32 (BitVec.ofNat 32 s)

/-- The decay of the forward direction. -/
theorem fade_ge_at (l : FVec Ideal S6 .f32) (h : Fin 6) (t s : Fin 2048) :
    (fade (cmpf .oge dist zeros) l (ix3 h t s) : EReal)
      = if 0 ≤ gap t.val s.val then Ideal.exp (l (ix1 h) * max (gap t.val s.val) 0) else 0 := by
  pointwise [fade, dist, zeros, gap]
  exact if_congr Iff.rfl rfl (by pointwise [id])

/-- The decay of the backward direction. -/
theorem fade_gt_at (l : FVec Ideal S6 .f32) (h : Fin 6) (t s : Fin 2048) :
    (fade (cmpf .ogt dist zeros) l (ix3 h t s) : EReal)
      = if 0 < gap t.val s.val then Ideal.exp (l (ix1 h) * max (gap t.val s.val) 0) else 0 := by
  pointwise [fade, dist, zeros, gap]
  exact if_congr Iff.rfl rfl (by pointwise [id])

theorem heads_at (x : FVec Ideal S8x2048x1536 .f32) (b : Fin 8) (t : Fin 2048) (h : Fin 6) (e : Fin 256) :
    (heads x (ix4 b t h e) : EReal) = x (ix3 b t (⟨h.val * 256 + e.val, by omega⟩)) := by
  pointwise [heads]

theorem proj0_at (x : FVec Ideal S8x2048x6656 .f32) (b : Fin 8) (t : Fin 2048) (e : Fin 1536) :
    (proj0 x (ix3 b t e) : EReal) = x (ix3 b t (⟨e.val, by omega⟩)) := by
  pointwise [proj0]

theorem proj1_at (x : FVec Ideal S8x2048x6656 .f32) (b : Fin 8) (t : Fin 2048) (e : Fin 1536) :
    (proj1 x (ix3 b t e) : EReal) = x (ix3 b t (⟨1536 + e.val, by omega⟩)) := by
  pointwise [proj1]

theorem proj2_at (x : FVec Ideal S8x2048x6656 .f32) (b : Fin 8) (t : Fin 2048) (e : Fin 1536) :
    (proj2 x (ix3 b t e) : EReal) = x (ix3 b t (⟨3072 + e.val, by omega⟩)) := by
  pointwise [proj2]

theorem proj3_at (x : FVec Ideal S8x2048x6656 .f32) (b : Fin 8) (t : Fin 2048) (e : Fin 1536) :
    (proj3 x (ix3 b t e) : EReal) = x (ix3 b t (⟨4608 + e.val, by omega⟩)) := by
  pointwise [proj3]

/-- Positions in reverse. -/
theorem rev_at (x : FVec Ideal S8x2048x6x256 .f32) (b : Fin 8) (t : Fin 2048) (h : Fin 6) (e : Fin 256) :
    (Host.reverse [1] x (ix4 b t h e) : EReal) = x (ix4 b t.rev h e) := by
  pointwise
  rfl

/-- The result from a head's weighted values, its gain and its gate. -/
theorem close_at (x : FVec Ideal S8x2048x6x256 .f32) (gain : FVec Ideal S1536 .f32) (g : FVec Ideal S8x2048x1536 .f32) (b : Fin 8) (t : Fin 2048) (n : Fin 1536) :
    (truncf .bf16 (mulf (shapeCast S8x2048x1536 (normed x gain) shapeCasts_S8x2048x6x256_S8x2048x1536) (gated g)) bitsLt_bf16_f32 (ix3 b t n) : EReal)
      = ((x (ix4 b t ⟨n.val / 256, by omega⟩ ⟨n.val % 256, by omega⟩)
          * Ideal.rsqrt (Ideal.div (∑ f : Fin 256, x (ix4 b t ⟨n.val / 256, by omega⟩ f) * x (ix4 b t ⟨n.val / 256, by omega⟩ f))
              (Ideal.ofBits .f32 0x43800000#32) + Ideal.ofBits .f32 0x358637BD#32)) * gain (ix1 n))
        * (g (ix3 b t n) * Ideal.logistic (g (ix3 b t n))) := by
  pointwise [normed, gated]
  rfl

end Cert.ReferenceIdeal.Ret
-- ==== Proof.Ret.Equation.lean ====
/-
  The kernel's one pass over all the source rows is the two masked directions added up: at every pair of positions one of
  the two masked decays is zero and the other is the kernel's.
-/
module

public import proofs.«01_k».proof.Proof.Ret.Host
public import proofs.«01_k».proof.Proof.Ret.Reading
public import proofs.«01_k».proof.Proof.Ret.Ref

@[expose] public section

set_option maxRecDepth 16384

noncomputable section

namespace Cert.Ret

open Idealize.ShloMosaic Idealize.ShloMosaic.TcCoe Idealize.SL.Sem
open Cert.KernelIdeal.Ret (att fin outv rot rel decay dtab tab rows blk csc c256 ceps)
open Cert.ReferenceIdeal.Ret (direction gap)
open Cert.ReferenceIdeal (S8x2048x6x256 S6x2048x2048)
open Cert.KernelIdeal (S2048x256 S2048x2048)

/-- A number below 2³¹, read back from its word. -/
theorem word_real (t : ℕ) (ht : t < 2048) : FloatOps.sitofp (F := Ideal) FTy.f32 (BitVec.ofNat 32 t) = (((t : ℤ) : ℝ) : EReal) := by
  have h : (BitVec.ofNat 32 t).toInt = (t : ℤ) := by
    rw [BitVec.toInt_eq_toNat_of_lt] <;> simp only [BitVec.toNat_ofNat] <;> omega
  show ((((BitVec.ofNat 32 t).toInt : ℤ) : ℝ) : EReal) = _
  rw [h]

/-- The reference's distance is the kernel's. -/
theorem gap_eq (t s : ℕ) (ht : t < 2048) (hs : s < 2048) : gap t s = rel t s := by
  unfold gap rel
  rw [word_real t ht, word_real s hs, ← EReal.coe_sub, ← Int.cast_sub]

theorem rel_nonneg (t s : ℕ) : 0 ≤ rel t s ↔ s ≤ t := by
  unfold rel
  rw [EReal.coe_nonneg, Int.cast_nonneg_iff]
  omega

theorem rel_pos (t s : ℕ) : 0 < rel t s ↔ s < t := by
  unfold rel
  rw [EReal.coe_pos, Int.cast_pos]
  omega

/-- Mirroring both positions turns the distance round. -/
theorem rel_rev (t s : Fin 2048) : rel t.rev.val s.rev.val = - rel t.val s.val := by
  unfold rel
  rw [← EReal.coe_neg, ← Int.cast_neg]
  congr 2
  have := t.isLt; have := s.isLt
  simp only [Fin.val_rev]
  omega

/-- The kernel's decay, weighted with any score and value, is the two masked decays' weighted sum. -/
theorem split (lf lb sc v : EReal) (t s : Fin 2048) :
    (sc * decay lf lb t.val s.val) * v
      = v * (sc * (if 0 ≤ rel t.val s.val then Ideal.exp (lf * max (rel t.val s.val) 0) else 0))
        + v * (sc * (if 0 < rel t.rev.val s.rev.val then Ideal.exp (lb * max (rel t.rev.val s.rev.val) 0) else 0)) := by
  unfold decay
  by_cases h : s.val ≤ t.val
  · have h0 := (rel_nonneg t.val s.val).mpr h
    have h1 : ¬ 0 < rel t.rev.val s.rev.val := by
      rw [rel_pos]; have := t.isLt; have := s.isLt; simp only [Fin.val_rev]; omega
    rw [if_pos h0, if_pos h0, if_neg h1, max_eq_left h0, mul_zero, mul_zero, add_zero, mul_comm]
  · have h0 : ¬ 0 ≤ rel t.val s.val := fun hh => h ((rel_nonneg t.val s.val).mp hh)
    have h1 : 0 < rel t.rev.val s.rev.val := by
      rw [rel_pos]; have := t.isLt; have := s.isLt; simp only [Fin.val_rev]; omega
    rw [if_neg h0, if_neg h0, if_pos h1, max_eq_left h1.le, mul_zero, mul_zero, zero_add, mul_comm, rel_rev, zero_sub, neg_mul, mul_neg]

/-- The weighted values of a head: one pass with the kernel's decay is the two directions added up. -/
theorem att_eq (Q K V : S2048x256.Idx → EReal) (D : S2048x2048.Idx → EReal) (q k v : S8x2048x6x256.Idx → EReal)
    (dF dB : S6x2048x2048.Idx → EReal) (b : Fin 8) (h : Fin 6) (lf lb : EReal)
    (hQ : ∀ r d, Q (ix2 r d) = q (ix4 b r h d)) (hK : ∀ r d, K (ix2 r d) = k (ix4 b r h d)) (hV : ∀ r d, V (ix2 r d) = v (ix4 b r h d))
    (hD : ∀ t s : Fin 2048, D (ix2 t s) = decay lf lb t.val s.val)
    (hF : ∀ t s : Fin 2048, dF (ix3 h t s) = if 0 ≤ rel t.val s.val then Ideal.exp (lf * max (rel t.val s.val) 0) else 0)
    (hB : ∀ t s : Fin 2048, dB (ix3 h t s) = if 0 < rel t.val s.val then Ideal.exp (lb * max (rel t.val s.val) 0) else 0)
    (t : Fin 2048) (e : Fin 256) :
    att Q K V D t e = (direction q k v dF (ix4 b t h e) : EReal)
      + (direction (Host.reverse [1] q) (Host.reverse [1] k) (Host.reverse [1] v) dB (ix4 b t.rev h e) : EReal) := by
  rw [Cert.ReferenceIdeal.Ret.direction_at, Cert.ReferenceIdeal.Ret.direction_at]
  have hr : (∑ s : Fin 2048, (Host.reverse [1] v (ix4 b s h e) : EReal)
        * ((∑ f : Fin 256, (Host.reverse [1] q (ix4 b t.rev h f) : EReal) * (Host.reverse [1] k (ix4 b s h f) : EReal)) * dB (ix3 h t.rev s)))
      = ∑ s : Fin 2048, v (ix4 b s h e) * ((∑ f : Fin 256, q (ix4 b t h f) * k (ix4 b s h f)) * dB (ix3 h t.rev s.rev)) := by
    refine (Equiv.sum_comp Fin.revPerm _).symm.trans (Finset.sum_congr rfl fun s _ => ?_)
    have e1 : (Host.reverse [1] v (ix4 b (Fin.revPerm s) h e) : EReal) = v (ix4 b s h e) := by
      rw [Cert.ReferenceIdeal.Ret.rev_at]; simp only [Fin.revPerm_apply, Fin.rev_rev]
    have e2 : ∀ f, (Host.reverse [1] k (ix4 b (Fin.revPerm s) h f) : EReal) = k (ix4 b s h f) := fun f => by
      rw [Cert.ReferenceIdeal.Ret.rev_at]; simp only [Fin.revPerm_apply, Fin.rev_rev]
    have e3 : ∀ f, (Host.reverse [1] q (ix4 b t.rev h f) : EReal) = q (ix4 b t h f) := fun f => by
      rw [Cert.ReferenceIdeal.Ret.rev_at]; simp only [Fin.rev_rev]
    rw [e1]
    refine congrArg₂ (· * ·) rfl (congrArg₂ (· * ·) (Finset.sum_congr rfl fun f _ => ?_) rfl)
    rw [e2, e3]
  rw [hr, ← Finset.sum_add_distrib]
  refine Finset.sum_congr rfl fun s _ => ?_
  rw [hF, hB, ← split lf lb, hD, hV]
  refine congrArg₂ (· * ·) (congrArg₂ (· * ·) (Finset.sum_congr rfl fun f _ => ?_) rfl) rfl
  rw [hQ, hK]

end Cert.Ret
-- ==== Proof.Ret.Value.lean ====
/-
  The kernel's array is the reference's: its blocks are read from the projections and the host's tables, and the equation
  of the weighted values is applied head by head.
-/
module

public import proofs.«01_k».proof.Proof.Ret.Equation

@[expose] public section

set_option maxRecDepth 16384

noncomputable section

namespace Cert.Ret

open Idealize.ShloMosaic Idealize.ShloMosaic.TcCoe Idealize.SL.Sem
open Cert.KernelIdeal.Ret (att fin outv rot rel decay dtab tab rows blk csc c256 ceps result blkAt tabAt angle)
open Cert.ReferenceIdeal.Ret (direction gap heads turn spread angles qs ks ahead back proj0 proj1 proj2 proj3 scale16 angleAt)
open Cert.ReferenceIdeal (S8x2048x6x256 S6x2048x2048)
open Cert.KernelIdeal (S2048x256 S2048x2048 S1x2048x256 S2048x128 S8x2048x6656 S1536)
open Cert.KernelIdeal (cfg0)
open Cert.KernelIdeal.Gen (iblk V N_0)

/-- The rotation of a block is the reference's rotation of its head, scaled. -/
theorem rot_eq (X : S1x2048x256.Idx → EReal) (cs sn : S2048x128.Idx → EReal) (sc : EReal) (x : S8x2048x6x256.Idx → EReal) (b : Fin 8) (h : Fin 6)
    (hX : ∀ r d, X (ix3 0 r d) = x (ix4 b r h d)) (hc : ∀ r e, cs (ix2 r e) = Ideal.cos (angle r e)) (hs : ∀ r e, sn (ix2 r e) = Ideal.sin (angle r e))
    (r : Fin 2048) (d : Fin 256) :
    rot X cs sn sc (ix2 r d) = (turn (spread (Host.cos angles)) (spread (Host.sin angles)) x (ix4 b r h d) : EReal) * sc := by
  rw [Cert.ReferenceIdeal.Ret.turn_at]
  have hd := d.isLt
  unfold rot
  by_cases hl : d.val < 128
  · rw [dif_pos hl]
    refine (dif_pos hl).trans ?_
    show (X (ix3 0 r d) * cs (ix2 r ⟨d.val, hl⟩) - X (ix3 0 r ⟨128 + d.val, by omega⟩) * sn (ix2 r ⟨d.val, hl⟩)) * sc = _
    rw [hX, hX, hc, hs]
    rfl
  · rw [dif_neg hl]
    refine (dif_neg hl).trans ?_
    show (X (ix3 0 r ⟨d.val - 128, by omega⟩) * sn (ix2 r ⟨d.val - 128, by omega⟩) + X (ix3 0 r d) * cs (ix2 r ⟨d.val - 128, by omega⟩)) * sc = _
    have e : (⟨128 + (d.val - 128), by omega⟩ : Fin 256) = d := Fin.ext (by show 128 + (d.val - 128) = d.val; omega)
    rw [hX, hX, hc, hs, e]
    rfl

variable (m : (ℓ : Loc Cert.KernelIdeal.nD Cert.KernelIdeal.τ Cert.KernelIdeal.sig) → Buf (Elt Ideal) ℓ)

/-- The projections the kernel is given. -/
def argA (c : Dev Cert.KernelIdeal.nD) : S8x2048x6656.Idx → EReal := m ((c.tc : Thread Cert.KernelIdeal.nD Cert.KernelIdeal.τ).loc Cert.KernelIdeal.main_arg0)
/-- The gain it is given. -/
def argG (c : Dev Cert.KernelIdeal.nD) : S1536.Idx → EReal := m ((c.tc : Thread Cert.KernelIdeal.nD Cert.KernelIdeal.τ).loc Cert.KernelIdeal.main_arg1)

/-- The weighted values of a point are the reference's two directions of its batch entry and head. -/
theorem att_at (c : Dev Cert.KernelIdeal.nD) (t : Fin cfg0.N) (b : Fin 8) (h : Fin 6) (hb : t.val % 8 = b.val) (hh : t.val / 8 = h.val) (r : Fin 2048) (e : Fin 256) :
    att (rot (iblk m c 0 t) (iblk m c 4 t) (iblk m c 5 t) 1) (rot (iblk m c 1 t) (iblk m c 4 t) (iblk m c 5 t) csc) (rows (iblk m c 2 t)) (tabAt m c t) r e
      = (addf (ahead (argA m c)) (back (argA m c)) (ix4 b r h e) : EReal) := by
  have hc : ∀ (r : Fin 2048) (e : Fin 128), (iblk m c 4 t (ix2 r e) : EReal) = Ideal.cos (angle r e) := fun r e =>
    (Cert.KernelIdeal.Ret.blk4_at m c t r e).trans (Cert.KernelIdeal.Ret.cos_at m c r e)
  have hs : ∀ (r : Fin 2048) (e : Fin 128), (iblk m c 5 t (ix2 r e) : EReal) = Ideal.sin (angle r e) := fun r e =>
    (Cert.KernelIdeal.Ret.blk5_at m c t r e).trans (Cert.KernelIdeal.Ret.sin_at m c r e)
  have hq : ∀ (r : Fin 2048) (d : Fin 256), (iblk m c 0 t (ix3 0 r d) : EReal) = (heads (proj0 (argA m c)) (ix4 b r h d) : EReal) := fun r d => by
    rw [Cert.ReferenceIdeal.Ret.heads_at, Cert.ReferenceIdeal.Ret.proj0_at]
    refine (Cert.KernelIdeal.Ret.blk0_at m c t 0 r d).trans (congrArg (argA m c) ?_)
    exact congrArg₂ (fun p q => ix3 p r q) (Fin.ext hb) (Fin.ext (by show 256 * (0 + t.val / 8) + d.val = h.val * 256 + d.val; omega))
  have hk : ∀ (r : Fin 2048) (d : Fin 256), (iblk m c 1 t (ix3 0 r d) : EReal) = (heads (proj1 (argA m c)) (ix4 b r h d) : EReal) := fun r d => by
    rw [Cert.ReferenceIdeal.Ret.heads_at, Cert.ReferenceIdeal.Ret.proj1_at]
    refine (Cert.KernelIdeal.Ret.blk1_at m c t 0 r d).trans (congrArg (argA m c) ?_)
    exact congrArg₂ (fun p q => ix3 p r q) (Fin.ext hb) (Fin.ext (by show 256 * (6 + t.val / 8) + d.val = 1536 + (h.val * 256 + d.val); omega))
  have hv : ∀ (r : Fin 2048) (d : Fin 256), (iblk m c 2 t (ix3 0 r d) : EReal) = (heads (proj2 (argA m c)) (ix4 b r h d) : EReal) := fun r d => by
    rw [Cert.ReferenceIdeal.Ret.heads_at, Cert.ReferenceIdeal.Ret.proj2_at]
    refine (Cert.KernelIdeal.Ret.blk2_at m c t 0 r d).trans (congrArg (argA m c) ?_)
    exact congrArg₂ (fun p q => ix3 p r q) (Fin.ext hb) (Fin.ext (by show 256 * (12 + t.val / 8) + d.val = 3072 + (h.val * 256 + d.val); omega))
  have ht : ∀ p s : Fin 2048, tabAt m c t (ix2 p s) = decay (Cert.KernelIdeal.Ret.logAt h.val) (Cert.KernelIdeal.Ret.logAt h.rev.val) p.val s.val := fun p s => by
    have e0 : (iblk m c 6 t (ix3 0 0 s) : EReal) = Cert.KernelIdeal.Ret.logAt h.val :=
      (Cert.KernelIdeal.Ret.blk6_at m c t 0 0 s).trans ((Cert.KernelIdeal.Ret.row0_at m c _ s).trans (congrArg Cert.KernelIdeal.Ret.logAt hh))
    have e1 : (iblk m c 6 t (ix3 0 1 s) : EReal) = Cert.KernelIdeal.Ret.logAt h.rev.val :=
      (Cert.KernelIdeal.Ret.blk6_at m c t 0 1 s).trans ((Cert.KernelIdeal.Ret.row1_at m c _ s).trans
        (congrArg (fun z : Fin 6 => Cert.KernelIdeal.Ret.logAt z.rev.val) (Fin.ext hh)))
    refine (congrFun (Cert.KernelIdeal.Ret.table_ideal _ _) (ix2 p s)).trans ?_
    show decay (iblk m c 6 t (ix3 0 0 s) : EReal) (iblk m c 6 t (ix3 0 1 s) : EReal) p.val s.val = _
    rw [e0, e1]
  refine att_eq _ _ _ _ (qs (argA m c)) (ks (argA m c)) (heads (proj2 (argA m c)))
    (Cert.ReferenceIdeal.Ret.fade (cmpf .oge Cert.ReferenceIdeal.Ret.dist Cert.ReferenceIdeal.Ret.zeros) Cert.ReferenceIdeal.Ret.logs)
    (Cert.ReferenceIdeal.Ret.fade (cmpf .ogt Cert.ReferenceIdeal.Ret.dist Cert.ReferenceIdeal.Ret.zeros) (Host.reverse [0] Cert.ReferenceIdeal.Ret.logs)) b h (Cert.KernelIdeal.Ret.logAt h.val) (Cert.KernelIdeal.Ret.logAt h.rev.val)
    ?_ ?_ ?_ ht ?_ ?_ r e |>.trans ?_
  · intro r d
    rw [rot_eq _ _ _ _ _ b h hq hc hs, mul_one]; rfl
  · intro r d
    rw [rot_eq _ _ _ _ _ b h hk hc hs]
    exact (Cert.ReferenceIdeal.Ret.scaled_at _ b r h d).symm
  · intro r d; exact hv r d
  · intro p s
    rw [Cert.ReferenceIdeal.Ret.fade_ge_at, gap_eq _ _ p.isLt s.isLt, Cert.ReferenceIdeal.Ret.logs_at]; rfl
  · intro p s
    rw [Cert.ReferenceIdeal.Ret.fade_gt_at, gap_eq _ _ p.isLt s.isLt, Cert.ReferenceIdeal.Ret.logs_rev_at]; rfl
  · show _ = (ahead (argA m c) (ix4 b r h e) : EReal) + (back (argA m c) (ix4 b r h e) : EReal)
    unfold back
    rw [Cert.ReferenceIdeal.Ret.rev_at]
    rfl

/-- The kernel's array is the reference's result on the same arguments. -/
theorem result_eq (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = argA m c)
    (h1 : m' ((c.tc : Thread Cert.ReferenceIdeal.nD Cert.ReferenceIdeal.τ).loc Cert.ReferenceIdeal.main_arg1) = argG m c) :
    Cert.ReferenceIdeal.Value.res_out0 m' c = result m c := by
  refine (Cert.ReferenceIdeal.Ret.res_eq m' c).trans ?_
  rw [h0, h1]
  funext y
  idx_vars y
  rename' y0 => b, y1 => r, y2 => n

  refine (Cert.ReferenceIdeal.Ret.close_at _ _ _ b r n).trans ?_
  have hb := b.isLt
  have hn := n.isLt
  let t : Fin cfg0.N := ⟨8 * (n.val / 256) + b.val, lt_of_lt_of_eq (by omega) N_0.symm⟩
  have ht : t.val = 8 * (n.val / 256) + b.val := rfl
  have hA := att_at m c t b ⟨n.val / 256, by omega⟩ (by omega) (by show t.val / 8 = n.val / 256; omega) r
  have hg : (iblk m c 7 t (ix2 0 (⟨n.val % 256, by omega⟩ : Fin 256)) : EReal) = argG m c (ix1 n) :=
    (Cert.KernelIdeal.Ret.blk7_at m c t 0 _).trans ((Cert.KernelIdeal.Ret.gain_at m c 0 _).trans
      (congrArg (fun z => argG m c (ix1 z)) (Fin.ext (by show 256 * (t.val / 8) + n.val % 256 = n.val; omega))))
  have hG : (iblk m c 3 t (ix3 0 r (⟨n.val % 256, by omega⟩ : Fin 256)) : EReal) = (proj3 (argA m c) (ix3 b r n) : EReal) := by
    rw [Cert.ReferenceIdeal.Ret.proj3_at]
    refine (Cert.KernelIdeal.Ret.blk3_at m c t 0 r _).trans (congrArg (argA m c) ?_)
    exact congrArg₂ (fun p q => ix3 p r q) (Fin.ext (by show t.val % 8 = b.val; omega))
      (Fin.ext (by show 256 * (18 + t.val / 8) + n.val % 256 = 4608 + n.val; omega))
  refine Eq.trans ?_ (congrFun (Cert.KernelIdeal.Ret.blk_ideal (iblk m c 0 t) (iblk m c 1 t) (iblk m c 2 t) (iblk m c 3 t) (iblk m c 4 t) (iblk m c 5 t)
    (tabAt m c t) (iblk m c 7 t)) (ix3 0 r (⟨n.val % 256, by omega⟩ : Fin 256))).symm
  show _ = fin (att (rot (iblk m c 0 t) (iblk m c 4 t) (iblk m c 5 t) 1) (rot (iblk m c 1 t) (iblk m c 4 t) (iblk m c 5 t) csc) (rows (iblk m c 2 t)) (tabAt m c t) r)
    (⟨n.val % 256, by omega⟩ : Fin 256) (iblk m c 7 t (ix2 0 (⟨n.val % 256, by omega⟩ : Fin 256))) (iblk m c 3 t (ix3 0 r (⟨n.val % 256, by omega⟩ : Fin 256)))
  rw [hg, hG, funext hA]
  rfl

end Cert.Ret
-- ==== Proof.In2.Row.lean ====
/-
  One row of the input projection over the extended reals: the row divided by its root mean square, times the gain, the
  modulation's scale and shift. Both widths of the projection read it.
-/
module

public import Idealize.ShloMosaic.Lib.Pointwise

@[expose] public section

noncomputable section

open Idealize.ShloMosaic

namespace Cert.In

/-- The normalised and modulated element `d` of a row `x`. -/
def modded (x gain shift scale : Fin 2048 → EReal) (d : Fin 2048) : EReal :=
  ((x d * Ideal.rsqrt (Ideal.div (∑ e : Fin 2048, x e * x e) (Ideal.ofBits .f32 0x45000000#32) + Ideal.ofBits .f32 0x358637BD#32)) * gain d)
    * (Ideal.ofBits .f32 0x3F800000#32 + scale d) + shift d

end Cert.In

end
-- ==== Proof.In2.Body.lean ====
/-
  What a grid point of the wide input projection leaves: the first point of a block of rows stores the block's modulated
  rows, and every point stores the product of those rows and its columns of the weights.
-/
module

public import proofs.«01_k».proof.Proof.In2.Row
public import proofs.«01_k».proof.Proof.Gen.Kernel2Ideal.Value
public import Idealize.ShloMosaic.Lib.Pipeline.ValueKit

@[expose] public section

set_option maxRecDepth 16384

noncomputable section

namespace Cert.Kernel2Ideal.In

open Idealize.ShloMosaic Idealize.ShloMosaic.TcCoe Idealize.ShloMosaic.Tactic Idealize.SL.Sem
open Cert.Kernel2Ideal Cert.Kernel2Ideal.Gen Cert.In

/-- The modulated rows of a block. -/
def rows (x : S1024x2048.Idx → EReal) (gain : S1x2048.Idx → EReal) (shift scale : S1x1x2048.Idx → EReal) : S1024x2048.Idx → EReal := fun y =>
  modded (fun d => x (ix2 (y 0) d)) (fun d => gain (ix2 0 d)) (fun d => shift (ix3 0 0 d)) (fun d => scale (ix3 0 0 d)) (y 1)

theorem pay1_at (x : FVec Ideal S128x2048 .f32) (gain : FVec Ideal S1x2048 .f32) (shift scale : FVec Ideal S1x1x2048 .f32) (a : Fin 128) (d : Fin 2048) :
    k0_pay1 (F := Ideal) x gain shift scale (ix2 a d)
      = modded (fun e => x (ix2 a e)) (fun e => gain (ix2 0 e)) (fun e => shift (ix3 0 0 e)) (fun e => scale (ix3 0 0 e)) d := by
  pointwise [k0_pay1, modded]

theorem pay2_at (h : FVec Ideal S1024x2048 .bf16) (w : FVec Ideal S2048x512 .bf16) (a : Fin 1024) (b : Fin 512) :
    k0_pay2 (F := Ideal) h w (ix2 a b) = ∑ d : Fin 2048, h (ix2 a d) * w (ix2 d b) := by
  pointwise [k0_pay2]

theorem off1_eq : ∀ k : Fin k0_t1_loop.trips, k0_off1 k = ![128 * k.val, 0] := by decide +kernel

/-- A band of rows, placed. -/
theorem emb_band (off : Fin 2 → ℕ) (o : ℕ) (h : off = ![o, 0]) (inb : ∀ a, off a + S128x2048.size a ≤ S1024x2048.size a) (a : Fin 128) (b : Fin 2048) (ho : o + a.val < 1024) :
    (Rect.unit (s := S1024x2048) off S128x2048.size inb).emb (ix2 a b) = ix2 ⟨o + a.val, ho⟩ b := by
  subst h
  funext i
  refine Fin.cases ?_ (fun j => Fin.cases ?_ (fun j => j.elim0) j) i
  · apply Fin.ext; show o + 1 * a.val = o + a.val; omega
  · apply Fin.ext; show 0 + 1 * b.val = b.val; omega

section
variable (𝒱 : Variants) (c : Dev nD) (bd : Option 𝒱.V) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x512 .bf16) (harg6 : arg6.IsWhole) (arg7 : Memref sig .tc .vmem S1024x512 .f32) (harg7 : arg7.IsWhole)
  (arg8 : Memref sig .tc .vmem S1024x2048 .bf16) (harg8 : arg8.IsWhole)

section
variable (k0_h1 : k0_cond1 i = 1#1) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)

/-- A trip stores one band of the modulated rows. -/
theorem band (k : Fin k0_t1_loop.trips) :
    ∀ p ∈ tripL_k0_t1 (F := Ideal) 𝒱 c bd i arg2 harg2 arg3 harg3 arg4 harg4 arg5 harg5 arg6 harg6 arg7 harg7 arg8 harg8 k0_h1 X2 X3 X4 X5 k, ∀ x : p.1.shape.Idx,
      p.2 x = rows (arg2.view.read (Elt Ideal) X2) (arg3.view.read (Elt Ideal) X3) (arg4.view.read (Elt Ideal) X4) (arg5.view.read (Elt Ideal) X5) (p.1.emb x) := by
  unfold tripL_k0_t1 trip_k0_t1
  dsimp only
  intro p hp x
  obtain rfl := List.mem_singleton.mp hp
  dsimp only at x ⊢
  change S128x2048.Idx at x
  idx_vars x
  have hk : k.val < 8 := Nat.lt_of_lt_of_le k.isLt k0_t1_abs.2.1
  refine Eq.trans ?_ (congrArg (rows _ _ _ _) (emb_band (k0_off1 k) (128 * k.val) (off1_eq k) _ _ _ (by omega)).symm)
  rename' x0 => a, x1 => b
  sl_unfold_words
  refine (pay1_at _ _ _ _ a b).trans ?_
  show _ = modded _ _ _ _ b
  have e2 : ∀ e : Fin 2048, _ = arg2.view.read (Elt Ideal) X2 (ix2 ⟨128 * k.val + a.val, by omega⟩ e) := fun e =>
    congrArg (arg2.view.read (Elt Ideal) X2) (emb_band (k0_off1 k) (128 * k.val) (off1_eq k) (k0_off1_inb i k k0_h1) a e (by omega))
  congr 1
  · funext e; exact e2 e
  · funext e; exact congrFun (View.ld_unit_lit (S := S1x2048) _ (arg3.view.read (Elt Ideal) X3) (by decide)) _
  · funext e; exact congrFun (View.ld_unit_lit (S := S1x1x2048) _ (arg4.view.read (Elt Ideal) X4) (by decide)) _
  · funext e; exact congrFun (View.ld_unit_lit (S := S1x1x2048) _ (arg5.view.read (Elt Ideal) X5) (by decide)) _

/-- Every piece the loop has stored is a band of the modulated rows. -/
theorem bands (n : ℕ) (hn : n ≤ k0_t1_loop.trips) :
    ∀ p ∈ pb_k0_t1 (F := Ideal) 𝒱 c bd i arg2 harg2 arg3 harg3 arg4 harg4 arg5 harg5 arg6 harg6 arg7 harg7 arg8 harg8 k0_h1 X2 X3 X4 X5 n, ∀ x : p.1.shape.Idx,
      p.2 x = rows (arg2.view.read (Elt Ideal) X2) (arg3.view.read (Elt Ideal) X3) (arg4.view.read (Elt Ideal) X4) (arg5.view.read (Elt Ideal) X5) (p.1.emb x) := by
  induction n with
  | zero => intro p hp; rw [pb_k0_t1] at hp; cases hp
  | succ n ih =>
    intro p hp
    rw [pb_k0_t1_succ (k := ⟨n, hn⟩)] at hp
    rcases List.mem_append.mp hp with h | h
    · exact band 𝒱 c bd i arg2 harg2 arg3 harg3 arg4 harg4 arg5 harg5 arg6 harg6 arg7 harg7 arg8 harg8 k0_h1 X2 X3 X4 X5 ⟨n, hn⟩ p h
    · exact ih (Nat.le_of_succ_le hn) p h

/-- The bands tile the buffer, so a view of it that holds them reads the modulated rows. -/
theorem rows_read (v : View sig .tc .vmem S1024x2048 .bf16) (f : BufTy.Contents (Elt Ideal) v.ty) :
    v.read (Elt Ideal) (v.writes (Elt Ideal) f (pb_k0_t1 (F := Ideal) 𝒱 c bd i arg2 harg2 arg3 harg3 arg4 harg4 arg5 harg5 arg6 harg6 arg7 harg7 arg8 harg8 k0_h1 X2 X3 X4 X5 k0_t1_loop.trips))
      = rows (arg2.view.read (Elt Ideal) X2) (arg3.view.read (Elt Ideal) X3) (arg4.view.read (Elt Ideal) X4) (arg5.view.read (Elt Ideal) X5) := by
  funext y
  exact View.read_writes_apply_of_pieces _ _ _ _ (bands 𝒱 c bd i arg2 harg2 arg3 harg3 arg4 harg4 arg5 harg5 arg6 harg6 arg7 harg7 arg8 harg8 k0_h1 X2 X3 X4 X5 _ (le_refl _)) y
    (View.cover_of_tiledL (s := S1024x2048) _ S128x2048.size (by sl_kernel_rfl) y)

end

variable (x0 : FVec Ideal S1024x2048 .f32) (x1 : FVec Ideal S1x2048 .f32) (x2 x3 : FVec Ideal S1x1x2048 .f32) (x4 : FVec Ideal S2048x512 .bf16)

/-- The first point of a block of rows leaves the modulated rows in the scratch. -/
theorem scratch_first (hc0 : cond0_0 i) :
    sout0_A_0 (F := Ideal) c i arg2 harg2 arg3 harg3 arg4 harg4 arg5 harg5 arg6 harg6 arg7 harg7 arg8 harg8 hc0 x0 x1 x2 x3 x4 = rows x0 x1 x2 x3 := by
  unfold sout0_A_0 kernelRun0_A
  dsimp only
  sl_unfold_words
  refine (rows_read _ c _ i arg2 harg2 arg3 harg3 arg4 harg4 arg5 harg5 arg6 harg6 arg7 harg7 arg8 harg8 _ _ _ _ _ _ _).trans ?_
  rw [harg2.read_unread, harg3.read_unread, harg4.read_unread, harg5.read_unread]

/-- It leaves their product with the weights' columns in the output block. -/
theorem out_first (hc0 : cond0_0 i) :
    out0_A_5 (F := Ideal) c i arg2 harg2 arg3 harg3 arg4 harg4 arg5 harg5 arg6 harg6 arg7 harg7 arg8 harg8 hc0 x0 x1 x2 x3 x4 = k0_pay2 (F := Ideal) (rows x0 x1 x2 x3) x4 := by
  unfold out0_A_5
  rw [View.read_writes_junk_eq_canon]
  unfold kernelRun0_A
  dsimp only
  sl_unfold_words
  rw [View.canon_cons_unit_lit (S := S1024x512) _ _ _ (by decide)]
  refine congrArg₂ (k0_pay2 (F := Ideal)) ?_ ?_
  · refine (View.ld_unit_lit (S := S1024x2048) _ _ (by decide)).trans ?_
    refine (rows_read _ c _ i arg2 harg2 arg3 harg3 arg4 harg4 arg5 harg5 arg6 harg6 arg7 harg7 arg8 harg8 _ _ _ _ _ _ _).trans ?_
    rw [harg2.read_unread, harg3.read_unread, harg4.read_unread, harg5.read_unread]
  · exact (View.ld_unit_lit (S := S2048x512) _ _ (by decide)).trans (harg6.read_unread _)

/-- The other points leave the product of the scratch's rows. -/
theorem out_later (hc0 : ¬cond0_0 i) (xs : FVec Ideal S1024x2048 .bf16) :
    out0_B_5 (F := Ideal) c i arg2 harg2 arg3 harg3 arg4 harg4 arg5 harg5 arg6 harg6 arg7 harg7 arg8 harg8 hc0 x0 x1 x2 x3 x4 xs = k0_pay2 (F := Ideal) xs x4 := by
  unfold out0_B_5
  rw [View.read_writes_junk_eq_canon]
  unfold kernelRun0_B
  dsimp only
  sl_unfold_words
  rw [View.canon_cons_unit_lit (S := S1024x512) _ _ _ (by decide)]
  refine congrArg₂ (k0_pay2 (F := Ideal)) ?_ ?_
  · exact (View.ld_unit_lit (S := S1024x2048) _ _ (by decide)).trans (harg8.read_unread _)
  · exact (View.ld_unit_lit (S := S2048x512) _ _ (by decide)).trans (harg6.read_unread _)

end

end Cert.Kernel2Ideal.In

end
-- ==== Proof.In2.Value.lean ====
/-
  The array of the wide input projection: its blocks are the products of the modulated rows and the weights, and so is the
  reference.
-/
module

public import proofs.«01_k».proof.Proof.In2.Body
public import proofs.«01_k».proof.Proof.Gen.Reference2Ideal.Run
public import Idealize.ShloMosaic.Lib.StableHlo.ReadAt

@[expose] public section

set_option maxRecDepth 16384

noncomputable section

namespace Cert.Kernel2Ideal.In

open Idealize.ShloMosaic Idealize.ShloMosaic.TcCoe Idealize.ShloMosaic.Tactic Idealize.SL.Sem
open Cert.Kernel2Ideal Cert.Kernel2Ideal.Gen Cert.Kernel2Ideal.Value Cert.In

variable (m : (ℓ : Loc nD τ sig) → Buf (Elt Ideal) ℓ) (c : Dev nD)

/-! ## What the host hands the kernel -/

theorem x_at (r : Fin 16384) (d : Fin 2048) :
    (V m c main_v0 (ix2 r d) : EReal) = m ((c : Thread nD τ).loc main_arg0) (ix3 (⟨r.val / 2048, by omega⟩ : Fin 8) (⟨r.val % 2048, by omega⟩ : Fin 2048) d) := by
  unfold V
  after_reads_at

theorem shift_at (b : Fin 8) (z : Fin 1) (d : Fin 2048) : (V m c main_v1 (ix3 b z d) : EReal) = m ((c : Thread nD τ).loc main_arg2) (ix2 b d) := by
  unfold V
  after_reads_at

theorem scale_at (b : Fin 8) (z : Fin 1) (d : Fin 2048) : (V m c main_v2 (ix3 b z d) : EReal) = m ((c : Thread nD τ).loc main_arg3) (ix2 b d) := by
  unfold V
  after_reads_at

theorem w_at (d : Fin 2048) (n : Fin 6656) : (V m c main_v3 (ix2 d n) : EReal) = m ((c : Thread nD τ).loc main_arg4) (ix2 d n) := by
  unfold V
  after_reads_at

theorem gain_at (z : Fin 1) (d : Fin 2048) : (V m c main_v4 (ix2 z d) : EReal) = m ((c : Thread nD τ).loc main_arg1) (ix1 d) := by
  unfold V
  after_reads_at

/-! ## The blocks of the windows -/

theorem at0 : ∀ t : Fin cfg0.N, win0_0.index t = ![t.val / 13, 0] := (by decide +kernel : ∀ t : Fin grid0.N, win0_0.index t = ![t.val / 13, 0])
theorem at1 : ∀ t : Fin cfg0.N, win0_1.index t = ![0, 0] := (by decide +kernel : ∀ t : Fin grid0.N, win0_1.index t = ![0, 0])
theorem at2 : ∀ t : Fin cfg0.N, win0_2.index t = ![t.val / 26, 0, 0] := (by decide +kernel : ∀ t : Fin grid0.N, win0_2.index t = ![t.val / 26, 0, 0])
theorem at3 : ∀ t : Fin cfg0.N, win0_3.index t = ![t.val / 26, 0, 0] := (by decide +kernel : ∀ t : Fin grid0.N, win0_3.index t = ![t.val / 26, 0, 0])
theorem at4 : ∀ t : Fin cfg0.N, win0_4.index t = ![0, t.val % 13] := (by decide +kernel : ∀ t : Fin grid0.N, win0_4.index t = ![0, t.val % 13])

theorem lt_N (t : Fin cfg0.N) : t.val < 208 := lt_of_lt_of_eq t.isLt N_0

theorem blk0_at (t : Fin cfg0.N) (a : Fin 1024) (d : Fin 2048) :
    iblk m c 0 t (ix2 a d) = V m c main_v0 (ix2 (⟨1024 * (t.val / 13) + a.val, by have := lt_N t; omega⟩ : Fin 16384) d) := by
  refine congrArg (V m c main_v0) ?_
  have h0 : win0_0.index t (0 : Fin 2) = t.val / 13 := congrFun (at0 t) 0
  have h1 : win0_0.index t (1 : Fin 2) = 0 := congrFun (at0 t) 1
  funext i; apply Fin.ext
  match i with
  | ⟨0, _⟩ => show win0_0.index t (0 : Fin 2) * 1024 + 1 * a.val = 1024 * (t.val / 13) + a.val; omega
  | ⟨1, _⟩ => show win0_0.index t (1 : Fin 2) * 2048 + 1 * d.val = d.val; omega

theorem blk1_at (t : Fin cfg0.N) (z : Fin 1) (d : Fin 2048) : iblk m c 1 t (ix2 z d) = V m c main_v4 (ix2 z d) := by
  refine congrArg (V m c main_v4) ?_
  have h0 : win0_1.index t (0 : Fin 2) = 0 := congrFun (at1 t) 0
  have h1 : win0_1.index t (1 : Fin 2) = 0 := congrFun (at1 t) 1
  funext i; apply Fin.ext
  match i with
  | ⟨0, _⟩ => show win0_1.index t (0 : Fin 2) * 1 + 1 * z.val = z.val; omega
  | ⟨1, _⟩ => show win0_1.index t (1 : Fin 2) * 2048 + 1 * d.val = d.val; omega

theorem blk2_at (t : Fin cfg0.N) (y z : Fin 1) (d : Fin 2048) :
    iblk m c 2 t (ix3 y z d) = V m c main_v1 (ix3 (⟨t.val / 26, by have := lt_N t; omega⟩ : Fin 8) z d) := by
  refine congrArg (V m c main_v1) ?_
  have h0 : win0_2.index t (0 : Fin 3) = t.val / 26 := congrFun (at2 t) 0
  have h1 : win0_2.index t (1 : Fin 3) = 0 := congrFun (at2 t) 1
  have h2 : win0_2.index t (2 : Fin 3) = 0 := congrFun (at2 t) 2
  funext i; apply Fin.ext
  match i with
  | ⟨0, _⟩ => show win0_2.index t (0 : Fin 3) * 1 + 1 * y.val = t.val / 26; omega
  | ⟨1, _⟩ => show win0_2.index t (1 : Fin 3) * 1 + 1 * z.val = z.val; omega
  | ⟨2, _⟩ => show win0_2.index t (2 : Fin 3) * 2048 + 1 * d.val = d.val; omega

theorem blk3_at (t : Fin cfg0.N) (y z : Fin 1) (d : Fin 2048) :
    iblk m c 3 t (ix3 y z d) = V m c main_v2 (ix3 (⟨t.val / 26, by have := lt_N t; omega⟩ : Fin 8) z d) := by
  refine congrArg (V m c main_v2) ?_
  have h0 : win0_3.index t (0 : Fin 3) = t.val / 26 := congrFun (at3 t) 0
  have h1 : win0_3.index t (1 : Fin 3) = 0 := congrFun (at3 t) 1
  have h2 : win0_3.index t (2 : Fin 3) = 0 := congrFun (at3 t) 2
  funext i; apply Fin.ext
  match i with
  | ⟨0, _⟩ => show win0_3.index t (0 : Fin 3) * 1 + 1 * y.val = t.val / 26; omega
  | ⟨1, _⟩ => show win0_3.index t (1 : Fin 3) * 1 + 1 * z.val = z.val; omega
  | ⟨2, _⟩ => show win0_3.index t (2 : Fin 3) * 2048 + 1 * d.val = d.val; omega

theorem blk4_at (t : Fin cfg0.N) (d : Fin 2048) (b : Fin 512) :
    iblk m c 4 t (ix2 d b) = V m c main_v3 (ix2 d (⟨512 * (t.val % 13) + b.val, by omega⟩ : Fin 6656)) := by
  refine congrArg (V m c main_v3) ?_
  have h0 : win0_4.index t (0 : Fin 2) = 0 := congrFun (at4 t) 0
  have h1 : win0_4.index t (1 : Fin 2) = t.val % 13 := congrFun (at4 t) 1
  funext i; apply Fin.ext
  match i with
  | ⟨0, _⟩ => show win0_4.index t (0 : Fin 2) * 2048 + 1 * d.val = d.val; omega
  | ⟨1, _⟩ => show win0_4.index t (1 : Fin 2) * 512 + 1 * b.val = 512 * (t.val % 13) + b.val; omega

/-! ## The points in order -/

/-- The modulated row of batch entry `b` at position `s`, from the arguments. -/
def row (b : Fin 8) (s : Fin 2048) : Fin 2048 → EReal :=
  modded (fun d => m ((c : Thread nD τ).loc main_arg0) (ix3 b s d)) (fun d => m ((c : Thread nD τ).loc main_arg1) (ix1 d))
    (fun d => m ((c : Thread nD τ).loc main_arg2) (ix2 b d)) (fun d => m ((c : Thread nD τ).loc main_arg3) (ix2 b d))

theorem rows_at (t : Fin cfg0.N) (a : Fin 1024) (d : Fin 2048) :
    rows (iblk m c 0 t) (iblk m c 1 t) (iblk m c 2 t) (iblk m c 3 t) (ix2 a d)
      = row m c (⟨t.val / 26, by have := lt_N t; omega⟩ : Fin 8) (⟨(1024 * (t.val / 13) + a.val) % 2048, by omega⟩ : Fin 2048) d := by
  show modded _ _ _ _ d = modded _ _ _ _ d
  congr 1
  · funext e
    refine (blk0_at m c t a e).trans ((x_at m c _ e).trans (congrArg (m ((c : Thread nD τ).loc main_arg0)) ?_))
    congr 1
    exact Fin.ext (by show (1024 * (t.val / 13) + a.val) / 2048 = t.val / 26; omega)
  · funext e; exact (blk1_at m c t 0 e).trans (gain_at m c 0 e)
  · funext e; exact (blk2_at m c t 0 0 e).trans (shift_at m c _ 0 e)
  · funext e; exact (blk3_at m c t 0 0 e).trans (scale_at m c _ 0 e)

/-- After a point the scratch holds the modulated rows of the point's block of rows. -/
theorem scratch_at (n : ℕ) : ∀ (hn : n < cfg0.N) (a : Fin 1024) (d : Fin 2048),
    ((outsAt0 m c n hn).2 (ix2 a d) : EReal)
      = row m c (⟨n / 26, by have := lt_N ⟨n, hn⟩; simp only at this; omega⟩ : Fin 8) (⟨(1024 * (n / 13) + a.val) % 2048, by omega⟩ : Fin 2048) d := by
  induction n with
  | zero =>
    intro hn a d
    rw [show outsAt0 m c 0 hn = _ from outsAt0_A m c ⟨0, hn⟩ (Nat.zero_mod _)]
    exact (congrFun (scratch_first c _ _ _ _ _ _ _ _ _ _ _ _ _ _ _ _ _ _ _ _ _) _).trans (rows_at m c ⟨0, hn⟩ a d)
  | succ n ih =>
    intro hn a d
    by_cases h : (n + 1) % 13 = 0
    · rw [show outsAt0 m c (n + 1) hn = _ from outsAt0_A m c ⟨n + 1, hn⟩ h]
      exact (congrFun (scratch_first c _ _ _ _ _ _ _ _ _ _ _ _ _ _ _ _ _ _ _ _ _) _).trans (rows_at m c ⟨n + 1, hn⟩ a d)
    · rw [show outsAt0 m c (n + 1) hn = _ from outsAt0_B m c ⟨n + 1, hn⟩ h]
      refine (ih (Nat.lt_of_succ_lt hn) a d).trans ?_
      have h1 : n / 26 = (n + 1) / 26 := by omega
      have h2 : n / 13 = (n + 1) / 13 := by omega
      simp only [h1, h2]

/-- A point leaves in the output block the product of the scratch's rows and its columns of the weights. -/
theorem out_eq (t : Fin cfg0.N) : (outsAt0 m c t.val t.isLt).1 = k0_pay2 (F := Ideal) (outsAt0 m c t.val t.isLt).2 (iblk m c 4 t) := by
  by_cases h : t.val % 13 = 0
  · rw [outsAt0_A m c t h]
    dsimp only
    rw [out_first, scratch_first]
  · rw [outsAt0_B m c t h]
    dsimp only
    rw [out_later, sout0_B_0]

theorem out_at (t : Fin cfg0.N) (a : Fin 1024) (b : Fin 512) :
    ((outsAt0 m c t.val t.isLt).1 (ix2 a b) : EReal)
      = ∑ d : Fin 2048, row m c (⟨t.val / 26, by have := lt_N t; omega⟩ : Fin 8) (⟨(1024 * (t.val / 13) + a.val) % 2048, by omega⟩ : Fin 2048) d
          * m ((c : Thread nD τ).loc main_arg4) (ix2 d (⟨512 * (t.val % 13) + b.val, by omega⟩ : Fin 6656)) := by
  rw [out_eq m c t]
  refine (pay2_at _ _ a b).trans (Finset.sum_congr rfl fun d _ => ?_)
  rw [scratch_at m c t.val t.isLt a d, blk4_at m c t d b, w_at m c d]

/-- The array the kernel leaves. -/
theorem array_at (r : Fin 16384) (n : Fin 6656) :
    (G5 m c (ix2 r n) : EReal)
      = ∑ d : Fin 2048, row m c (⟨r.val / 2048, by omega⟩ : Fin 8) (⟨r.val % 2048, by omega⟩ : Fin 2048) d * m ((c : Thread nD τ).loc main_arg4) (ix2 d n) := by
  have ht : 13 * (r.val / 1024) + n.val / 512 < cfg0.N := lt_of_lt_of_eq (by omega) N_0.symm
  have e : G5 m c (ix2 r n) = (outsAt0 m c (13 * (r.val / 1024) + n.val / 512) ht).1 (ix2 ⟨r.val % 1024, Nat.mod_lt _ (by decide)⟩ ⟨n.val % 512, Nat.mod_lt _ (by decide)⟩) := by
    unfold G5
    have hp : pt5Of (ix2 r n) = 13 * (r.val / 1024) + n.val / 512 := by
      show 13 * (r.val / 1024 - 0) + 1 * (n.val / 512 - 0) = _; omega
    rw [dif_pos (by rw [hp]; exact ht), outsAt0_sweep, fold0_congr m c _ _ _ _ hp]
    refine congrArg _ ?_
    funext a; match a with
    | ⟨0, _⟩ => rfl
    | ⟨1, _⟩ => rfl
  rw [e]
  refine (out_at m c ⟨_, ht⟩ _ _).trans (Finset.sum_congr rfl fun d _ => ?_)
  have h1 : (13 * (r.val / 1024) + n.val / 512) / 26 = r.val / 2048 := by omega
  have h2 : (1024 * ((13 * (r.val / 1024) + n.val / 512) / 13) + r.val % 1024) % 2048 = r.val % 2048 := by omega
  have h3 : 512 * ((13 * (r.val / 1024) + n.val / 512) % 13) + n.val % 512 = n.val := by omega
  simp only [h1, h2, h3]

end Cert.Kernel2Ideal.In

namespace Cert.Reference2Ideal.In

open Idealize.ShloMosaic Idealize.ShloMosaic.TcCoe Idealize.SL.Sem
open Cert.Reference2Ideal Cert.Reference2Ideal.Gen Cert.In

/-- The reference's modulated rows. -/
def hidden (x : FVec Ideal S8x2048x2048 .f32) (gain : FVec Ideal S2048 .f32) (shift scale : FVec Ideal S8x2048 .f32) : FVec Ideal S8x2048x2048 .f32 :=
  addf (mulf (mulf (mulf x (broadcastInDim S8x2048x2048 ![0, 1, 2] bcast_S8x2048x1_S8x2048x2048_0_1_2
      (Host.rsqrt (addf (Host.divf (broadcastInDim S8x2048x1 ![0, 1] bcast_S8x2048_S8x2048x1_0_1
          (Host.reduceAdd (mulf x x) (constant S_ .f32 0x00000000#32) reducesTo_S8x2048x2048_S8x2048_d2 h_S_))
        (broadcastInDim S8x2048x1 ![] bcast_S_S8x2048x1 (constant S_ .f32 0x45000000#32))) (broadcastInDim S8x2048x1 ![] bcast_S_S8x2048x1 (constant S_ .f32 0x358637BD#32))))))
      (broadcastInDim S8x2048x2048 ![0, 1, 2] bcast_S1x1x2048_S8x2048x2048_0_1_2 (broadcastInDim S1x1x2048 ![2] bcast_S2048_S1x1x2048_2 gain)))
      (broadcastInDim S8x2048x2048 ![0, 1, 2] bcast_S8x1x2048_S8x2048x2048_0_1_2 (addf (broadcastInDim S8x1x2048 ![] bcast_S_S8x1x2048 (constant S_ .f32 0x3F800000#32))
        (broadcastInDim S8x1x2048 ![0, 2] bcast_S8x2048_S8x1x2048_0_2 scale))))
    (broadcastInDim S8x2048x2048 ![0, 1, 2] bcast_S8x1x2048_S8x2048x2048_0_1_2 (broadcastInDim S8x1x2048 ![0, 2] bcast_S8x2048_S8x1x2048_0_2 shift))

/-- The reference's result from its modulated rows. -/
def project (h : FVec Ideal S8x2048x2048 .f32) (w : FVec Ideal S2048x6656 .f32) : FVec Ideal S16384x6656 .f32 :=
  shapeCast _ (Host.dotGeneral (F := Ideal) dot_S8x2048x2048_S2048x6656_S8x2048x6656_2_0_01_1_n_n none h w) shapeCasts_S8x2048x6656_S16384x6656

theorem hidden_at (x : FVec Ideal S8x2048x2048 .f32) (gain : FVec Ideal S2048 .f32) (shift scale : FVec Ideal S8x2048 .f32) (b : Fin 8) (s d : Fin 2048) :
    (hidden x gain shift scale (ix3 b s d) : EReal)
      = modded (fun e => x (ix3 b s e)) (fun e => gain (ix1 e)) (fun e => shift (ix2 b e)) (fun e => scale (ix2 b e)) d := by
  pointwise [hidden, modded]

theorem project_at (h : FVec Ideal S8x2048x2048 .f32) (w : FVec Ideal S2048x6656 .f32) (r : Fin 16384) (n : Fin 6656) :
    (project h w (ix2 r n) : EReal) = ∑ d : Fin 2048, h (ix3 (⟨r.val / 2048, by omega⟩ : Fin 8) (⟨r.val % 2048, by omega⟩ : Fin 2048) d) * w (ix2 d n) := by
  pointwise [project]

end Cert.Reference2Ideal.In

namespace Cert.In

open Idealize.ShloMosaic Idealize.ShloMosaic.TcCoe Idealize.SL.Sem

/-- The reference's array is the kernel's. -/
theorem result2_eq (m : (ℓ : Loc Cert.Kernel2Ideal.nD Cert.Kernel2Ideal.τ Cert.Kernel2Ideal.sig) → Buf (Elt Ideal) ℓ)
    (x : FVec Ideal Cert.Reference2Ideal.S8x2048x2048 .f32) (gain : FVec Ideal Cert.Reference2Ideal.S2048 .f32)
    (shift scale : FVec Ideal Cert.Reference2Ideal.S8x2048 .f32) (w : FVec Ideal Cert.Reference2Ideal.S2048x6656 .f32) (c : Dev Cert.Kernel2Ideal.nD)
    (h0 : x = m ((c : Thread Cert.Kernel2Ideal.nD Cert.Kernel2Ideal.τ).loc Cert.Kernel2Ideal.main_arg0))
    (h1 : gain = m ((c : Thread Cert.Kernel2Ideal.nD Cert.Kernel2Ideal.τ).loc Cert.Kernel2Ideal.main_arg1))
    (h2 : shift = m ((c : Thread Cert.Kernel2Ideal.nD Cert.Kernel2Ideal.τ).loc Cert.Kernel2Ideal.main_arg2))
    (h3 : scale = m ((c : Thread Cert.Kernel2Ideal.nD Cert.Kernel2Ideal.τ).loc Cert.Kernel2Ideal.main_arg3))
    (h4 : w = m ((c : Thread Cert.Kernel2Ideal.nD Cert.Kernel2Ideal.τ).loc Cert.Kernel2Ideal.main_arg4)) :
    Cert.Reference2Ideal.In.project (Cert.Reference2Ideal.In.hidden x gain shift scale) w = Cert.Kernel2Ideal.Value.G5 m c := by
  subst h0 h1 h2 h3 h4
  funext y
  change Cert.Reference2Ideal.S16384x6656.Idx at y
  idx_vars y
  refine (Cert.Reference2Ideal.In.project_at _ _ _ _).trans (Eq.trans ?_ (Cert.Kernel2Ideal.In.array_at m c _ _).symm)
  exact Finset.sum_congr rfl fun d _ => congrArg (· * _) (Cert.Reference2Ideal.In.hidden_at _ _ _ _ _ _ _)

end Cert.In

end
-- ==== Proof.In3.Body.lean ====
/-
  What a grid point of the narrow input projection leaves: the first point of a block of rows stores the block's modulated
  rows, and every point stores the product of those rows and its columns of the weights.
-/
module

public import proofs.«01_k».proof.Proof.In2.Body
public import proofs.«01_k».proof.Proof.Gen.Kernel3Ideal.Value
public import Idealize.ShloMosaic.Lib.Pipeline.ValueKit

@[expose] public section

set_option maxRecDepth 16384

noncomputable section

namespace Cert.Kernel3Ideal.In

open Idealize.ShloMosaic Idealize.ShloMosaic.TcCoe Idealize.ShloMosaic.Tactic Idealize.SL.Sem
open Cert.Kernel3Ideal Cert.Kernel3Ideal.Gen Cert.In
open Cert.Kernel2Ideal.In (rows emb_band)

theorem pay1_at (x : FVec Ideal S128x2048 .f32) (gain : FVec Ideal S1x2048 .f32) (shift scale : FVec Ideal S1x1x2048 .f32) (a : Fin 128) (d : Fin 2048) :
    k0_pay1 (F := Ideal) x gain shift scale (ix2 a d)
      = modded (fun e => x (ix2 a e)) (fun e => gain (ix2 0 e)) (fun e => shift (ix3 0 0 e)) (fun e => scale (ix3 0 0 e)) d :=
  Cert.Kernel2Ideal.In.pay1_at x gain shift scale a d

theorem pay2_at (h : FVec Ideal S1024x2048 .bf16) (w : FVec Ideal S2048x1024 .bf16) (a : Fin 1024) (b : Fin 1024) :
    k0_pay2 (F := Ideal) h w (ix2 a b) = ∑ d : Fin 2048, h (ix2 a d) * w (ix2 d b) := by
  pointwise [k0_pay2]

theorem off1_eq : ∀ k : Fin k0_t1_loop.trips, k0_off1 k = ![128 * k.val, 0] := by decide +kernel

section
variable (𝒱 : Variants) (c : Dev nD) (bd : Option 𝒱.V) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x1024 .bf16) (harg6 : arg6.IsWhole) (arg7 : Memref sig .tc .vmem S1024x1024 .f32) (harg7 : arg7.IsWhole)
  (arg8 : Memref sig .tc .vmem S1024x2048 .bf16) (harg8 : arg8.IsWhole)

section
variable (k0_h1 : k0_cond1 i = 1#1) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)

/-- A trip stores one band of the modulated rows. -/
theorem band (k : Fin k0_t1_loop.trips) :
    ∀ p ∈ tripL_k0_t1 (F := Ideal) 𝒱 c bd i arg2 harg2 arg3 harg3 arg4 harg4 arg5 harg5 arg6 harg6 arg7 harg7 arg8 harg8 k0_h1 X2 X3 X4 X5 k, ∀ x : p.1.shape.Idx,
      p.2 x = rows (arg2.view.read (Elt Ideal) X2) (arg3.view.read (Elt Ideal) X3) (arg4.view.read (Elt Ideal) X4) (arg5.view.read (Elt Ideal) X5) (p.1.emb x) := by
  unfold tripL_k0_t1 trip_k0_t1
  dsimp only
  intro p hp x
  obtain rfl := List.mem_singleton.mp hp
  dsimp only at x ⊢
  change S128x2048.Idx at x
  idx_vars x
  have hk : k.val < 8 := Nat.lt_of_lt_of_le k.isLt k0_t1_abs.2.1
  refine Eq.trans ?_ (congrArg (rows _ _ _ _) (emb_band (k0_off1 k) (128 * k.val) (off1_eq k) _ _ _ (by omega)).symm)
  rename' x0 => a, x1 => b
  sl_unfold_words
  refine (pay1_at _ _ _ _ a b).trans ?_
  show _ = modded _ _ _ _ b
  have e2 : ∀ e : Fin 2048, _ = arg2.view.read (Elt Ideal) X2 (ix2 ⟨128 * k.val + a.val, by omega⟩ e) := fun e =>
    congrArg (arg2.view.read (Elt Ideal) X2) (emb_band (k0_off1 k) (128 * k.val) (off1_eq k) (k0_off1_inb i k k0_h1) a e (by omega))
  congr 1
  · funext e; exact e2 e
  · funext e; exact congrFun (View.ld_unit_lit (S := S1x2048) _ (arg3.view.read (Elt Ideal) X3) (by decide)) _
  · funext e; exact congrFun (View.ld_unit_lit (S := S1x1x2048) _ (arg4.view.read (Elt Ideal) X4) (by decide)) _
  · funext e; exact congrFun (View.ld_unit_lit (S := S1x1x2048) _ (arg5.view.read (Elt Ideal) X5) (by decide)) _

/-- Every piece the loop has stored is a band of the modulated rows. -/
theorem bands (n : ℕ) (hn : n ≤ k0_t1_loop.trips) :
    ∀ p ∈ pb_k0_t1 (F := Ideal) 𝒱 c bd i arg2 harg2 arg3 harg3 arg4 harg4 arg5 harg5 arg6 harg6 arg7 harg7 arg8 harg8 k0_h1 X2 X3 X4 X5 n, ∀ x : p.1.shape.Idx,
      p.2 x = rows (arg2.view.read (Elt Ideal) X2) (arg3.view.read (Elt Ideal) X3) (arg4.view.read (Elt Ideal) X4) (arg5.view.read (Elt Ideal) X5) (p.1.emb x) := by
  induction n with
  | zero => intro p hp; rw [pb_k0_t1] at hp; cases hp
  | succ n ih =>
    intro p hp
    rw [pb_k0_t1_succ (k := ⟨n, hn⟩)] at hp
    rcases List.mem_append.mp hp with h | h
    · exact band 𝒱 c bd i arg2 harg2 arg3 harg3 arg4 harg4 arg5 harg5 arg6 harg6 arg7 harg7 arg8 harg8 k0_h1 X2 X3 X4 X5 ⟨n, hn⟩ p h
    · exact ih (Nat.le_of_succ_le hn) p h

/-- The bands tile the buffer, so a view of it that holds them reads the modulated rows. -/
theorem rows_read (v : View sig .tc .vmem S1024x2048 .bf16) (f : BufTy.Contents (Elt Ideal) v.ty) :
    v.read (Elt Ideal) (v.writes (Elt Ideal) f (pb_k0_t1 (F := Ideal) 𝒱 c bd i arg2 harg2 arg3 harg3 arg4 harg4 arg5 harg5 arg6 harg6 arg7 harg7 arg8 harg8 k0_h1 X2 X3 X4 X5 k0_t1_loop.trips))
      = rows (arg2.view.read (Elt Ideal) X2) (arg3.view.read (Elt Ideal) X3) (arg4.view.read (Elt Ideal) X4) (arg5.view.read (Elt Ideal) X5) := by
  funext y
  exact View.read_writes_apply_of_pieces _ _ _ _ (bands 𝒱 c bd i arg2 harg2 arg3 harg3 arg4 harg4 arg5 harg5 arg6 harg6 arg7 harg7 arg8 harg8 k0_h1 X2 X3 X4 X5 _ (le_refl _)) y
    (View.cover_of_tiledL (s := S1024x2048) _ S128x2048.size (by sl_kernel_rfl) y)

end

variable (x0 : FVec Ideal S1024x2048 .f32) (x1 : FVec Ideal S1x2048 .f32) (x2 x3 : FVec Ideal S1x1x2048 .f32) (x4 : FVec Ideal S2048x1024 .bf16)

/-- The first point of a block of rows leaves the modulated rows in the scratch. -/
theorem scratch_first (hc0 : cond0_0 i) :
    sout0_A_0 (F := Ideal) c i arg2 harg2 arg3 harg3 arg4 harg4 arg5 harg5 arg6 harg6 arg7 harg7 arg8 harg8 hc0 x0 x1 x2 x3 x4 = rows x0 x1 x2 x3 := by
  unfold sout0_A_0 kernelRun0_A
  dsimp only
  sl_unfold_words
  refine (rows_read _ c _ i arg2 harg2 arg3 harg3 arg4 harg4 arg5 harg5 arg6 harg6 arg7 harg7 arg8 harg8 _ _ _ _ _ _ _).trans ?_
  rw [harg2.read_unread, harg3.read_unread, harg4.read_unread, harg5.read_unread]

/-- It leaves their product with the weights' columns in the output block. -/
theorem out_first (hc0 : cond0_0 i) :
    out0_A_5 (F := Ideal) c i arg2 harg2 arg3 harg3 arg4 harg4 arg5 harg5 arg6 harg6 arg7 harg7 arg8 harg8 hc0 x0 x1 x2 x3 x4 = k0_pay2 (F := Ideal) (rows x0 x1 x2 x3) x4 := by
  unfold out0_A_5
  rw [View.read_writes_junk_eq_canon]
  unfold kernelRun0_A
  dsimp only
  sl_unfold_words
  rw [View.canon_cons_unit_lit (S := S1024x1024) _ _ _ (by decide)]
  refine congrArg₂ (k0_pay2 (F := Ideal)) ?_ ?_
  · refine (View.ld_unit_lit (S := S1024x2048) _ _ (by decide)).trans ?_
    refine (rows_read _ c _ i arg2 harg2 arg3 harg3 arg4 harg4 arg5 harg5 arg6 harg6 arg7 harg7 arg8 harg8 _ _ _ _ _ _ _).trans ?_
    rw [harg2.read_unread, harg3.read_unread, harg4.read_unread, harg5.read_unread]
  · exact (View.ld_unit_lit (S := S2048x1024) _ _ (by decide)).trans (harg6.read_unread _)

/-- The other points leave the product of the scratch's rows. -/
theorem out_later (hc0 : ¬cond0_0 i) (xs : FVec Ideal S1024x2048 .bf16) :
    out0_B_5 (F := Ideal) c i arg2 harg2 arg3 harg3 arg4 harg4 arg5 harg5 arg6 harg6 arg7 harg7 arg8 harg8 hc0 x0 x1 x2 x3 x4 xs = k0_pay2 (F := Ideal) xs x4 := by
  unfold out0_B_5
  rw [View.read_writes_junk_eq_canon]
  unfold kernelRun0_B
  dsimp only
  sl_unfold_words
  rw [View.canon_cons_unit_lit (S := S1024x1024) _ _ _ (by decide)]
  refine congrArg₂ (k0_pay2 (F := Ideal)) ?_ ?_
  · exact (View.ld_unit_lit (S := S1024x2048) _ _ (by decide)).trans (harg8.read_unread _)
  · exact (View.ld_unit_lit (S := S2048x1024) _ _ (by decide)).trans (harg6.read_unread _)

end

end Cert.Kernel3Ideal.In

end
-- ==== Proof.In3.Value.lean ====
/-
  The array of the narrow input projection: its blocks are the products of the modulated rows and the weights, and so is the
  reference.
-/
module

public import proofs.«01_k».proof.Proof.In3.Body
public import proofs.«01_k».proof.Proof.In2.Value
public import proofs.«01_k».proof.Proof.Gen.Reference3Ideal.Run
public import Idealize.ShloMosaic.Lib.StableHlo.ReadAt

@[expose] public section

set_option maxRecDepth 16384

noncomputable section

namespace Cert.Kernel3Ideal.In

open Idealize.ShloMosaic Idealize.ShloMosaic.TcCoe Idealize.ShloMosaic.Tactic Idealize.SL.Sem
open Cert.Kernel3Ideal Cert.Kernel3Ideal.Gen Cert.Kernel3Ideal.Value Cert.In
open Cert.Kernel2Ideal.In (rows)

variable (m : (ℓ : Loc nD τ sig) → Buf (Elt Ideal) ℓ) (c : Dev nD)

/-! ## What the host hands the kernel -/

theorem x_at (r : Fin 16384) (d : Fin 2048) :
    (V m c main_v0 (ix2 r d) : EReal) = m ((c : Thread nD τ).loc main_arg0) (ix3 (⟨r.val / 2048, by omega⟩ : Fin 8) (⟨r.val % 2048, by omega⟩ : Fin 2048) d) := by
  unfold V
  after_reads_at

theorem shift_at (b : Fin 8) (z : Fin 1) (d : Fin 2048) : (V m c main_v1 (ix3 b z d) : EReal) = m ((c : Thread nD τ).loc main_arg2) (ix2 b d) := by
  unfold V
  after_reads_at

theorem scale_at (b : Fin 8) (z : Fin 1) (d : Fin 2048) : (V m c main_v2 (ix3 b z d) : EReal) = m ((c : Thread nD τ).loc main_arg3) (ix2 b d) := by
  unfold V
  after_reads_at

theorem w_at (d : Fin 2048) (n : Fin 6144) : (V m c main_v3 (ix2 d n) : EReal) = m ((c : Thread nD τ).loc main_arg4) (ix2 d n) := by
  unfold V
  after_reads_at

theorem gain_at (z : Fin 1) (d : Fin 2048) : (V m c main_v4 (ix2 z d) : EReal) = m ((c : Thread nD τ).loc main_arg1) (ix1 d) := by
  unfold V
  after_reads_at

/-! ## The blocks of the windows -/

theorem at0 : ∀ t : Fin cfg0.N, win0_0.index t = ![t.val / 6, 0] := (by decide +kernel : ∀ t : Fin grid0.N, win0_0.index t = ![t.val / 6, 0])
theorem at1 : ∀ t : Fin cfg0.N, win0_1.index t = ![0, 0] := (by decide +kernel : ∀ t : Fin grid0.N, win0_1.index t = ![0, 0])
theorem at2 : ∀ t : Fin cfg0.N, win0_2.index t = ![t.val / 12, 0, 0] := (by decide +kernel : ∀ t : Fin grid0.N, win0_2.index t = ![t.val / 12, 0, 0])
theorem at3 : ∀ t : Fin cfg0.N, win0_3.index t = ![t.val / 12, 0, 0] := (by decide +kernel : ∀ t : Fin grid0.N, win0_3.index t = ![t.val / 12, 0, 0])
theorem at4 : ∀ t : Fin cfg0.N, win0_4.index t = ![0, t.val % 6] := (by decide +kernel : ∀ t : Fin grid0.N, win0_4.index t = ![0, t.val % 6])

theorem lt_N (t : Fin cfg0.N) : t.val < 96 := lt_of_lt_of_eq t.isLt N_0

theorem blk0_at (t : Fin cfg0.N) (a : Fin 1024) (d : Fin 2048) :
    iblk m c 0 t (ix2 a d) = V m c main_v0 (ix2 (⟨1024 * (t.val / 6) + a.val, by have := lt_N t; omega⟩ : Fin 16384) d) := by
  refine congrArg (V m c main_v0) ?_
  have h0 : win0_0.index t (0 : Fin 2) = t.val / 6 := congrFun (at0 t) 0
  have h1 : win0_0.index t (1 : Fin 2) = 0 := congrFun (at0 t) 1
  funext i; apply Fin.ext
  match i with
  | ⟨0, _⟩ => show win0_0.index t (0 : Fin 2) * 1024 + 1 * a.val = 1024 * (t.val / 6) + a.val; omega
  | ⟨1, _⟩ => show win0_0.index t (1 : Fin 2) * 2048 + 1 * d.val = d.val; omega

theorem blk1_at (t : Fin cfg0.N) (z : Fin 1) (d : Fin 2048) : iblk m c 1 t (ix2 z d) = V m c main_v4 (ix2 z d) := by
  refine congrArg (V m c main_v4) ?_
  have h0 : win0_1.index t (0 : Fin 2) = 0 := congrFun (at1 t) 0
  have h1 : win0_1.index t (1 : Fin 2) = 0 := congrFun (at1 t) 1
  funext i; apply Fin.ext
  match i with
  | ⟨0, _⟩ => show win0_1.index t (0 : Fin 2) * 1 + 1 * z.val = z.val; omega
  | ⟨1, _⟩ => show win0_1.index t (1 : Fin 2) * 2048 + 1 * d.val = d.val; omega

theorem blk2_at (t : Fin cfg0.N) (y z : Fin 1) (d : Fin 2048) :
    iblk m c 2 t (ix3 y z d) = V m c main_v1 (ix3 (⟨t.val / 12, by have := lt_N t; omega⟩ : Fin 8) z d) := by
  refine congrArg (V m c main_v1) ?_
  have h0 : win0_2.index t (0 : Fin 3) = t.val / 12 := congrFun (at2 t) 0
  have h1 : win0_2.index t (1 : Fin 3) = 0 := congrFun (at2 t) 1
  have h2 : win0_2.index t (2 : Fin 3) = 0 := congrFun (at2 t) 2
  funext i; apply Fin.ext
  match i with
  | ⟨0, _⟩ => show win0_2.index t (0 : Fin 3) * 1 + 1 * y.val = t.val / 12; omega
  | ⟨1, _⟩ => show win0_2.index t (1 : Fin 3) * 1 + 1 * z.val = z.val; omega
  | ⟨2, _⟩ => show win0_2.index t (2 : Fin 3) * 2048 + 1 * d.val = d.val; omega

theorem blk3_at (t : Fin cfg0.N) (y z : Fin 1) (d : Fin 2048) :
    iblk m c 3 t (ix3 y z d) = V m c main_v2 (ix3 (⟨t.val / 12, by have := lt_N t; omega⟩ : Fin 8) z d) := by
  refine congrArg (V m c main_v2) ?_
  have h0 : win0_3.index t (0 : Fin 3) = t.val / 12 := congrFun (at3 t) 0
  have h1 : win0_3.index t (1 : Fin 3) = 0 := congrFun (at3 t) 1
  have h2 : win0_3.index t (2 : Fin 3) = 0 := congrFun (at3 t) 2
  funext i; apply Fin.ext
  match i with
  | ⟨0, _⟩ => show win0_3.index t (0 : Fin 3) * 1 + 1 * y.val = t.val / 12; omega
  | ⟨1, _⟩ => show win0_3.index t (1 : Fin 3) * 1 + 1 * z.val = z.val; omega
  | ⟨2, _⟩ => show win0_3.index t (2 : Fin 3) * 2048 + 1 * d.val = d.val; omega

theorem blk4_at (t : Fin cfg0.N) (d : Fin 2048) (b : Fin 1024) :
    iblk m c 4 t (ix2 d b) = V m c main_v3 (ix2 d (⟨1024 * (t.val % 6) + b.val, by omega⟩ : Fin 6144)) := by
  refine congrArg (V m c main_v3) ?_
  have h0 : win0_4.index t (0 : Fin 2) = 0 := congrFun (at4 t) 0
  have h1 : win0_4.index t (1 : Fin 2) = t.val % 6 := congrFun (at4 t) 1
  funext i; apply Fin.ext
  match i with
  | ⟨0, _⟩ => show win0_4.index t (0 : Fin 2) * 2048 + 1 * d.val = d.val; omega
  | ⟨1, _⟩ => show win0_4.index t (1 : Fin 2) * 1024 + 1 * b.val = 1024 * (t.val % 6) + b.val; omega

/-! ## The points in order -/

/-- The modulated row of batch entry `b` at position `s`, from the arguments. -/
def row (b : Fin 8) (s : Fin 2048) : Fin 2048 → EReal :=
  modded (fun d => m ((c : Thread nD τ).loc main_arg0) (ix3 b s d)) (fun d => m ((c : Thread nD τ).loc main_arg1) (ix1 d))
    (fun d => m ((c : Thread nD τ).loc main_arg2) (ix2 b d)) (fun d => m ((c : Thread nD τ).loc main_arg3) (ix2 b d))

theorem rows_at (t : Fin cfg0.N) (a : Fin 1024) (d : Fin 2048) :
    rows (iblk m c 0 t) (iblk m c 1 t) (iblk m c 2 t) (iblk m c 3 t) (ix2 a d)
      = row m c (⟨t.val / 12, by have := lt_N t; omega⟩ : Fin 8) (⟨(1024 * (t.val / 6) + a.val) % 2048, by omega⟩ : Fin 2048) d := by
  show modded _ _ _ _ d = modded _ _ _ _ d
  congr 1
  · funext e
    refine (blk0_at m c t a e).trans ((x_at m c _ e).trans (congrArg (m ((c : Thread nD τ).loc main_arg0)) ?_))
    congr 1
    exact Fin.ext (by show (1024 * (t.val / 6) + a.val) / 2048 = t.val / 12; omega)
  · funext e; exact (blk1_at m c t 0 e).trans (gain_at m c 0 e)
  · funext e; exact (blk2_at m c t 0 0 e).trans (shift_at m c _ 0 e)
  · funext e; exact (blk3_at m c t 0 0 e).trans (scale_at m c _ 0 e)

/-- After a point the scratch holds the modulated rows of the point's block of rows. -/
theorem scratch_at (n : ℕ) : ∀ (hn : n < cfg0.N) (a : Fin 1024) (d : Fin 2048),
    ((outsAt0 m c n hn).2 (ix2 a d) : EReal)
      = row m c (⟨n / 12, by have := lt_N ⟨n, hn⟩; simp only at this; omega⟩ : Fin 8) (⟨(1024 * (n / 6) + a.val) % 2048, by omega⟩ : Fin 2048) d := by
  induction n with
  | zero =>
    intro hn a d
    rw [show outsAt0 m c 0 hn = _ from outsAt0_A m c ⟨0, hn⟩ (Nat.zero_mod _)]
    exact (congrFun (scratch_first c _ _ _ _ _ _ _ _ _ _ _ _ _ _ _ _ _ _ _ _ _) _).trans (rows_at m c ⟨0, hn⟩ a d)
  | succ n ih =>
    intro hn a d
    by_cases h : (n + 1) % 6 = 0
    · rw [show outsAt0 m c (n + 1) hn = _ from outsAt0_A m c ⟨n + 1, hn⟩ h]
      exact (congrFun (scratch_first c _ _ _ _ _ _ _ _ _ _ _ _ _ _ _ _ _ _ _ _ _) _).trans (rows_at m c ⟨n + 1, hn⟩ a d)
    · rw [show outsAt0 m c (n + 1) hn = _ from outsAt0_B m c ⟨n + 1, hn⟩ h]
      refine (ih (Nat.lt_of_succ_lt hn) a d).trans ?_
      have h1 : n / 12 = (n + 1) / 12 := by omega
      have h2 : n / 6 = (n + 1) / 6 := by omega
      simp only [h1, h2]

/-- A point leaves in the output block the product of the scratch's rows and its columns of the weights. -/
theorem out_eq (t : Fin cfg0.N) : (outsAt0 m c t.val t.isLt).1 = k0_pay2 (F := Ideal) (outsAt0 m c t.val t.isLt).2 (iblk m c 4 t) := by
  by_cases h : t.val % 6 = 0
  · rw [outsAt0_A m c t h]
    dsimp only
    rw [out_first, scratch_first]
  · rw [outsAt0_B m c t h]
    dsimp only
    rw [out_later, sout0_B_0]

theorem out_at (t : Fin cfg0.N) (a : Fin 1024) (b : Fin 1024) :
    ((outsAt0 m c t.val t.isLt).1 (ix2 a b) : EReal)
      = ∑ d : Fin 2048, row m c (⟨t.val / 12, by have := lt_N t; omega⟩ : Fin 8) (⟨(1024 * (t.val / 6) + a.val) % 2048, by omega⟩ : Fin 2048) d
          * m ((c : Thread nD τ).loc main_arg4) (ix2 d (⟨1024 * (t.val % 6) + b.val, by omega⟩ : Fin 6144)) := by
  rw [out_eq m c t]
  refine (pay2_at _ _ a b).trans (Finset.sum_congr rfl fun d _ => ?_)
  rw [scratch_at m c t.val t.isLt a d, blk4_at m c t d b, w_at m c d]

/-- The array the kernel leaves. -/
theorem array_at (r : Fin 16384) (n : Fin 6144) :
    (G5 m c (ix2 r n) : EReal)
      = ∑ d : Fin 2048, row m c (⟨r.val / 2048, by omega⟩ : Fin 8) (⟨r.val % 2048, by omega⟩ : Fin 2048) d * m ((c : Thread nD τ).loc main_arg4) (ix2 d n) := by
  have ht : 6 * (r.val / 1024) + n.val / 1024 < cfg0.N := lt_of_lt_of_eq (by omega) N_0.symm
  have e : G5 m c (ix2 r n) = (outsAt0 m c (6 * (r.val / 1024) + n.val / 1024) ht).1 (ix2 ⟨r.val % 1024, Nat.mod_lt _ (by decide)⟩ ⟨n.val % 1024, Nat.mod_lt _ (by decide)⟩) := by
    unfold G5
    have hp : pt5Of (ix2 r n) = 6 * (r.val / 1024) + n.val / 1024 := by
      show 6 * (r.val / 1024 - 0) + 1 * (n.val / 1024 - 0) = _; omega
    rw [dif_pos (by rw [hp]; exact ht), outsAt0_sweep, fold0_congr m c _ _ _ _ hp]
    refine congrArg _ ?_
    funext a; match a with
    | ⟨0, _⟩ => rfl
    | ⟨1, _⟩ => rfl
  rw [e]
  refine (out_at m c ⟨_, ht⟩ _ _).trans (Finset.sum_congr rfl fun d _ => ?_)
  have h1 : (6 * (r.val / 1024) + n.val / 1024) / 12 = r.val / 2048 := by omega
  have h2 : (1024 * ((6 * (r.val / 1024) + n.val / 1024) / 6) + r.val % 1024) % 2048 = r.val % 2048 := by omega
  have h3 : 1024 * ((6 * (r.val / 1024) + n.val / 1024) % 6) + n.val % 1024 = n.val := by omega
  simp only [h1, h2, h3]

end Cert.Kernel3Ideal.In

namespace Cert.Reference3Ideal.In

open Idealize.ShloMosaic Idealize.ShloMosaic.TcCoe Idealize.SL.Sem
open Cert.Reference3Ideal Cert.Reference3Ideal.Gen Cert.In

/-- The reference's result from its modulated rows. -/
def project (h : FVec Ideal S8x2048x2048 .f32) (w : FVec Ideal S2048x6144 .f32) : FVec Ideal S16384x6144 .f32 :=
  shapeCast _ (Host.dotGeneral (F := Ideal) dot_S8x2048x2048_S2048x6144_S8x2048x6144_2_0_01_1_n_n none h w) shapeCasts_S8x2048x6144_S16384x6144

theorem project_at (h : FVec Ideal S8x2048x2048 .f32) (w : FVec Ideal S2048x6144 .f32) (r : Fin 16384) (n : Fin 6144) :
    (project h w (ix2 r n) : EReal) = ∑ d : Fin 2048, h (ix3 (⟨r.val / 2048, by omega⟩ : Fin 8) (⟨r.val % 2048, by omega⟩ : Fin 2048) d) * w (ix2 d n) := by
  pointwise [project]

end Cert.Reference3Ideal.In

namespace Cert.In

open Idealize.ShloMosaic Idealize.ShloMosaic.TcCoe Idealize.SL.Sem

/-- The reference's array is the kernel's. -/
theorem result3_eq (m : (ℓ : Loc Cert.Kernel3Ideal.nD Cert.Kernel3Ideal.τ Cert.Kernel3Ideal.sig) → Buf (Elt Ideal) ℓ)
    (x : FVec Ideal Cert.Reference3Ideal.S8x2048x2048 .f32) (gain : FVec Ideal Cert.Reference3Ideal.S2048 .f32)
    (shift scale : FVec Ideal Cert.Reference3Ideal.S8x2048 .f32) (w : FVec Ideal Cert.Reference3Ideal.S2048x6144 .f32) (c : Dev Cert.Kernel3Ideal.nD)
    (h0 : x = m ((c : Thread Cert.Kernel3Ideal.nD Cert.Kernel3Ideal.τ).loc Cert.Kernel3Ideal.main_arg0))
    (h1 : gain = m ((c : Thread Cert.Kernel3Ideal.nD Cert.Kernel3Ideal.τ).loc Cert.Kernel3Ideal.main_arg1))
    (h2 : shift = m ((c : Thread Cert.Kernel3Ideal.nD Cert.Kernel3Ideal.τ).loc Cert.Kernel3Ideal.main_arg2))
    (h3 : scale = m ((c : Thread Cert.Kernel3Ideal.nD Cert.Kernel3Ideal.τ).loc Cert.Kernel3Ideal.main_arg3))
    (h4 : w = m ((c : Thread Cert.Kernel3Ideal.nD Cert.Kernel3Ideal.τ).loc Cert.Kernel3Ideal.main_arg4)) :
    Cert.Reference3Ideal.In.project (Cert.Reference2Ideal.In.hidden x gain shift scale) w = Cert.Kernel3Ideal.Value.G5 m c := by
  subst h0 h1 h2 h3 h4
  funext y
  change Cert.Reference3Ideal.S16384x6144.Idx at y
  idx_vars y
  refine (Cert.Reference3Ideal.In.project_at _ _ _ _).trans (Eq.trans ?_ (Cert.Kernel3Ideal.In.array_at m c _ _).symm)
  exact Finset.sum_congr rfl fun d _ => congrArg (· * _) (Cert.Reference2Ideal.In.hidden_at _ _ _ _ _ _ _)

end Cert.In

end
-- ==== Proof.Dn.Loops.lean ====
/-
  The four counted loops of a grid point that announces new weights: each casts one quarter of the weights' rows into the
  scratch, 256 rows a trip. What the loops leave is read off the stored pieces, which tile the scratch.
-/
module

public import proofs.«01_k».proof.Proof.Gen.Kernel4Ideal.Launch
public import proofs.«01_k».proof.Proof.Gen.Kernel4Ideal.Loops
public import proofs.«01_k».proof.Proof.Gen.Kernel4Ideal.Skeleton
public import Idealize.ShloMosaic.Lib.Pipeline.ValueKit
public import Idealize.ShloMosaic.Lib.ValueLayout
public import Idealize.ShloMosaic.Lib.Ring
public import Idealize.ShloMosaic.Lib.Pointwise

@[expose] public section

set_option maxRecDepth 16384

noncomputable section

namespace Cert.Kernel4Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (UR sig nD τ) ℕ

/-- The cast of one element to the multiplier's type. -/
abbrev narrow (x : F .f32) : F .bf16 := FloatOps.truncf .bf16 bitsLt_bf16_f32 x

/-- The weights cast for the multiplier: row `r` from the quarter that holds it. -/
def weights (q : Fin 4 → Vec F S1x1x512x1024 .f32) : Vec F S2048x1024 .bf16 := fun y =>
  narrow (q ⟨(y 0).val / 512, by have h : (y 0).val < 2048 := (y 0).isLt; omega⟩ (ix4 0 0 ⟨(y 0).val % 512, Nat.mod_lt _ (by omega)⟩ (y 1)))

theorem weights_at (q : Fin 4 → Vec F S1x1x512x1024 .f32) (p : Fin 4) (o : ℕ) (a : Fin 256) (b : Fin 1024) (ho : o + a.val < 512) (h : 512 * p.val + o + a.val < 2048) :
    narrow (q p (ix4 0 0 ⟨o + a.val, ho⟩ b)) = weights q (ix2 ⟨512 * p.val + o + a.val, h⟩ b) := by
  unfold weights
  have h1 : (⟨(512 * p.val + o + a.val) / 512, by omega⟩ : Fin 4) = p := Fin.ext (by show (512 * p.val + o + a.val) / 512 = p.val; omega)
  have h2 : (⟨(512 * p.val + o + a.val) % 512, Nat.mod_lt _ (by omega)⟩ : Fin 512) = ⟨o + a.val, ho⟩ := Fin.ext (by show (512 * p.val + o + a.val) % 512 = o + a.val; omega)
  show _ = narrow (q ⟨(512 * p.val + o + a.val) / 512, _⟩ (ix4 0 0 ⟨(512 * p.val + o + a.val) % 512, _⟩ b))
  rw [h1, h2]

/-- 256 rows of the scratch, placed. -/
theorem emb_rows (off : Fin 2 → ℕ) (o : ℕ) (h : off = ![o, 0]) (inb : ∀ a, off a + S256x1024.size a ≤ S2048x1024.size a) (a : Fin 256) (b : Fin 1024) (ho : o + a.val < 2048) :
    (Rect.unit (s := S2048x1024) off S256x1024.size inb).emb (ix2 a b) = ix2 ⟨o + a.val, ho⟩ b := by
  subst h
  funext i
  refine Fin.cases ?_ (fun j => Fin.cases ?_ (fun j => j.elim0) j) i
  · apply Fin.ext; show o + 1 * a.val = o + a.val; omega
  · apply Fin.ext; show 0 + 1 * b.val = b.val; omega

/-- 256 rows of a quarter of the weights, as a trip loads them. -/
abbrev part (M : Memref sig .tc .vmem S1x1x512x1024 .f32) (X : BufTy.Contents (Elt F) M.view.ty) (off : Fin 2 → ℕ) (inb : ∀ a, off a + S256x1024.size a ≤ S512x1024.size a) : Vec F S256x1024 .f32 :=
  View.readAt (Elt F) ((M.slice (Rect.unit (s := S1x1x512x1024) ![0, 0, 0, 0] S1x1x512x1024.size inb_S1x1x512x1024_S1x1x512x1024_0_0_0_0) (fun _ => rfl)).squeeze S512x1024 squeezes_S1x1x512x1024_S512x1024).view
    (Rect.unit (s := S512x1024) off S256x1024.size inb).toLoadRect X

/-- What a trip stores: 256 rows, cast, at their place in the scratch. -/
abbrev piece (off : Fin 2 → ℕ) (inb : ∀ a, off a + S256x1024.size a ≤ S2048x1024.size a) (v : Vec F S256x1024 .bf16) : View.Piece (Elt F) S2048x1024 .bf16 :=
  ⟨Rect.unit (s := S2048x1024) off S256x1024.size inb, v⟩

/-- The pieces of the trips before trip `k`, last first. -/
def upTo {n : ℕ} {A : Type} (L : Fin n → A) : ℕ → List A
  | 0 => []
  | k + 1 => if h : k < n then L ⟨k, h⟩ :: upTo L k else upTo L k

theorem upTo_succ {n : ℕ} {A : Type} (L : Fin n → A) (k : Fin n) : upTo L (k.val + 1) = [L k] ++ upTo L k.val := by
  show (if h : k.val < n then _ else _) = _
  rw [dif_pos k.isLt]; rfl

theorem of_mem_upTo {n : ℕ} {A : Type} (L : Fin n → A) (k : ℕ) (x : A) (h : x ∈ upTo L k) : ∃ j, x = L j := by
  induction k with
  | zero => cases h
  | succ k ih =>
    unfold upTo at h
    split at h
    · rcases List.mem_cons.mp h with h | h
      · exact ⟨_, h⟩
      · exact ih h
    · exact ih h

/-- A vector buffer's memref held at the contents `f`. -/
abbrev heldAt (c : Dev nD) {S : Shape} {e : EltTy} (M : Memref sig .tc .vmem S e) (f : BufTy.Contents (Elt F) M.view.ty) : sProp 𝕄 :=
  M.view.loc (c : Thread nD τ) ↦[M.view.set]{fullShare} f

theorem trips1 : k0_t1_loop.trips = 2 := by decide +kernel
theorem load1_off : ∀ k : Fin k0_t1_loop.trips, k0_off6 k = ![256 * k.val, 0] := by decide +kernel
theorem store1_off : ∀ k : Fin k0_t1_loop.trips, k0_off7 k = ![0 + 256 * k.val, 0] := by decide +kernel

/-- What trip `k` of loop 1 stores. -/
abbrev rows1 (M : Memref sig .tc .vmem S1x1x512x1024 .f32) (X : BufTy.Contents (Elt F) M.view.ty) (k : Fin k0_t1_loop.trips) : View.Piece (Elt F) S2048x1024 .bf16 :=
  piece (k0_off7 k) (k0_off7_inb k) (k0_pay1 (part M X (k0_off6 k) (k0_off6_inb k)))

theorem trips2 : k0_t2_loop.trips = 2 := by decide +kernel
theorem load2_off : ∀ k : Fin k0_t2_loop.trips, k0_off8 k = ![256 * k.val, 0] := by decide +kernel
theorem store2_off : ∀ k : Fin k0_t2_loop.trips, k0_off9 k = ![512 + 256 * k.val, 0] := by decide +kernel

/-- What trip `k` of loop 2 stores. -/
abbrev rows2 (M : Memref sig .tc .vmem S1x1x512x1024 .f32) (X : BufTy.Contents (Elt F) M.view.ty) (k : Fin k0_t2_loop.trips) : View.Piece (Elt F) S2048x1024 .bf16 :=
  piece (k0_off9 k) (k0_off9_inb k) (k0_pay2 (part M X (k0_off8 k) (k0_off8_inb k)))

theorem trips3 : k0_t3_loop.trips = 2 := by decide +kernel
theorem load3_off : ∀ k : Fin k0_t3_loop.trips, k0_off10 k = ![256 * k.val, 0] := by decide +kernel
theorem store3_off : ∀ k : Fin k0_t3_loop.trips, k0_off11 k = ![1024 + 256 * k.val, 0] := by decide +kernel

/-- What trip `k` of loop 3 stores. -/
abbrev rows3 (M : Memref sig .tc .vmem S1x1x512x1024 .f32) (X : BufTy.Contents (Elt F) M.view.ty) (k : Fin k0_t3_loop.trips) : View.Piece (Elt F) S2048x1024 .bf16 :=
  piece (k0_off11 k) (k0_off11_inb k) (k0_pay3 (part M X (k0_off10 k) (k0_off10_inb k)))

theorem trips4 : k0_t4_loop.trips = 2 := by decide +kernel
theorem load4_off : ∀ k : Fin k0_t4_loop.trips, k0_off12 k = ![256 * k.val, 0] := by decide +kernel
theorem store4_off : ∀ k : Fin k0_t4_loop.trips, k0_off13 k = ![1536 + 256 * k.val, 0] := by decide +kernel

/-- What trip `k` of loop 4 stores. -/
abbrev rows4 (M : Memref sig .tc .vmem S1x1x512x1024 .f32) (X : BufTy.Contents (Elt F) M.view.ty) (k : Fin k0_t4_loop.trips) : View.Piece (Elt F) S2048x1024 .bf16 :=
  piece (k0_off13 k) (k0_off13_inb k) (k0_pay4 (part M X (k0_off12 k) (k0_off12_inb k)))

section Loops

variable (c : Dev nD) (E : Set ℕ) (i : grid0.Coords) (arg1 : Memref sig .tc .smem S320 .i32) (harg1 : arg1.IsWhole) (arg2 : Memref sig .tc .smem S320 .i32) (harg2 : arg2.IsWhole) (arg3 : Memref sig .tc .smem S320 .i32) (harg3 : arg3.IsWhole) (arg4 : Memref sig .tc .smem S320 .i32) (harg4 : arg4.IsWhole) (arg5 : Memref sig .tc .smem S320 .i32) (harg5 : arg5.IsWhole) (arg6 : Memref sig .tc .smem S320 .i32) (harg6 : arg6.IsWhole) (arg7 : Memref sig .tc .smem S4x320 .i32) (harg7 : arg7.IsWhole) (arg8 : Memref sig .tc .smem S4x320 .i32) (harg8 : arg8.IsWhole) (arg9 : Memref sig .tc .vmem S512x2048 .bf16) (harg9 : arg9.IsWhole) (arg10 : Memref sig .tc .vmem S1x1x512x1024 .f32) (harg10 : arg10.IsWhole) (arg11 : Memref sig .tc .vmem S1x1x512x1024 .f32) (harg11 : arg11.IsWhole) (arg12 : Memref sig .tc .vmem S1x1x512x1024 .f32) (harg12 : arg12.IsWhole) (arg13 : Memref sig .tc .vmem S1x1x512x1024 .f32) (harg13 : arg13.IsWhole) (arg14 : Memref sig .tc .vmem S1x1x1024 .f32) (harg14 : arg14.IsWhole) (arg15 : Memref sig .tc .vmem S512x1024 .f32) (harg15 : arg15.IsWhole) (arg16 : Memref sig .tc .vmem S2048x1024 .bf16) (harg16 : arg16.IsWhole)

set_option warn.classDefReducibility false in
/-- Loop 1: its quarter is read, the rows of the trips so far are stored over the scratch as found. -/
@[sl_loop] def fill1 (X : BufTy.Contents (Elt F) arg10.view.ty) (G : BufTy.Contents (Elt F) arg16.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := iprop(heldAt c arg10 X ∗ ∃ f, heldAt c arg16 f ∗ ⌜f = arg16.view.writes (Elt F) G (upTo (rows1 arg10 X) k)⌝)
  step k _ := by
    iintro ⟨HX, %f, HW, %hf⟩
    unfold k0_t1_body
    sl_exec
    sl_step
    isplitl [HX]; · iexact HX
    iexists _
    isplitl [HW]; · iexact HW
    ipureintro
    rw [hf, upTo_succ, View.writes_append]; rfl

set_option warn.classDefReducibility false in
/-- Loop 2: its quarter is read, the rows of the trips so far are stored over the scratch as found. -/
@[sl_loop] def fill2 (X : BufTy.Contents (Elt F) arg11.view.ty) (G : BufTy.Contents (Elt F) arg16.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := iprop(heldAt c arg11 X ∗ ∃ f, heldAt c arg16 f ∗ ⌜f = arg16.view.writes (Elt F) G (upTo (rows2 arg11 X) k)⌝)
  step k _ := by
    iintro ⟨HX, %f, HW, %hf⟩
    unfold k0_t2_body
    sl_exec
    sl_step
    isplitl [HX]; · iexact HX
    iexists _
    isplitl [HW]; · iexact HW
    ipureintro
    rw [hf, upTo_succ, View.writes_append]; rfl

set_option warn.classDefReducibility false in
/-- Loop 3: its quarter is read, the rows of the trips so far are stored over the scratch as found. -/
@[sl_loop] def fill3 (X : BufTy.Contents (Elt F) arg12.view.ty) (G : BufTy.Contents (Elt F) arg16.view.ty) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := iprop(heldAt c arg12 X ∗ ∃ f, heldAt c arg16 f ∗ ⌜f = arg16.view.writes (Elt F) G (upTo (rows3 arg12 X) k)⌝)
  step k _ := by
    iintro ⟨HX, %f, HW, %hf⟩
    unfold k0_t3_body
    sl_exec
    sl_step
    isplitl [HX]; · iexact HX
    iexists _
    isplitl [HW]; · iexact HW
    ipureintro
    rw [hf, upTo_succ, View.writes_append]; rfl

set_option warn.classDefReducibility false in
/-- Loop 4: its quarter is read, the rows of the trips so far are stored over the scratch as found. -/
@[sl_loop] def fill4 (X : BufTy.Contents (Elt F) arg13.view.ty) (G : BufTy.Contents (Elt F) arg16.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := iprop(heldAt c arg13 X ∗ ∃ f, heldAt c arg16 f ∗ ⌜f = arg16.view.writes (Elt F) G (upTo (rows4 arg13 X) k)⌝)
  step k _ := by
    iintro ⟨HX, %f, HW, %hf⟩
    unfold k0_t4_body
    sl_exec
    sl_step
    isplitl [HX]; · iexact HX
    iexists _
    isplitl [HW]; · iexact HW
    ipureintro
    rw [hf, upTo_succ, View.writes_append]; rfl

end Loops

/-- An element of the rows a trip loads. -/
theorem part_at (M : Memref sig .tc .vmem S1x1x512x1024 .f32) (h : M.IsWhole) (x : Vec F S1x1x512x1024 .f32) (off : Fin 2 → ℕ) (o : ℕ) (e : off = ![o, 0]) (inb : ∀ a, off a + S256x1024.size a ≤ S512x1024.size a)
    (a : Fin 256) (b : Fin 1024) (ho : o + a.val < 512) : part M (h.unread x) off inb (ix2 a b) = x (ix4 0 0 ⟨o + a.val, ho⟩ b) := by
  subst e
  refine Eq.trans ?_ (congrFun (h.read_unread x) _)
  show M.view.read (Elt F) (h.unread x) _ = _
  refine congrArg _ ?_
  rw [show (Rect.unit (s := S512x1024) ![o, 0] S256x1024.size inb).idx (ix2 a b) = ix2 ⟨o + a.val, ho⟩ b from by
    funext i
    refine Fin.cases ?_ (fun j => Fin.cases ?_ (fun j => j.elim0) j) i
    · apply Fin.ext; show o + 1 * a.val = o + a.val; omega
    · apply Fin.ext; show 0 + 1 * b.val = b.val; omega]
  refine Eq.trans (congrArg _ (ValueIdx.reshapeEquiv_ix2_11ab (a := 512) (b := 1024) _ ⟨o + a.val, ho⟩ b)) ?_
  funext i
  refine Fin.cases ?_ (fun j => Fin.cases ?_ (fun j => Fin.cases ?_ (fun j => Fin.cases ?_ (fun j => j.elim0) j) j) j) i
  · exact Subsingleton.elim (α := Fin 1) _ _
  · exact Subsingleton.elim (α := Fin 1) _ _
  · apply Fin.ext; show 0 + 1 * (o + a.val) = o + a.val; omega
  · apply Fin.ext; show 0 + 1 * b.val = b.val; omega
/-- A piece of loop 1 holds its rows of the cast weights. -/
theorem rows1_at (q : Fin 4 → Vec F S1x1x512x1024 .f32) (M : Memref sig .tc .vmem S1x1x512x1024 .f32) (h : M.IsWhole) (k : Fin k0_t1_loop.trips) (x : (rows1 M (h.unread (q 0)) k).1.shape.Idx) :
    (rows1 M (h.unread (q 0)) k).2 x = weights q ((rows1 M (h.unread (q 0)) k).1.emb x) := by
  have hk : k.val < 2 := lt_of_lt_of_eq k.isLt trips1
  change S256x1024.Idx at x
  idx_vars x
  refine Eq.trans ?_ (congrArg (weights q) (emb_rows (k0_off7 k) (0 + 256 * k.val) (store1_off k) _ _ _ (by omega)).symm)
  refine Eq.trans ?_ (weights_at q 0 (256 * k.val) x0 x1 (by omega) (by show 512 * 0 + _ + _ < 2048; omega))
  unfold k0_pay1
  pointwise []
  exact congrArg narrow (part_at M h (q 0) (k0_off6 k) (256 * k.val) (load1_off k) _ x0 x1 (by omega))

/-- A piece of loop 2 holds its rows of the cast weights. -/
theorem rows2_at (q : Fin 4 → Vec F S1x1x512x1024 .f32) (M : Memref sig .tc .vmem S1x1x512x1024 .f32) (h : M.IsWhole) (k : Fin k0_t2_loop.trips) (x : (rows2 M (h.unread (q 1)) k).1.shape.Idx) :
    (rows2 M (h.unread (q 1)) k).2 x = weights q ((rows2 M (h.unread (q 1)) k).1.emb x) := by
  have hk : k.val < 2 := lt_of_lt_of_eq k.isLt trips2
  change S256x1024.Idx at x
  idx_vars x
  refine Eq.trans ?_ (congrArg (weights q) (emb_rows (k0_off9 k) (512 + 256 * k.val) (store2_off k) _ _ _ (by omega)).symm)
  refine Eq.trans ?_ (weights_at q 1 (256 * k.val) x0 x1 (by omega) (by show 512 * 1 + _ + _ < 2048; omega))
  unfold k0_pay2
  pointwise []
  exact congrArg narrow (part_at M h (q 1) (k0_off8 k) (256 * k.val) (load2_off k) _ x0 x1 (by omega))

/-- A piece of loop 3 holds its rows of the cast weights. -/
theorem rows3_at (q : Fin 4 → Vec F S1x1x512x1024 .f32) (M : Memref sig .tc .vmem S1x1x512x1024 .f32) (h : M.IsWhole) (k : Fin k0_t3_loop.trips) (x : (rows3 M (h.unread (q 2)) k).1.shape.Idx) :
    (rows3 M (h.unread (q 2)) k).2 x = weights q ((rows3 M (h.unread (q 2)) k).1.emb x) := by
  have hk : k.val < 2 := lt_of_lt_of_eq k.isLt trips3
  change S256x1024.Idx at x
  idx_vars x
  refine Eq.trans ?_ (congrArg (weights q) (emb_rows (k0_off11 k) (1024 + 256 * k.val) (store3_off k) _ _ _ (by omega)).symm)
  refine Eq.trans ?_ (weights_at q 2 (256 * k.val) x0 x1 (by omega) (by show 512 * 2 + _ + _ < 2048; omega))
  unfold k0_pay3
  pointwise []
  exact congrArg narrow (part_at M h (q 2) (k0_off10 k) (256 * k.val) (load3_off k) _ x0 x1 (by omega))

/-- A piece of loop 4 holds its rows of the cast weights. -/
theorem rows4_at (q : Fin 4 → Vec F S1x1x512x1024 .f32) (M : Memref sig .tc .vmem S1x1x512x1024 .f32) (h : M.IsWhole) (k : Fin k0_t4_loop.trips) (x : (rows4 M (h.unread (q 3)) k).1.shape.Idx) :
    (rows4 M (h.unread (q 3)) k).2 x = weights q ((rows4 M (h.unread (q 3)) k).1.emb x) := by
  have hk : k.val < 2 := lt_of_lt_of_eq k.isLt trips4
  change S256x1024.Idx at x
  idx_vars x
  refine Eq.trans ?_ (congrArg (weights q) (emb_rows (k0_off13 k) (1536 + 256 * k.val) (store4_off k) _ _ _ (by omega)).symm)
  refine Eq.trans ?_ (weights_at q 3 (256 * k.val) x0 x1 (by omega) (by show 512 * 3 + _ + _ < 2048; omega))
  unfold k0_pay4
  pointwise []
  exact congrArg narrow (part_at M h (q 3) (k0_off12 k) (256 * k.val) (load4_off k) _ x0 x1 (by omega))

/-- After the four loops the scratch reads the cast weights, whatever it held. -/
theorem weights_read (q : Fin 4 → Vec F S1x1x512x1024 .f32) (M0 M1 M2 M3 : Memref sig .tc .vmem S1x1x512x1024 .f32) (h0 : M0.IsWhole) (h1 : M1.IsWhole) (h2 : M2.IsWhole) (h3 : M3.IsWhole)
    (v : View sig .tc .vmem S2048x1024 .bf16) (G : v.ty.Contents (Elt F)) :
    v.read (Elt F) (v.writes (Elt F) G (upTo (rows4 M3 (h3.unread (q 3))) k0_t4_loop.trips ++ (upTo (rows3 M2 (h2.unread (q 2))) k0_t3_loop.trips
      ++ (upTo (rows2 M1 (h1.unread (q 1))) k0_t2_loop.trips ++ upTo (rows1 M0 (h0.unread (q 0))) k0_t1_loop.trips)))) = weights q := by
  funext y
  refine View.read_writes_apply_of_pieces v G (weights q) _ ?_ y (View.cover_of_tiledL (s := S2048x1024) _ S256x1024.size (by sl_kernel_rfl) y)
  intro p hp x
  rcases List.mem_append.mp hp with hp | hp
  · obtain ⟨k, rfl⟩ := of_mem_upTo _ _ _ hp; exact rows4_at q M3 h3 k x
  rcases List.mem_append.mp hp with hp | hp
  · obtain ⟨k, rfl⟩ := of_mem_upTo _ _ _ hp; exact rows3_at q M2 h2 k x
  rcases List.mem_append.mp hp with hp | hp
  · obtain ⟨k, rfl⟩ := of_mem_upTo _ _ _ hp; exact rows2_at q M1 h1 k x
  · obtain ⟨k, rfl⟩ := of_mem_upTo _ _ _ hp; exact rows1_at q M0 h0 k x

end Cert.Kernel4Ideal.Dn

end
-- ==== Proof.Dn.Body.lean ====
/-
  The body at one grid point: what its staging buffers and its scratch hold when it ends.
-/
module

public import proofs.«01_k».proof.Proof.Dn.Loops

@[expose] public section

set_option maxRecDepth 16384

noncomputable section

namespace Cert.Kernel4Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (UR sig nD τ) ℕ

/-- A table's buffer held at half the full share. -/
abbrev tabAt (c : Dev nD) {S : Shape} {e : EltTy} (M : Memref sig .tc .smem S e) (f : BufTy.Contents (Elt F) M.view.ty) : sProp 𝕄 :=
  M.view.loc (c : Thread nD τ) ↦{fullShare.right} f

/-- The place of a point's word in a table of one row. -/
abbrev spot (i : grid0.Coords) : S320.Idx := (Rect.unit (s := S320) (k0_off1 i) S1.size (k0_off1_inb i)).emb (Shape.Idx.first (numel1_S1.symm ▸ Nat.one_pos))
abbrev spot' (i : grid0.Coords) : S320.Idx := (Rect.unit (s := S320) (k0_off14 i) S1.size (k0_off14_inb i)).emb (Shape.Idx.first (numel1_S1.symm ▸ Nat.one_pos))

/-- The condition under which the four loops run, as the kernel computes it. -/
abbrev announces (w : BitVec 32) : BitVec 1 := Scalar.cmpi .ne (Scalar.extui (Scalar.cmpi .eq w 1#32)) (0#32 : BitVec 32)

/-- Rows 0 to 255 from the one, rows 256 to 511 from the other. -/
def halves (P Q : Vec F S256x1024 .f32) : Vec F S512x1024 .f32 := fun y =>
  if h : (y 0).val < 256 then P (ix2 ⟨(y 0).val, h⟩ (y 1)) else Q (ix2 ⟨(y 0).val - 256, by have h' : (y 0).val < 512 := (y 0).isLt; omega⟩ (y 1))

/-- The first 256 rows of a block. -/
def upper (a : Vec F S512x2048 .bf16) : Vec F S256x2048 .bf16 := fun y => a (ix2 ⟨(y 0).val, by have h : (y 0).val < 256 := (y 0).isLt; omega⟩ (y 1))

/-- What a point stores, from its two flags, its rows, the cast weights and the bias. -/
def outAt (va vb : BitVec 32) (a : Vec F S512x2048 .bf16) (w : Vec F S2048x1024 .bf16) (b : Vec F S1x1x1024 .f32) : Vec F S512x1024 .f32 :=
  if k0_cond2 vb = 1#1 then k0_pay5 a w b else if k0_cond3 va vb = 1#1 then halves (k0_pay6 (upper a) w b) k0_pay7 else k0_pay8

/-- The weights a point multiplies by: cast anew where the point announces them, else those in the scratch. -/
def castAt (first : BitVec 32) (q : Fin 4 → Vec F S1x1x512x1024 .f32) (S : Vec F S2048x1024 .bf16) : Vec F S2048x1024 .bf16 :=
  if announces first = 1#1 then weights q else S

/-- A store of the whole block is what the block then reads. -/
theorem read_block (v : View sig .tc .vmem S512x1024 .f32) (f : v.ty.Contents (Elt F)) (inb : ∀ a, (![0, 0] : Fin 2 → ℕ) a + S512x1024.size a ≤ S512x1024.size a)
    (P : FVec F S512x1024 .f32) : v.read (Elt F) (v.writes (Elt F) f [⟨Rect.unit (s := S512x1024) ![0, 0] S512x1024.size inb, P⟩]) = P := by
  funext y
  refine View.read_writes_apply_of_pieces v f P _ ?_ y (View.cover_of_tiledL (s := S512x1024) _ S512x1024.size (by sl_kernel_rfl) y)
  intro p hp x
  obtain rfl := List.mem_singleton.mp hp
  change S512x1024.Idx at x
  idx_vars x
  refine congrArg P (Eq.symm ?_)
  funext i
  refine Fin.cases ?_ (fun j => Fin.cases ?_ (fun j => j.elim0) j) i
  · apply Fin.ext; show 0 + 1 * x0.val = x0.val; omega
  · apply Fin.ext; show 0 + 1 * x1.val = x1.val; omega

/-- Half a block, placed. -/
theorem emb_half (o : ℕ) (inb : ∀ a, (![o, 0] : Fin 2 → ℕ) a + S256x1024.size a ≤ S512x1024.size a) (a : Fin 256) (b : Fin 1024) (ho : o + a.val < 512) :
    (Rect.unit (s := S512x1024) ![o, 0] S256x1024.size inb).emb (ix2 a b) = ix2 ⟨o + a.val, ho⟩ b := by
  funext i
  refine Fin.cases ?_ (fun j => Fin.cases ?_ (fun j => j.elim0) j) i
  · apply Fin.ext; show o + 1 * a.val = o + a.val; omega
  · apply Fin.ext; show 0 + 1 * b.val = b.val; omega

/-- Two stores of half a block each. -/
theorem read_halves (v : View sig .tc .vmem S512x1024 .f32) (f : v.ty.Contents (Elt F)) (inb : ∀ a, (![0, 0] : Fin 2 → ℕ) a + S256x1024.size a ≤ S512x1024.size a)
    (inb' : ∀ a, (![256, 0] : Fin 2 → ℕ) a + S256x1024.size a ≤ S512x1024.size a) (P Q : FVec F S256x1024 .f32) :
    v.read (Elt F) (v.writes (Elt F) f [⟨Rect.unit (s := S512x1024) ![256, 0] S256x1024.size inb', Q⟩, ⟨Rect.unit (s := S512x1024) ![0, 0] S256x1024.size inb, P⟩]) = halves P Q := by
  funext y
  refine View.read_writes_apply_of_pieces v f (halves P Q) _ ?_ y (View.cover_of_tiledL (s := S512x1024) _ S256x1024.size (by sl_kernel_rfl) y)
  intro p hp x
  rcases List.mem_cons.mp hp with hp | hp
  · obtain rfl := hp
    change S256x1024.Idx at x
    idx_vars x
    refine Eq.trans ?_ (congrArg (halves P Q) (emb_half 256 inb' x0 x1 (by omega))).symm
    unfold halves
    rw [dif_neg (by show ¬ 256 + x0.val < 256; omega)]
    refine congrArg Q ?_
    refine congrArg (fun z => ix2 z x1) (Fin.ext ?_)
    show x0.val = 256 + x0.val - 256
    omega
  · obtain rfl := List.mem_singleton.mp hp
    change S256x1024.Idx at x
    idx_vars x
    refine Eq.trans ?_ (congrArg (halves P Q) (emb_half 0 inb x0 x1 (by omega))).symm
    unfold halves
    rw [dif_pos (by show 0 + x0.val < 256; omega)]
    refine congrArg P ?_
    refine congrArg (fun z => ix2 z x1) (Fin.ext ?_)
    show x0.val = 0 + x0.val
    omega

/-- A load of a whole buffer. -/
theorem load_rows (a : Memref sig .tc .vmem S512x2048 .bf16) (h : a.IsWhole) (x : Vec F S512x2048 .bf16) (inb : ∀ i, (![0, 0] : Fin 2 → ℕ) i + S512x2048.size i ≤ S512x2048.size i) :
    View.readAt (Elt F) a.view (Rect.unit (s := S512x2048) ![0, 0] S512x2048.size inb).toLoadRect (h.unread x) = x := by
  rw [View.readAt_eq_ld, Memref.IsWhole.read_unread]
  exact View.ld_unit_lit (S := S512x2048) _ x (by decide)
theorem load_bias (a : Memref sig .tc .vmem S1x1x1024 .f32) (h : a.IsWhole) (x : Vec F S1x1x1024 .f32) (inb : ∀ i, (![0, 0, 0] : Fin 3 → ℕ) i + S1x1x1024.size i ≤ S1x1x1024.size i) :
    View.readAt (Elt F) a.view (Rect.unit (s := S1x1x1024) ![0, 0, 0] S1x1x1024.size inb).toLoadRect (h.unread x) = x := by
  rw [View.readAt_eq_ld, Memref.IsWhole.read_unread]
  exact View.ld_unit_lit (S := S1x1x1024) _ x (by decide)
theorem load_scratch (a : Memref sig .tc .vmem S2048x1024 .bf16) (f : BufTy.Contents (Elt F) a.view.ty) (inb : ∀ i, (![0, 0] : Fin 2 → ℕ) i + S2048x1024.size i ≤ S2048x1024.size i) :
    View.readAt (Elt F) a.view (Rect.unit (s := S2048x1024) ![0, 0] S2048x1024.size inb).toLoadRect f = a.view.read (Elt F) f := by
  rw [View.readAt_eq_ld]
  exact View.ld_unit_lit (S := S2048x1024) _ _ (by decide)
theorem load_cast (q : Fin 4 → Vec F S1x1x512x1024 .f32) (M0 M1 M2 M3 : Memref sig .tc .vmem S1x1x512x1024 .f32) (h0 : M0.IsWhole) (h1 : M1.IsWhole) (h2 : M2.IsWhole) (h3 : M3.IsWhole)
    (a : Memref sig .tc .vmem S2048x1024 .bf16) (inb : ∀ i, (![0, 0] : Fin 2 → ℕ) i + S2048x1024.size i ≤ S2048x1024.size i) :
    a.view.readCov (upTo (rows4 M3 (h3.unread (q 3))) k0_t4_loop.trips ++ (upTo (rows3 M2 (h2.unread (q 2))) k0_t3_loop.trips
      ++ (upTo (rows2 M1 (h1.unread (q 1))) k0_t2_loop.trips ++ upTo (rows1 M0 (h0.unread (q 0))) k0_t1_loop.trips)))
      (Rect.unit (s := S2048x1024) ![0, 0] S2048x1024.size inb).toLoadRect = weights q :=
  (load_scratch a _ inb).trans (weights_read q M0 M1 M2 M3 h0 h1 h2 h3 a.view _)
theorem load_upper (a : Memref sig .tc .vmem S512x2048 .bf16) (h : a.IsWhole) (x : Vec F S512x2048 .bf16) (inb : ∀ i, (![0, 0] : Fin 2 → ℕ) i + S256x2048.size i ≤ S512x2048.size i) :
    View.readAt (Elt F) a.view (Rect.unit (s := S512x2048) ![0, 0] S256x2048.size inb).toLoadRect (h.unread x) = upper x := by
  rw [View.readAt_eq_ld, Memref.IsWhole.read_unread]
  funext y
  idx_vars y
  refine congrArg x ?_
  funext i
  refine Fin.cases ?_ (fun j => Fin.cases ?_ (fun j => j.elim0) j) i
  · apply Fin.ext; show 0 + 1 * y0.val = y0.val; omega
  · apply Fin.ext; show 0 + 1 * y1.val = y1.val; omega

theorem word_eq (w : BitVec 32) : Scalar.cmpi .eq w 1#32 = if w = 1#32 then 1#1 else 0#1 := by
  by_cases h : w = 1#32
  · subst h; rw [if_pos rfl]; rfl
  · rw [if_neg h]
    show BitVec.ofBool (w == 1#32) = 0#1
    rw [beq_eq_false_iff_ne.mpr h]; rfl

theorem announces_iff (w : BitVec 32) : announces w = 1#1 ↔ w = 1#32 := by
  unfold announces; rw [word_eq]; by_cases h : w = 1#32 <;> simp [h] <;> decide

theorem cond2_iff (w : BitVec 32) : k0_cond2 w = 1#1 ↔ w = 1#32 := announces_iff w

theorem cond4_iff (w : BitVec 32) : k0_cond4 w = 1#1 ↔ w ≠ 1#32 := by
  unfold k0_cond4; dsimp only; rw [word_eq]; by_cases h : w = 1#32 <;> simp [h] <;> decide

theorem cond3_iff (va vb : BitVec 32) : k0_cond3 va vb = 1#1 ↔ va = 1#32 ∧ vb ≠ 1#32 := by
  unfold k0_cond3; dsimp only; rw [word_eq, word_eq]
  by_cases h1 : va = 1#32 <;> by_cases h2 : vb = 1#32 <;> simp [h1, h2] <;> decide

/-- Of the three stores of a point exactly one runs, where the second flag implies the first. -/
theorem cases_of (va vb : BitVec 32) (h : vb = 1#32 → va = 1#32) :
    (k0_cond2 vb = 1#1 ∧ ¬ k0_cond3 va vb = 1#1 ∧ ¬ k0_cond4 va = 1#1) ∨ (¬ k0_cond2 vb = 1#1 ∧ k0_cond3 va vb = 1#1 ∧ ¬ k0_cond4 va = 1#1)
      ∨ (¬ k0_cond2 vb = 1#1 ∧ ¬ k0_cond3 va vb = 1#1 ∧ k0_cond4 va = 1#1) := by
  rw [cond2_iff, cond3_iff, cond4_iff]
  by_cases h1 : vb = 1#32 <;> by_cases h2 : va = 1#32 <;> simp_all

theorem body (c : Dev nD) (i : grid0.Coords) (arg9 : Memref sig .tc .vmem S512x2048 .bf16) (harg9 : arg9.IsWhole) (arg10 : Memref sig .tc .vmem S1x1x512x1024 .f32) (harg10 : arg10.IsWhole) (arg11 : Memref sig .tc .vmem S1x1x512x1024 .f32) (harg11 : arg11.IsWhole) (arg12 : Memref sig .tc .vmem S1x1x512x1024 .f32) (harg12 : arg12.IsWhole) (arg13 : Memref sig .tc .vmem S1x1x512x1024 .f32) (harg13 : arg13.IsWhole) (arg14 : Memref sig .tc .vmem S1x1x1024 .f32) (harg14 : arg14.IsWhole) (arg15 : Memref sig .tc .vmem S512x1024 .f32) (harg15 : arg15.IsWhole) (arg16 : Memref sig .tc .vmem S2048x1024 .bf16) (harg16 : arg16.IsWhole)
    (first va vb : Vec F S320 .i32) (E : Set ℕ) (K : PUnit → sProp 𝕄)
    (a : Vec F S512x2048 .bf16) (q : Fin 4 → Vec F S1x1x512x1024 .f32) (b : Vec F S1x1x1024 .f32) (S : Vec F S2048x1024 .bf16)
    (hv : vb (spot' i) = 1#32 → va (spot' i) = 1#32) :
    iprop(tabAt c (Memref.whole main_arg8) first ∗ tabAt c (Memref.whole main_arg9) va ∗ tabAt c (Memref.whole main_arg10) vb
      ∗ owns (c : Thread nD τ) arg9 fullShare a ∗ owns (c : Thread nD τ) arg10 fullShare (q 0) ∗ owns (c : Thread nD τ) arg11 fullShare (q 1) ∗ owns (c : Thread nD τ) arg12 fullShare (q 2) ∗ owns (c : Thread nD τ) arg13 fullShare (q 3)
      ∗ owns (c : Thread nD τ) arg14 fullShare b ∗ (∃ d, owns (c : Thread nD τ) arg15 fullShare d) ∗ owns (c : Thread nD τ) arg16 fullShare S
      ∗ (iprop(tabAt c (Memref.whole main_arg8) first ∗ tabAt c (Memref.whole main_arg9) va ∗ tabAt c (Memref.whole main_arg10) vb
      ∗ owns (c : Thread nD τ) arg9 fullShare a ∗ owns (c : Thread nD τ) arg10 fullShare (q 0) ∗ owns (c : Thread nD τ) arg11 fullShare (q 1) ∗ owns (c : Thread nD τ) arg12 fullShare (q 2) ∗ owns (c : Thread nD τ) arg13 fullShare (q 3)
      ∗ owns (c : Thread nD τ) arg14 fullShare b ∗ owns (c : Thread nD τ) arg15 fullShare (outAt (va (spot' i)) (vb (spot' i)) a (castAt (first (spot i)) q S) b) ∗ owns (c : Thread nD τ) arg16 fullShare (castAt (first (spot i)) q S)) -∗ K ⟨⟩))
    ⊢ wp frame (wpE (defs₀ (F := F)) Variants.none c none) E (cc0_moe_dn i (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (Memref.whole main_arg12) (Memref.isWhole_whole _) arg9 harg9 arg10 harg10 arg11 harg11 arg12 harg12 arg13 harg13 arg14 harg14 arg15 harg15 arg16 harg16) K := by
  simp only [cc0_moe_dn_eq_skeleton]; unfold cc0_moe_dn_skel
  unfold owns
  iintro ⟨T1, T2, T3, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg16.eq_unread hf16
  have hK := cases_of (va (spot' i)) (vb (spot' i)) hv
  by_cases hA : announces (first (spot i)) = 1#1 <;> rcases hK with ⟨hB, hC, hD⟩ | ⟨hB, hC, hD⟩ | ⟨hB, hC, hD⟩
  all_goals
    sl_exec (disch := first | sl_exact hA | sl_exact hB | sl_exact hC | sl_exact hD)
    sl_step
    iapply Hk
    isplitl [T1]; · iexact T1
    isplitl [T2]; · iexact T2
    isplitl [T3]; · iexact T3
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; swap; · iexact H15
      ipureintro
      unfold outAt castAt
      sl_unfold_words
      first
        | (rw [if_pos hB, if_pos hA]; refine (read_block _ _ _ _).trans ?_; rw [load_rows, load_bias]; exact congrArg (fun w => k0_pay5 a w b) (load_cast q _ _ _ _ harg10 harg11 harg12 harg13 arg16 _))
        | (rw [if_pos hB, if_neg hA]; refine (read_block _ _ _ _).trans ?_; rw [load_rows, load_bias, load_scratch, Memref.IsWhole.read_unread])
        | (rw [if_neg hB, if_pos hC, if_pos hA]; refine (read_halves _ _ _ _ _ _).trans ?_; rw [load_upper, load_bias]; exact congrArg (fun w => halves (k0_pay6 (upper a) w b) k0_pay7) (load_cast q _ _ _ _ harg10 harg11 harg12 harg13 arg16 _))
        | (rw [if_neg hB, if_pos hC, if_neg hA]; refine (read_halves _ _ _ _ _ _).trans ?_; rw [load_upper, load_bias, load_scratch, Memref.IsWhole.read_unread])
        | (rw [if_neg hB, if_neg hC]; exact read_block _ _ _ _)
    · iexists _; isplitr; swap; · iexact H16
      ipureintro
      unfold castAt
      first
        | (rw [if_pos hA]; exact weights_read q _ _ _ _ harg10 harg11 harg12 harg13 _ _)
        | (rw [if_neg hA]; exact harg16.read_unread _)

end Cert.Kernel4Ideal.Dn

end
-- ==== Proof.Dn.Tables.lean ====
/-
  The tables of the call: what is relied on in them, and the blocks they name.
-/
module

public import proofs.«01_k».proof.Proof.Dn.Body

@[expose] public section

set_option maxRecDepth 16384

noncomputable section

namespace Cert.Kernel4Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

/-- What the call relies on in its tables: `rbe`, `rbv` give each of the 320 tiles of rows its expert and its flag; item `i` names
    the pair of tiles `sb i`, the half `j i` of the columns and the expert `e i`, flags a change of weights in `first i`, has the two
    tiles' flags in `va i`, `vb i`, and names in `pe`, `pj` the four parts of its weights. -/
structure Routed (rbe rbv sb j e first va vb : S320.Idx → BitVec 32) (pe pj : S4x320.Idx → BitVec 32) : Prop where
  rbe_lt : ∀ k : Fin 320, (rbe (ix1 k)).toNat < 32
  sb_lt : ∀ i : Fin 320, (sb (ix1 i)).toNat < 160
  j_lt : ∀ i : Fin 320, (j (ix1 i)).toNat < 2
  pe_lt : ∀ (p : Fin 4) (i : Fin 320), (pe (ix2 p i)).toNat < 32
  pj_lt : ∀ (p : Fin 4) (i : Fin 320), (pj (ix2 p i)).toNat < 2
  apart : ∀ i k : Fin 320, sb (ix1 i) = sb (ix1 k) → j (ix1 i) = j (ix1 k) → i = k
  expert : ∀ i k : Fin 320, k.val / 2 = (sb (ix1 i)).toNat → rbe (ix1 k) = e (ix1 i)
  first_flag : ∀ i k : Fin 320, k.val = 2 * (sb (ix1 i)).toNat → rbv (ix1 k) = va (ix1 i)
  second_flag : ∀ i k : Fin 320, k.val = 2 * (sb (ix1 i)).toNat + 1 → rbv (ix1 k) = vb (ix1 i)
  in_order : ∀ i : Fin 320, vb (ix1 i) = 1#32 → va (ix1 i) = 1#32
  starts : first (ix1 0) = 1#32
  kept : ∀ (n : ℕ) (h : n + 1 < 320), first (ix1 ⟨n + 1, h⟩) ≠ 1#32 →
    e (ix1 ⟨n + 1, h⟩) = e (ix1 ⟨n, by omega⟩) ∧ j (ix1 ⟨n + 1, h⟩) = j (ix1 ⟨n, by omega⟩)
  parts : ∀ (p : Fin 4) (i : Fin 320), first (ix1 i) = 1#32 → pe (ix2 p i) = e (ix1 i) ∧ pj (ix2 p i) = j (ix1 i)

namespace Routed

variable {rbe rbv sb j e first va vb : S320.Idx → BitVec 32} {pe pj : S4x320.Idx → BitVec 32}

theorem e_lt (h : Routed rbe rbv sb j e first va vb pe pj) (i : Fin 320) : (e (ix1 i)).toNat < 32 := by
  have hs := h.sb_lt i
  rw [← h.expert i ⟨2 * (sb (ix1 i)).toNat, by omega⟩ (by show 2 * (sb (ix1 i)).toNat / 2 = _; omega)]
  exact h.rbe_lt _

/-- The tile an item writes. -/
def tile (h : Routed rbe rbv sb j e first va vb pe pj) (i : Fin 320) : Fin 160 × Fin 2 :=
  (⟨_, h.sb_lt i⟩, ⟨_, h.j_lt i⟩)

theorem tile_injective (h : Routed rbe rbv sb j e first va vb pe pj) : Function.Injective h.tile := fun i k e => by
  have e1 := congrArg (fun q => q.1.val) e
  have e2 := congrArg (fun q => q.2.val) e
  exact h.apart i k (BitVec.eq_of_toNat_eq e1) (BitVec.eq_of_toNat_eq e2)

/-- Every tile is some item's. -/
theorem tile_surjective (h : Routed rbe rbv sb j e first va vb pe pj) : Function.Surjective h.tile :=
  ((Fintype.bijective_iff_injective_and_card _).mpr ⟨h.tile_injective, by simp⟩).2

theorem item_of (h : Routed rbe rbv sb j e first va vb pe pj) (s : ℕ) (hs : s < 160) (q : ℕ) (hq : q < 2) :
    ∃ i : Fin 320, (sb (ix1 i)).toNat = s ∧ (j (ix1 i)).toNat = q := by
  obtain ⟨i, hi⟩ := h.tile_surjective (⟨s, hs⟩, ⟨q, hq⟩)
  exact ⟨i, congrArg (fun q => q.1.val) hi, congrArg (fun q => q.2.val) hi⟩

end Routed

/-! ## Where a table is read -/

/-- The item of a point of the grid. -/
def item (i : grid0.Coords) : Fin 320 := ⟨(i 0).val, (i 0).isLt⟩

theorem spot_eq (i : grid0.Coords) : spot i = ix1 (item i) := by
  funext a; apply Fin.ext
  match a with
  | ⟨0, _⟩ => show k0_off1 i 0 + 1 * 0 = (i 0).val; rw [k0_off1_eq]; rfl

theorem spot'_eq (i : grid0.Coords) : spot' i = ix1 (item i) := by
  funext a; apply Fin.ext
  match a with
  | ⟨0, _⟩ => show k0_off14 i 0 + 1 * 0 = (i 0).val; rw [k0_off14_eq]; rfl

theorem part_spot (p : Fin 4) (i : grid0.Coords) (off : Fin 2 → ℕ) (ho : off = ![p.val, (i 0).val]) (inb) (n : S1x1.numel = 1) :
    (Rect.unit (s := S4x320) off S1x1.size inb).emb (Shape.Idx.first (n.symm ▸ Nat.one_pos)) = ix2 p (item i) := by
  subst ho
  funext a; apply Fin.ext
  match a with
  | ⟨0, _⟩ => show p.val + 1 * 0 = p.val; omega
  | ⟨1, _⟩ => show (i 0).val + 1 * 0 = (i 0).val; omega

section

variable (pf : pre0.Contents (Elt F)) (i : grid0.Coords)

theorem at_spot (k : S320.Idx → BitVec 32) (h : S1.numel = 1) :
    k ((Rect.unit (s := S320) (k0_off1 i) S1.size (k0_off1_inb i)).emb (Shape.Idx.first (h.symm ▸ Nat.one_pos))) = k (ix1 (item i)) :=
  congrArg k (spot_eq i)

theorem moves0 : cc0_transform_0 k0_off1_inb numel1_S1 pf i = ![(pf 0 (ix1 (item i)) : BitVec 32).toNat, 0] := by
  show ![(_ : BitVec 32).toNat, 0] = _
  exact congrArg (fun x : BitVec 32 => ![x.toNat, 0]) (at_spot i (pf 0) numel1_S1)

theorem moves1 : cc0_transform_1 k0_off2_inb numel1_S1x1 pf i
    = ![1, (pf 6 (ix2 0 (item i)) : BitVec 32).toNat, 0, (pf 7 (ix2 0 (item i)) : BitVec 32).toNat] :=
  congrArg (fun x : S4x320.Idx => ![1, (pf 6 x : BitVec 32).toNat, 0, (pf 7 x : BitVec 32).toNat])
    (part_spot 0 i _ (k0_off2_eq i) (k0_off2_inb i) numel1_S1x1)

theorem moves2 : cc0_transform_2 k0_off3_inb numel1_S1x1 pf i
    = ![1, (pf 6 (ix2 1 (item i)) : BitVec 32).toNat, 1, (pf 7 (ix2 1 (item i)) : BitVec 32).toNat] :=
  congrArg (fun x : S4x320.Idx => ![1, (pf 6 x : BitVec 32).toNat, 1, (pf 7 x : BitVec 32).toNat])
    (part_spot 1 i _ (k0_off3_eq i) (k0_off3_inb i) numel1_S1x1)

theorem moves3 : cc0_transform_3 k0_off4_inb numel1_S1x1 pf i
    = ![1, (pf 6 (ix2 2 (item i)) : BitVec 32).toNat, 2, (pf 7 (ix2 2 (item i)) : BitVec 32).toNat] :=
  congrArg (fun x : S4x320.Idx => ![1, (pf 6 x : BitVec 32).toNat, 2, (pf 7 x : BitVec 32).toNat])
    (part_spot 2 i _ (k0_off4_eq i) (k0_off4_inb i) numel1_S1x1)

theorem moves4 : cc0_transform_4 k0_off5_inb numel1_S1x1 pf i
    = ![1, (pf 6 (ix2 3 (item i)) : BitVec 32).toNat, 3, (pf 7 (ix2 3 (item i)) : BitVec 32).toNat] :=
  congrArg (fun x : S4x320.Idx => ![1, (pf 6 x : BitVec 32).toNat, 3, (pf 7 x : BitVec 32).toNat])
    (part_spot 3 i _ (k0_off5_eq i) (k0_off5_inb i) numel1_S1x1)

theorem moves5 : cc0_transform_5 k0_off1_inb numel1_S1 pf i
    = ![(pf 2 (ix1 (item i)) : BitVec 32).toNat, 0, (pf 1 (ix1 (item i)) : BitVec 32).toNat] :=
  congrArg (fun x : S320.Idx => ![(pf 2 x : BitVec 32).toNat, 0, (pf 1 x : BitVec 32).toNat]) (spot_eq i)

theorem moves6 : cc0_transform_6 k0_off1_inb numel1_S1 pf i
    = ![(pf 0 (ix1 (item i)) : BitVec 32).toNat, (pf 1 (ix1 (item i)) : BitVec 32).toNat] :=
  congrArg (fun x : S320.Idx => ![(pf 0 x : BitVec 32).toNat, (pf 1 x : BitVec 32).toNat]) (spot_eq i)

end

/-! ## The blocks lie in their arrays -/

/-- The tables are those of a list that routes every tile. -/
abbrev Listed (rbe rbv : S320.Idx → BitVec 32) (pf : pre0.Contents (Elt F)) : Prop :=
  Routed rbe rbv (pf 0) (pf 1) (pf 2) (pf 3) (pf 4) (pf 5) (pf 6) (pf 7)

theorem fits (rbe rbv : S320.Idx → BitVec 32) (pf : pre0.Contents (Elt F)) (h : Listed rbe rbv pf) : ok0 pf := by
  refine ⟨fun i => ?_, fun i => ?_, fun i => ?_, fun i => ?_, fun i => ?_, fun i => ?_, fun i => ?_⟩
  · have := h.sb_lt (item i)
    refine ⟨?_, .inr ?_⟩
    · rw [moves0]; intro a
      match a with
      | ⟨0, _⟩ => show ((pf 0 (ix1 (item i)) : BitVec 32).toNat + 1) * 512 ≤ 81920; omega
      | ⟨1, _⟩ => show (0 + 1) * 2048 ≤ 2048; omega
    · refine .inl (.inr ⟨le_refl 2, rfl, .inl ⟨?_, ?_⟩⟩)
      · exact Dvd.dvd.mul_left (by decide : 2 ∣ 512) _
      · exact (by decide : 2 ∣ 512)
  · have := h.pe_lt 0 (item i); have := h.pj_lt 0 (item i)
    refine ⟨?_, .inl rfl⟩
    rw [moves1]; intro a
    match a with
    | ⟨0, _⟩ => show (1 + 1) * 1 ≤ 2; omega
    | ⟨1, _⟩ => show ((pf 6 (ix2 0 (item i)) : BitVec 32).toNat + 1) * 1 ≤ 32; omega
    | ⟨2, _⟩ => show (0 + 1) * 512 ≤ 2048; omega
    | ⟨3, _⟩ => show ((pf 7 (ix2 0 (item i)) : BitVec 32).toNat + 1) * 1024 ≤ 2048; omega
  · have := h.pe_lt 1 (item i); have := h.pj_lt 1 (item i)
    refine ⟨?_, .inl rfl⟩
    rw [moves2]; intro a
    match a with
    | ⟨0, _⟩ => show (1 + 1) * 1 ≤ 2; omega
    | ⟨1, _⟩ => show ((pf 6 (ix2 1 (item i)) : BitVec 32).toNat + 1) * 1 ≤ 32; omega
    | ⟨2, _⟩ => show (1 + 1) * 512 ≤ 2048; omega
    | ⟨3, _⟩ => show ((pf 7 (ix2 1 (item i)) : BitVec 32).toNat + 1) * 1024 ≤ 2048; omega
  · have := h.pe_lt 2 (item i); have := h.pj_lt 2 (item i)
    refine ⟨?_, .inl rfl⟩
    rw [moves3]; intro a
    match a with
    | ⟨0, _⟩ => show (1 + 1) * 1 ≤ 2; omega
    | ⟨1, _⟩ => show ((pf 6 (ix2 2 (item i)) : BitVec 32).toNat + 1) * 1 ≤ 32; omega
    | ⟨2, _⟩ => show (2 + 1) * 512 ≤ 2048; omega
    | ⟨3, _⟩ => show ((pf 7 (ix2 2 (item i)) : BitVec 32).toNat + 1) * 1024 ≤ 2048; omega
  · have := h.pe_lt 3 (item i); have := h.pj_lt 3 (item i)
    refine ⟨?_, .inl rfl⟩
    rw [moves4]; intro a
    match a with
    | ⟨0, _⟩ => show (1 + 1) * 1 ≤ 2; omega
    | ⟨1, _⟩ => show ((pf 6 (ix2 3 (item i)) : BitVec 32).toNat + 1) * 1 ≤ 32; omega
    | ⟨2, _⟩ => show (3 + 1) * 512 ≤ 2048; omega
    | ⟨3, _⟩ => show ((pf 7 (ix2 3 (item i)) : BitVec 32).toNat + 1) * 1024 ≤ 2048; omega
  · have := h.e_lt (item i); have := h.j_lt (item i)
    refine ⟨?_, .inl rfl⟩
    rw [moves5]; intro a
    match a with
    | ⟨0, _⟩ => show ((pf 2 (ix1 (item i)) : BitVec 32).toNat + 1) * 1 ≤ 32; omega
    | ⟨1, _⟩ => show (0 + 1) * 1 ≤ 1; omega
    | ⟨2, _⟩ => show ((pf 1 (ix1 (item i)) : BitVec 32).toNat + 1) * 1024 ≤ 2048; omega
  · have := h.sb_lt (item i); have := h.j_lt (item i)
    refine ⟨?_, .inl rfl⟩
    rw [moves6]; intro a
    match a with
    | ⟨0, _⟩ => show ((pf 0 (ix1 (item i)) : BitVec 32).toNat + 1) * 512 ≤ 81920; omega
    | ⟨1, _⟩ => show ((pf 1 (ix1 (item i)) : BitVec 32).toNat + 1) * 1024 ≤ 2048; omega

/-- Every point stores the whole result block one way or another, so none leaves it as it was. -/
theorem never_idle (pf : pre0.Contents (Elt F)) (i : grid0.Coords) : idle0 pf 6 i = false := by
  show (!(k0_cond2 (pf.atD 5 (k0_off14 i)) == 1#1) && !(k0_cond3 (pf.atD 4 (k0_off14 i)) (pf.atD 5 (k0_off14 i)) == 1#1)
    && !(k0_cond4 (pf.atD 4 (k0_off14 i)) == 1#1)) = false
  generalize (pf.atD 5 (k0_off14 i) : BitVec 32) = vb
  generalize (pf.atD 4 (k0_off14 i) : BitVec 32) = va
  by_cases h2 : vb = 1#32
  · rw [(cond2_iff vb).mpr h2]; rfl
  · by_cases h3 : va = 1#32
    · rw [(cond3_iff va vb).mpr ⟨h3, h2⟩, Bool.and_assoc]; simp
    · rw [(cond4_iff va).mpr h3]; simp

end Cert.Kernel4Ideal.Dn

end
-- ==== Proof.Dn.Frame.lean ====
/-
  The whole run of the call: the weights kept in scratch after an item are those of the item's expert and half of the columns,
  and the item's block of the result is computed from them. From the region's entry to its end nothing else moves.
-/
module

public import proofs.«01_k».proof.Proof.Dn.Tables
public import Idealize.ShloMosaic.Lib.Claim
public import Idealize.ShloMosaic.Lib.Pipeline.Value

@[expose] public section

set_option maxRecDepth 16384

noncomputable section

namespace Cert.Kernel4Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and what the region finds -/

/-- The prefetched tables, as launched. -/
def tables : pre0.Contents (Elt F) := fun k => m (((0 : Dev nD) : Thread nD τ).loc (pre0.ref k))

/-- The tables of the launch route every tile. -/
abbrev Routes : Prop :=
  Listed (F := F) (m (((0 : Dev nD) : Thread nD τ).loc main_arg3)) (m (((0 : Dev nD) : Thread nD τ).loc main_arg4)) (tables m)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshape before the region writes its own result alone. -/
theorem V_kept (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_table (c : Dev nD) (k : Fin pre0.K) : V m c (pre0.ref k) = tables m k := by
  obtain rfl : c = 0 := Subsingleton.elim _ _
  exact V_kept m 0 (pre0.ref k) ((by decide : ∀ k : Fin pre0.K, pre0.ref k ≠ main_v0) k)

variable (hl : Routes m)

/-- The tables with the evidence that every block they name lies in its array. -/
def adm : (p : Fin 1) → (pcfgs (F := F) p).Adm := fun _ => ⟨tables m, fits _ _ _ hl⟩

/-- The pipeline at these tables. -/
abbrev cfgA : Cfg sig Λ₀ := cfg0 (adm m hl 0)

theorem points : (cfgA m hl).N = 320 := N_0

theorem item_val : ∀ t : Fin grid0.N, (item (grid0.coords t)).val = t.val := by decide +kernel

/-- The block of window `w` at a point. -/
def iblk (c : Dev nD) (w : Fin (cfgA m hl).W) (t : Fin (cfgA m hl).N) : (((cfgA m hl).win w).xblock ((cfgA m hl).grid.coords t)).Idx → Elt F ((cfgA m hl).win w).elt :=
  (((cfgA m hl).win w).blk t).view.read (Elt F) (V m c (Pipeline.arrRef spec0 w))

/-- The item of a point. -/
abbrev itemAt (t : Fin (cfgA m hl).N) : Fin 320 := item (grid0.coords t)

theorem itemAt_val (t : Fin (cfgA m hl).N) : (itemAt m hl t).val = t.val := item_val t

/-- The four parts of the weights at a point. -/
def quarters (c : Dev nD) (t : Fin (cfgA m hl).N) : Fin 4 → Vec F S1x1x512x1024 .f32 :=
  ![iblk m hl c 1 t, iblk m hl c 2 t, iblk m hl c 3 t, iblk m hl c 4 t]

/-- The weights of item `i`: the rows of its expert in the second of the two layers, the half of the columns it names, rounded. -/
def slab (c : Dev nD) (i : Fin 320) : Vec F S2048x1024 .bf16 := fun y =>
  narrow (V m c main_arg1 (ix4 (1 : Fin 2) (⟨(tables m 2 (ix1 i) : BitVec 32).toNat, hl.e_lt i⟩ : Fin 32) (y 0)
    (⟨(tables m 1 (ix1 i) : BitVec 32).toNat * 1024 + (y 1).val, by
      have h := hl.j_lt i; have h1 : (y 1).val < 1024 := (y 1).isLt
      change (tables m 1 (ix1 i) : BitVec 32).toNat < 2 at h; omega⟩ : Fin 2048)))

/-- The item's block of the result. -/
def blkAt (c : Dev nD) (t : Fin (cfgA m hl).N) : Vec F S512x1024 .f32 :=
  outAt (tables m 4 (ix1 (itemAt m hl t))) (tables m 5 (ix1 (itemAt m hl t))) (iblk m hl c 0 t) (slab m hl c (itemAt m hl t)) (iblk m hl c 5 t)

/-! ## The weights in scratch -/

theorem slab_congr (c : Dev nD) (i k : Fin 320) (he : tables m 2 (ix1 i) = tables m 2 (ix1 k)) (hj : tables m 1 (ix1 i) = tables m 1 (ix1 k)) :
    slab m hl c i = slab m hl c k := by
  funext y
  refine congrArg (fun x => narrow (V m c main_arg1 x)) ?_
  funext a; apply Fin.ext
  match a with
  | ⟨0, _⟩ => rfl
  | ⟨1, _⟩ => show (tables m 2 (ix1 i) : BitVec 32).toNat = (tables m 2 (ix1 k) : BitVec 32).toNat; rw [he]
  | ⟨2, _⟩ => rfl
  | ⟨3, _⟩ => exact congrArg (fun x : BitVec 32 => x.toNat * 1024 + (y 1).val) hj

/-- A part's block read at an index. -/
theorem part_read (c : Dev nD) (t : Fin (cfgA m hl).N) (h1 : tables m 3 (ix1 (itemAt m hl t)) = 1#32) (p : Fin 4) (r : Fin 512) (k : Fin 1024)
    (x : S2x32x2048x2048.Idx)
    (hx : x = ix4 (1 : Fin 2) (⟨(tables m 2 (ix1 (itemAt m hl t)) : BitVec 32).toNat, hl.e_lt _⟩ : Fin 32) (⟨512 * p.val + r.val, by omega⟩ : Fin 2048)
      (⟨(tables m 1 (ix1 (itemAt m hl t)) : BitVec 32).toNat * 1024 + k.val, by
        have h := hl.j_lt (itemAt m hl t); change (tables m 1 (ix1 (itemAt m hl t)) : BitVec 32).toNat < 2 at h; omega⟩ : Fin 2048)) :
    quarters m hl c t p (ix4 0 0 r k) = V m c main_arg1 x := by
  subst hx
  have hp := hl.parts p (itemAt m hl t) h1
  have hpe : (tables m 6 (ix2 p (itemAt m hl t)) : BitVec 32).toNat = (tables m 2 (ix1 (itemAt m hl t)) : BitVec 32).toNat := congrArg BitVec.toNat hp.1
  have hpj : (tables m 7 (ix2 p (itemAt m hl t)) : BitVec 32).toNat = (tables m 1 (ix1 (itemAt m hl t)) : BitVec 32).toNat := congrArg BitVec.toNat hp.2
  match p with
  | ⟨0, _⟩ =>
    show V m c main_arg1 ((((cfgA m hl).win 1).blk t).view.emb (ix4 0 0 r k)) = _
    refine congrArg (V m c main_arg1) ?_
    have h := moves1 (tables m) (grid0.coords t)
    funext a; apply Fin.ext
    match a with
    | ⟨0, _⟩ => show cc0_transform_1 k0_off2_inb numel1_S1x1 (tables m) (grid0.coords t) 0 * 1 + 1 * 0 = 1; rw [h]; rfl
    | ⟨1, _⟩ => show cc0_transform_1 k0_off2_inb numel1_S1x1 (tables m) (grid0.coords t) 1 * 1 + 1 * 0 = _; rw [h]; exact (Nat.mul_one _).trans hpe
    | ⟨2, _⟩ => show cc0_transform_1 k0_off2_inb numel1_S1x1 (tables m) (grid0.coords t) 2 * 512 + 1 * r.val = 512 * 0 + r.val; rw [h]; show 0 * 512 + 1 * r.val = _; omega
    | ⟨3, _⟩ =>
      show cc0_transform_1 k0_off2_inb numel1_S1x1 (tables m) (grid0.coords t) 3 * 1024 + 1 * k.val = (tables m 1 (ix1 (itemAt m hl t)) : BitVec 32).toNat * 1024 + k.val
      rw [h, ← hpj, Nat.one_mul]; rfl
  | ⟨1, _⟩ =>
    show V m c main_arg1 ((((cfgA m hl).win 2).blk t).view.emb (ix4 0 0 r k)) = _
    refine congrArg (V m c main_arg1) ?_
    have h := moves2 (tables m) (grid0.coords t)
    funext a; apply Fin.ext
    match a with
    | ⟨0, _⟩ => show cc0_transform_2 k0_off3_inb numel1_S1x1 (tables m) (grid0.coords t) 0 * 1 + 1 * 0 = 1; rw [h]; rfl
    | ⟨1, _⟩ => show cc0_transform_2 k0_off3_inb numel1_S1x1 (tables m) (grid0.coords t) 1 * 1 + 1 * 0 = _; rw [h]; exact (Nat.mul_one _).trans hpe
    | ⟨2, _⟩ => show cc0_transform_2 k0_off3_inb numel1_S1x1 (tables m) (grid0.coords t) 2 * 512 + 1 * r.val = 512 * 1 + r.val; rw [h]; show 1 * 512 + 1 * r.val = _; omega
    | ⟨3, _⟩ =>
      show cc0_transform_2 k0_off3_inb numel1_S1x1 (tables m) (grid0.coords t) 3 * 1024 + 1 * k.val = (tables m 1 (ix1 (itemAt m hl t)) : BitVec 32).toNat * 1024 + k.val
      rw [h, ← hpj, Nat.one_mul]; rfl
  | ⟨2, _⟩ =>
    show V m c main_arg1 ((((cfgA m hl).win 3).blk t).view.emb (ix4 0 0 r k)) = _
    refine congrArg (V m c main_arg1) ?_
    have h := moves3 (tables m) (grid0.coords t)
    funext a; apply Fin.ext
    match a with
    | ⟨0, _⟩ => show cc0_transform_3 k0_off4_inb numel1_S1x1 (tables m) (grid0.coords t) 0 * 1 + 1 * 0 = 1; rw [h]; rfl
    | ⟨1, _⟩ => show cc0_transform_3 k0_off4_inb numel1_S1x1 (tables m) (grid0.coords t) 1 * 1 + 1 * 0 = _; rw [h]; exact (Nat.mul_one _).trans hpe
    | ⟨2, _⟩ => show cc0_transform_3 k0_off4_inb numel1_S1x1 (tables m) (grid0.coords t) 2 * 512 + 1 * r.val = 512 * 2 + r.val; rw [h]; show 2 * 512 + 1 * r.val = _; omega
    | ⟨3, _⟩ =>
      show cc0_transform_3 k0_off4_inb numel1_S1x1 (tables m) (grid0.coords t) 3 * 1024 + 1 * k.val = (tables m 1 (ix1 (itemAt m hl t)) : BitVec 32).toNat * 1024 + k.val
      rw [h, ← hpj, Nat.one_mul]; rfl
  | ⟨3, _⟩ =>
    show V m c main_arg1 ((((cfgA m hl).win 4).blk t).view.emb (ix4 0 0 r k)) = _
    refine congrArg (V m c main_arg1) ?_
    have h := moves4 (tables m) (grid0.coords t)
    funext a; apply Fin.ext
    match a with
    | ⟨0, _⟩ => show cc0_transform_4 k0_off5_inb numel1_S1x1 (tables m) (grid0.coords t) 0 * 1 + 1 * 0 = 1; rw [h]; rfl
    | ⟨1, _⟩ => show cc0_transform_4 k0_off5_inb numel1_S1x1 (tables m) (grid0.coords t) 1 * 1 + 1 * 0 = _; rw [h]; exact (Nat.mul_one _).trans hpe
    | ⟨2, _⟩ => show cc0_transform_4 k0_off5_inb numel1_S1x1 (tables m) (grid0.coords t) 2 * 512 + 1 * r.val = 512 * 3 + r.val; rw [h]; show 3 * 512 + 1 * r.val = _; omega
    | ⟨3, _⟩ =>
      show cc0_transform_4 k0_off5_inb numel1_S1x1 (tables m) (grid0.coords t) 3 * 1024 + 1 * k.val = (tables m 1 (ix1 (itemAt m hl t)) : BitVec 32).toNat * 1024 + k.val
      rw [h, ← hpj, Nat.one_mul]; rfl

theorem made (c : Dev nD) (t : Fin (cfgA m hl).N) (S : Vec F S2048x1024 .bf16) (h1 : tables m 3 (ix1 (itemAt m hl t)) = 1#32) :
    castAt (tables m 3 (ix1 (itemAt m hl t))) (quarters m hl c t) S = slab m hl c (itemAt m hl t) := by
  unfold castAt; rw [if_pos ((announces_iff _).mpr h1)]
  funext y
  unfold weights slab
  have h0 : (y 0).val < 2048 := (y 0).isLt
  refine congrArg narrow (part_read m hl c t h1 _ _ _ _ ?_)
  funext a; apply Fin.ext
  match a with
  | ⟨0, _⟩ => rfl
  | ⟨1, _⟩ => rfl
  | ⟨2, _⟩ => show (y 0).val = 512 * ((y 0).val / 512) + (y 0).val % 512; omega
  | ⟨3, _⟩ => rfl

theorem retained (c : Dev nD) (t : Fin (cfgA m hl).N) (i : Fin 320) (hi : i.val + 1 = t.val) :
    castAt (tables m 3 (ix1 (itemAt m hl t))) (quarters m hl c t) (slab m hl c i) = slab m hl c (itemAt m hl t) := by
  by_cases h1 : tables m 3 (ix1 (itemAt m hl t)) = 1#32
  · exact made m hl c t _ h1
  · unfold castAt; rw [if_neg (fun h => h1 ((announces_iff _).mp h))]
    have hv := itemAt_val m hl t
    have hlt : i.val + 1 < 320 := by rw [hi, ← hv]; exact (itemAt m hl t).isLt
    have hit : itemAt m hl t = ⟨i.val + 1, hlt⟩ := Fin.ext (hv.trans hi.symm)
    rw [hit] at h1 ⊢
    have hk := hl.kept i.val hlt h1
    exact slab_congr m hl c _ _ hk.1.symm hk.2.symm

/-! ## The data of the run -/

/-- The tables held beside the body. -/
abbrev tablesHeld (c : Dev nD) : sProp 𝕄 := Pipeline.ΦT pre0 (tables m) c

theorem tablesHeld_eq (c : Dev nD) : tablesHeld m c = iprop(tabAt c (Memref.whole main_arg5) (tables m 0) ∗ tabAt c (Memref.whole main_arg6) (tables m 1)
    ∗ tabAt c (Memref.whole main_arg7) (tables m 2) ∗ tabAt c (Memref.whole main_arg8) (tables m 3) ∗ tabAt c (Memref.whole main_arg9) (tables m 4)
    ∗ tabAt c (Memref.whole main_arg10) (tables m 5) ∗ tabAt c (Memref.whole main_arg11) (tables m 6) ∗ tabAt c (Memref.whole main_arg12) (tables m 7)) := by
  unfold tablesHeld Pipeline.ΦT Pipeline.prefHeld
  rw [show (Finset.univ : Finset (Fin 8)) = insert 0 (insert 1 (insert 2 (insert 3 (insert 4 (insert 5 (insert 6 {7})))))) from by decide,
    bigSep_insert (by decide), bigSep_insert (by decide), bigSep_insert (by decide), bigSep_insert (by decide), bigSep_insert (by decide),
    bigSep_insert (by decide), bigSep_insert (by decide), bigSep_singleton]
  rfl

/-- The scratch. -/
abbrev scratch : Memref sig .tc .vmem S2048x1024 .bf16 := Memref.whole cc0_scratch0

theorem PhiA0_eq (c : Dev nD) : (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- What is held between points: after point `n` the scratch has the weights of item `n`. -/
def between (c : Dev nD) : (n : ℕ) → n ≤ (cfgA m hl).N → sProp 𝕄
  | 0, _ => iprop(Pipeline.ΦA spec0 c ∗ tablesHeld m c)
  | n + 1, hn => iprop(iprop(owns (c : Thread nD τ) scratch fullShare (slab m hl c ⟨n, lt_of_lt_of_eq hn N_0⟩) ∗ (∃ r, prngReg c r)) ∗ tablesHeld m c)

theorem between_first (c : Dev nD) (n : ℕ) (h : n ≤ (cfgA m hl).N) (hz : n = 0) : between m hl c n h = iprop(Pipeline.ΦA spec0 c ∗ tablesHeld m c) := by
  subst hz; rfl

theorem between_after (c : Dev nD) (n : ℕ) (hn : n < (cfgA m hl).N) :
    between m hl c (n + 1) hn = iprop(iprop(owns (c : Thread nD τ) scratch fullShare (slab m hl c ⟨n, lt_of_lt_of_eq hn N_0⟩) ∗ (∃ r, prngReg c r)) ∗ tablesHeld m c) := rfl

theorem between_later (c : Dev nD) (n : ℕ) (h : n ≤ (cfgA m hl).N) (hz : n ≠ 0) :
    between m hl c n h = iprop(iprop(owns (c : Thread nD τ) scratch fullShare (slab m hl c ⟨n - 1, by have := points m hl; omega⟩) ∗ (∃ r, prngReg c r)) ∗ tablesHeld m c) := by
  cases n with
  | zero => exact absurd rfl hz
  | succ k => rfl

/-- Whatever the point, its item's weights are in scratch once the body has passed the announcement. -/
theorem between_gives (c : Dev nD) (t : Fin (cfgA m hl).N) : between m hl c t.val (Nat.le_of_lt t.isLt)
    ⊢ iprop(∃ S, ⌜castAt (tables m 3 (ix1 (itemAt m hl t))) (quarters m hl c t) S = slab m hl c (itemAt m hl t)⌝
      ∗ owns (c : Thread nD τ) scratch fullShare S ∗ (∃ r, prngReg c r) ∗ tablesHeld m c) := by
  by_cases hz : t.val = 0
  · rw [between_first m hl c _ _ hz, PhiA0_eq]
    iintro ⟨⟨⟨%S, HS⟩, Hg⟩, HT⟩
    iexists S
    isplitl []
    · ipureintro
      refine made m hl c t S ?_
      rw [show itemAt m hl t = 0 from Fin.ext ((itemAt_val m hl t).trans hz)]
      exact hl.starts
    isplitl [HS]; · iexact HS
    isplitl [Hg]; · iexact Hg
    iexact HT
  · rw [between_later m hl c _ _ hz]
    iintro ⟨⟨HS, Hg⟩, HT⟩
    iexists _
    isplitl []
    · ipureintro
      exact retained m hl c t ⟨t.val - 1, by have := points m hl; have := t.isLt; omega⟩ (by show t.val - 1 + 1 = t.val; omega)
    isplitl [HS]; · iexact HS
    isplitl [Hg]; · iexact Hg
    iexact HT

/-- The proof data of the region. -/
def dats (p : Fin 1) (c : Dev nD) : Dat τ (Elt F) Unit ℕ (UR sig nD τ) ℕ (Pipeline.pin pcfgs (adm m hl) p) c where
  A w := V m c (Pipeline.arrRef spec0 w)
  after w t := match w with
    | ⟨0, _⟩ => iblk m hl c 0 t
    | ⟨1, _⟩ => iblk m hl c 1 t
    | ⟨2, _⟩ => iblk m hl c 2 t
    | ⟨3, _⟩ => iblk m hl c 3 t
    | ⟨4, _⟩ => iblk m hl c 4 t
    | ⟨5, _⟩ => iblk m hl c 5 t
    | ⟨6, _⟩ => blkAt m hl c t
    | ⟨_ + 7, h⟩ => absurd h (Nat.not_lt.2 (Nat.le_add_left _ _))
  Φ t := between m hl c t.val (Nat.le_of_lt_succ t.isLt)
  q w := Pipeline.shareOf spec0 w
  owed _ := 0

theorem dats_A (c : Dev nD) (w : Fin (cfgA m hl).W) : (dats m hl 0 c).A w = V m c (Pipeline.arrRef spec0 w) := by
  dsimp only [dats]

theorem dats_before (c : Dev nD) (t : Fin (cfgA m hl).N) :
    (dats m hl 0 c).Φ t.castSucc = between m hl c t.val (Nat.le_of_lt t.isLt) := by
  dsimp only [dats]; exact Pipeline.Dat.Φ_castSucc (between m hl c) t

theorem left0 (c : Dev nD) (t : Fin (cfgA m hl).N) : (dats m hl 0 c).after 0 t = iblk m hl c 0 t := rfl
theorem left1 (c : Dev nD) (t : Fin (cfgA m hl).N) : (dats m hl 0 c).after 1 t = iblk m hl c 1 t := rfl
theorem left2 (c : Dev nD) (t : Fin (cfgA m hl).N) : (dats m hl 0 c).after 2 t = iblk m hl c 2 t := rfl
theorem left3 (c : Dev nD) (t : Fin (cfgA m hl).N) : (dats m hl 0 c).after 3 t = iblk m hl c 3 t := rfl
theorem left4 (c : Dev nD) (t : Fin (cfgA m hl).N) : (dats m hl 0 c).after 4 t = iblk m hl c 4 t := rfl
theorem left5 (c : Dev nD) (t : Fin (cfgA m hl).N) : (dats m hl 0 c).after 5 t = iblk m hl c 5 t := rfl
theorem left6 (c : Dev nD) (t : Fin (cfgA m hl).N) : (dats m hl 0 c).after 6 t = blkAt m hl c t := rfl

theorem found0 (c : Dev nD) (t : Fin (cfgA m hl).N) (d) : (dats m hl 0 c).before 0 t d = iblk m hl c 0 t :=
  ((dats m hl 0 c).before_in_eq_fetched 0 rfl (fun _ => rfl) (fun _ _ _ => rfl) (fun t => by rw [left0]; unfold Dat.blockOf iblk; rw [dats_A]; try rfl) t d).trans
    (by unfold Dat.fetched Dat.blockOf iblk; rw [dats_A]; try rfl)
theorem found1 (c : Dev nD) (t : Fin (cfgA m hl).N) (d) : (dats m hl 0 c).before 1 t d = iblk m hl c 1 t :=
  ((dats m hl 0 c).before_in_eq_fetched 1 rfl (fun _ => rfl) (fun _ _ _ => rfl) (fun t => by rw [left1]; unfold Dat.blockOf iblk; rw [dats_A]; try rfl) t d).trans
    (by unfold Dat.fetched Dat.blockOf iblk; rw [dats_A]; try rfl)
theorem found2 (c : Dev nD) (t : Fin (cfgA m hl).N) (d) : (dats m hl 0 c).before 2 t d = iblk m hl c 2 t :=
  ((dats m hl 0 c).before_in_eq_fetched 2 rfl (fun _ => rfl) (fun _ _ _ => rfl) (fun t => by rw [left2]; unfold Dat.blockOf iblk; rw [dats_A]; try rfl) t d).trans
    (by unfold Dat.fetched Dat.blockOf iblk; rw [dats_A]; try rfl)
theorem found3 (c : Dev nD) (t : Fin (cfgA m hl).N) (d) : (dats m hl 0 c).before 3 t d = iblk m hl c 3 t :=
  ((dats m hl 0 c).before_in_eq_fetched 3 rfl (fun _ => rfl) (fun _ _ _ => rfl) (fun t => by rw [left3]; unfold Dat.blockOf iblk; rw [dats_A]; try rfl) t d).trans
    (by unfold Dat.fetched Dat.blockOf iblk; rw [dats_A]; try rfl)
theorem found4 (c : Dev nD) (t : Fin (cfgA m hl).N) (d) : (dats m hl 0 c).before 4 t d = iblk m hl c 4 t :=
  ((dats m hl 0 c).before_in_eq_fetched 4 rfl (fun _ => rfl) (fun _ _ _ => rfl) (fun t => by rw [left4]; unfold Dat.blockOf iblk; rw [dats_A]; try rfl) t d).trans
    (by unfold Dat.fetched Dat.blockOf iblk; rw [dats_A]; try rfl)
theorem found5 (c : Dev nD) (t : Fin (cfgA m hl).N) (d) : (dats m hl 0 c).before 5 t d = iblk m hl c 5 t :=
  ((dats m hl 0 c).before_in_eq_fetched 5 rfl (fun _ => rfl) (fun _ _ _ => rfl) (fun t => by rw [left5]; unfold Dat.blockOf iblk; rw [dats_A]; try rfl) t d).trans
    (by unfold Dat.fetched Dat.blockOf iblk; rw [dats_A]; try rfl)

/-! ## The body at a point -/

/-- The body's call at a point. -/
abbrev bodyAt (t : Fin (cfgA m hl).N) : Prog (TpuEff nD τ sig (Elt F) Λ₀ .tc) PUnit :=
  cc0_moe_dn (grid0.coords t) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (Memref.whole main_arg12) (Memref.isWhole_whole _)
    (spec0_0.stage ((cfgA m hl).slots t 0)) (hstage0_0 (((cfgA m hl).slots t 0).cast nbuf0_0)) (spec0_1.stage ((cfgA m hl).slots t 1)) (hstage0_1 (((cfgA m hl).slots t 1).cast nbuf0_1)) (spec0_2.stage ((cfgA m hl).slots t 2)) (hstage0_2 (((cfgA m hl).slots t 2).cast nbuf0_2)) (spec0_3.stage ((cfgA m hl).slots t 3)) (hstage0_3 (((cfgA m hl).slots t 3).cast nbuf0_3)) (spec0_4.stage ((cfgA m hl).slots t 4)) (hstage0_4 (((cfgA m hl).slots t 4).cast nbuf0_4)) (spec0_5.stage ((cfgA m hl).slots t 5)) (hstage0_5 (((cfgA m hl).slots t 5).cast nbuf0_5)) (spec0_6.stage ((cfgA m hl).slots t 6)) (hstage0_6 (((cfgA m hl).slots t 6).cast nbuf0_6)) (Memref.whole cc0_scratch0) (Memref.isWhole_whole _)

/-- What the body is called with at a point. -/
def pre (c : Dev nD) (t : Fin (cfgA m hl).N) : sProp 𝕄 :=
  iprop((dats m hl 0 c).Φ t.castSucc ∗ (dats m hl 0 c).owesAt () t.castSucc
    ∗ (∃ d, owns (c : Thread nD τ) (spec0_0.stage ((cfgA m hl).slots t 0)) fullShare ((dats m hl 0 c).before 0 t d))
    ∗ (∃ d, owns (c : Thread nD τ) (spec0_1.stage ((cfgA m hl).slots t 1)) fullShare ((dats m hl 0 c).before 1 t d))
    ∗ (∃ d, owns (c : Thread nD τ) (spec0_2.stage ((cfgA m hl).slots t 2)) fullShare ((dats m hl 0 c).before 2 t d))
    ∗ (∃ d, owns (c : Thread nD τ) (spec0_3.stage ((cfgA m hl).slots t 3)) fullShare ((dats m hl 0 c).before 3 t d))
    ∗ (∃ d, owns (c : Thread nD τ) (spec0_4.stage ((cfgA m hl).slots t 4)) fullShare ((dats m hl 0 c).before 4 t d))
    ∗ (∃ d, owns (c : Thread nD τ) (spec0_5.stage ((cfgA m hl).slots t 5)) fullShare ((dats m hl 0 c).before 5 t d))
    ∗ (∃ d, owns (c : Thread nD τ) (spec0_6.stage ((cfgA m hl).slots t 6)) fullShare ((dats m hl 0 c).before 6 t d)))

/-- What it returns. -/
def post (c : Dev nD) (t : Fin (cfgA m hl).N) : sProp 𝕄 :=
  iprop((dats m hl 0 c).Φ t.succ ∗ (dats m hl 0 c).owesAt () t.succ
    ∗ owns (c : Thread nD τ) (spec0_0.stage ((cfgA m hl).slots t 0)) fullShare ((dats m hl 0 c).after 0 t)
    ∗ owns (c : Thread nD τ) (spec0_1.stage ((cfgA m hl).slots t 1)) fullShare ((dats m hl 0 c).after 1 t)
    ∗ owns (c : Thread nD τ) (spec0_2.stage ((cfgA m hl).slots t 2)) fullShare ((dats m hl 0 c).after 2 t)
    ∗ owns (c : Thread nD τ) (spec0_3.stage ((cfgA m hl).slots t 3)) fullShare ((dats m hl 0 c).after 3 t)
    ∗ owns (c : Thread nD τ) (spec0_4.stage ((cfgA m hl).slots t 4)) fullShare ((dats m hl 0 c).after 4 t)
    ∗ owns (c : Thread nD τ) (spec0_5.stage ((cfgA m hl).slots t 5)) fullShare ((dats m hl 0 c).after 5 t)
    ∗ owns (c : Thread nD τ) (spec0_6.stage ((cfgA m hl).slots t 6)) fullShare ((dats m hl 0 c).after 6 t))

set_option maxHeartbeats 9600000 in
theorem at_point (c : Dev nD) (t : Fin (cfgA m hl).N) :
    pre m hl c t ⊢ wp frame (wpE (defs₀ (F := F)) Variants.none c none) Set.univ (bodyAt m hl t) (fun _ => post m hl c t) := by
  unfold pre post bodyAt
  simp only [found0, found1, found2, found3, found4, found5]
  rw [show (dats m hl 0 c).owesAt () t.succ = (dats m hl 0 c).owesAt () t.castSucc from rfl,
    left0, left1, left2, left3, left4, left5, left6]
  rw [show (dats m hl 0 c).Φ t.succ = between m hl c (t.val + 1) t.isLt from rfl, between_after, dats_before m hl c t]
  rw [show (⟨t.val, lt_of_lt_of_eq t.isLt N_0⟩ : Fin 320) = itemAt m hl t from Fin.ext (itemAt_val m hl t).symm]
  iintro ⟨HB, Ho, ⟨%d0, H0⟩, ⟨%d1, H1⟩, ⟨%d2, H2⟩, ⟨%d3, H3⟩, ⟨%d4, H4⟩, ⟨%d5, H5⟩, H6⟩
  ihave HB := (between_gives m hl c t) $$ HB
  rw [tablesHeld_eq]
  icases HB with ⟨%S, %hS, HS, Hg, T0, T1, T2, T3, T4, T5, T6, T7⟩
  iapply (body c (grid0.coords t) _ _ _ _ _ _ _ _ _ _ _ _ _ _ _ _ (tables m 3) (tables m 4) (tables m 5) Set.univ _ (iblk m hl c 0 t) (quarters m hl c t) (iblk m hl c 5 t) S
    (by rw [spot'_eq]; exact hl.in_order _))
  isplitl [T3]; · iexact T3
  isplitl [T4]; · iexact T4
  isplitl [T5]; · iexact T5
  isplitl [H0]; · iexact H0
  isplitl [H1]; · iexact H1
  isplitl [H2]; · iexact H2
  isplitl [H3]; · iexact H3
  isplitl [H4]; · iexact H4
  isplitl [H5]; · iexact H5
  isplitl [H6]
  · icases H6 with ⟨%d6, H6⟩; iexists _; iexact H6
  isplitl [HS]; · iexact HS
  rw [spot'_eq, spot_eq, hS]
  iintro ⟨T3, T4, T5, H0, H1, H2, H3, H4, H5, H6, HS⟩
  isplitl [HS Hg T0 T1 T2 T3 T4 T5 T6 T7]
  · isplitl [HS Hg]
    · isplitl [HS]; · iexact HS
      iexact Hg
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin (cfgA m hl).N) :
    defs₀ (F := F) .tc (cfgA m hl).body ((cfgA m hl).bodyArgs t ((cfgA m hl).slots t)) = bodyAt m hl t := by
  unfold defs₀; rw [Defs.onTc_tc]

theorem obligation (c : Dev nD) : BodyObligation (dats m hl 0 c) (defs₀ (F := F)) Variants.none () Set.univ := fun t => by
  rw [bigSep_W0, bigSep_W0, row]
  have hi : idle0 (F := F) (adm m hl 0).1 6 ((pcfg0.gridAt (adm m hl 0).1).coords t) = false := never_idle _ _
  refine triple_restated (at_point m hl c t) rfl .rfl fun _ => ?_
  unfold post
  simp only [hi]
  exact Entails.refl _

theorem enter (c : Dev nD) : iprop(Pipeline.ΦA spec0 c ∗ Pipeline.ΦT pre0 (tables m) c) ⊢ (dats m hl 0 c).Φ 0 := by
  rw [show (dats m hl 0 c).Φ 0 = between m hl c 0 (Nat.zero_le _) from rfl, between_first m hl c 0 _ rfl]

theorem leave_at (c : Dev nD) (t : Fin ((cfgA m hl).N + 1)) (ht : t.val ≠ 0) : (dats m hl 0 c).Φ t ⊢ Pipeline.ΦA spec0 c := by
  rw [show (dats m hl 0 c).Φ t = between m hl c t.val (Nat.le_of_lt_succ t.isLt) from rfl, between_later m hl c _ _ ht, PhiA0_eq]
  iintro ⟨⟨HS, Hg⟩, HT⟩
  isplitl [HS]; · iexists _; iexact HS
  iexact Hg

theorem leave (c : Dev nD) : (dats m hl 0 c).Φ (Fin.last (cfgA m hl).N) ⊢ Pipeline.ΦA spec0 c :=
  leave_at m hl c _ (by rw [Fin.val_last]; have := points m hl; omega)

/-! ## The run -/

set_option backward.isDefEq.respectTransparency.types false in
/-- Every execution ends with the arrays at the data's values and every semaphore at zero. -/
theorem run_ends : θ_run defs (onTc (τ := τ) (main (F := F))) (s₀ m ρ)
    (fun r => (Pipeline.FramePost (Pipeline.pin pcfgs (adm m hl)) (dats m hl) 0 (V m)) r ∧ r.2.sem = fun _ => 0) :=
  Pipeline.θ_run_frameP_track_shared (Q' := _) pcfgs (adm m hl) (dats m hl) (0 : Fin 1) launch₀0 defs₀ Variants.none m ρ main
    (hbody := fun c => (obligation m hl c).loose) (hq := fun _ _ _ => rfl) (howed := fun _ _ => rfl)
    (V := V m) (hmain := hmain m Variants.none) (hA := dats_A m hl) (hpf := V_table m) (hin := enter m hl) (hout := leave m hl)
    (hQ' := fun _ h => h)

end Cert.Kernel4Ideal.Dn

end
-- ==== Proof.Dn.Run.lean ====
/-
  The array the run leaves: at each index the value of the block of the item that the index's tile belongs to.
-/
module

public import proofs.«01_k».proof.Proof.Dn.Frame

@[expose] public section

set_option maxRecDepth 16384

noncomputable section

namespace Cert.Kernel4Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hl : Routes m)

/-- The item whose tile has an index of the result. -/
def owner (y : S81920x2048.Idx) : Fin 320 :=
  (hl.item_of ((y 0).val / 512) (by have h : (y 0).val < 81920 := (y 0).isLt; omega) ((y 1).val / 1024) (by have h : (y 1).val < 2048 := (y 1).isLt; omega)).choose

theorem owner_row (y : S81920x2048.Idx) : (tables m 0 (ix1 (owner m hl y)) : BitVec 32).toNat = (y 0).val / 512 :=
  (hl.item_of ((y 0).val / 512) (by have h : (y 0).val < 81920 := (y 0).isLt; omega) ((y 1).val / 1024) (by have h : (y 1).val < 2048 := (y 1).isLt; omega)).choose_spec.1

theorem owner_col (y : S81920x2048.Idx) : (tables m 1 (ix1 (owner m hl y)) : BitVec 32).toNat = (y 1).val / 1024 :=
  (hl.item_of ((y 0).val / 512) (by have h : (y 0).val < 81920 := (y 0).isLt; omega) ((y 1).val / 1024) (by have h : (y 1).val < 2048 := (y 1).isLt; omega)).choose_spec.2

/-- The point of an item. -/
def pointOf (i : Fin 320) : Fin (cfgA m hl).N := ⟨i.val, lt_of_lt_of_eq i.isLt (points m hl).symm⟩

theorem itemAt_pointOf (i : Fin 320) : itemAt m hl (pointOf m hl i) = i := Fin.ext (itemAt_val m hl _)

theorem itemAt_injective (t u : Fin (cfgA m hl).N) (h : itemAt m hl t = itemAt m hl u) : t = u :=
  Fin.ext (by rw [← itemAt_val m hl t, h, itemAt_val m hl u])

/-- The result. -/
def result (c : Dev nD) : Vec F S81920x2048 .f32 := fun y =>
  blkAt m hl c (pointOf m hl (owner m hl y)) (ix2 (⟨(y 0).val % 512, Nat.mod_lt _ (by omega)⟩ : Fin 512) (⟨(y 1).val % 1024, Nat.mod_lt _ (by omega)⟩ : Fin 1024))

/-- The tile a point writes. -/
abbrev corner (t : Fin (cfgA m hl).N) : Fin 2 → ℕ := cc0_transform_6 k0_off1_inb numel1_S1 (tables m) (grid0.coords t)

theorem at6 (t : Fin (cfgA m hl).N) : corner m hl t
    = ![(tables m 0 (ix1 (itemAt m hl t)) : BitVec 32).toNat, (tables m 1 (ix1 (itemAt m hl t)) : BitVec 32).toNat] :=
  moves6 (tables m) (grid0.coords t)

/-- Every point writes its block back: no two items have the same tile. -/
theorem flushes (t : Fin (cfgA m hl).N) : ((cfgA m hl).win 6).flush t = true := by
  unfold Pipeline.Window.flush
  rw [show ((cfgA m hl).win 6).isOut = true from rfl, Bool.true_and, Bool.or_eq_true, decide_eq_true_eq, decide_eq_true_eq]
  by_cases hN : t.val + 1 = (cfgA m hl).N
  · exact .inl hN
  · refine .inr ⟨lt_of_le_of_ne t.isLt hN, fun he => ?_⟩
    have he' : corner m hl (⟨t.val + 1, lt_of_le_of_ne t.isLt hN⟩ : Fin (cfgA m hl).N) = corner m hl t := he
    rw [at6, at6] at he'
    have e0 := congrFun he' 0
    have e1 := congrFun he' 1
    have hit := hl.apart _ _ (BitVec.eq_of_toNat_eq e0) (BitVec.eq_of_toNat_eq e1)
    have := congrArg Fin.val (itemAt_injective m hl _ _ hit)
    change t.val + 1 = t.val at this
    omega

theorem blk_in_array (t : Fin (cfgA m hl).N) (i : S81920x2048.Idx) :
    i ∈ (((cfgA m hl).win 6).blk t).view.set ↔ ∀ a : Fin 2, corner m hl t a * S512x1024.size a ≤ (i a).val
      ∧ (i a).val < corner m hl t a * S512x1024.size a + S512x1024.size a :=
  (iff_of_eq (congrArg (fun s => i ∈ s) (View.set_slice_whole main_v1 (show Rect main_v1.ty.shape from ((cfgA m hl).win 6).rect t)))).trans
    ((Rect.mem_set_unit (s := S81920x2048) (off := fun a => corner m hl t a * S512x1024.size a) (size := S512x1024.size) (i := i)).trans Iff.rfl)

/-- A point writes back its block of the result. -/
theorem written (c : Dev nD) (t : Fin (cfgA m hl).N) :
    (dats m hl 0 c).flushed 6 t = (((cfgA m hl).win 6).blk t).view.read (Elt F) (result m hl c) := by
  show ((cfgA m hl).win 6).cut (grid0.coords t) ((dats m hl 0 c).after 6 t) = _
  rw [left6]
  have h := at6 m hl t
  have h0 : corner m hl t (0 : Fin 2) = (tables m 0 (ix1 (itemAt m hl t)) : BitVec 32).toNat := congrFun h 0
  have h1 : corner m hl t (1 : Fin 2) = (tables m 1 (ix1 (itemAt m hl t)) : BitVec 32).toNat := congrFun h 1
  refine funext fun (y : S512x1024.Idx) => ?_
  have hy0 : (y 0).val < 512 := (y 0).isLt
  have hy1 : (y 1).val < 1024 := (y 1).isLt
  obtain ⟨x, hx⟩ : ∃ x : S81920x2048.Idx, x = (((cfgA m hl).win 6).blk t).view.emb y := ⟨_, rfl⟩
  have hb0 : (x 0).val = corner m hl t (0 : Fin 2) * 512 + 1 * (y 0).val := by rw [hx]; rfl
  have hb1 : (x 1).val = corner m hl t (1 : Fin 2) * 1024 + 1 * (y 1).val := by rw [hx]; rfl
  rw [h0] at hb0
  rw [h1] at hb1
  show blkAt m hl c t y = result m hl c ((((cfgA m hl).win 6).blk t).view.emb y)
  refine Eq.trans ?_ (congrArg (result m hl c) hx)
  unfold result
  have hown : owner m hl x = itemAt m hl t := by
    have hr := owner_row m hl x
    have hc := owner_col m hl x
    rw [hb0] at hr
    rw [hb1] at hc
    exact hl.apart _ _ (BitVec.eq_of_toNat_eq (hr.trans (by omega))) (BitVec.eq_of_toNat_eq (hc.trans (by omega)))
  rw [hown, itemAt_injective m hl (pointOf m hl (itemAt m hl t)) t (itemAt_pointOf m hl _)]
  refine congrArg (blkAt m hl c t) ?_
  funext a; apply Fin.ext
  match a with
  | ⟨0, _⟩ => show (y 0).val = (x 0).val % 512; rw [hb0]; omega
  | ⟨1, _⟩ => show (y 1).val = (x 1).val % 1024; rw [hb1]; omega

/-- The array after the run. -/
theorem final (c : Dev nD) : (dats m hl 0 c).arrAt 6 (cfgA m hl).N = result m hl c :=
  (dats m hl 0 c).arrAt_eq_of_cover 6 _ (fun t _ => written m hl c t) (fun (i : S81920x2048.Idx) => by
    refine ⟨pointOf m hl (owner m hl i), flushes m hl _, ?_⟩
    have h := at6 m hl (pointOf m hl (owner m hl i))
    rw [itemAt_pointOf, owner_row, owner_col] at h
    have h0 : corner m hl (pointOf m hl (owner m hl i)) (0 : Fin 2) = (i 0).val / 512 := congrFun h 0
    have h1 : corner m hl (pointOf m hl (owner m hl i)) (1 : Fin 2) = (i 1).val / 1024 := congrFun h 1
    refine (blk_in_array m hl _ i).mpr fun a => ?_
    match a with
    | ⟨0, _⟩ =>
      show corner m hl (pointOf m hl (owner m hl i)) (0 : Fin 2) * 512 ≤ (i 0).val
        ∧ (i 0).val < corner m hl (pointOf m hl (owner m hl i)) (0 : Fin 2) * 512 + 512
      rw [h0]; omega
    | ⟨1, _⟩ =>
      show corner m hl (pointOf m hl (owner m hl i)) (1 : Fin 2) * 1024 ≤ (i 1).val
        ∧ (i 1).val < corner m hl (pointOf m hl (owner m hl i)) (1 : Fin 2) * 1024 + 1024
      rw [h1]; omega)

/-- The run: the result named, the arguments kept, the machine quiet. -/
theorem run : θ_run defs (onTc (τ := τ) (main (F := F))) ⟨m, fun _ => 0, ρ⟩ fun r => (∀ c : Dev nD,
      r.2.mem ((c.tc : Thread nD τ).loc main_v1) = result m hl c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun r ⟨h, hs⟩ => ⟨fun c => ⟨((h c).1 6).trans (final m hl c),
      ((h c).1 0).trans (((dats m hl 0 c).arrAt_in 0 rfl _).trans ((dats_A m hl c 0).trans (V_kept m c main_arg0 (by decide)))),
      ((h c).1 1).trans (((dats m hl 0 c).arrAt_in 1 rfl _).trans ((dats_A m hl c 1).trans (V_kept m c main_arg1 (by decide)))),
      ((h c).2 main_arg2 (Pipeline.mem_restRefs_of main_arg2 (by decide) (show ∀ w : Fin 7, (spec0 w).arr.view.ref ≠ main_arg2 by decide))).trans (V_kept m c main_arg2 (by decide)),
      ((h c).2 main_arg3 (Pipeline.mem_restRefs_of main_arg3 (by decide) (show ∀ w : Fin 7, (spec0 w).arr.view.ref ≠ main_arg3 by decide))).trans (V_kept m c main_arg3 (by decide)),
      ((h c).2 main_arg4 (Pipeline.mem_restRefs_of main_arg4 (by decide) (show ∀ w : Fin 7, (spec0 w).arr.view.ref ≠ main_arg4 by decide))).trans (V_kept m c main_arg4 (by decide)),
      ((h c).2 main_arg5 (Pipeline.mem_restRefs_of main_arg5 (by decide) (show ∀ w : Fin 7, (spec0 w).arr.view.ref ≠ main_arg5 by decide))).trans (V_kept m c main_arg5 (by decide)),
      ((h c).2 main_arg6 (Pipeline.mem_restRefs_of main_arg6 (by decide) (show ∀ w : Fin 7, (spec0 w).arr.view.ref ≠ main_arg6 by decide))).trans (V_kept m c main_arg6 (by decide)),
      ((h c).2 main_arg7 (Pipeline.mem_restRefs_of main_arg7 (by decide) (show ∀ w : Fin 7, (spec0 w).arr.view.ref ≠ main_arg7 by decide))).trans (V_kept m c main_arg7 (by decide)),
      ((h c).2 main_arg8 (Pipeline.mem_restRefs_of main_arg8 (by decide) (show ∀ w : Fin 7, (spec0 w).arr.view.ref ≠ main_arg8 by decide))).trans (V_kept m c main_arg8 (by decide)),
      ((h c).2 main_arg9 (Pipeline.mem_restRefs_of main_arg9 (by decide) (show ∀ w : Fin 7, (spec0 w).arr.view.ref ≠ main_arg9 by decide))).trans (V_kept m c main_arg9 (by decide)),
      ((h c).2 main_arg10 (Pipeline.mem_restRefs_of main_arg10 (by decide) (show ∀ w : Fin 7, (spec0 w).arr.view.ref ≠ main_arg10 by decide))).trans (V_kept m c main_arg10 (by decide)),
      ((h c).2 main_arg11 (Pipeline.mem_restRefs_of main_arg11 (by decide) (show ∀ w : Fin 7, (spec0 w).arr.view.ref ≠ main_arg11 by decide))).trans (V_kept m c main_arg11 (by decide)),
      ((h c).2 main_arg12 (Pipeline.mem_restRefs_of main_arg12 (by decide) (show ∀ w : Fin 7, (spec0 w).arr.view.ref ≠ main_arg12 by decide))).trans (V_kept m c main_arg12 (by decide))⟩, hs⟩)
    (run_ends m ρ hl)

include hl in
/-- Every run ends quiet, its arguments kept. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun _ h => ⟨fun c => (h.1 c).2, h.2⟩) (run m ρ hl)

end Cert.Kernel4Ideal.Dn

end
-- ==== Proof.Dn.Pre.lean ====
/-
  The precondition of the down projection, read: what it says of the tables is what the proof of the kernel asks of them.
-/
module

public import proofs.«01_k».proof.Proof.Dn.Frame
public import proofs.«01_k».proof.Proof.Gen.Pre_routed
public import Idealize.ShloMosaic.Lib.StableHlo.ReadAt

@[expose] public section

set_option maxRecDepth 16384

noncomputable section

namespace Cert.Pre_routed.Dn

open Idealize.ShloMosaic

/-! ## Reading the operations of the precondition -/

theorem scalar_bcast (S : Shape) (h : S_.BroadcastsInDim S (![] : Fin 0 → Fin S.rank)) (w : BitVec 32) :
    broadcastInDim S ![] h (constantI S_ 32 w) = constantI S 32 w := rfl

variable [Facts]
open Facts

/-- One word per row, and one word per column. -/
abbrev down {n : ℕ} (v : IVec S320 n) : IVec S320x1 n := broadcastInDim S320x1 ![0] bcast_S320_S320x1_0 v
abbrev along {n : ℕ} (v : IVec S320 n) : IVec S1x320 n := broadcastInDim S1x320 ![1] bcast_S320_S1x320_1 v
abbrev same (w : BitVec 32) : IVec S320x1 32 := broadcastInDim S320x1 ![] bcast_S_S320x1 (constantI S_ 32 w)
abbrev wide {n : ℕ} (v : IVec S320x1 n) : IVec S320x320 n := broadcastInDim S320x320 ![0, 1] bcast_S320x1_S320x320_0_1 v
abbrev tall {n : ℕ} (v : IVec S1x320 n) : IVec S320x320 n := broadcastInDim S320x320 ![0, 1] bcast_S1x320_S320x320_0_1 v
abbrev four {n : ℕ} (v : IVec S1x320 n) : IVec S4x320 n := broadcastInDim S4x320 ![0, 1] bcast_S1x320_S4x320_0_1 v

theorem down_at {n : ℕ} (v : IVec S320 n) (i : Fin 320) (z : Fin 1) : down v (ix2 i z) = v (ix1 i) := by
  pointwise [down]
theorem along_at {n : ℕ} (v : IVec S320 n) (z : Fin 1) (k : Fin 320) : along v (ix2 z k) = v (ix1 k) := by
  pointwise [along]
theorem wide_at {n : ℕ} (v : IVec S320x1 n) (i k : Fin 320) : wide v (ix2 i k) = v (ix2 i 0) := by
  pointwise [wide]
theorem tall_at {n : ℕ} (v : IVec S1x320 n) (i k : Fin 320) : tall v (ix2 i k) = v (ix2 0 k) := by
  pointwise [tall]
theorem four_at {n : ℕ} (v : IVec S1x320 n) (p : Fin 4) (k : Fin 320) : four v (ix2 p k) = v (ix2 0 k) := by
  pointwise [four]

theorem wide_down {n : ℕ} (v : IVec S320 n) (i k : Fin 320) : wide (down v) (ix2 i k) = v (ix1 i) := (wide_at _ i k).trans (down_at v i 0)
theorem tall_along {n : ℕ} (v : IVec S320 n) (i k : Fin 320) : tall (along v) (ix2 i k) = v (ix1 k) := (tall_at _ i k).trans (along_at v 0 k)
theorem four_along {n : ℕ} (v : IVec S320 n) (p : Fin 4) (k : Fin 320) : four (along v) (ix2 p k) = v (ix1 k) := (four_at _ p k).trans (along_at v 0 k)
theorem twice_at (v : IVec S320 32) (i k : Fin 320) : wide (muli (same 2#32) (down v)) (ix2 i k) = IntOp.muli 2#32 (v (ix1 i)) :=
  (wide_at _ i k).trans (congrArg (IntOp.muli 2#32) (down_at v i 0))
theorem twice_next_at (v : IVec S320 32) (i k : Fin 320) :
    wide (addi (muli (same 2#32) (down v)) (same 1#32)) (ix2 i k) = IntOp.addi (IntOp.muli 2#32 (v (ix1 i))) 1#32 :=
  (wide_at _ i k).trans (congrArg (fun z => IntOp.addi (IntOp.muli 2#32 z) 1#32) (down_at v i 0))

theorem slice_late {n : ℕ} (h : S320.Slices ![1] S319) (v : IVec S320 n) (k : Fin 319) :
    extractStridedSlice S319 ![1] v h (ix1 k) = v (ix1 ⟨k.val + 1, by omega⟩) := by
  pointwise []
  exact congrArg (fun z => v (ix1 z)) (Fin.ext (Nat.add_comm 1 k.val))

theorem slice_early {n : ℕ} (h : S320.Slices ![0] S319) (v : IVec S320 n) (k : Fin 319) :
    extractStridedSlice S319 ![0] v h (ix1 k) = v (ix1 ⟨k.val, by omega⟩) := by
  pointwise []

theorem place (k : Fin 320) : iotaInDim S320 32 0 (ix1 k) = BitVec.ofNat 32 k.val := by
  pointwise []

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem eq_one (a b : BitVec 32) : IntOp.cmpi .eq a b = 1#1 ↔ a = b := by
  have e (b : Bool) : BitVec.ofBool b = 1#1 ↔ b = true := by cases b <;> decide
  rw [IntOp.cmpi, e]; simp
theorem ne_one (a b : BitVec 32) : IntOp.cmpi .ne a b = 1#1 ↔ a ≠ b := by
  have e (b : Bool) : BitVec.ofBool b = 1#1 ↔ b = true := by cases b <;> decide
  rw [IntOp.cmpi, e]; simp

theorem within (a : BitVec 32) (n : ℕ) (hn : n < 2 ^ 31) (h : IntOp.cmpi .sge a 0#32 = 1#1 ∧ IntOp.cmpi .slt a (BitVec.ofNat 32 n) = 1#1) : a.toNat < n := by
  obtain ⟨h0, h1⟩ := h
  have e (b : Bool) : BitVec.ofBool b = 1#1 ↔ b = true := by cases b <;> decide
  simp only [IntOp.cmpi, e, BitVec.sle, BitVec.slt, decide_eq_true_eq, BitVec.toInt, BitVec.toNat_ofNat] at h0 h1
  have := a.isLt
  split at h0 <;> split at h1 <;> split at h1 <;> omega

variable {F : FTy → Type} [FloatOps F] (a0 : FVec F S81920x2048 .bf16) (a1 : FVec F S2x32x2048x2048 .f32) (a2 : FVec F S32x2048 .f32)
  (rbe rbv sb j e first va vb : IVec S320 32) (pe pj : IVec S4x320 32)

/-- The precondition: every word of every array that its predicate computes is one. -/
abbrev Holds : Prop :=
  (fn (F := F) a0 a1 a2 rbe rbv sb j e first va vb pe pj).1 = (fun _ => 1#1)
  ∧ (fn (F := F) a0 a1 a2 rbe rbv sb j e first va vb pe pj).2.1 = (fun _ => 1#1)
  ∧ (fn (F := F) a0 a1 a2 rbe rbv sb j e first va vb pe pj).2.2.1 = (fun _ => 1#1)
  ∧ (fn (F := F) a0 a1 a2 rbe rbv sb j e first va vb pe pj).2.2.2.1 = (fun _ => 1#1)
  ∧ (fn (F := F) a0 a1 a2 rbe rbv sb j e first va vb pe pj).2.2.2.2.1 = (fun _ => 1#1)
  ∧ (fn (F := F) a0 a1 a2 rbe rbv sb j e first va vb pe pj).2.2.2.2.2.1 = (fun _ => 1#1)
  ∧ (fn (F := F) a0 a1 a2 rbe rbv sb j e first va vb pe pj).2.2.2.2.2.2.1 = (fun _ => 1#1)
  ∧ (fn (F := F) a0 a1 a2 rbe rbv sb j e first va vb pe pj).2.2.2.2.2.2.2.1 = (fun _ => 1#1)
  ∧ (fn (F := F) a0 a1 a2 rbe rbv sb j e first va vb pe pj).2.2.2.2.2.2.2.2.1 = (fun _ => 1#1)
  ∧ (fn (F := F) a0 a1 a2 rbe rbv sb j e first va vb pe pj).2.2.2.2.2.2.2.2.2.1 = (fun _ => 1#1)
  ∧ (fn (F := F) a0 a1 a2 rbe rbv sb j e first va vb pe pj).2.2.2.2.2.2.2.2.2.2.1 = (fun _ => 1#1)
  ∧ (fn (F := F) a0 a1 a2 rbe rbv sb j e first va vb pe pj).2.2.2.2.2.2.2.2.2.2.2.1 = (fun _ => 1#1)
  ∧ (fn (F := F) a0 a1 a2 rbe rbv sb j e first va vb pe pj).2.2.2.2.2.2.2.2.2.2.2.2 = (fun _ => 1#1)

/-- What the precondition says of the tables is what the kernel needs of them. -/
theorem routed_of (h : Holds a0 a1 a2 rbe rbv sb j e first va vb pe pj) : Cert.Kernel4Ideal.Dn.Routed rbe rbv sb j e first va vb pe pj := by
  simp only [Holds, fn, fn_part1, fn_part2, fn_part3, fn_part4, fn_part5, scalar_bcast] at h
  obtain ⟨h1, h2, h3, h4, h5, h6, h7, h8, h9, h10, h11, h12, h13⟩ := h
  have hsb (i : Fin 320) : (sb (ix1 i)).toNat < 160 := by
    have q := congrFun h2 (ix1 i)
    simp only [andi, cmpi, constantI, andi_one] at q
    exact within _ 160 (by decide) q
  have even (i k : Fin 320) (hk : k.val = 2 * (sb (ix1 i)).toNat) : IntOp.muli 2#32 (sb (ix1 i)) = BitVec.ofNat 32 k.val := by
    apply BitVec.eq_of_toNat_eq
    have := hsb i
    simp only [IntOp.muli, BitVec.toNat_mul, BitVec.toNat_ofNat]
    omega
  have odd (i k : Fin 320) (hk : k.val = 2 * (sb (ix1 i)).toNat + 1) : IntOp.addi (IntOp.muli 2#32 (sb (ix1 i))) 1#32 = BitVec.ofNat 32 k.val := by
    apply BitVec.eq_of_toNat_eq
    have := hsb i
    simp only [IntOp.muli, IntOp.addi, BitVec.toNat_mul, BitVec.toNat_add, BitVec.toNat_ofNat]
    omega
  have alike (i k : Fin 320) (hik : BitVec.ofNat 32 i.val = BitVec.ofNat 32 k.val) : i = k := by
    have q := congrArg BitVec.toNat hik
    simp only [BitVec.toNat_ofNat] at q
    exact Fin.ext (by omega)
  refine ⟨fun k => ?_, hsb, fun k => ?_, fun p i => ?_, fun p i => ?_, fun i k hs hj => ?_, fun i k hk => ?_, fun i k hk => ?_, fun i k hk => ?_, fun i hv => ?_, ?_, fun n hn hf => ?_, fun p i hf => ?_⟩
  · have q := congrFun h1 (ix1 k)
    simp only [andi, cmpi, constantI, andi_one] at q
    exact within _ 32 (by decide) q
  · have q := congrFun h3 (ix1 k)
    simp only [andi, cmpi, constantI, andi_one] at q
    exact within _ 2 (by decide) q
  · have q := congrFun h4 (ix2 p i)
    simp only [andi, cmpi, constantI, andi_one] at q
    exact within _ 32 (by decide) q
  · have q := congrFun h5 (ix2 p i)
    simp only [andi, cmpi, constantI, andi_one] at q
    exact within _ 2 (by decide) q
  · have q : IntOp.ori (IntOp.ori (IntOp.cmpi .eq (wide (down (iotaInDim S320 32 0)) (ix2 i k)) (tall (along (iotaInDim S320 32 0)) (ix2 i k)))
        (IntOp.cmpi .ne (wide (down sb) (ix2 i k)) (tall (along sb) (ix2 i k))))
        (IntOp.cmpi .ne (wide (down j) (ix2 i k)) (tall (along j) (ix2 i k))) = 1#1 := congrFun h6 (ix2 i k)
    rw [wide_down, wide_down, wide_down, tall_along, tall_along, tall_along, place, place, ori_one, ori_one, eq_one, ne_one, ne_one] at q
    exact alike i k ((q.resolve_right (fun w => w hj)).resolve_right (fun w => w hs))
  · have q : IntOp.ori (IntOp.andi
        (IntOp.cmpi .ne (wide (muli (same 2#32) (down sb)) (ix2 i k)) (tall (along (iotaInDim S320 32 0)) (ix2 i k)))
        (IntOp.cmpi .ne (wide (addi (muli (same 2#32) (down sb)) (same 1#32)) (ix2 i k)) (tall (along (iotaInDim S320 32 0)) (ix2 i k))))
        (IntOp.cmpi .eq (tall (along rbe) (ix2 i k)) (wide (down e) (ix2 i k))) = 1#1 := congrFun h7 (ix2 i k)
    rw [twice_at, twice_next_at, tall_along, tall_along, wide_down, place, ori_one, andi_one, eq_one, ne_one, ne_one] at q
    refine q.resolve_left fun w => ?_
    rcases Nat.mod_two_eq_zero_or_one k.val with hp | hp
    · exact w.1 (even i k (by omega))
    · exact w.2 (odd i k (by omega))
  · have q : IntOp.ori
        (IntOp.cmpi .ne (wide (muli (same 2#32) (down sb)) (ix2 i k)) (tall (along (iotaInDim S320 32 0)) (ix2 i k)))
        (IntOp.cmpi .eq (tall (along rbv) (ix2 i k)) (wide (down va) (ix2 i k))) = 1#1 := congrFun h8 (ix2 i k)
    rw [twice_at, tall_along, tall_along, wide_down, place, ori_one, eq_one, ne_one] at q
    exact q.resolve_left fun w => w (even i k hk)
  · have q : IntOp.ori
        (IntOp.cmpi .ne (wide (addi (muli (same 2#32) (down sb)) (same 1#32)) (ix2 i k)) (tall (along (iotaInDim S320 32 0)) (ix2 i k)))
        (IntOp.cmpi .eq (tall (along rbv) (ix2 i k)) (wide (down vb) (ix2 i k))) = 1#1 := congrFun h9 (ix2 i k)
    rw [twice_next_at, tall_along, tall_along, wide_down, place, ori_one, eq_one, ne_one] at q
    exact q.resolve_left fun w => w (odd i k hk)
  · have q := congrFun h10 (ix1 i)
    simp only [ori, cmpi, constantI, ori_one, eq_one, ne_one] at q
    exact q.resolve_right fun w => w hv
  · have q := congrFun h11 (ix1 0)
    simp only [ori, cmpi, constantI, place, ori_one, eq_one, ne_one] at q
    exact q.resolve_left fun w => w rfl
  · have q := congrFun h12 (ix1 ⟨n, by omega⟩)
    simp only [ori, andi, cmpi, constantI, slice_late, slice_early, ori_one, andi_one, eq_one] at q
    exact q.resolve_left hf
  · have q : IntOp.ori (four (cmpi .ne (along first) (broadcastInDim S1x320 ![] bcast_S_S1x320 (constantI S_ 32 1#32))) (ix2 p i))
        (IntOp.andi (IntOp.cmpi .eq (pe (ix2 p i)) (four (along e) (ix2 p i))) (IntOp.cmpi .eq (pj (ix2 p i)) (four (along j) (ix2 p i)))) = 1#1 :=
      congrFun h13 (ix2 p i)
    rw [four_at, four_along, four_along, ori_one, andi_one, eq_one, eq_one] at q
    refine q.resolve_left fun w => (ne_one (first (ix1 i)) 1#32).mp ?_ hf
    rw [← along_at first 0 i]
    exact w

end Cert.Pre_routed.Dn

namespace Cert.Kernel4Ideal.Dn

open Idealize.ShloMosaic Idealize.ShloMosaic.TcCoe
open Cert.Kernel4Ideal

variable {F : FTy → Type} [FloatOps F]

/-- On the memory a launch starts from. -/
theorem routes_of (m : (ℓ : Loc nD τ sig) → Buf (Elt F) ℓ)
    (h : Cert.Pre_routed.Dn.Holds (F := F) (m (((0 : Dev nD).tc : Thread nD τ).loc main_arg0))
      (m (((0 : Dev nD).tc : Thread nD τ).loc main_arg1))
      (m (((0 : Dev nD).tc : Thread nD τ).loc main_arg2))
      (m (((0 : Dev nD).tc : Thread nD τ).loc main_arg3))
      (m (((0 : Dev nD).tc : Thread nD τ).loc main_arg4))
      (m (((0 : Dev nD).tc : Thread nD τ).loc main_arg5))
      (m (((0 : Dev nD).tc : Thread nD τ).loc main_arg6))
      (m (((0 : Dev nD).tc : Thread nD τ).loc main_arg7))
      (m (((0 : Dev nD).tc : Thread nD τ).loc main_arg8))
      (m (((0 : Dev nD).tc : Thread nD τ).loc main_arg9))
      (m (((0 : Dev nD).tc : Thread nD τ).loc main_arg10))
      (m (((0 : Dev nD).tc : Thread nD τ).loc main_arg11))
      (m (((0 : Dev nD).tc : Thread nD τ).loc main_arg12))) : Routes m :=
  Cert.Pre_routed.Dn.routed_of _ _ _ _ _ _ _ _ _ _ _ _ _ h

end Cert.Kernel4Ideal.Dn

end
-- ==== Proof.Dn.Value.lean ====
/-
  The array of the down projection: each row block of 256 that the tables mark is the product of its rows and its expert's
  weights, plus the expert's bias, and the others are zero; and so is the reference.
-/
module

public import proofs.«01_k».proof.Proof.Dn.Run
public import proofs.«01_k».proof.Proof.Dn.Pre
public import proofs.«01_k».proof.Proof.Gen.Reference4Ideal.Run
public import Idealize.ShloMosaic.Lib.StableHlo.ReadAt
public import Idealize.ShloMosaic.Lib.Routing.Ops

@[expose] public section

set_option maxRecDepth 16384

noncomputable section

namespace Cert.Dn

open Idealize.ShloMosaic

/-- Row `r`, column `n` of the down projection. -/
def down (act : (⟨2, ![81920, 2048]⟩ : Shape).Idx → EReal) (w : (⟨4, ![2, 32, 2048, 2048]⟩ : Shape).Idx → EReal) (bias : (⟨2, ![32, 2048]⟩ : Shape).Idx → EReal)
    (rbe rbv : (⟨1, ![320]⟩ : Shape).Idx → BitVec 32) (he : ∀ k : Fin 320, (rbe (ix1 k)).toNat < 32) (r : Fin 81920) (n : Fin 2048) : EReal :=
  if rbv (ix1 (⟨r.val / 256, by omega⟩ : Fin 320)) = 1#32 then
    (∑ d : Fin 2048, act (ix2 r d) * w (ix4 (1 : Fin 2) (⟨(rbe (ix1 (⟨r.val / 256, by omega⟩ : Fin 320))).toNat, he _⟩ : Fin 32) d n))
      + bias (ix2 (⟨(rbe (ix1 (⟨r.val / 256, by omega⟩ : Fin 320))).toNat, he _⟩ : Fin 32) n)
  else Ideal.ofBits .f32 0x00000000#32

end Cert.Dn

namespace Cert.Kernel4Ideal.Dn

open Idealize.ShloMosaic Idealize.ShloMosaic.TcCoe Idealize.ShloMosaic.Tactic Idealize.SL.Sem
open Cert.Kernel4Ideal Cert.Kernel4Ideal.Gen

/-! ## What a point computes, at an index -/

theorem pay5_at (a : FVec Ideal S512x2048 .bf16) (w : FVec Ideal S2048x1024 .bf16) (b : FVec Ideal S1x1x1024 .f32) (r : Fin 512) (n : Fin 1024) :
    (k0_pay5 (F := Ideal) a w b (ix2 r n) : EReal) = (∑ d : Fin 2048, a (ix2 r d) * w (ix2 d n)) + b (ix3 0 0 n) := by
  pointwise [k0_pay5]

theorem pay6_at (a : FVec Ideal S256x2048 .bf16) (w : FVec Ideal S2048x1024 .bf16) (b : FVec Ideal S1x1x1024 .f32) (r : Fin 256) (n : Fin 1024) :
    (k0_pay6 (F := Ideal) a w b (ix2 r n) : EReal) = (∑ d : Fin 2048, a (ix2 r d) * w (ix2 d n)) + b (ix3 0 0 n) := by
  pointwise [k0_pay6]

theorem pay7_at (y : S256x1024.Idx) : (k0_pay7 (F := Ideal) y : EReal) = Ideal.ofBits .f32 0x00000000#32 := rfl
theorem pay8_at (y : S512x1024.Idx) : (k0_pay8 (F := Ideal) y : EReal) = Ideal.ofBits .f32 0x00000000#32 := rfl

/-- A computed row, whichever of the two products gives it. -/
theorem outAt_row (va vb : BitVec 32) (a : FVec Ideal S512x2048 .bf16) (w : FVec Ideal S2048x1024 .bf16) (b : FVec Ideal S1x1x1024 .f32) (r : Fin 512) (n : Fin 1024)
    (h : vb = 1#32 ∨ va = 1#32 ∧ r.val < 256) :
    (outAt (F := Ideal) va vb a w b (ix2 r n) : EReal) = (∑ d : Fin 2048, a (ix2 r d) * w (ix2 d n)) + b (ix3 0 0 n) := by
  unfold outAt
  by_cases hb : vb = 1#32
  · rw [if_pos ((cond2_iff vb).mpr hb)]
    exact pay5_at a w b r n
  · obtain ⟨ha, hr⟩ := h.resolve_left hb
    rw [if_neg (fun hc => hb ((cond2_iff vb).mp hc)), if_pos ((cond3_iff va vb).mpr ⟨ha, hb⟩)]
    unfold halves
    rw [dif_pos (show ((ix2 r n : S512x1024.Idx) 0).val < 256 from hr)]
    exact pay6_at (upper (F := Ideal) a) w b ⟨r.val, hr⟩ n

/-- A row that is not computed. -/
theorem outAt_zero (va vb : BitVec 32) (a : FVec Ideal S512x2048 .bf16) (w : FVec Ideal S2048x1024 .bf16) (b : FVec Ideal S1x1x1024 .f32) (r : Fin 512) (n : Fin 1024)
    (hb : vb ≠ 1#32) (h : va = 1#32 → 256 ≤ r.val) :
    (outAt (F := Ideal) va vb a w b (ix2 r n) : EReal) = Ideal.ofBits .f32 0x00000000#32 := by
  unfold outAt
  rw [if_neg (fun hc => hb ((cond2_iff vb).mp hc))]
  by_cases ha : va = 1#32
  · rw [if_pos ((cond3_iff va vb).mpr ⟨ha, hb⟩)]
    unfold halves
    rw [dif_neg (show ¬ ((ix2 r n : S512x1024.Idx) 0).val < 256 from Nat.not_lt.mpr (h ha))]
    exact pay7_at _
  · rw [if_neg (fun hc => ha ((cond3_iff va vb).mp hc).1)]
    exact pay8_at _

variable (m : (ℓ : Loc nD τ sig) → Buf (Elt Ideal) ℓ) (hl : Routes m) (c : Dev nD)

/-! ## What a point reads -/

theorem bias_at (e : Fin 32) (z : Fin 1) (n : Fin 2048) : (V m c main_v0 (ix3 e z n) : EReal) = m ((c : Thread nD τ).loc main_arg2) (ix2 e n) := by
  unfold V
  after_reads_at

theorem blk0_at (t : Fin (cfgA m hl).N) (a : Fin 512) (d : Fin 2048) (r : Fin 81920)
    (hr : r.val = (tables m 0 (ix1 (itemAt m hl t)) : BitVec 32).toNat * 512 + a.val) :
    (iblk m hl c 0 t (ix2 a d) : EReal) = m ((c : Thread nD τ).loc main_arg0) (ix2 r d) := by
  refine Eq.trans ?_ (congrFun (V_kept m c main_arg0 (by decide)) (ix2 r d))
  refine congrArg (V m c main_arg0) ?_
  have h := moves0 (tables m) (grid0.coords t)
  funext i; apply Fin.ext
  match i with
  | ⟨0, _⟩ => show cc0_transform_0 k0_off1_inb numel1_S1 (tables m) (grid0.coords t) 0 * 512 + 1 * a.val = r.val; rw [h, hr, Nat.one_mul]; rfl
  | ⟨1, _⟩ => show cc0_transform_0 k0_off1_inb numel1_S1 (tables m) (grid0.coords t) 1 * 2048 + 1 * d.val = d.val; rw [h]; show 0 * 2048 + 1 * d.val = d.val; omega

theorem blk5_at (t : Fin (cfgA m hl).N) (b : Fin 1024) (e : Fin 32) (n : Fin 2048)
    (he : e.val = (tables m 2 (ix1 (itemAt m hl t)) : BitVec 32).toNat)
    (hn : n.val = (tables m 1 (ix1 (itemAt m hl t)) : BitVec 32).toNat * 1024 + b.val) :
    (iblk m hl c 5 t (ix3 0 0 b) : EReal) = m ((c : Thread nD τ).loc main_arg2) (ix2 e n) := by
  refine Eq.trans ?_ (bias_at m c e 0 n)
  refine congrArg (V m c main_v0) ?_
  have h := moves5 (tables m) (grid0.coords t)
  funext i; apply Fin.ext
  match i with
  | ⟨0, _⟩ => show cc0_transform_5 k0_off1_inb numel1_S1 (tables m) (grid0.coords t) 0 * 1 + 1 * 0 = e.val; rw [h, he, Nat.mul_one]; rfl
  | ⟨1, _⟩ => show cc0_transform_5 k0_off1_inb numel1_S1 (tables m) (grid0.coords t) 1 * 1 + 1 * 0 = 0; rw [h]; rfl
  | ⟨2, _⟩ => show cc0_transform_5 k0_off1_inb numel1_S1 (tables m) (grid0.coords t) 2 * 1024 + 1 * b.val = n.val; rw [h, hn, Nat.one_mul]; rfl

theorem slab_at (i : Fin 320) (d : Fin 2048) (b : Fin 1024) (e : Fin 32) (n : Fin 2048)
    (he : e.val = (tables m 2 (ix1 i) : BitVec 32).toNat) (hn : n.val = (tables m 1 (ix1 i) : BitVec 32).toNat * 1024 + b.val) :
    (slab m hl c i (ix2 d b) : EReal) = m ((c : Thread nD τ).loc main_arg1) (ix4 (1 : Fin 2) e d n) := by
  refine Eq.trans ?_ (congrFun (V_kept m c main_arg1 (by decide)) (ix4 (1 : Fin 2) e d n))
  obtain rfl : e = (⟨(tables m 2 (ix1 i) : BitVec 32).toNat, hl.e_lt i⟩ : Fin 32) := Fin.ext he
  have hn' : (tables m 1 (ix1 i) : BitVec 32).toNat * 1024 + b.val < 2048 := hn ▸ n.isLt
  obtain rfl : n = (⟨(tables m 1 (ix1 i) : BitVec 32).toNat * 1024 + b.val, hn'⟩ : Fin 2048) := Fin.ext hn
  rfl

/-- The array the kernel leaves. -/
theorem result_at (r : Fin 81920) (n : Fin 2048) :
    (result m hl c (ix2 r n) : EReal)
      = Cert.Dn.down (m ((c : Thread nD τ).loc main_arg0)) (m ((c : Thread nD τ).loc main_arg1)) (m ((c : Thread nD τ).loc main_arg2))
          (m (((0 : Dev nD) : Thread nD τ).loc main_arg3)) (m (((0 : Dev nD) : Thread nD τ).loc main_arg4)) hl.rbe_lt r n := by
  have hrow : (tables m 0 (ix1 (owner m hl (ix2 r n))) : BitVec 32).toNat = r.val / 512 := owner_row m hl (ix2 r n)
  have hcol : (tables m 1 (ix1 (owner m hl (ix2 r n))) : BitVec 32).toNat = n.val / 1024 := owner_col m hl (ix2 r n)
  unfold result blkAt
  generalize owner m hl (ix2 r n) = i at hrow hcol
  have hi := itemAt_pointOf m hl i
  rw [hi]
  have hexp := hl.expert i (⟨r.val / 256, by omega⟩ : Fin 320) (by show r.val / 256 / 2 = _; rw [hrow]; omega)
  have hmark : (m (((0 : Dev nD) : Thread nD τ).loc main_arg4) (ix1 (⟨r.val / 256, by omega⟩ : Fin 320)) : BitVec 32) = 1#32
      ↔ (tables m 5 (ix1 i) : BitVec 32) = 1#32 ∨ (tables m 4 (ix1 i) : BitVec 32) = 1#32 ∧ r.val % 512 < 256 := by
    by_cases hp : r.val % 512 < 256
    · rw [hl.first_flag i (⟨r.val / 256, by omega⟩ : Fin 320) (by show r.val / 256 = _; rw [hrow]; omega)]
      exact ⟨fun h => .inr ⟨h, hp⟩, fun h => h.elim (hl.in_order i) (·.1)⟩
    · rw [hl.second_flag i (⟨r.val / 256, by omega⟩ : Fin 320) (by show r.val / 256 = _; rw [hrow]; omega)]
      exact ⟨.inl, fun h => h.elim id (fun w => absurd w.2 hp)⟩
  unfold Cert.Dn.down
  by_cases hm : (m (((0 : Dev nD) : Thread nD τ).loc main_arg4) (ix1 (⟨r.val / 256, by omega⟩ : Fin 320)) : BitVec 32) = 1#32
  · rw [if_pos hm]
    refine (outAt_row _ _ _ _ _ _ _ (hmark.mp hm)).trans ?_
    refine congrArg₂ (· + ·) (Finset.sum_congr rfl fun d _ => congrArg₂ (· * ·) ?_ ?_) ?_
    · refine blk0_at m hl c (pointOf m hl i) _ d r ?_
      rw [hi, hrow]
      show r.val = r.val / 512 * 512 + r.val % 512
      omega
    · refine slab_at m hl c i d _ _ n (congrArg BitVec.toNat hexp) ?_
      rw [hcol]
      show n.val = n.val / 1024 * 1024 + n.val % 1024
      omega
    · refine blk5_at m hl c (pointOf m hl i) _ _ n ?_ ?_
      · rw [hi]; exact congrArg BitVec.toNat hexp
      · rw [hi, hcol]
        show n.val = n.val / 1024 * 1024 + n.val % 1024
        omega
  · rw [if_neg hm]
    exact outAt_zero _ _ _ _ _ _ _ (fun h => hm (hmark.mpr (.inl h))) (fun h => Nat.not_lt.mp fun hp => hm (hmark.mpr (.inr ⟨h, hp⟩)))

end Cert.Kernel4Ideal.Dn

namespace Cert.Reference4Ideal.Dn

open Idealize.ShloMosaic Idealize.ShloMosaic.TcCoe Idealize.SL.Sem
open Cert.Reference4Ideal Cert.Reference4Ideal.Gen

/-- Each row block's rows with its expert's weights and bias, where the tables mark the block. -/
def marked (x : FVec Ideal S320x256x2048 .f32) (w : FVec Ideal S320x2048x2048 .f32) (b : FVec Ideal S320x2048 .f32) (rbv : IVec S320 32) : FVec Ideal S320x256x2048 .f32 :=
  select (broadcastInDim S320x256x2048 ![0, 1, 2] bcast_S320x1x1_S320x256x2048_0_1_2 (broadcastInDim S320x1x1 ![0] bcast_S320_S320x1x1_0
      (cmpi .eq rbv (broadcastInDim S320 ![] bcast_S_S320 (constantI S_ 32 1#32)))))
    (addf (Host.dotGeneral (F := Ideal) dot_S320x256x2048_S320x2048x2048_S320x256x2048_2_1_1_2_0_0 none x w)
      (broadcastInDim S320x256x2048 ![0, 1, 2] bcast_S320x1x2048_S320x256x2048_0_1_2 (broadcastInDim S320x1x2048 ![0, 2] bcast_S320x2048_S320x1x2048_0_2 b)))
    (broadcastInDim S320x256x2048 ![] bcast_S_S320x256x2048 (constant S_ .f32 0x00000000#32))

theorem marked_at (x : FVec Ideal S320x256x2048 .f32) (w : FVec Ideal S320x2048x2048 .f32) (b : FVec Ideal S320x2048 .f32) (rbv : IVec S320 32)
    (k : Fin 320) (a : Fin 256) (n : Fin 2048) :
    (marked x w b rbv (ix3 k a n) : EReal)
      = Scalar.select (IntOp.cmpi .eq (rbv (ix1 k)) 1#32) ((∑ d : Fin 2048, x (ix3 k a d) * w (ix3 k d n)) + b (ix2 k n)) (Ideal.ofBits .f32 0x00000000#32) := by
  pointwise [marked]

theorem flat_at (x : FVec Ideal S320x256x2048 .f32) (r : Fin 81920) (n : Fin 2048) :
    (shapeCast S81920x2048 x shapeCasts_S320x256x2048_S81920x2048 (ix2 r n) : EReal)
      = x (ix3 (⟨r.val / 256, by omega⟩ : Fin 320) (⟨r.val % 256, by omega⟩ : Fin 256) n) := by
  pointwise []

theorem split_at (x : FVec Ideal S81920x2048 .bf16) (k : Fin 320) (a : Fin 256) (d : Fin 2048) :
    (shapeCast S320x256x2048 (extf .f32 x bitsLt_bf16_f32) shapeCasts_S81920x2048_S320x256x2048 (ix3 k a d) : EReal)
      = x (ix2 (⟨k.val * 256 + a.val, by omega⟩ : Fin 81920) d) := by
  pointwise []

theorem layer_at (w : FVec Ideal S2x32x2048x2048 .f32) (e : Fin 32) (d n : Fin 2048) :
    (shapeCast S32x2048x2048 (extractStridedSlice S1x32x2048x2048 ![1, 0, 0, 0] w slices_S2x32x2048x2048_S1x32x2048x2048_1_0_0_0)
      shapeCasts_S1x32x2048x2048_S32x2048x2048 (ix3 e d n) : EReal) = w (ix4 (1 : Fin 2) e d n) := by
  pointwise []

theorem column_at (v : IVec S320 32) (k : Fin 320) (z : Fin 1) : broadcastInDim S320x1 ![0] bcast_S320_S320x1_0 v (ix2 k z) = v (ix1 k) := by
  pointwise []

/-- Taking whole matrices out of a stack of them. -/
theorem take_at (w : FVec Ideal S32x2048x2048 .f32) (idx : IVec S320x1 32) (k : Fin 320) (e : Fin 32) (he : idx (ix2 k (0 : Fin 1)) = BitVec.ofNat 32 e.val)
    (d n : Fin 2048) : Host.gather gather_S32x2048x2048_S320x1_S320x2048x2048_12_0_n_n_0_1_120482048 w idx (ix3 k d n) = w (ix3 e d n) := by
  unfold Host.gather
  refine congrArg w (funext fun a => Fin.ext ?_)
  show GatherDims.start gather_S32x2048x2048_S320x1_S320x2048x2048_12_0_n_n_0_1_120482048 (ix3 k d n) idx a
    + GatherDims.batchCoord gather_S32x2048x2048_S320x1_S320x2048x2048_12_0_n_n_0_1_120482048 (ix3 k d n) a
    + GatherDims.offCoord gather_S32x2048x2048_S320x1_S320x2048x2048_12_0_n_n_0_1_120482048 (ix3 k d n) a = _
  rw [GatherDims.batchCoord_eq_zero _ _ _ (show a ∉ ([] : List (Fin 3)) from List.not_mem_nil), Nat.add_zero]
  match a with
  | ⟨0, h⟩ =>
    rw [GatherDims.offCoord_eq_zero _ _ _ (fun h => ((GatherDims.mem_sKept _ _).mp h).1 (List.mem_singleton.mpr rfl)), Nat.add_zero]
    have hs : GatherDims.siIdx gather_S32x2048x2048_S320x1_S320x2048x2048_12_0_n_n_0_1_120482048 (ix3 k d n)
        ⟨List.idxOf (0 : Fin 3) ([0] : List (Fin 3)), List.idxOf_lt_length_iff.2 (List.mem_singleton.mpr rfl)⟩ = ix2 k (0 : Fin 1) := by
      funext b; apply Fin.ext
      match b with
      | ⟨0, _⟩ => rfl
      | ⟨1, _⟩ => rfl
    refine (dif_pos (show (0 : Fin 3) ∈ ([0] : List (Fin 3)) from List.mem_singleton.mpr rfl)).trans ?_
    refine (congrArg (fun x => min (idx x).toInt.toNat (32 - 1)) hs).trans ?_
    have hlt := e.isLt
    dsimp only
    rw [he, StableHlo.Predicate.toInt_ofNat_small _ (by omega)]
    show min ((e.val : Int)).toNat (32 - 1) = e.val
    omega
  | ⟨1, h⟩ =>
    have h0 : GatherDims.start gather_S32x2048x2048_S320x1_S320x2048x2048_12_0_n_n_0_1_120482048 (ix3 k d n) idx ⟨1, h⟩ = 0 :=
      dif_neg (show (1 : Fin 3) ∉ ([0] : List (Fin 3)) by decide)
    rw [h0, Nat.zero_add]
    rfl
  | ⟨2, h⟩ =>
    have h0 : GatherDims.start gather_S32x2048x2048_S320x1_S320x2048x2048_12_0_n_n_0_1_120482048 (ix3 k d n) idx ⟨2, h⟩ = 0 :=
      dif_neg (show (2 : Fin 3) ∉ ([0] : List (Fin 3)) by decide)
    rw [h0, Nat.zero_add]
    rfl

/-- The reference's result. -/
def projected (act : FVec Ideal S81920x2048 .bf16) (w : FVec Ideal S2x32x2048x2048 .f32) (bias : FVec Ideal S32x2048 .f32) (rbe rbv : IVec S320 32) :
    FVec Ideal S81920x2048 .f32 :=
  shapeCast _ (marked (shapeCast _ (extf .f32 act bitsLt_bf16_f32) shapeCasts_S81920x2048_S320x256x2048)
    (Host.gather gather_S32x2048x2048_S320x1_S320x2048x2048_12_0_n_n_0_1_120482048
      (shapeCast _ (extractStridedSlice S1x32x2048x2048 ![1, 0, 0, 0] w slices_S2x32x2048x2048_S1x32x2048x2048_1_0_0_0) shapeCasts_S1x32x2048x2048_S32x2048x2048)
      (broadcastInDim S320x1 ![0] bcast_S320_S320x1_0 rbe))
    (Host.gather gather_S32x2048_S320x1_S320x2048_1_0_n_n_0_1_12048 bias (broadcastInDim S320x1 ![0] bcast_S320_S320x1_0 rbe)) rbv)
    shapeCasts_S320x256x2048_S81920x2048

theorem projected_at (act : FVec Ideal S81920x2048 .bf16) (w : FVec Ideal S2x32x2048x2048 .f32) (bias : FVec Ideal S32x2048 .f32) (rbe rbv : IVec S320 32)
    (he : ∀ k : Fin 320, (rbe (ix1 k)).toNat < 32) (r : Fin 81920) (n : Fin 2048) :
    (projected act w bias rbe rbv (ix2 r n) : EReal) = Cert.Dn.down act w bias rbe rbv he r n := by
  refine (flat_at _ r n).trans ((marked_at _ _ _ _ _ _ _).trans ?_)
  have hk (z : Fin 1) : broadcastInDim S320x1 ![0] bcast_S320_S320x1_0 rbe (ix2 (⟨r.val / 256, by omega⟩ : Fin 320) z)
      = BitVec.ofNat 32 (⟨(rbe (ix1 (⟨r.val / 256, by omega⟩ : Fin 320))).toNat, he _⟩ : Fin 32).val := by
    rw [column_at]
    show _ = BitVec.ofNat 32 (BitVec.toNat _)
    rw [BitVec.ofNat_toNat, BitVec.setWidth_eq]
  unfold Cert.Dn.down
  by_cases hm : rbv (ix1 (⟨r.val / 256, by omega⟩ : Fin 320)) = 1#32
  · rw [if_pos hm, (Cert.Pre_routed.Dn.eq_one _ _).mpr hm]
    refine congrArg₂ (· + ·) (Finset.sum_congr rfl fun d _ => congrArg₂ (· * ·) ?_ ?_) ?_
    · refine (split_at act _ _ d).trans (congrArg (fun z => act (ix2 z d)) (Fin.ext ?_))
      show r.val / 256 * 256 + r.val % 256 = r.val
      omega
    · exact (take_at _ _ _ _ (hk 0) d n).trans (layer_at w _ d n)
    · exact Routing.gather_row _ rfl rfl rfl rfl rfl bias _ _ n _ (hk 0) (by decide)
  · rw [if_neg hm, ValueIdx.eq_zero_of_ne_one (fun h => hm ((Cert.Pre_routed.Dn.eq_one _ _).mp h))]
    rfl

end Cert.Reference4Ideal.Dn

namespace Cert.Dn

open Idealize.ShloMosaic Idealize.ShloMosaic.TcCoe Idealize.SL.Sem

/-- The reference's array is the kernel's. -/
theorem result4_eq (m : (ℓ : Loc Cert.Kernel4Ideal.nD Cert.Kernel4Ideal.τ Cert.Kernel4Ideal.sig) → Buf (Elt Ideal) ℓ) (hl : Cert.Kernel4Ideal.Dn.Routes m)
    (act : FVec Ideal Cert.Reference4Ideal.S81920x2048 .bf16) (w : FVec Ideal Cert.Reference4Ideal.S2x32x2048x2048 .f32)
    (bias : FVec Ideal Cert.Reference4Ideal.S32x2048 .f32) (rbe rbv : IVec Cert.Reference4Ideal.S320 32) (c : Dev Cert.Kernel4Ideal.nD)
    (h0 : act = m ((c : Thread Cert.Kernel4Ideal.nD Cert.Kernel4Ideal.τ).loc Cert.Kernel4Ideal.main_arg0))
    (h1 : w = m ((c : Thread Cert.Kernel4Ideal.nD Cert.Kernel4Ideal.τ).loc Cert.Kernel4Ideal.main_arg1))
    (h2 : bias = m ((c : Thread Cert.Kernel4Ideal.nD Cert.Kernel4Ideal.τ).loc Cert.Kernel4Ideal.main_arg2))
    (h3 : rbe = m ((c : Thread Cert.Kernel4Ideal.nD Cert.Kernel4Ideal.τ).loc Cert.Kernel4Ideal.main_arg3))
    (h4 : rbv = m ((c : Thread Cert.Kernel4Ideal.nD Cert.Kernel4Ideal.τ).loc Cert.Kernel4Ideal.main_arg4)) :
    Cert.Reference4Ideal.Dn.projected act w bias rbe rbv = Cert.Kernel4Ideal.Dn.result m hl c := by
  obtain rfl : c = 0 := Subsingleton.elim _ _
  subst h0 h1 h2 h3 h4
  funext y
  change Cert.Reference4Ideal.S81920x2048.Idx at y
  idx_vars y
  exact (Cert.Reference4Ideal.Dn.projected_at _ _ _ _ _ hl.rbe_lt _ _).trans (Cert.Kernel4Ideal.Dn.result_at m hl 0 _ _).symm

end Cert.Dn

end
-- ==== Proof.Up.Loops.lean ====
/-
  The eight counted loops of a grid point that announces new weights: each casts one quarter of the gate's or of the
  up-projection's weights into its scratch, 256 rows a trip. What the loops leave is read off the stored pieces, which tile
  each scratch.
-/
module

public import proofs.«01_k».proof.Proof.Gen.Kernel5Ideal.Launch
public import proofs.«01_k».proof.Proof.Gen.Kernel5Ideal.Loops
public import proofs.«01_k».proof.Proof.Gen.Kernel5Ideal.Skeleton
public import proofs.«01_k».proof.Proof.Dn.Loops

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen
open Cert.Kernel4Ideal.Dn (narrow weights weights_at emb_rows piece upTo upTo_succ of_mem_upTo)

variable {F : FTy → Type} [FloatOps F]

local notation "𝕄" => MT nD τ sig Unit (Elt F) ℕ (UR sig nD τ) ℕ

/-- 256 rows of a quarter of the weights, as a trip loads them. -/
abbrev part (M : Memref sig .tc .vmem S1x1x512x1024 .f32) (X : BufTy.Contents (Elt F) M.view.ty) (off : Fin 2 → ℕ) (inb : ∀ a, off a + S256x1024.size a ≤ S512x1024.size a) : Vec F S256x1024 .f32 :=
  View.readAt (Elt F) ((M.slice (Rect.unit (s := S1x1x512x1024) ![0, 0, 0, 0] S1x1x512x1024.size inb_S1x1x512x1024_S1x1x512x1024_0_0_0_0) (fun _ => rfl)).squeeze S512x1024 squeezes_S1x1x512x1024_S512x1024).view
    (Rect.unit (s := S512x1024) off S256x1024.size inb).toLoadRect X

/-- What the trips of a loop store: 256 rows each, loaded at the one offsets, cast, and put at the other. -/
abbrev rows {n : ℕ} (src dst : Fin n → Fin 2 → ℕ) (hs : ∀ k a, src k a + S256x1024.size a ≤ S512x1024.size a) (hd : ∀ k a, dst k a + S256x1024.size a ≤ S2048x1024.size a)
    (M : Memref sig .tc .vmem S1x1x512x1024 .f32) (X : BufTy.Contents (Elt F) M.view.ty) (k : Fin n) : View.Piece (Elt F) S2048x1024 .bf16 :=
  piece (dst k) (hd k) (k0_pay4 (part M X (src k) (hs k)))

/-- A vector buffer's memref held at the contents `f`. -/
abbrev heldAt (c : Dev nD) {S : Shape} {e : EltTy} (M : Memref sig .tc .vmem S e) (f : BufTy.Contents (Elt F) M.view.ty) : sProp 𝕄 :=
  M.view.loc (c : Thread nD τ) ↦[M.view.set]{fullShare} f

/-- Before trip `k` of a loop: its quarter is read, the rows of the trips so far are stored over the scratch as found. -/
abbrev filled (c : Dev nD) (M : Memref sig .tc .vmem S1x1x512x1024 .f32) (W : Memref sig .tc .vmem S2048x1024 .bf16) (X : BufTy.Contents (Elt F) M.view.ty)
    (G : BufTy.Contents (Elt F) W.view.ty) {n : ℕ} (L : Fin n → View.Piece (Elt F) S2048x1024 .bf16) (k : ℕ) : sProp 𝕄 :=
  iprop(heldAt c M X ∗ ∃ f, heldAt c W f ∗ ⌜f = W.view.writes (Elt F) G (upTo L k)⌝)

abbrev rows1 (M : Memref sig .tc .vmem S1x1x512x1024 .f32) (X : BufTy.Contents (Elt F) M.view.ty) := rows (n := k0_t1_loop.trips) k0_off6 k0_off7 k0_off6_inb k0_off7_inb M X
abbrev rows2 (M : Memref sig .tc .vmem S1x1x512x1024 .f32) (X : BufTy.Contents (Elt F) M.view.ty) := rows (n := k0_t2_loop.trips) k0_off8 k0_off9 k0_off8_inb k0_off9_inb M X
abbrev rows3 (M : Memref sig .tc .vmem S1x1x512x1024 .f32) (X : BufTy.Contents (Elt F) M.view.ty) := rows (n := k0_t3_loop.trips) k0_off10 k0_off11 k0_off10_inb k0_off11_inb M X
abbrev rows4 (M : Memref sig .tc .vmem S1x1x512x1024 .f32) (X : BufTy.Contents (Elt F) M.view.ty) := rows (n := k0_t4_loop.trips) k0_off12 k0_off13 k0_off12_inb k0_off13_inb M X
abbrev rows5 (M : Memref sig .tc .vmem S1x1x512x1024 .f32) (X : BufTy.Contents (Elt F) M.view.ty) := rows (n := k0_t5_loop.trips) k0_off14 k0_off15 k0_off14_inb k0_off15_inb M X
abbrev rows6 (M : Memref sig .tc .vmem S1x1x512x1024 .f32) (X : BufTy.Contents (Elt F) M.view.ty) := rows (n := k0_t6_loop.trips) k0_off16 k0_off17 k0_off16_inb k0_off17_inb M X
abbrev rows7 (M : Memref sig .tc .vmem S1x1x512x1024 .f32) (X : BufTy.Contents (Elt F) M.view.ty) := rows (n := k0_t7_loop.trips) k0_off18 k0_off19 k0_off18_inb k0_off19_inb M X
abbrev rows8 (M : Memref sig .tc .vmem S1x1x512x1024 .f32) (X : BufTy.Contents (Elt F) M.view.ty) := rows (n := k0_t8_loop.trips) k0_off20 k0_off21 k0_off20_inb k0_off21_inb M X

section Loops

variable (c : Dev nD) (E : Set ℕ) (i : grid0.Coords) (arg1 : Memref sig .tc .smem S320 .i32) (harg1 : arg1.IsWhole) (arg2 : Memref sig .tc .smem S320 .i32) (harg2 : arg2.IsWhole) (arg3 : Memref sig .tc .smem S320 .i32) (harg3 : arg3.IsWhole) (arg4 : Memref sig .tc .smem S320 .i32) (harg4 : arg4.IsWhole) (arg5 : Memref sig .tc .smem S320 .i32) (harg5 : arg5.IsWhole) (arg6 : Memref sig .tc .smem S320 .i32) (harg6 : arg6.IsWhole) (arg7 : Memref sig .tc .smem S4x320 .i32) (harg7 : arg7.IsWhole) (arg8 : Memref sig .tc .smem S4x320 .i32) (harg8 : arg8.IsWhole) (arg9 : Memref sig .tc .vmem S4096x128 .i32) (harg9 : arg9.IsWhole) (arg10 : Memref sig .tc .vmem S1x1x512x1024 .f32) (harg10 : arg10.IsWhole) (arg11 : Memref sig .tc .vmem S1x1x512x1024 .f32) (harg11 : arg11.IsWhole) (arg12 : Memref sig .tc .vmem S1x1x512x1024 .f32) (harg12 : arg12.IsWhole) (arg13 : Memref sig .tc .vmem S1x1x512x1024 .f32) (harg13 : arg13.IsWhole) (arg14 : Memref sig .tc .vmem S1x1x512x1024 .f32) (harg14 : arg14.IsWhole) (arg15 : Memref sig .tc .vmem S1x1x512x1024 .f32) (harg15 : arg15.IsWhole) (arg16 : Memref sig .tc .vmem S1x1x512x1024 .f32) (harg16 : arg16.IsWhole) (arg17 : Memref sig .tc .vmem S1x1x512x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S512x1024 .bf16) (harg20 : arg20.IsWhole) (arg21 : Memref sig .tc .vmem S2048x1024 .bf16) (harg21 : arg21.IsWhole) (arg22 : Memref sig .tc .vmem S2048x1024 .bf16) (harg22 : arg22.IsWhole)

set_option warn.classDefReducibility false in
@[sl_loop] def fill1 (X : BufTy.Contents (Elt F) arg10.view.ty) (G : BufTy.Contents (Elt F) arg21.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg10 arg21 X G (rows1 arg10 X) k
  step k _ := by
    iintro ⟨HX, %f, HW, %hf⟩
    unfold k0_t1_body
    sl_exec
    sl_step
    isplitl [HX]; · iexact HX
    iexists _
    isplitl [HW]; · iexact HW
    ipureintro
    rw [hf, upTo_succ, View.writes_append]; rfl

set_option warn.classDefReducibility false in
@[sl_loop] def fill2 (X : BufTy.Contents (Elt F) arg14.view.ty) (G : BufTy.Contents (Elt F) arg22.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg14 arg22 X G (rows2 arg14 X) k
  step k _ := by
    iintro ⟨HX, %f, HW, %hf⟩
    unfold k0_t2_body
    sl_exec
    sl_step
    isplitl [HX]; · iexact HX
    iexists _
    isplitl [HW]; · iexact HW
    ipureintro
    rw [hf, upTo_succ, View.writes_append]; rfl

set_option warn.classDefReducibility false in
@[sl_loop] def fill3 (X : BufTy.Contents (Elt F) arg11.view.ty) (G : BufTy.Contents (Elt F) arg21.view.ty) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg11 arg21 X G (rows3 arg11 X) k
  step k _ := by
    iintro ⟨HX, %f, HW, %hf⟩
    unfold k0_t3_body
    sl_exec
    sl_step
    isplitl [HX]; · iexact HX
    iexists _
    isplitl [HW]; · iexact HW
    ipureintro
    rw [hf, upTo_succ, View.writes_append]; rfl

set_option warn.classDefReducibility false in
@[sl_loop] def fill4 (X : BufTy.Contents (Elt F) arg15.view.ty) (G : BufTy.Contents (Elt F) arg22.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg15 arg22 X G (rows4 arg15 X) k
  step k _ := by
    iintro ⟨HX, %f, HW, %hf⟩
    unfold k0_t4_body
    sl_exec
    sl_step
    isplitl [HX]; · iexact HX
    iexists _
    isplitl [HW]; · iexact HW
    ipureintro
    rw [hf, upTo_succ, View.writes_append]; rfl

set_option warn.classDefReducibility false in
@[sl_loop] def fill5 (X : BufTy.Contents (Elt F) arg12.view.ty) (G : BufTy.Contents (Elt F) arg21.view.ty) :
    LoopInvTy_k0_t5 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg12 arg21 X G (rows5 arg12 X) k
  step k _ := by
    iintro ⟨HX, %f, HW, %hf⟩
    unfold k0_t5_body
    sl_exec
    sl_step
    isplitl [HX]; · iexact HX
    iexists _
    isplitl [HW]; · iexact HW
    ipureintro
    rw [hf, upTo_succ, View.writes_append]; rfl

set_option warn.classDefReducibility false in
@[sl_loop] def fill6 (X : BufTy.Contents (Elt F) arg16.view.ty) (G : BufTy.Contents (Elt F) arg22.view.ty) :
    LoopInvTy_k0_t6 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg16 arg22 X G (rows6 arg16 X) k
  step k _ := by
    iintro ⟨HX, %f, HW, %hf⟩
    unfold k0_t6_body
    sl_exec
    sl_step
    isplitl [HX]; · iexact HX
    iexists _
    isplitl [HW]; · iexact HW
    ipureintro
    rw [hf, upTo_succ, View.writes_append]; rfl

set_option warn.classDefReducibility false in
@[sl_loop] def fill7 (X : BufTy.Contents (Elt F) arg13.view.ty) (G : BufTy.Contents (Elt F) arg21.view.ty) :
    LoopInvTy_k0_t7 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg13 arg21 X G (rows7 arg13 X) k
  step k _ := by
    iintro ⟨HX, %f, HW, %hf⟩
    unfold k0_t7_body
    sl_exec
    sl_step
    isplitl [HX]; · iexact HX
    iexists _
    isplitl [HW]; · iexact HW
    ipureintro
    rw [hf, upTo_succ, View.writes_append]; rfl

set_option warn.classDefReducibility false in
@[sl_loop] def fill8 (X : BufTy.Contents (Elt F) arg17.view.ty) (G : BufTy.Contents (Elt F) arg22.view.ty) :
    LoopInvTy_k0_t8 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv k _ := filled c arg17 arg22 X G (rows8 arg17 X) k
  step k _ := by
    iintro ⟨HX, %f, HW, %hf⟩
    unfold k0_t8_body
    sl_exec
    sl_step
    isplitl [HX]; · iexact HX
    iexists _
    isplitl [HW]; · iexact HW
    ipureintro
    rw [hf, upTo_succ, View.writes_append]; rfl

end Loops

/-- An element of the rows a trip loads. -/
theorem part_at (M : Memref sig .tc .vmem S1x1x512x1024 .f32) (h : M.IsWhole) (x : Vec F S1x1x512x1024 .f32) (off : Fin 2 → ℕ) (o : ℕ) (e : off = ![o, 0]) (inb : ∀ a, off a + S256x1024.size a ≤ S512x1024.size a)
    (a : Fin 256) (b : Fin 1024) (ho : o + a.val < 512) : part M (h.unread x) off inb (ix2 a b) = x (ix4 0 0 ⟨o + a.val, ho⟩ b) := by
  subst e
  refine Eq.trans ?_ (congrFun (h.read_unread x) _)
  show M.view.read (Elt F) (h.unread x) _ = _
  refine congrArg _ ?_
  rw [show (Rect.unit (s := S512x1024) ![o, 0] S256x1024.size inb).idx (ix2 a b) = ix2 ⟨o + a.val, ho⟩ b from by
    funext i
    refine Fin.cases ?_ (fun j => Fin.cases ?_ (fun j => j.elim0) j) i
    · apply Fin.ext; show o + 1 * a.val = o + a.val; omega
    · apply Fin.ext; show 0 + 1 * b.val = b.val; omega]
  refine Eq.trans (congrArg _ (ValueIdx.reshapeEquiv_ix2_11ab (a := 512) (b := 1024) _ ⟨o + a.val, ho⟩ b)) ?_
  funext i
  refine Fin.cases ?_ (fun j => Fin.cases ?_ (fun j => Fin.cases ?_ (fun j => Fin.cases ?_ (fun j => j.elim0) j) j) j) i
  · exact Subsingleton.elim (α := Fin 1) _ _
  · exact Subsingleton.elim (α := Fin 1) _ _
  · apply Fin.ext; show 0 + 1 * (o + a.val) = o + a.val; omega
  · apply Fin.ext; show 0 + 1 * b.val = b.val; omega

/-- The pieces of a loop over quarter `p` hold its rows of the cast weights. -/
theorem rows_at {n : ℕ} (hn : n = 2) (p : Fin 4) (src dst : Fin n → Fin 2 → ℕ) (hs : ∀ k a, src k a + S256x1024.size a ≤ S512x1024.size a) (hd : ∀ k a, dst k a + S256x1024.size a ≤ S2048x1024.size a)
    (es : ∀ k, src k = ![256 * k.val, 0]) (ed : ∀ k, dst k = ![512 * p.val + 256 * k.val, 0]) (q : Fin 4 → Vec F S1x1x512x1024 .f32) (M : Memref sig .tc .vmem S1x1x512x1024 .f32) (h : M.IsWhole)
    (P : View.Piece (Elt F) S2048x1024 .bf16) (hP : P ∈ upTo (rows src dst hs hd M (h.unread (q p))) n) (x : P.1.shape.Idx) : P.2 x = weights q (P.1.emb x) := by
  obtain ⟨k, rfl⟩ := of_mem_upTo _ _ _ hP
  have hk : k.val < 2 := lt_of_lt_of_eq k.isLt hn
  have hp : p.val < 4 := p.isLt
  change S256x1024.Idx at x
  idx_vars x
  refine Eq.trans ?_ (congrArg (weights q) (emb_rows (dst k) (512 * p.val + 256 * k.val) (ed k) _ _ _ (by omega)).symm)
  refine Eq.trans ?_ (weights_at q p (256 * k.val) x0 x1 (by omega) (by omega))
  show k0_pay4 _ _ = _
  unfold k0_pay4
  pointwise []
  exact congrArg narrow (part_at M h (q p) (src k) (256 * k.val) (es k) _ x0 x1 (by omega))

section Read

variable (q : Fin 4 → Vec F S1x1x512x1024 .f32) {M0 M1 M2 M3 : Memref sig .tc .vmem S1x1x512x1024 .f32} (h0 : M0.IsWhole) (h1 : M1.IsWhole) (h2 : M2.IsWhole) (h3 : M3.IsWhole)

/-- What the loops over the gate's weights store, last first. -/
abbrev gatePieces : List (View.Piece (Elt F) S2048x1024 .bf16) :=
  upTo (rows7 M3 (h3.unread (q 3))) k0_t7_loop.trips ++ (upTo (rows5 M2 (h2.unread (q 2))) k0_t5_loop.trips
    ++ (upTo (rows3 M1 (h1.unread (q 1))) k0_t3_loop.trips ++ upTo (rows1 M0 (h0.unread (q 0))) k0_t1_loop.trips))

/-- After these loops the scratch reads the cast weights, whatever it held. -/
theorem gate_read (v : View sig .tc .vmem S2048x1024 .bf16) (G : v.ty.Contents (Elt F)) : v.read (Elt F) (v.writes (Elt F) G (gatePieces q h0 h1 h2 h3)) = weights q := by
  funext y
  refine View.read_writes_apply_of_pieces v G (weights q) _ ?_ y (View.cover_of_tiledL (s := S2048x1024) _ S256x1024.size (by sl_kernel_rfl) y)
  intro p hp x
  rcases List.mem_append.mp hp with hp | hp
  · exact rows_at (by decide +kernel) 3 _ _ _ _ (by decide +kernel) (by decide +kernel) q M3 h3 p hp x
  rcases List.mem_append.mp hp with hp | hp
  · exact rows_at (by decide +kernel) 2 _ _ _ _ (by decide +kernel) (by decide +kernel) q M2 h2 p hp x
  rcases List.mem_append.mp hp with hp | hp
  · exact rows_at (by decide +kernel) 1 _ _ _ _ (by decide +kernel) (by decide +kernel) q M1 h1 p hp x
  · exact rows_at (by decide +kernel) 0 _ _ _ _ (by decide +kernel) (by decide +kernel) q M0 h0 p hp x

/-- What the loops over the up-projection's weights store, last first. -/
abbrev upPieces : List (View.Piece (Elt F) S2048x1024 .bf16) :=
  upTo (rows8 M3 (h3.unread (q 3))) k0_t8_loop.trips ++ (upTo (rows6 M2 (h2.unread (q 2))) k0_t6_loop.trips
    ++ (upTo (rows4 M1 (h1.unread (q 1))) k0_t4_loop.trips ++ upTo (rows2 M0 (h0.unread (q 0))) k0_t2_loop.trips))

/-- After these loops the scratch reads the cast weights, whatever it held. -/
theorem up_read (v : View sig .tc .vmem S2048x1024 .bf16) (G : v.ty.Contents (Elt F)) : v.read (Elt F) (v.writes (Elt F) G (upPieces q h0 h1 h2 h3)) = weights q := by
  funext y
  refine View.read_writes_apply_of_pieces v G (weights q) _ ?_ y (View.cover_of_tiledL (s := S2048x1024) _ S256x1024.size (by sl_kernel_rfl) y)
  intro p hp x
  rcases List.mem_append.mp hp with hp | hp
  · exact rows_at (by decide +kernel) 3 _ _ _ _ (by decide +kernel) (by decide +kernel) q M3 h3 p hp x
  rcases List.mem_append.mp hp with hp | hp
  · exact rows_at (by decide +kernel) 2 _ _ _ _ (by decide +kernel) (by decide +kernel) q M2 h2 p hp x
  rcases List.mem_append.mp hp with hp | hp
  · exact rows_at (by decide +kernel) 1 _ _ _ _ (by decide +kernel) (by decide +kernel) q M1 h1 p hp x
  · exact rows_at (by decide +kernel) 0 _ _ _ _ (by decide +kernel) (by decide +kernel) q M0 h0 p hp x

end Read

end Cert.Kernel5Ideal.Up

end
-- ==== Proof.Up.Body.lean ====
/-
  The body at one grid point: what its staging buffers and its two scratches hold when it ends.
-/
module

public import proofs.«01_k».proof.Proof.Up.Loops
public import proofs.«01_k».proof.Proof.Dn.Body

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen
open Cert.Kernel4Ideal.Dn (weights word_eq announces announces_iff castAt emb_half upTo)

variable {F : FTy → Type} [FloatOps F]

local notation "𝕄" => MT nD τ sig Unit (Elt F) ℕ (UR sig nD τ) ℕ

/-- A table's buffer held at half the full share. -/
abbrev tabAt (c : Dev nD) {S : Shape} {e : EltTy} (M : Memref sig .tc .smem S e) (f : BufTy.Contents (Elt F) M.view.ty) : sProp 𝕄 :=
  M.view.loc (c : Thread nD τ) ↦{fullShare.right} f

/-- The place of a point's word in a table of one row. -/
abbrev spot (i : grid0.Coords) : S320.Idx := (Rect.unit (s := S320) (k0_off1 i) S1.size (k0_off1_inb i)).emb (Shape.Idx.first (numel1_S1.symm ▸ Nat.one_pos))
abbrev spot' (i : grid0.Coords) : S320.Idx := (Rect.unit (s := S320) (k0_off22 i) S1.size (k0_off22_inb i)).emb (Shape.Idx.first (numel1_S1.symm ▸ Nat.one_pos))

/-- Rows 0 to 255 from the one, rows 256 to 511 from the other. -/
def halves (P Q : Vec F S256x1024 .bf16) : Vec F S512x1024 .bf16 := fun y =>
  if h : (y 0).val < 256 then P (ix2 ⟨(y 0).val, h⟩ (y 1)) else Q (ix2 ⟨(y 0).val - 256, by have h' : (y 0).val < 512 := (y 0).isLt; omega⟩ (y 1))

/-- The words of a block of 512 rows: row `8 * r + s` of the words has the words `s * 128` to `s * 128 + 127` of row `r`. -/
def words (a : Vec F S4096x128 .i32) (s : Fin 8) : Vec F S512x128 .i32 := fun y =>
  a (ix2 ⟨8 * (y 0).val + s.val, by have h : (y 0).val < 512 := (y 0).isLt; omega⟩ (y 1))

/-- Of the first 256 rows alone. -/
def words' (a : Vec F S4096x128 .i32) (s : Fin 8) : Vec F S256x128 .i32 := fun y =>
  a (ix2 ⟨8 * (y 0).val + s.val, by have h : (y 0).val < 256 := (y 0).isLt; omega⟩ (y 1))

/-- The rows of the weights that the low half of each word multiplies, and those that the high half does. -/
def lowRows (w : Vec F S2048x1024 .bf16) : Vec F S1024x1024 .bf16 := fun y =>
  w (ix2 ⟨(y 0).val, by have h : (y 0).val < 1024 := (y 0).isLt; omega⟩ (y 1))
def highRows (w : Vec F S2048x1024 .bf16) : Vec F S1024x1024 .bf16 := fun y =>
  w (ix2 ⟨1024 + (y 0).val, by have h : (y 0).val < 1024 := (y 0).isLt; omega⟩ (y 1))

/-- What a point stores of 512 rows, from its words, the two cast weights and the two biases. -/
def full (x : Fin 8 → Vec F S512x128 .i32) (wg wu : Vec F S2048x1024 .bf16) (bg bu : Vec F S1x1x1024 .f32) : Vec F S512x1024 .bf16 :=
  k0_pay2 (k0_pay23 (k0_pay12 (x 0)) (k0_pay14 (x 1)) (k0_pay16 (x 2)) (k0_pay18 (x 3)) (k0_pay20 (x 4)) (x 5) (x 6) (x 7))
    (k0_pay24 (k0_pay11 (x 0)) (k0_pay12 (x 0)) (k0_pay13 (x 1)) (k0_pay14 (x 1)) (k0_pay15 (x 2)) (k0_pay16 (x 2)) (k0_pay17 (x 3)) (k0_pay18 (x 3)) (k0_pay19 (x 4)) (k0_pay20 (x 4)) (x 5) k0_pay21 (x 6) (x 7) (lowRows wg) (highRows wg) bg)
    (k0_pay25 (k0_pay11 (x 0)) (k0_pay13 (x 1)) (k0_pay15 (x 2)) (k0_pay17 (x 3)) (k0_pay19 (x 4)) (x 5) k0_pay21 (x 6) (x 7) (lowRows wu)) (highRows wu) bu

/-- Of 256 rows. -/
def half (x : Fin 8 → Vec F S256x128 .i32) (wg wu : Vec F S2048x1024 .bf16) (bg bu : Vec F S1x1x1024 .f32) : Vec F S256x1024 .bf16 :=
  k0_pay36 (k0_pay34 (k0_pay26 (x 0)) (k0_pay28 (x 1)) (k0_pay30 (x 2)) (k0_pay32 (x 3)) (x 4) (x 5) (x 6) (x 7))
    (k0_pay35 (k0_pay27 (x 0)) (k0_pay29 (x 1)) (k0_pay31 (x 2)) (k0_pay33 (x 3)) (x 4) (x 5) (x 6) (x 7))
    (lowRows wg) (constant S256x1024 .f32 0x00000000#32) (highRows wg) bg (lowRows wu) (highRows wu) bu

/-- What a point stores, from its two flags, its rows, the cast weights and the biases. -/
def outAt (va vb : BitVec 32) (a : Vec F S4096x128 .i32) (wg wu : Vec F S2048x1024 .bf16) (bg bu : Vec F S1x1x1024 .f32) : Vec F S512x1024 .bf16 :=
  if k0_cond2 vb = 1#1 then full (words a) wg wu bg bu else if k0_cond3 va vb = 1#1 then halves (half (words' a) wg wu bg bu) k0_pay37 else k0_pay3

/-- A store of the whole block is what the block then reads. -/
theorem read_block (v : View sig .tc .vmem S512x1024 .bf16) (f : v.ty.Contents (Elt F)) (inb : ∀ a, (![0, 0] : Fin 2 → ℕ) a + S512x1024.size a ≤ S512x1024.size a)
    (P : FVec F S512x1024 .bf16) : v.read (Elt F) (v.writes (Elt F) f [⟨Rect.unit (s := S512x1024) ![0, 0] S512x1024.size inb, P⟩]) = P := by
  funext y
  refine View.read_writes_apply_of_pieces v f P _ ?_ y (View.cover_of_tiledL (s := S512x1024) _ S512x1024.size (by sl_kernel_rfl) y)
  intro p hp x
  obtain rfl := List.mem_singleton.mp hp
  change S512x1024.Idx at x
  idx_vars x
  refine congrArg P (Eq.symm ?_)
  funext i
  refine Fin.cases ?_ (fun j => Fin.cases ?_ (fun j => j.elim0) j) i
  · apply Fin.ext; show 0 + 1 * x0.val = x0.val; omega
  · apply Fin.ext; show 0 + 1 * x1.val = x1.val; omega

/-- Two stores of half a block each. -/
theorem read_halves (v : View sig .tc .vmem S512x1024 .bf16) (f : v.ty.Contents (Elt F)) (inb : ∀ a, (![0, 0] : Fin 2 → ℕ) a + S256x1024.size a ≤ S512x1024.size a)
    (inb' : ∀ a, (![256, 0] : Fin 2 → ℕ) a + S256x1024.size a ≤ S512x1024.size a) (P Q : FVec F S256x1024 .bf16) :
    v.read (Elt F) (v.writes (Elt F) f [⟨Rect.unit (s := S512x1024) ![256, 0] S256x1024.size inb', Q⟩, ⟨Rect.unit (s := S512x1024) ![0, 0] S256x1024.size inb, P⟩]) = halves P Q := by
  funext y
  refine View.read_writes_apply_of_pieces v f (halves P Q) _ ?_ y (View.cover_of_tiledL (s := S512x1024) _ S256x1024.size (by sl_kernel_rfl) y)
  intro p hp x
  rcases List.mem_cons.mp hp with hp | hp
  · obtain rfl := hp
    change S256x1024.Idx at x
    idx_vars x
    refine Eq.trans ?_ (congrArg (halves P Q) (emb_half 256 inb' x0 x1 (by omega))).symm
    unfold halves
    rw [dif_neg (by show ¬ 256 + x0.val < 256; omega)]
    refine congrArg Q ?_
    refine congrArg (fun z => ix2 z x1) (Fin.ext ?_)
    show x0.val = 256 + x0.val - 256
    omega
  · obtain rfl := List.mem_singleton.mp hp
    change S256x1024.Idx at x
    idx_vars x
    refine Eq.trans ?_ (congrArg (halves P Q) (emb_half 0 inb x0 x1 (by omega))).symm
    unfold halves
    rw [dif_pos (by show 0 + x0.val < 256; omega)]
    refine congrArg P ?_
    refine congrArg (fun z => ix2 z x1) (Fin.ext ?_)
    show x0.val = 0 + x0.val
    omega

/-- A load of a whole buffer. -/
theorem load_bias (a : Memref sig .tc .vmem S1x1x1024 .f32) (h : a.IsWhole) (x : Vec F S1x1x1024 .f32) (inb : ∀ i, (![0, 0, 0] : Fin 3 → ℕ) i + S1x1x1024.size i ≤ S1x1x1024.size i) :
    View.readAt (Elt F) a.view (Rect.unit (s := S1x1x1024) ![0, 0, 0] S1x1x1024.size inb).toLoadRect (h.unread x) = x := by
  rw [View.readAt_eq_ld, Memref.IsWhole.read_unread]
  exact View.ld_unit_lit (S := S1x1x1024) _ x (by decide)
/-- A load of every eighth row of the words. -/
theorem load_words (a : Memref sig .tc .vmem S4096x128 .i32) (h : a.IsWhole) (x : Vec F S4096x128 .i32) (s : ℕ) (hs : s < 8)
    (inb) :
    View.readAt (Elt F) a.view (⟨![s, 0], S512x128.size, ![8, 1], inb⟩ : LoadRect S4096x128) (h.unread x) = words x ⟨s, hs⟩ := by
  funext y
  refine (View.readAt_apply ..).trans ?_
  rw [h.read_unread]
  change S512x128.Idx at y
  idx_vars y
  refine congrArg x ?_
  funext i
  refine Fin.cases ?_ (fun j => Fin.cases ?_ (fun j => j.elim0) j) i
  · apply Fin.ext; show s + 8 * y0.val = 8 * y0.val + s; omega
  · apply Fin.ext; show 0 + 1 * y1.val = y1.val; omega

/-- A load of half the rows of a scratch. -/
theorem load_low (a : Memref sig .tc .vmem S2048x1024 .bf16) (f : BufTy.Contents (Elt F) a.view.ty) (inb : ∀ i, (![0, 0] : Fin 2 → ℕ) i + S1024x1024.size i ≤ S2048x1024.size i) :
    View.readAt (Elt F) a.view (Rect.unit (s := S2048x1024) ![0, 0] S1024x1024.size inb).toLoadRect f = lowRows (a.view.read (Elt F) f) := by
  rw [View.readAt_eq_ld]
  funext y
  idx_vars y
  refine congrArg (a.view.read (Elt F) f) ?_
  funext i
  refine Fin.cases ?_ (fun j => Fin.cases ?_ (fun j => j.elim0) j) i
  · apply Fin.ext; show 0 + 1 * y0.val = y0.val; omega
  · apply Fin.ext; show 0 + 1 * y1.val = y1.val; omega
theorem load_high (a : Memref sig .tc .vmem S2048x1024 .bf16) (f : BufTy.Contents (Elt F) a.view.ty) (inb : ∀ i, (![1024, 0] : Fin 2 → ℕ) i + S1024x1024.size i ≤ S2048x1024.size i) :
    View.readAt (Elt F) a.view (Rect.unit (s := S2048x1024) ![1024, 0] S1024x1024.size inb).toLoadRect f = highRows (a.view.read (Elt F) f) := by
  rw [View.readAt_eq_ld]
  funext y
  idx_vars y
  refine congrArg (a.view.read (Elt F) f) ?_
  funext i
  refine Fin.cases ?_ (fun j => Fin.cases ?_ (fun j => j.elim0) j) i
  · apply Fin.ext; show 1024 + 1 * y0.val = 1024 + y0.val; omega
  · apply Fin.ext; show 0 + 1 * y1.val = y1.val; omega

/-- The same of the first 256 rows, through the rows they lie in. -/
theorem load_words' (a : Memref sig .tc .vmem S4096x128 .i32) (h : a.IsWhole) (x : Vec F S4096x128 .i32) (s : ℕ) (hs : s < 8)
    (inb' : ∀ i, (![0, 0] : Fin 2 → ℕ) i + S2048x128.size i ≤ S4096x128.size i)
    (inb) (hc) :
    View.readAt (Elt F) a.view ((Rect.unit (s := S4096x128) ![0, 0] S2048x128.size inb').withinL (⟨![s, 0], S256x128.size, ![8, 1], inb⟩ : LoadRect S2048x128) hc) (h.unread x)
      = words' x ⟨s, hs⟩ := by
  funext y
  refine (View.readAt_apply ..).trans ?_
  rw [h.read_unread]
  change S256x128.Idx at y
  idx_vars y
  refine congrArg x ?_
  funext i
  refine Fin.cases ?_ (fun j => Fin.cases ?_ (fun j => j.elim0) j) i
  · apply Fin.ext; show 0 + s + 8 * y0.val = 8 * y0.val + s; omega
  · apply Fin.ext; show 0 + 0 + 1 * y1.val = y1.val; omega

section Cast

variable (q : Fin 4 → Vec F S1x1x512x1024 .f32) {M0 M1 M2 M3 : Memref sig .tc .vmem S1x1x512x1024 .f32} (h0 : M0.IsWhole) (h1 : M1.IsWhole) (h2 : M2.IsWhole) (h3 : M3.IsWhole)
  (a : Memref sig .tc .vmem S2048x1024 .bf16)

/-- A load of half the rows the loops have just cast. -/
theorem low_gate (inb : ∀ i, (![0, 0] : Fin 2 → ℕ) i + S1024x1024.size i ≤ S2048x1024.size i) :
    a.view.readCov (gatePieces q h0 h1 h2 h3) (Rect.unit (s := S2048x1024) ![0, 0] S1024x1024.size inb).toLoadRect = lowRows (weights q) :=
  (load_low a _ inb).trans (congrArg lowRows (gate_read q h0 h1 h2 h3 a.view _))
theorem high_gate (inb : ∀ i, (![1024, 0] : Fin 2 → ℕ) i + S1024x1024.size i ≤ S2048x1024.size i) :
    a.view.readCov (gatePieces q h0 h1 h2 h3) (Rect.unit (s := S2048x1024) ![1024, 0] S1024x1024.size inb).toLoadRect = highRows (weights q) :=
  (load_high a _ inb).trans (congrArg highRows (gate_read q h0 h1 h2 h3 a.view _))
theorem low_up (inb : ∀ i, (![0, 0] : Fin 2 → ℕ) i + S1024x1024.size i ≤ S2048x1024.size i) :
    a.view.readCov (upPieces q h0 h1 h2 h3) (Rect.unit (s := S2048x1024) ![0, 0] S1024x1024.size inb).toLoadRect = lowRows (weights q) :=
  (load_low a _ inb).trans (congrArg lowRows (up_read q h0 h1 h2 h3 a.view _))
theorem high_up (inb : ∀ i, (![1024, 0] : Fin 2 → ℕ) i + S1024x1024.size i ≤ S2048x1024.size i) :
    a.view.readCov (upPieces q h0 h1 h2 h3) (Rect.unit (s := S2048x1024) ![1024, 0] S1024x1024.size inb).toLoadRect = highRows (weights q) :=
  (load_high a _ inb).trans (congrArg highRows (up_read q h0 h1 h2 h3 a.view _))

end Cast

theorem cond2_iff (w : BitVec 32) : k0_cond2 w = 1#1 ↔ w = 1#32 := announces_iff w

theorem cond4_iff (w : BitVec 32) : k0_cond4 w = 1#1 ↔ w ≠ 1#32 := by
  unfold k0_cond4; dsimp only; rw [word_eq]; by_cases h : w = 1#32 <;> simp [h] <;> decide

theorem cond3_iff (va vb : BitVec 32) : k0_cond3 va vb = 1#1 ↔ va = 1#32 ∧ vb ≠ 1#32 := by
  unfold k0_cond3; dsimp only; rw [word_eq, word_eq]
  by_cases h1 : va = 1#32 <;> by_cases h2 : vb = 1#32 <;> simp [h1, h2] <;> decide

/-- Of the three stores of a point exactly one runs, where the second flag implies the first. -/
theorem cases_of (va vb : BitVec 32) (h : vb = 1#32 → va = 1#32) :
    (k0_cond2 vb = 1#1 ∧ ¬ k0_cond3 va vb = 1#1 ∧ ¬ k0_cond4 va = 1#1) ∨ (¬ k0_cond2 vb = 1#1 ∧ k0_cond3 va vb = 1#1 ∧ ¬ k0_cond4 va = 1#1)
      ∨ (¬ k0_cond2 vb = 1#1 ∧ ¬ k0_cond3 va vb = 1#1 ∧ k0_cond4 va = 1#1) := by
  rw [cond2_iff, cond3_iff, cond4_iff]
  by_cases h1 : vb = 1#32 <;> by_cases h2 : va = 1#32 <;> simp_all

set_option maxHeartbeats 4000000 in
theorem body (c : Dev nD) (i : grid0.Coords) (arg9 : Memref sig .tc .vmem S4096x128 .i32) (harg9 : arg9.IsWhole) (arg10 : Memref sig .tc .vmem S1x1x512x1024 .f32) (harg10 : arg10.IsWhole) (arg11 : Memref sig .tc .vmem S1x1x512x1024 .f32) (harg11 : arg11.IsWhole) (arg12 : Memref sig .tc .vmem S1x1x512x1024 .f32) (harg12 : arg12.IsWhole) (arg13 : Memref sig .tc .vmem S1x1x512x1024 .f32) (harg13 : arg13.IsWhole) (arg14 : Memref sig .tc .vmem S1x1x512x1024 .f32) (harg14 : arg14.IsWhole) (arg15 : Memref sig .tc .vmem S1x1x512x1024 .f32) (harg15 : arg15.IsWhole) (arg16 : Memref sig .tc .vmem S1x1x512x1024 .f32) (harg16 : arg16.IsWhole) (arg17 : Memref sig .tc .vmem S1x1x512x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S512x1024 .bf16) (harg20 : arg20.IsWhole) (arg21 : Memref sig .tc .vmem S2048x1024 .bf16) (harg21 : arg21.IsWhole) (arg22 : Memref sig .tc .vmem S2048x1024 .bf16) (harg22 : arg22.IsWhole)
    (first va vb : Vec F S320 .i32) (E : Set ℕ) (K : PUnit → sProp 𝕄)
    (a : Vec F S4096x128 .i32) (qg qu : Fin 4 → Vec F S1x1x512x1024 .f32) (bg bu : Vec F S1x1x1024 .f32) (Sg Su : Vec F S2048x1024 .bf16)
    (hv : vb (spot' i) = 1#32 → va (spot' i) = 1#32) :
    iprop(tabAt c (Memref.whole main_arg8) first ∗ tabAt c (Memref.whole main_arg9) va ∗ tabAt c (Memref.whole main_arg10) vb
      ∗ owns (c : Thread nD τ) arg9 fullShare a ∗ owns (c : Thread nD τ) arg10 fullShare (qg 0) ∗ owns (c : Thread nD τ) arg11 fullShare (qg 1) ∗ owns (c : Thread nD τ) arg12 fullShare (qg 2) ∗ owns (c : Thread nD τ) arg13 fullShare (qg 3) ∗ owns (c : Thread nD τ) arg14 fullShare (qu 0) ∗ owns (c : Thread nD τ) arg15 fullShare (qu 1) ∗ owns (c : Thread nD τ) arg16 fullShare (qu 2) ∗ owns (c : Thread nD τ) arg17 fullShare (qu 3) ∗ owns (c : Thread nD τ) arg18 fullShare bg ∗ owns (c : Thread nD τ) arg19 fullShare bu
      ∗ (∃ d, owns (c : Thread nD τ) arg20 fullShare d) ∗ owns (c : Thread nD τ) arg21 fullShare Sg ∗ owns (c : Thread nD τ) arg22 fullShare Su
      ∗ (iprop(tabAt c (Memref.whole main_arg8) first ∗ tabAt c (Memref.whole main_arg9) va ∗ tabAt c (Memref.whole main_arg10) vb
      ∗ owns (c : Thread nD τ) arg9 fullShare a ∗ owns (c : Thread nD τ) arg10 fullShare (qg 0) ∗ owns (c : Thread nD τ) arg11 fullShare (qg 1) ∗ owns (c : Thread nD τ) arg12 fullShare (qg 2) ∗ owns (c : Thread nD τ) arg13 fullShare (qg 3) ∗ owns (c : Thread nD τ) arg14 fullShare (qu 0) ∗ owns (c : Thread nD τ) arg15 fullShare (qu 1) ∗ owns (c : Thread nD τ) arg16 fullShare (qu 2) ∗ owns (c : Thread nD τ) arg17 fullShare (qu 3) ∗ owns (c : Thread nD τ) arg18 fullShare bg ∗ owns (c : Thread nD τ) arg19 fullShare bu
      ∗ owns (c : Thread nD τ) arg20 fullShare (outAt (va (spot' i)) (vb (spot' i)) a (castAt (first (spot i)) qg Sg) (castAt (first (spot i)) qu Su) bg bu) ∗ owns (c : Thread nD τ) arg21 fullShare (castAt (first (spot i)) qg Sg) ∗ owns (c : Thread nD τ) arg22 fullShare (castAt (first (spot i)) qu Su)) -∗ K ⟨⟩))
    ⊢ wp frame (wpE (defs₀ (F := F)) Variants.none c none) E (cc0_moe_up i (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (Memref.whole main_arg12) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_moe_up_eq_skeleton, k0_part1_eq_skeleton, k0_part2_eq_skeleton, k0_part3_eq_skeleton, k0_part4_eq_skeleton, k0_part5_eq_skeleton, k0_part6_eq_skeleton]
  unfold cc0_moe_up_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨T1, T2, T3, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, Hk⟩
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg21.eq_unread hf21
  obtain rfl := harg22.eq_unread hf22
  have hK := cases_of (va (spot' i)) (vb (spot' i)) hv
  by_cases hA : announces (first (spot i)) = 1#1 <;> rcases hK with ⟨hB, hC, hD⟩ | ⟨hB, hC, hD⟩ | ⟨hB, hC, hD⟩
  all_goals
    sl_exec (disch := first | sl_exact hA | sl_exact hB | sl_exact hC | sl_exact hD)
    try (simp only [Prog.bind_assoc]; sl_exec (disch := first | sl_exact hA | sl_exact hB | sl_exact hC | sl_exact hD))
    sl_step
    iapply Hk
    isplitl [T1]; · iexact T1
    isplitl [T2]; · iexact T2
    isplitl [T3]; · iexact T3
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; swap; · iexact H20
      ipureintro
      unfold outAt castAt
      sl_unfold_words
      first
        | (rw [if_neg hB, if_pos hC, if_pos hA, if_pos hA]; refine (read_halves _ _ _ _ _ _).trans ?_; dsimp only; rw [load_words' arg9 harg9 a 0 (by decide) inb_S4096x128_S2048x128_0_0 inb_S2048x128_S256x128_0_0_s_8_1, load_words' arg9 harg9 a 1 (by decide) inb_S4096x128_S2048x128_0_0 inb_S2048x128_S256x128_1_0_s_8_1, load_words' arg9 harg9 a 2 (by decide) inb_S4096x128_S2048x128_0_0 inb_S2048x128_S256x128_2_0_s_8_1, load_words' arg9 harg9 a 3 (by decide) inb_S4096x128_S2048x128_0_0 inb_S2048x128_S256x128_3_0_s_8_1, load_words' arg9 harg9 a 4 (by decide) inb_S4096x128_S2048x128_0_0 inb_S2048x128_S256x128_4_0_s_8_1, load_words' arg9 harg9 a 5 (by decide) inb_S4096x128_S2048x128_0_0 inb_S2048x128_S256x128_5_0_s_8_1, load_words' arg9 harg9 a 6 (by decide) inb_S4096x128_S2048x128_0_0 inb_S2048x128_S256x128_6_0_s_8_1, load_words' arg9 harg9 a 7 (by decide) inb_S4096x128_S2048x128_0_0 inb_S2048x128_S256x128_7_0_s_8_1, load_bias arg18 harg18, load_bias arg19 harg19, low_gate qg harg10 harg11 harg12 harg13, high_gate qg harg10 harg11 harg12 harg13, low_up qu harg14 harg15 harg16 harg17, high_up qu harg14 harg15 harg16 harg17]; rfl)
        | (rw [if_neg hB, if_pos hC, if_neg hA, if_neg hA]; refine (read_halves _ _ _ _ _ _).trans ?_; dsimp only; rw [load_words' arg9 harg9 a 0 (by decide) inb_S4096x128_S2048x128_0_0 inb_S2048x128_S256x128_0_0_s_8_1, load_words' arg9 harg9 a 1 (by decide) inb_S4096x128_S2048x128_0_0 inb_S2048x128_S256x128_1_0_s_8_1, load_words' arg9 harg9 a 2 (by decide) inb_S4096x128_S2048x128_0_0 inb_S2048x128_S256x128_2_0_s_8_1, load_words' arg9 harg9 a 3 (by decide) inb_S4096x128_S2048x128_0_0 inb_S2048x128_S256x128_3_0_s_8_1, load_words' arg9 harg9 a 4 (by decide) inb_S4096x128_S2048x128_0_0 inb_S2048x128_S256x128_4_0_s_8_1, load_words' arg9 harg9 a 5 (by decide) inb_S4096x128_S2048x128_0_0 inb_S2048x128_S256x128_5_0_s_8_1, load_words' arg9 harg9 a 6 (by decide) inb_S4096x128_S2048x128_0_0 inb_S2048x128_S256x128_6_0_s_8_1, load_words' arg9 harg9 a 7 (by decide) inb_S4096x128_S2048x128_0_0 inb_S2048x128_S256x128_7_0_s_8_1, load_bias arg18 harg18, load_bias arg19 harg19, load_low arg21, load_high arg21, load_low arg22, load_high arg22, harg21.read_unread, harg22.read_unread]; rfl)
        | (rw [if_neg hB, if_neg hC]; exact read_block _ _ _ _)
        | (rw [if_pos hB, if_pos hA, if_pos hA]; refine (read_block _ _ _ _).trans ?_; (try dsimp only); rw [load_words arg9 harg9 a 0 (by decide) inb_S4096x128_S512x128_0_0_s_8_1, load_words arg9 harg9 a 1 (by decide) inb_S4096x128_S512x128_1_0_s_8_1, load_words arg9 harg9 a 2 (by decide) inb_S4096x128_S512x128_2_0_s_8_1, load_words arg9 harg9 a 3 (by decide) inb_S4096x128_S512x128_3_0_s_8_1, load_words arg9 harg9 a 4 (by decide) inb_S4096x128_S512x128_4_0_s_8_1, load_words arg9 harg9 a 5 (by decide) inb_S4096x128_S512x128_5_0_s_8_1, load_words arg9 harg9 a 6 (by decide) inb_S4096x128_S512x128_6_0_s_8_1, load_words arg9 harg9 a 7 (by decide) inb_S4096x128_S512x128_7_0_s_8_1, load_bias arg18 harg18, load_bias arg19 harg19, low_gate qg harg10 harg11 harg12 harg13, high_gate qg harg10 harg11 harg12 harg13, low_up qu harg14 harg15 harg16 harg17, high_up qu harg14 harg15 harg16 harg17]; rfl)
        | (rw [if_pos hB, if_neg hA, if_neg hA]; refine (read_block _ _ _ _).trans ?_; (try dsimp only); rw [load_words arg9 harg9 a 0 (by decide) inb_S4096x128_S512x128_0_0_s_8_1, load_words arg9 harg9 a 1 (by decide) inb_S4096x128_S512x128_1_0_s_8_1, load_words arg9 harg9 a 2 (by decide) inb_S4096x128_S512x128_2_0_s_8_1, load_words arg9 harg9 a 3 (by decide) inb_S4096x128_S512x128_3_0_s_8_1, load_words arg9 harg9 a 4 (by decide) inb_S4096x128_S512x128_4_0_s_8_1, load_words arg9 harg9 a 5 (by decide) inb_S4096x128_S512x128_5_0_s_8_1, load_words arg9 harg9 a 6 (by decide) inb_S4096x128_S512x128_6_0_s_8_1, load_words arg9 harg9 a 7 (by decide) inb_S4096x128_S512x128_7_0_s_8_1, load_bias arg18 harg18, load_bias arg19 harg19, load_low arg21, load_high arg21, load_low arg22, load_high arg22, harg21.read_unread, harg22.read_unread]; rfl)
    isplitl [H21]
    · iexists _; isplitr; swap; · iexact H21
      ipureintro
      unfold castAt
      first
        | (rw [if_pos hA]; exact gate_read qg harg10 harg11 harg12 harg13 _ _)
        | (rw [if_neg hA]; exact harg21.read_unread _)
    · iexists _; isplitr; swap; · iexact H22
      ipureintro
      unfold castAt
      first
        | (rw [if_pos hA]; exact up_read qu harg14 harg15 harg16 harg17 _ _)
        | (rw [if_neg hA]; exact harg22.read_unread _)

end Cert.Kernel5Ideal.Up

end
-- ==== Proof.Up.Tables.lean ====
/-
  The blocks the tables of the call name.
-/
module

public import proofs.«01_k».proof.Proof.Up.Body
public import proofs.«01_k».proof.Proof.Dn.Tables

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen
open Cert.Kernel4Ideal.Dn (Routed)

variable {F : FTy → Type} [FloatOps F]

/-! ## Where a table is read -/

/-- The quarter of the columns that the gate's half `x` is, and the one that the up-projection's is. -/
abbrev ahead (x : BitVec 32) : BitVec 32 := 0#32 + x
abbrev beyond (x : BitVec 32) : BitVec 32 := 2#32 + x

/-- The item of a point of the grid. -/
def item (i : grid0.Coords) : Fin 320 := ⟨(i 0).val, (i 0).isLt⟩

theorem spot_eq (i : grid0.Coords) : spot i = ix1 (item i) := by
  funext a; apply Fin.ext
  match a with
  | ⟨0, _⟩ => show k0_off1 i 0 + 1 * 0 = (i 0).val; rw [k0_off1_eq]; rfl

theorem spot'_eq (i : grid0.Coords) : spot' i = ix1 (item i) := by
  funext a; apply Fin.ext
  match a with
  | ⟨0, _⟩ => show k0_off22 i 0 + 1 * 0 = (i 0).val; rw [k0_off22_eq]; rfl

theorem part_spot (p : Fin 4) (i : grid0.Coords) (off : Fin 2 → ℕ) (ho : off = ![p.val, (i 0).val]) (inb) (n : S1x1.numel = 1) :
    (Rect.unit (s := S4x320) off S1x1.size inb).emb (Shape.Idx.first (n.symm ▸ Nat.one_pos)) = ix2 p (item i) := by
  subst ho
  funext a; apply Fin.ext
  match a with
  | ⟨0, _⟩ => show p.val + 1 * 0 = p.val; omega
  | ⟨1, _⟩ => show (i 0).val + 1 * 0 = (i 0).val; omega

section

variable (pf : pre0.Contents (Elt F)) (i : grid0.Coords)

theorem at_spot (k : S320.Idx → BitVec 32) (h : S1.numel = 1) :
    k ((Rect.unit (s := S320) (k0_off1 i) S1.size (k0_off1_inb i)).emb (Shape.Idx.first (h.symm ▸ Nat.one_pos))) = k (ix1 (item i)) :=
  congrArg k (spot_eq i)

theorem moves0 : cc0_transform_0 k0_off1_inb numel1_S1 pf i = ![(pf 0 (ix1 (item i)) : BitVec 32).toNat, 0] := by
  show ![(_ : BitVec 32).toNat, 0] = _
  exact congrArg (fun x : BitVec 32 => ![x.toNat, 0]) (at_spot i (pf 0) numel1_S1)

theorem moves1 : cc0_transform_1 k0_off2_inb numel1_S1x1 pf i
    = ![1, (pf 6 (ix2 0 (item i)) : BitVec 32).toNat, 0, (ahead (pf 7 (ix2 0 (item i)))).toNat] :=
  congrArg (fun x : S4x320.Idx => ![1, (pf 6 x : BitVec 32).toNat, 0, (ahead (pf 7 x)).toNat]) (part_spot 0 i _ (k0_off2_eq i) (k0_off2_inb i) numel1_S1x1)

theorem moves2 : cc0_transform_2 k0_off3_inb numel1_S1x1 pf i
    = ![1, (pf 6 (ix2 1 (item i)) : BitVec 32).toNat, 1, (ahead (pf 7 (ix2 1 (item i)))).toNat] :=
  congrArg (fun x : S4x320.Idx => ![1, (pf 6 x : BitVec 32).toNat, 1, (ahead (pf 7 x)).toNat]) (part_spot 1 i _ (k0_off3_eq i) (k0_off3_inb i) numel1_S1x1)

theorem moves3 : cc0_transform_3 k0_off4_inb numel1_S1x1 pf i
    = ![1, (pf 6 (ix2 2 (item i)) : BitVec 32).toNat, 2, (ahead (pf 7 (ix2 2 (item i)))).toNat] :=
  congrArg (fun x : S4x320.Idx => ![1, (pf 6 x : BitVec 32).toNat, 2, (ahead (pf 7 x)).toNat]) (part_spot 2 i _ (k0_off4_eq i) (k0_off4_inb i) numel1_S1x1)

theorem moves4 : cc0_transform_4 k0_off5_inb numel1_S1x1 pf i
    = ![1, (pf 6 (ix2 3 (item i)) : BitVec 32).toNat, 3, (ahead (pf 7 (ix2 3 (item i)))).toNat] :=
  congrArg (fun x : S4x320.Idx => ![1, (pf 6 x : BitVec 32).toNat, 3, (ahead (pf 7 x)).toNat]) (part_spot 3 i _ (k0_off5_eq i) (k0_off5_inb i) numel1_S1x1)

theorem moves5 : cc0_transform_5 k0_off2_inb numel1_S1x1 pf i
    = ![1, (pf 6 (ix2 0 (item i)) : BitVec 32).toNat, 0, (beyond (pf 7 (ix2 0 (item i)))).toNat] :=
  congrArg (fun x : S4x320.Idx => ![1, (pf 6 x : BitVec 32).toNat, 0, (beyond (pf 7 x)).toNat]) (part_spot 0 i _ (k0_off2_eq i) (k0_off2_inb i) numel1_S1x1)

theorem moves6 : cc0_transform_6 k0_off3_inb numel1_S1x1 pf i
    = ![1, (pf 6 (ix2 1 (item i)) : BitVec 32).toNat, 1, (beyond (pf 7 (ix2 1 (item i)))).toNat] :=
  congrArg (fun x : S4x320.Idx => ![1, (pf 6 x : BitVec 32).toNat, 1, (beyond (pf 7 x)).toNat]) (part_spot 1 i _ (k0_off3_eq i) (k0_off3_inb i) numel1_S1x1)

theorem moves7 : cc0_transform_7 k0_off4_inb numel1_S1x1 pf i
    = ![1, (pf 6 (ix2 2 (item i)) : BitVec 32).toNat, 2, (beyond (pf 7 (ix2 2 (item i)))).toNat] :=
  congrArg (fun x : S4x320.Idx => ![1, (pf 6 x : BitVec 32).toNat, 2, (beyond (pf 7 x)).toNat]) (part_spot 2 i _ (k0_off4_eq i) (k0_off4_inb i) numel1_S1x1)

theorem moves8 : cc0_transform_8 k0_off5_inb numel1_S1x1 pf i
    = ![1, (pf 6 (ix2 3 (item i)) : BitVec 32).toNat, 3, (beyond (pf 7 (ix2 3 (item i)))).toNat] :=
  congrArg (fun x : S4x320.Idx => ![1, (pf 6 x : BitVec 32).toNat, 3, (beyond (pf 7 x)).toNat]) (part_spot 3 i _ (k0_off5_eq i) (k0_off5_inb i) numel1_S1x1)

theorem moves9 : cc0_transform_9 k0_off1_inb numel1_S1 pf i
    = ![(pf 2 (ix1 (item i)) : BitVec 32).toNat, 0, (pf 1 (ix1 (item i)) : BitVec 32).toNat] :=
  congrArg (fun x : S320.Idx => ![(pf 2 x : BitVec 32).toNat, 0, (pf 1 x : BitVec 32).toNat]) (spot_eq i)

theorem moves10 : cc0_transform_10 k0_off1_inb numel1_S1 pf i
    = ![(pf 2 (ix1 (item i)) : BitVec 32).toNat, 0, (beyond (pf 1 (ix1 (item i)))).toNat] :=
  congrArg (fun x : S320.Idx => ![(pf 2 x : BitVec 32).toNat, 0, (beyond (pf 1 x)).toNat]) (spot_eq i)

theorem moves11 : cc0_transform_11 k0_off1_inb numel1_S1 pf i
    = ![(pf 0 (ix1 (item i)) : BitVec 32).toNat, (pf 1 (ix1 (item i)) : BitVec 32).toNat] :=
  congrArg (fun x : S320.Idx => ![(pf 0 x : BitVec 32).toNat, (pf 1 x : BitVec 32).toNat]) (spot_eq i)

end

/-- The third and fourth quarters of the columns are the halves of the up-projection's. -/
theorem past (x : BitVec 32) (h : x.toNat < 2) : (beyond x).toNat = 2 + x.toNat := by
  show (2#32 + x : BitVec 32).toNat = _
  rw [BitVec.toNat_add]; show (2 + x.toNat) % 4294967296 = _; omega

theorem from_first (x : BitVec 32) : (ahead x).toNat = x.toNat := by
  show (0#32 + x : BitVec 32).toNat = _
  rw [BitVec.zero_add]

/-! ## The blocks lie in their arrays -/

/-- The tables are those of a list that routes every tile. -/
abbrev Listed (rbe rbv : S320.Idx → BitVec 32) (pf : pre0.Contents (Elt F)) : Prop :=
  Routed rbe rbv (pf 0) (pf 1) (pf 2) (pf 3) (pf 4) (pf 5) (pf 6) (pf 7)

/-- A part of the weights lies in its array, whichever quarter of the columns it is in. -/
theorem part_fits (e p q : ℕ) (he : e < 32) (hp : p < 4) (hq : q < 4) (a : Fin 4) : ((![1, e, p, q] : Fin 4 → ℕ) a + 1) * S1x1x512x1024.size a ≤ S2x32x2048x4096.size a := by
  match a with
  | ⟨0, _⟩ => show (1 + 1) * 1 ≤ 2; omega
  | ⟨1, _⟩ => show (e + 1) * 1 ≤ 32; omega
  | ⟨2, _⟩ => show (p + 1) * 512 ≤ 2048; omega
  | ⟨3, _⟩ => show (q + 1) * 1024 ≤ 4096; omega

theorem bias_fits (e q : ℕ) (he : e < 32) (hq : q < 4) (a : Fin 3) : ((![e, 0, q] : Fin 3 → ℕ) a + 1) * S1x1x1024.size a ≤ S32x1x4096.size a := by
  match a with
  | ⟨0, _⟩ => show (e + 1) * 1 ≤ 32; omega
  | ⟨1, _⟩ => show (0 + 1) * 1 ≤ 1; omega
  | ⟨2, _⟩ => show (q + 1) * 1024 ≤ 4096; omega

theorem fits (rbe rbv : S320.Idx → BitVec 32) (pf : pre0.Contents (Elt F)) (h : Listed rbe rbv pf) : ok0 pf := by
  have near (p : Fin 4) (i : Fin 320) : (ahead (pf 7 (ix2 p i))).toNat < 4 := by
    have := h.pj_lt p i; exact lt_of_eq_of_lt (from_first _) (by omega)
  have far (p : Fin 4) (i : Fin 320) : (beyond (pf 7 (ix2 p i))).toNat < 4 := by
    have := h.pj_lt p i; exact lt_of_eq_of_lt (past _ this) (by omega)
  refine ⟨fun i => ?_, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ?_⟩
  · have := h.sb_lt (item i)
    refine ⟨?_, .inl rfl⟩
    rw [moves0]; intro a
    match a with
    | ⟨0, _⟩ => show ((pf 0 (ix1 (item i)) : BitVec 32).toNat + 1) * 4096 ≤ 655360; omega
    | ⟨1, _⟩ => show (0 + 1) * 128 ≤ 128; omega
  · rw [moves1]; exact part_fits _ 0 _ (h.pe_lt 0 _) (by omega) (near 0 _)
  · rw [moves2]; exact part_fits _ 1 _ (h.pe_lt 1 _) (by omega) (near 1 _)
  · rw [moves3]; exact part_fits _ 2 _ (h.pe_lt 2 _) (by omega) (near 2 _)
  · rw [moves4]; exact part_fits _ 3 _ (h.pe_lt 3 _) (by omega) (near 3 _)
  · rw [moves5]; exact part_fits _ 0 _ (h.pe_lt 0 _) (by omega) (far 0 _)
  · rw [moves6]; exact part_fits _ 1 _ (h.pe_lt 1 _) (by omega) (far 1 _)
  · rw [moves7]; exact part_fits _ 2 _ (h.pe_lt 2 _) (by omega) (far 2 _)
  · rw [moves8]; exact part_fits _ 3 _ (h.pe_lt 3 _) (by omega) (far 3 _)
  · rw [moves9]; exact bias_fits _ _ (h.e_lt _) (by have := h.j_lt (item i); omega)
  · rw [moves10]; exact bias_fits _ _ (h.e_lt _) (by have := h.j_lt (item i); exact lt_of_eq_of_lt (past _ this) (by omega))
  · have := h.sb_lt (item i); have := h.j_lt (item i)
    refine ⟨?_, .inr ?_⟩
    · rw [moves11]; intro a
      match a with
      | ⟨0, _⟩ => show ((pf 0 (ix1 (item i)) : BitVec 32).toNat + 1) * 512 ≤ 81920; omega
      | ⟨1, _⟩ => show ((pf 1 (ix1 (item i)) : BitVec 32).toNat + 1) * 1024 ≤ 2048; omega
    · refine .inl (.inr ⟨le_refl 2, rfl, .inl ⟨?_, ?_⟩⟩)
      · exact Dvd.dvd.mul_left (by decide : 2 ∣ 512) _
      · exact (by decide : 2 ∣ 512)

/-- Every point stores the whole result block one way or another, so none leaves it as it was. -/
theorem never_idle (pf : pre0.Contents (Elt F)) (i : grid0.Coords) : idle0 pf 11 i = false := by
  show (!(k0_cond2 (pf.atD 5 (k0_off22 i)) == 1#1) && !(k0_cond3 (pf.atD 4 (k0_off22 i)) (pf.atD 5 (k0_off22 i)) == 1#1)
    && !(k0_cond4 (pf.atD 4 (k0_off22 i)) == 1#1)) = false
  generalize (pf.atD 5 (k0_off22 i) : BitVec 32) = vb
  generalize (pf.atD 4 (k0_off22 i) : BitVec 32) = va
  by_cases h2 : vb = 1#32
  · rw [(cond2_iff vb).mpr h2]; rfl
  · by_cases h3 : va = 1#32
    · rw [(cond3_iff va vb).mpr ⟨h3, h2⟩, Bool.and_assoc]; simp
    · rw [(cond4_iff va).mpr h3]; simp

end Cert.Kernel5Ideal.Up

end
-- ==== Proof.Up.Frame.lean ====
/-
  The whole run of the call: the weights kept in the two scratches after an item are those of the item's expert and half of the
  columns, and the item's block of the result is computed from them. From the region's entry to its end nothing else moves.
-/
module

public import proofs.«01_k».proof.Proof.Up.Tables
public import Idealize.ShloMosaic.Lib.Claim
public import Idealize.ShloMosaic.Lib.Pipeline.Value

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel5Ideal Cert.Kernel5Ideal.Gen
open Cert.Kernel4Ideal.Dn (narrow weights announces announces_iff castAt)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and what the region finds -/

/-- The prefetched tables, as launched. -/
def tables : pre0.Contents (Elt F) := fun k => m (((0 : Dev nD) : Thread nD τ).loc (pre0.ref k))

/-- The tables of the launch route every tile. -/
abbrev Routes : Prop :=
  Listed (F := F) (m (((0 : Dev nD) : Thread nD τ).loc main_arg3)) (m (((0 : Dev nD) : Thread nD τ).loc main_arg4)) (tables m)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshape before the region writes its own result alone. -/
theorem V_kept (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_table (c : Dev nD) (k : Fin pre0.K) : V m c (pre0.ref k) = tables m k := by
  obtain rfl : c = 0 := Subsingleton.elim _ _
  exact V_kept m 0 (pre0.ref k) ((by decide : ∀ k : Fin pre0.K, pre0.ref k ≠ main_v0) k)

variable (hl : Routes m)

/-- The tables with the evidence that every block they name lies in its array. -/
def adm : (p : Fin 1) → (pcfgs (F := F) p).Adm := fun _ => ⟨tables m, fits _ _ _ hl⟩

/-- The pipeline at these tables. -/
abbrev cfgA : Cfg sig Λ₀ := cfg0 (adm m hl 0)

theorem points : (cfgA m hl).N = 320 := N_0

theorem item_val : ∀ t : Fin grid0.N, (item (grid0.coords t)).val = t.val := by decide +kernel

/-- The block of window `w` at a point. -/
def iblk (c : Dev nD) (w : Fin (cfgA m hl).W) (t : Fin (cfgA m hl).N) : (((cfgA m hl).win w).xblock ((cfgA m hl).grid.coords t)).Idx → Elt F ((cfgA m hl).win w).elt :=
  (((cfgA m hl).win w).blk t).view.read (Elt F) (V m c (Pipeline.arrRef spec0 w))

/-- The item of a point. -/
abbrev itemAt (t : Fin (cfgA m hl).N) : Fin 320 := item (grid0.coords t)

theorem itemAt_val (t : Fin (cfgA m hl).N) : (itemAt m hl t).val = t.val := item_val t

/-- The four parts of the gate's weights at a point, and those of the up-projection's. -/
def quarters (s : Fin 2) (c : Dev nD) (t : Fin (cfgA m hl).N) : Fin 4 → Vec F S1x1x512x1024 .f32 :=
  match s with
  | 0 => ![iblk m hl c 1 t, iblk m hl c 2 t, iblk m hl c 3 t, iblk m hl c 4 t]
  | 1 => ![iblk m hl c 5 t, iblk m hl c 6 t, iblk m hl c 7 t, iblk m hl c 8 t]

/-- The gate's weights of item `i`, and the up-projection's: the rows of its expert in the second of the two layers, the half of
    the gate's or of the up-projection's columns that it names, rounded. -/
def slab (s : Fin 2) (c : Dev nD) (i : Fin 320) : Vec F S2048x1024 .bf16 := fun y =>
  narrow (V m c main_arg1 (ix4 (1 : Fin 2) (⟨(tables m 2 (ix1 i) : BitVec 32).toNat, hl.e_lt i⟩ : Fin 32) (y 0)
    (⟨(2 * s.val + (tables m 1 (ix1 i) : BitVec 32).toNat) * 1024 + (y 1).val, by
      have h := hl.j_lt i; have h1 : (y 1).val < 1024 := (y 1).isLt; have hs := s.isLt
      change (tables m 1 (ix1 i) : BitVec 32).toNat < 2 at h; omega⟩ : Fin 4096)))

/-- The item's block of the result. -/
def blkAt (c : Dev nD) (t : Fin (cfgA m hl).N) : Vec F S512x1024 .bf16 :=
  outAt (tables m 4 (ix1 (itemAt m hl t))) (tables m 5 (ix1 (itemAt m hl t))) (iblk m hl c 0 t) (slab m hl 0 c (itemAt m hl t)) (slab m hl 1 c (itemAt m hl t))
    (iblk m hl c 9 t) (iblk m hl c 10 t)

/-! ## The weights in scratch -/

theorem slab_congr (s : Fin 2) (c : Dev nD) (i k : Fin 320) (he : tables m 2 (ix1 i) = tables m 2 (ix1 k)) (hj : tables m 1 (ix1 i) = tables m 1 (ix1 k)) :
    slab m hl s c i = slab m hl s c k := by
  funext y
  refine congrArg (fun x => narrow (V m c main_arg1 x)) ?_
  funext a; apply Fin.ext
  match a with
  | ⟨0, _⟩ => rfl
  | ⟨1, _⟩ => show (tables m 2 (ix1 i) : BitVec 32).toNat = (tables m 2 (ix1 k) : BitVec 32).toNat; rw [he]
  | ⟨2, _⟩ => rfl
  | ⟨3, _⟩ => exact congrArg (fun x : BitVec 32 => (2 * s.val + x.toNat) * 1024 + (y 1).val) hj

/-- Where a part of the weights lies in them. -/
theorem part_place (v : Fin 4 → ℕ) (e p q : ℕ) (hv : v = ![1, e, p, q]) (r : Fin 512) (k : Fin 1024) (x : S2x32x2048x4096.Idx)
    (h0 : (x 0).val = 1) (h1 : (x 1).val = e) (h2 : (x 2).val = 512 * p + r.val) (h3 : (x 3).val = q * 1024 + k.val) (a : Fin 4) :
    v a * S1x1x512x1024.size a + 1 * ((ix4 0 0 r k : S1x1x512x1024.Idx) a).val = (x a).val := by
  subst hv
  match a with
  | ⟨0, _⟩ => exact h0.symm
  | ⟨1, _⟩ => show e * 1 + 1 * 0 = (x 1).val; rw [h1]; omega
  | ⟨2, _⟩ => show p * 512 + 1 * r.val = (x 2).val; rw [h2]; omega
  | ⟨3, _⟩ => show q * 1024 + 1 * k.val = (x 3).val; rw [h3]; omega

/-- A part's block read at an index. -/
theorem part_read (s : Fin 2) (c : Dev nD) (t : Fin (cfgA m hl).N) (h1 : tables m 3 (ix1 (itemAt m hl t)) = 1#32) (p : Fin 4) (r : Fin 512) (k : Fin 1024)
    (x : S2x32x2048x4096.Idx) (x0 : (x 0).val = 1) (x1 : (x 1).val = (tables m 2 (ix1 (itemAt m hl t)) : BitVec 32).toNat) (x2 : (x 2).val = 512 * p.val + r.val)
    (x3 : (x 3).val = (2 * s.val + (tables m 1 (ix1 (itemAt m hl t)) : BitVec 32).toNat) * 1024 + k.val) :
    quarters m hl s c t p (ix4 0 0 r k) = V m c main_arg1 x := by
  have hp := hl.parts p (itemAt m hl t) h1
  have hpe : (x 1).val = (tables m 6 (ix2 p (itemAt m hl t)) : BitVec 32).toNat := x1.trans (congrArg BitVec.toNat hp.1).symm
  have hj := hl.pj_lt p (itemAt m hl t)
  have hpj : (tables m 7 (ix2 p (itemAt m hl t)) : BitVec 32).toNat = (tables m 1 (ix1 (itemAt m hl t)) : BitVec 32).toNat := congrArg BitVec.toNat hp.2
  have up {q : ℕ} (hq : q = 2 * s.val + (tables m 7 (ix2 p (itemAt m hl t)) : BitVec 32).toNat) : (x 3).val = q * 1024 + k.val :=
    x3.trans (congrArg (fun z => z * 1024 + k.val) ((congrArg (2 * s.val + ·) hpj.symm).trans hq.symm))
  match s with
  | ⟨0, _⟩ =>
    have x3' : (x 3).val = (ahead (tables m 7 (ix2 p (itemAt m hl t)))).toNat * 1024 + k.val := up ((from_first _).trans (Nat.zero_add _).symm)
    match p with
    | ⟨0, _⟩ => exact congrArg (V m c main_arg1) (funext fun a => Fin.ext (part_place _ _ 0 _ (moves1 (tables m) (grid0.coords t)) r k x x0 hpe x2 x3' a))
    | ⟨1, _⟩ => exact congrArg (V m c main_arg1) (funext fun a => Fin.ext (part_place _ _ 1 _ (moves2 (tables m) (grid0.coords t)) r k x x0 hpe x2 x3' a))
    | ⟨2, _⟩ => exact congrArg (V m c main_arg1) (funext fun a => Fin.ext (part_place _ _ 2 _ (moves3 (tables m) (grid0.coords t)) r k x x0 hpe x2 x3' a))
    | ⟨3, _⟩ => exact congrArg (V m c main_arg1) (funext fun a => Fin.ext (part_place _ _ 3 _ (moves4 (tables m) (grid0.coords t)) r k x x0 hpe x2 x3' a))
  | ⟨1, _⟩ =>
    have x3' : (x 3).val = (beyond (tables m 7 (ix2 p (itemAt m hl t)))).toNat * 1024 + k.val := up (past _ hj)
    match p with
    | ⟨0, _⟩ => exact congrArg (V m c main_arg1) (funext fun a => Fin.ext (part_place _ _ 0 _ (moves5 (tables m) (grid0.coords t)) r k x x0 hpe x2 x3' a))
    | ⟨1, _⟩ => exact congrArg (V m c main_arg1) (funext fun a => Fin.ext (part_place _ _ 1 _ (moves6 (tables m) (grid0.coords t)) r k x x0 hpe x2 x3' a))
    | ⟨2, _⟩ => exact congrArg (V m c main_arg1) (funext fun a => Fin.ext (part_place _ _ 2 _ (moves7 (tables m) (grid0.coords t)) r k x x0 hpe x2 x3' a))
    | ⟨3, _⟩ => exact congrArg (V m c main_arg1) (funext fun a => Fin.ext (part_place _ _ 3 _ (moves8 (tables m) (grid0.coords t)) r k x x0 hpe x2 x3' a))

theorem made (s : Fin 2) (c : Dev nD) (t : Fin (cfgA m hl).N) (S : Vec F S2048x1024 .bf16) (h1 : tables m 3 (ix1 (itemAt m hl t)) = 1#32) :
    castAt (tables m 3 (ix1 (itemAt m hl t))) (quarters m hl s c t) S = slab m hl s c (itemAt m hl t) := by
  unfold castAt; rw [if_pos ((announces_iff _).mpr h1)]
  funext y
  unfold weights slab
  have h0 : (y 0).val < 2048 := (y 0).isLt
  refine congrArg narrow (part_read m hl s c t h1 _ _ _ _ rfl rfl ?_ rfl)
  show (y 0).val = 512 * ((y 0).val / 512) + (y 0).val % 512; omega

theorem retained (s : Fin 2) (c : Dev nD) (t : Fin (cfgA m hl).N) (i : Fin 320) (hi : i.val + 1 = t.val) :
    castAt (tables m 3 (ix1 (itemAt m hl t))) (quarters m hl s c t) (slab m hl s c i) = slab m hl s c (itemAt m hl t) := by
  by_cases h1 : tables m 3 (ix1 (itemAt m hl t)) = 1#32
  · exact made m hl s c t _ h1
  · unfold castAt; rw [if_neg (fun h => h1 ((announces_iff _).mp h))]
    have hv := itemAt_val m hl t
    have hlt : i.val + 1 < 320 := by rw [hi, ← hv]; exact (itemAt m hl t).isLt
    have hit : itemAt m hl t = ⟨i.val + 1, hlt⟩ := Fin.ext (hv.trans hi.symm)
    rw [hit] at h1 ⊢
    have hk := hl.kept i.val hlt h1
    exact slab_congr m hl s c _ _ hk.1.symm hk.2.symm

/-! ## The data of the run -/

/-- The tables held beside the body. -/
abbrev tablesHeld (c : Dev nD) : sProp 𝕄 := Pipeline.ΦT pre0 (tables m) c

theorem tablesHeld_eq (c : Dev nD) : tablesHeld m c = iprop(tabAt c (Memref.whole main_arg5) (tables m 0) ∗ tabAt c (Memref.whole main_arg6) (tables m 1)
    ∗ tabAt c (Memref.whole main_arg7) (tables m 2) ∗ tabAt c (Memref.whole main_arg8) (tables m 3) ∗ tabAt c (Memref.whole main_arg9) (tables m 4)
    ∗ tabAt c (Memref.whole main_arg10) (tables m 5) ∗ tabAt c (Memref.whole main_arg11) (tables m 6) ∗ tabAt c (Memref.whole main_arg12) (tables m 7)) := by
  unfold tablesHeld Pipeline.ΦT Pipeline.prefHeld
  rw [show (Finset.univ : Finset (Fin 8)) = insert 0 (insert 1 (insert 2 (insert 3 (insert 4 (insert 5 (insert 6 {7})))))) from by decide,
    bigSep_insert (by decide), bigSep_insert (by decide), bigSep_insert (by decide), bigSep_insert (by decide), bigSep_insert (by decide),
    bigSep_insert (by decide), bigSep_insert (by decide), bigSep_singleton]
  rfl

/-- The two scratches. -/
abbrev gateScratch : Memref sig .tc .vmem S2048x1024 .bf16 := Memref.whole cc0_scratch0
abbrev upScratch : Memref sig .tc .vmem S2048x1024 .bf16 := Memref.whole cc0_scratch1

theorem PhiA0_eq (c : Dev nD) : (Pipeline.ΦA spec0 c : sProp 𝕄)
    = iprop(iprop((∃ d, owns (c : Thread nD τ) gateScratch fullShare d) ∗ (∃ d, owns (c : Thread nD τ) upScratch fullShare d)) ∗ (∃ r, prngReg c r)) := by
  unfold Pipeline.ΦA; rw [scopedRest0_eq]; simp only [gateScratch, upScratch, owns_whole]; try rfl

/-- What is held between points: after point `n` the scratches have the weights of item `n`. -/
def between (c : Dev nD) : (n : ℕ) → n ≤ (cfgA m hl).N → sProp 𝕄
  | 0, _ => iprop(Pipeline.ΦA spec0 c ∗ tablesHeld m c)
  | n + 1, hn => iprop(iprop(iprop(owns (c : Thread nD τ) gateScratch fullShare (slab m hl 0 c ⟨n, lt_of_lt_of_eq hn N_0⟩) ∗ owns (c : Thread nD τ) upScratch fullShare (slab m hl 1 c ⟨n, lt_of_lt_of_eq hn N_0⟩)) ∗ (∃ r, prngReg c r)) ∗ tablesHeld m c)

theorem between_first (c : Dev nD) (n : ℕ) (h : n ≤ (cfgA m hl).N) (hz : n = 0) : between m hl c n h = iprop(Pipeline.ΦA spec0 c ∗ tablesHeld m c) := by
  subst hz; rfl

theorem between_after (c : Dev nD) (n : ℕ) (hn : n < (cfgA m hl).N) :
    between m hl c (n + 1) hn = iprop(iprop(iprop(owns (c : Thread nD τ) gateScratch fullShare (slab m hl 0 c ⟨n, lt_of_lt_of_eq hn N_0⟩) ∗ owns (c : Thread nD τ) upScratch fullShare (slab m hl 1 c ⟨n, lt_of_lt_of_eq hn N_0⟩)) ∗ (∃ r, prngReg c r)) ∗ tablesHeld m c) := rfl

theorem between_later (c : Dev nD) (n : ℕ) (h : n ≤ (cfgA m hl).N) (hz : n ≠ 0) :
    between m hl c n h = iprop(iprop(iprop(owns (c : Thread nD τ) gateScratch fullShare (slab m hl 0 c ⟨n - 1, by have := points m hl; omega⟩) ∗ owns (c : Thread nD τ) upScratch fullShare (slab m hl 1 c ⟨n - 1, by have := points m hl; omega⟩)) ∗ (∃ r, prngReg c r)) ∗ tablesHeld m c) := by
  cases n with
  | zero => exact absurd rfl hz
  | succ k => rfl

/-- Whatever the point, its item's weights are in the scratches once the body has passed the announcement. -/
theorem between_gives (c : Dev nD) (t : Fin (cfgA m hl).N) : between m hl c t.val (Nat.le_of_lt t.isLt)
    ⊢ iprop(∃ Sg Su, ⌜castAt (tables m 3 (ix1 (itemAt m hl t))) (quarters m hl 0 c t) Sg = slab m hl 0 c (itemAt m hl t)
        ∧ castAt (tables m 3 (ix1 (itemAt m hl t))) (quarters m hl 1 c t) Su = slab m hl 1 c (itemAt m hl t)⌝
      ∗ owns (c : Thread nD τ) gateScratch fullShare Sg ∗ owns (c : Thread nD τ) upScratch fullShare Su ∗ (∃ r, prngReg c r) ∗ tablesHeld m c) := by
  by_cases hz : t.val = 0
  · rw [between_first m hl c _ _ hz, PhiA0_eq]
    iintro ⟨⟨⟨⟨%Sg, HG⟩, ⟨%Su, HU⟩⟩, Hg⟩, HT⟩
    iexists Sg, Su
    isplitl []
    · ipureintro
      have hs : tables m 3 (ix1 (itemAt m hl t)) = 1#32 := by
        rw [show itemAt m hl t = 0 from Fin.ext ((itemAt_val m hl t).trans hz)]
        exact hl.starts
      exact ⟨made m hl 0 c t Sg hs, made m hl 1 c t Su hs⟩
    isplitl [HG]; · iexact HG
    isplitl [HU]; · iexact HU
    isplitl [Hg]; · iexact Hg
    iexact HT
  · rw [between_later m hl c _ _ hz]
    iintro ⟨⟨⟨HG, HU⟩, Hg⟩, HT⟩
    iexists _, _
    isplitl []
    · ipureintro
      exact ⟨retained m hl 0 c t ⟨t.val - 1, by have := points m hl; have := t.isLt; omega⟩ (by show t.val - 1 + 1 = t.val; omega),
        retained m hl 1 c t ⟨t.val - 1, by have := points m hl; have := t.isLt; omega⟩ (by show t.val - 1 + 1 = t.val; omega)⟩
    isplitl [HG]; · iexact HG
    isplitl [HU]; · iexact HU
    isplitl [Hg]; · iexact Hg
    iexact HT

/-- The proof data of the region. -/
def dats (p : Fin 1) (c : Dev nD) : Dat τ (Elt F) Unit ℕ (UR sig nD τ) ℕ (Pipeline.pin pcfgs (adm m hl) p) c where
  A w := V m c (Pipeline.arrRef spec0 w)
  after w t := match w with
    | ⟨0, _⟩ => iblk m hl c 0 t
    | ⟨1, _⟩ => iblk m hl c 1 t
    | ⟨2, _⟩ => iblk m hl c 2 t
    | ⟨3, _⟩ => iblk m hl c 3 t
    | ⟨4, _⟩ => iblk m hl c 4 t
    | ⟨5, _⟩ => iblk m hl c 5 t
    | ⟨6, _⟩ => iblk m hl c 6 t
    | ⟨7, _⟩ => iblk m hl c 7 t
    | ⟨8, _⟩ => iblk m hl c 8 t
    | ⟨9, _⟩ => iblk m hl c 9 t
    | ⟨10, _⟩ => iblk m hl c 10 t
    | ⟨11, _⟩ => blkAt m hl c t
    | ⟨_ + 12, h⟩ => absurd h (Nat.not_lt.2 (Nat.le_add_left _ _))
  Φ t := between m hl c t.val (Nat.le_of_lt_succ t.isLt)
  q w := Pipeline.shareOf spec0 w
  owed _ := 0

theorem dats_A (c : Dev nD) (w : Fin (cfgA m hl).W) : (dats m hl 0 c).A w = V m c (Pipeline.arrRef spec0 w) := by
  dsimp only [dats]

theorem dats_before (c : Dev nD) (t : Fin (cfgA m hl).N) :
    (dats m hl 0 c).Φ t.castSucc = between m hl c t.val (Nat.le_of_lt t.isLt) := by
  dsimp only [dats]; exact Pipeline.Dat.Φ_castSucc (between m hl c) t

theorem left0 (c : Dev nD) (t : Fin (cfgA m hl).N) : (dats m hl 0 c).after 0 t = iblk m hl c 0 t := rfl
theorem left1 (c : Dev nD) (t : Fin (cfgA m hl).N) : (dats m hl 0 c).after 1 t = iblk m hl c 1 t := rfl
theorem left2 (c : Dev nD) (t : Fin (cfgA m hl).N) : (dats m hl 0 c).after 2 t = iblk m hl c 2 t := rfl
theorem left3 (c : Dev nD) (t : Fin (cfgA m hl).N) : (dats m hl 0 c).after 3 t = iblk m hl c 3 t := rfl
theorem left4 (c : Dev nD) (t : Fin (cfgA m hl).N) : (dats m hl 0 c).after 4 t = iblk m hl c 4 t := rfl
theorem left5 (c : Dev nD) (t : Fin (cfgA m hl).N) : (dats m hl 0 c).after 5 t = iblk m hl c 5 t := rfl
theorem left6 (c : Dev nD) (t : Fin (cfgA m hl).N) : (dats m hl 0 c).after 6 t = iblk m hl c 6 t := rfl
theorem left7 (c : Dev nD) (t : Fin (cfgA m hl).N) : (dats m hl 0 c).after 7 t = iblk m hl c 7 t := rfl
theorem left8 (c : Dev nD) (t : Fin (cfgA m hl).N) : (dats m hl 0 c).after 8 t = iblk m hl c 8 t := rfl
theorem left9 (c : Dev nD) (t : Fin (cfgA m hl).N) : (dats m hl 0 c).after 9 t = iblk m hl c 9 t := rfl
theorem left10 (c : Dev nD) (t : Fin (cfgA m hl).N) : (dats m hl 0 c).after 10 t = iblk m hl c 10 t := rfl
theorem left11 (c : Dev nD) (t : Fin (cfgA m hl).N) : (dats m hl 0 c).after 11 t = blkAt m hl c t := rfl

theorem found0 (c : Dev nD) (t : Fin (cfgA m hl).N) (d) : (dats m hl 0 c).before 0 t d = iblk m hl c 0 t :=
  ((dats m hl 0 c).before_in_eq_fetched 0 rfl (fun _ => rfl) (fun _ _ _ => rfl) (fun t => by rw [left0]; unfold Dat.blockOf iblk; rw [dats_A]; try rfl) t d).trans
    (by unfold Dat.fetched Dat.blockOf iblk; rw [dats_A]; try rfl)
theorem found1 (c : Dev nD) (t : Fin (cfgA m hl).N) (d) : (dats m hl 0 c).before 1 t d = iblk m hl c 1 t :=
  ((dats m hl 0 c).before_in_eq_fetched 1 rfl (fun _ => rfl) (fun _ _ _ => rfl) (fun t => by rw [left1]; unfold Dat.blockOf iblk; rw [dats_A]; try rfl) t d).trans
    (by unfold Dat.fetched Dat.blockOf iblk; rw [dats_A]; try rfl)
theorem found2 (c : Dev nD) (t : Fin (cfgA m hl).N) (d) : (dats m hl 0 c).before 2 t d = iblk m hl c 2 t :=
  ((dats m hl 0 c).before_in_eq_fetched 2 rfl (fun _ => rfl) (fun _ _ _ => rfl) (fun t => by rw [left2]; unfold Dat.blockOf iblk; rw [dats_A]; try rfl) t d).trans
    (by unfold Dat.fetched Dat.blockOf iblk; rw [dats_A]; try rfl)
theorem found3 (c : Dev nD) (t : Fin (cfgA m hl).N) (d) : (dats m hl 0 c).before 3 t d = iblk m hl c 3 t :=
  ((dats m hl 0 c).before_in_eq_fetched 3 rfl (fun _ => rfl) (fun _ _ _ => rfl) (fun t => by rw [left3]; unfold Dat.blockOf iblk; rw [dats_A]; try rfl) t d).trans
    (by unfold Dat.fetched Dat.blockOf iblk; rw [dats_A]; try rfl)
theorem found4 (c : Dev nD) (t : Fin (cfgA m hl).N) (d) : (dats m hl 0 c).before 4 t d = iblk m hl c 4 t :=
  ((dats m hl 0 c).before_in_eq_fetched 4 rfl (fun _ => rfl) (fun _ _ _ => rfl) (fun t => by rw [left4]; unfold Dat.blockOf iblk; rw [dats_A]; try rfl) t d).trans
    (by unfold Dat.fetched Dat.blockOf iblk; rw [dats_A]; try rfl)
theorem found5 (c : Dev nD) (t : Fin (cfgA m hl).N) (d) : (dats m hl 0 c).before 5 t d = iblk m hl c 5 t :=
  ((dats m hl 0 c).before_in_eq_fetched 5 rfl (fun _ => rfl) (fun _ _ _ => rfl) (fun t => by rw [left5]; unfold Dat.blockOf iblk; rw [dats_A]; try rfl) t d).trans
    (by unfold Dat.fetched Dat.blockOf iblk; rw [dats_A]; try rfl)
theorem found6 (c : Dev nD) (t : Fin (cfgA m hl).N) (d) : (dats m hl 0 c).before 6 t d = iblk m hl c 6 t :=
  ((dats m hl 0 c).before_in_eq_fetched 6 rfl (fun _ => rfl) (fun _ _ _ => rfl) (fun t => by rw [left6]; unfold Dat.blockOf iblk; rw [dats_A]; try rfl) t d).trans
    (by unfold Dat.fetched Dat.blockOf iblk; rw [dats_A]; try rfl)
theorem found7 (c : Dev nD) (t : Fin (cfgA m hl).N) (d) : (dats m hl 0 c).before 7 t d = iblk m hl c 7 t :=
  ((dats m hl 0 c).before_in_eq_fetched 7 rfl (fun _ => rfl) (fun _ _ _ => rfl) (fun t => by rw [left7]; unfold Dat.blockOf iblk; rw [dats_A]; try rfl) t d).trans
    (by unfold Dat.fetched Dat.blockOf iblk; rw [dats_A]; try rfl)
theorem found8 (c : Dev nD) (t : Fin (cfgA m hl).N) (d) : (dats m hl 0 c).before 8 t d = iblk m hl c 8 t :=
  ((dats m hl 0 c).before_in_eq_fetched 8 rfl (fun _ => rfl) (fun _ _ _ => rfl) (fun t => by rw [left8]; unfold Dat.blockOf iblk; rw [dats_A]; try rfl) t d).trans
    (by unfold Dat.fetched Dat.blockOf iblk; rw [dats_A]; try rfl)
theorem found9 (c : Dev nD) (t : Fin (cfgA m hl).N) (d) : (dats m hl 0 c).before 9 t d = iblk m hl c 9 t :=
  ((dats m hl 0 c).before_in_eq_fetched 9 rfl (fun _ => rfl) (fun _ _ _ => rfl) (fun t => by rw [left9]; unfold Dat.blockOf iblk; rw [dats_A]; try rfl) t d).trans
    (by unfold Dat.fetched Dat.blockOf iblk; rw [dats_A]; try rfl)
theorem found10 (c : Dev nD) (t : Fin (cfgA m hl).N) (d) : (dats m hl 0 c).before 10 t d = iblk m hl c 10 t :=
  ((dats m hl 0 c).before_in_eq_fetched 10 rfl (fun _ => rfl) (fun _ _ _ => rfl) (fun t => by rw [left10]; unfold Dat.blockOf iblk; rw [dats_A]; try rfl) t d).trans
    (by unfold Dat.fetched Dat.blockOf iblk; rw [dats_A]; try rfl)

/-! ## The body at a point -/

/-- The body's call at a point. -/
abbrev bodyAt (t : Fin (cfgA m hl).N) : Prog (TpuEff nD τ sig (Elt F) Λ₀ .tc) PUnit :=
  cc0_moe_up (grid0.coords t) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (Memref.whole main_arg12) (Memref.isWhole_whole _)
    (spec0_0.stage ((cfgA m hl).slots t 0)) (hstage0_0 (((cfgA m hl).slots t 0).cast nbuf0_0)) (spec0_1.stage ((cfgA m hl).slots t 1)) (hstage0_1 (((cfgA m hl).slots t 1).cast nbuf0_1)) (spec0_2.stage ((cfgA m hl).slots t 2)) (hstage0_2 (((cfgA m hl).slots t 2).cast nbuf0_2)) (spec0_3.stage ((cfgA m hl).slots t 3)) (hstage0_3 (((cfgA m hl).slots t 3).cast nbuf0_3)) (spec0_4.stage ((cfgA m hl).slots t 4)) (hstage0_4 (((cfgA m hl).slots t 4).cast nbuf0_4)) (spec0_5.stage ((cfgA m hl).slots t 5)) (hstage0_5 (((cfgA m hl).slots t 5).cast nbuf0_5)) (spec0_6.stage ((cfgA m hl).slots t 6)) (hstage0_6 (((cfgA m hl).slots t 6).cast nbuf0_6)) (spec0_7.stage ((cfgA m hl).slots t 7)) (hstage0_7 (((cfgA m hl).slots t 7).cast nbuf0_7)) (spec0_8.stage ((cfgA m hl).slots t 8)) (hstage0_8 (((cfgA m hl).slots t 8).cast nbuf0_8)) (spec0_9.stage ((cfgA m hl).slots t 9)) (hstage0_9 (((cfgA m hl).slots t 9).cast nbuf0_9)) (spec0_10.stage ((cfgA m hl).slots t 10)) (hstage0_10 (((cfgA m hl).slots t 10).cast nbuf0_10)) (spec0_11.stage ((cfgA m hl).slots t 11)) (hstage0_11 (((cfgA m hl).slots t 11).cast nbuf0_11)) (Memref.whole cc0_scratch0) (Memref.isWhole_whole _) (Memref.whole cc0_scratch1) (Memref.isWhole_whole _)

/-- What the body is called with at a point. -/
def pre (c : Dev nD) (t : Fin (cfgA m hl).N) : sProp 𝕄 :=
  iprop((dats m hl 0 c).Φ t.castSucc ∗ (dats m hl 0 c).owesAt () t.castSucc
    ∗ (∃ d, owns (c : Thread nD τ) (spec0_0.stage ((cfgA m hl).slots t 0)) fullShare ((dats m hl 0 c).before 0 t d))
    ∗ (∃ d, owns (c : Thread nD τ) (spec0_1.stage ((cfgA m hl).slots t 1)) fullShare ((dats m hl 0 c).before 1 t d))
    ∗ (∃ d, owns (c : Thread nD τ) (spec0_2.stage ((cfgA m hl).slots t 2)) fullShare ((dats m hl 0 c).before 2 t d))
    ∗ (∃ d, owns (c : Thread nD τ) (spec0_3.stage ((cfgA m hl).slots t 3)) fullShare ((dats m hl 0 c).before 3 t d))
    ∗ (∃ d, owns (c : Thread nD τ) (spec0_4.stage ((cfgA m hl).slots t 4)) fullShare ((dats m hl 0 c).before 4 t d))
    ∗ (∃ d, owns (c : Thread nD τ) (spec0_5.stage ((cfgA m hl).slots t 5)) fullShare ((dats m hl 0 c).before 5 t d))
    ∗ (∃ d, owns (c : Thread nD τ) (spec0_6.stage ((cfgA m hl).slots t 6)) fullShare ((dats m hl 0 c).before 6 t d))
    ∗ (∃ d, owns (c : Thread nD τ) (spec0_7.stage ((cfgA m hl).slots t 7)) fullShare ((dats m hl 0 c).before 7 t d))
    ∗ (∃ d, owns (c : Thread nD τ) (spec0_8.stage ((cfgA m hl).slots t 8)) fullShare ((dats m hl 0 c).before 8 t d))
    ∗ (∃ d, owns (c : Thread nD τ) (spec0_9.stage ((cfgA m hl).slots t 9)) fullShare ((dats m hl 0 c).before 9 t d))
    ∗ (∃ d, owns (c : Thread nD τ) (spec0_10.stage ((cfgA m hl).slots t 10)) fullShare ((dats m hl 0 c).before 10 t d))
    ∗ (∃ d, owns (c : Thread nD τ) (spec0_11.stage ((cfgA m hl).slots t 11)) fullShare ((dats m hl 0 c).before 11 t d)))

/-- What it returns. -/
def post (c : Dev nD) (t : Fin (cfgA m hl).N) : sProp 𝕄 :=
  iprop((dats m hl 0 c).Φ t.succ ∗ (dats m hl 0 c).owesAt () t.succ
    ∗ owns (c : Thread nD τ) (spec0_0.stage ((cfgA m hl).slots t 0)) fullShare ((dats m hl 0 c).after 0 t)
    ∗ owns (c : Thread nD τ) (spec0_1.stage ((cfgA m hl).slots t 1)) fullShare ((dats m hl 0 c).after 1 t)
    ∗ owns (c : Thread nD τ) (spec0_2.stage ((cfgA m hl).slots t 2)) fullShare ((dats m hl 0 c).after 2 t)
    ∗ owns (c : Thread nD τ) (spec0_3.stage ((cfgA m hl).slots t 3)) fullShare ((dats m hl 0 c).after 3 t)
    ∗ owns (c : Thread nD τ) (spec0_4.stage ((cfgA m hl).slots t 4)) fullShare ((dats m hl 0 c).after 4 t)
    ∗ owns (c : Thread nD τ) (spec0_5.stage ((cfgA m hl).slots t 5)) fullShare ((dats m hl 0 c).after 5 t)
    ∗ owns (c : Thread nD τ) (spec0_6.stage ((cfgA m hl).slots t 6)) fullShare ((dats m hl 0 c).after 6 t)
    ∗ owns (c : Thread nD τ) (spec0_7.stage ((cfgA m hl).slots t 7)) fullShare ((dats m hl 0 c).after 7 t)
    ∗ owns (c : Thread nD τ) (spec0_8.stage ((cfgA m hl).slots t 8)) fullShare ((dats m hl 0 c).after 8 t)
    ∗ owns (c : Thread nD τ) (spec0_9.stage ((cfgA m hl).slots t 9)) fullShare ((dats m hl 0 c).after 9 t)
    ∗ owns (c : Thread nD τ) (spec0_10.stage ((cfgA m hl).slots t 10)) fullShare ((dats m hl 0 c).after 10 t)
    ∗ owns (c : Thread nD τ) (spec0_11.stage ((cfgA m hl).slots t 11)) fullShare ((dats m hl 0 c).after 11 t))

set_option maxHeartbeats 9600000 in
theorem at_point (c : Dev nD) (t : Fin (cfgA m hl).N) :
    pre m hl c t ⊢ wp frame (wpE (defs₀ (F := F)) Variants.none c none) Set.univ (bodyAt m hl t) (fun _ => post m hl c t) := by
  unfold pre post bodyAt
  simp only [found0, found1, found2, found3, found4, found5, found6, found7, found8, found9, found10]
  rw [show (dats m hl 0 c).owesAt () t.succ = (dats m hl 0 c).owesAt () t.castSucc from rfl,
    left0, left1, left2, left3, left4, left5, left6, left7, left8, left9, left10, left11]
  rw [show (dats m hl 0 c).Φ t.succ = between m hl c (t.val + 1) t.isLt from rfl, between_after, dats_before m hl c t]
  rw [show (⟨t.val, lt_of_lt_of_eq t.isLt N_0⟩ : Fin 320) = itemAt m hl t from Fin.ext (itemAt_val m hl t).symm]
  iintro ⟨HB, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  ihave HB := (between_gives m hl c t) $$ HB
  rw [tablesHeld_eq]
  icases HB with ⟨%Sg, %Su, %hS, HG, HU, Hg, T0, T1, T2, T3, T4, T5, T6, T7⟩
  iapply (body c (grid0.coords t) _ _ _ _ _ _ _ _ _ _ _ _ _ _ _ _ _ _ _ _ _ _ _ _ _ _ _ _ (tables m 3) (tables m 4) (tables m 5) Set.univ _ (iblk m hl c 0 t) (quarters m hl 0 c t) (quarters m hl 1 c t) (iblk m hl c 9 t) (iblk m hl c 10 t) Sg Su
    (by rw [spot'_eq]; exact hl.in_order _))
  isplitl [T3]; · iexact T3
  isplitl [T4]; · iexact T4
  isplitl [T5]; · iexact T5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%d11, H11⟩; iexists _; iexact H11
  isplitl [HG]; · iexact HG
  isplitl [HU]; · iexact HU
  rw [spot'_eq, spot_eq, hS.1, hS.2]
  iintro ⟨T3, T4, T5, H0, H1, H2, H3, H4, H5, H6, H7, H8, H9, H10, H11, HG, HU⟩
  isplitl [HG HU Hg T0 T1 T2 T3 T4 T5 T6 T7]
  · isplitl [HG HU Hg]
    · isplitl [HG HU]
      · isplitl [HG]; · iexact HG
        iexact HU
      iexact Hg
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin (cfgA m hl).N) :
    defs₀ (F := F) .tc (cfgA m hl).body ((cfgA m hl).bodyArgs t ((cfgA m hl).slots t)) = bodyAt m hl t := by
  unfold defs₀; rw [Defs.onTc_tc]

theorem obligation (c : Dev nD) : BodyObligation (dats m hl 0 c) (defs₀ (F := F)) Variants.none () Set.univ := fun t => by
  rw [bigSep_W0, bigSep_W0, row]
  have hi : idle0 (F := F) (adm m hl 0).1 11 ((pcfg0.gridAt (adm m hl 0).1).coords t) = false := never_idle _ _
  refine triple_restated (at_point m hl c t) rfl .rfl fun _ => ?_
  unfold post
  simp only [hi]
  exact Entails.refl _

theorem enter (c : Dev nD) : iprop(Pipeline.ΦA spec0 c ∗ Pipeline.ΦT pre0 (tables m) c) ⊢ (dats m hl 0 c).Φ 0 := by
  rw [show (dats m hl 0 c).Φ 0 = between m hl c 0 (Nat.zero_le _) from rfl, between_first m hl c 0 _ rfl]

theorem leave_at (c : Dev nD) (t : Fin ((cfgA m hl).N + 1)) (ht : t.val ≠ 0) : (dats m hl 0 c).Φ t ⊢ Pipeline.ΦA spec0 c := by
  rw [show (dats m hl 0 c).Φ t = between m hl c t.val (Nat.le_of_lt_succ t.isLt) from rfl, between_later m hl c _ _ ht, PhiA0_eq]
  iintro ⟨⟨⟨HG, HU⟩, Hg⟩, HT⟩
  isplitl [HG HU]
  · isplitl [HG]; · iexists _; iexact HG
    iexists _; iexact HU
  iexact Hg

theorem leave (c : Dev nD) : (dats m hl 0 c).Φ (Fin.last (cfgA m hl).N) ⊢ Pipeline.ΦA spec0 c :=
  leave_at m hl c _ (by rw [Fin.val_last]; have := points m hl; omega)

/-! ## The run -/

set_option backward.isDefEq.respectTransparency.types false in
/-- Every execution ends with the arrays at the data's values and every semaphore at zero. -/
theorem run_ends : θ_run defs (onTc (τ := τ) (main (F := F))) (s₀ m ρ)
    (fun r => (Pipeline.FramePost (Pipeline.pin pcfgs (adm m hl)) (dats m hl) 0 (V m)) r ∧ r.2.sem = fun _ => 0) :=
  Pipeline.θ_run_frameP_track_shared (Q' := _) pcfgs (adm m hl) (dats m hl) (0 : Fin 1) launch₀0 defs₀ Variants.none m ρ main
    (hbody := fun c => (obligation m hl c).loose) (hq := fun _ _ _ => rfl) (howed := fun _ _ => rfl)
    (V := V m) (hmain := hmain m Variants.none) (hA := dats_A m hl) (hpf := V_table m) (hin := enter m hl) (hout := leave m hl)
    (hQ' := fun _ h => h)

end Cert.Kernel5Ideal.Up

end
-- ==== Proof.Up.Run.lean ====
/-
  The array the run leaves: at each index the value of the block of the item that the index's tile belongs to.
-/
module

public import proofs.«01_k».proof.Proof.Up.Frame

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hl : Routes m)

/-- The item whose tile has an index of the result. -/
def owner (y : S81920x2048.Idx) : Fin 320 :=
  (hl.item_of ((y 0).val / 512) (by have h : (y 0).val < 81920 := (y 0).isLt; omega) ((y 1).val / 1024) (by have h : (y 1).val < 2048 := (y 1).isLt; omega)).choose

theorem owner_row (y : S81920x2048.Idx) : (tables m 0 (ix1 (owner m hl y)) : BitVec 32).toNat = (y 0).val / 512 :=
  (hl.item_of ((y 0).val / 512) (by have h : (y 0).val < 81920 := (y 0).isLt; omega) ((y 1).val / 1024) (by have h : (y 1).val < 2048 := (y 1).isLt; omega)).choose_spec.1

theorem owner_col (y : S81920x2048.Idx) : (tables m 1 (ix1 (owner m hl y)) : BitVec 32).toNat = (y 1).val / 1024 :=
  (hl.item_of ((y 0).val / 512) (by have h : (y 0).val < 81920 := (y 0).isLt; omega) ((y 1).val / 1024) (by have h : (y 1).val < 2048 := (y 1).isLt; omega)).choose_spec.2

/-- The point of an item. -/
def pointOf (i : Fin 320) : Fin (cfgA m hl).N := ⟨i.val, lt_of_lt_of_eq i.isLt (points m hl).symm⟩

theorem itemAt_pointOf (i : Fin 320) : itemAt m hl (pointOf m hl i) = i := Fin.ext (itemAt_val m hl _)

theorem itemAt_injective (t u : Fin (cfgA m hl).N) (h : itemAt m hl t = itemAt m hl u) : t = u :=
  Fin.ext (by rw [← itemAt_val m hl t, h, itemAt_val m hl u])

/-- The result. -/
def result (c : Dev nD) : Vec F S81920x2048 .bf16 := fun y =>
  blkAt m hl c (pointOf m hl (owner m hl y)) (ix2 (⟨(y 0).val % 512, Nat.mod_lt _ (by omega)⟩ : Fin 512) (⟨(y 1).val % 1024, Nat.mod_lt _ (by omega)⟩ : Fin 1024))

/-- The tile a point writes. -/
abbrev corner (t : Fin (cfgA m hl).N) : Fin 2 → ℕ := cc0_transform_11 k0_off1_inb numel1_S1 (tables m) (grid0.coords t)

theorem at11 (t : Fin (cfgA m hl).N) : corner m hl t
    = ![(tables m 0 (ix1 (itemAt m hl t)) : BitVec 32).toNat, (tables m 1 (ix1 (itemAt m hl t)) : BitVec 32).toNat] :=
  moves11 (tables m) (grid0.coords t)

/-- Every point writes its block back: no two items have the same tile. -/
theorem flushes (t : Fin (cfgA m hl).N) : ((cfgA m hl).win 11).flush t = true := by
  unfold Pipeline.Window.flush
  rw [show ((cfgA m hl).win 11).isOut = true from rfl, Bool.true_and, Bool.or_eq_true, decide_eq_true_eq, decide_eq_true_eq]
  by_cases hN : t.val + 1 = (cfgA m hl).N
  · exact .inl hN
  · refine .inr ⟨lt_of_le_of_ne t.isLt hN, fun he => ?_⟩
    have he' : corner m hl (⟨t.val + 1, lt_of_le_of_ne t.isLt hN⟩ : Fin (cfgA m hl).N) = corner m hl t := he
    rw [at11, at11] at he'
    have e0 := congrFun he' 0
    have e1 := congrFun he' 1
    have hit := hl.apart _ _ (BitVec.eq_of_toNat_eq e0) (BitVec.eq_of_toNat_eq e1)
    have := congrArg Fin.val (itemAt_injective m hl _ _ hit)
    change t.val + 1 = t.val at this
    omega

theorem blk_in_array (t : Fin (cfgA m hl).N) (i : S81920x2048.Idx) :
    i ∈ (((cfgA m hl).win 11).blk t).view.set ↔ ∀ a : Fin 2, corner m hl t a * S512x1024.size a ≤ (i a).val
      ∧ (i a).val < corner m hl t a * S512x1024.size a + S512x1024.size a :=
  (iff_of_eq (congrArg (fun s => i ∈ s) (View.set_slice_whole main_v1 (show Rect main_v1.ty.shape from ((cfgA m hl).win 11).rect t)))).trans
    ((Rect.mem_set_unit (s := S81920x2048) (off := fun a => corner m hl t a * S512x1024.size a) (size := S512x1024.size) (i := i)).trans Iff.rfl)

/-- A point writes back its block of the result. -/
theorem written (c : Dev nD) (t : Fin (cfgA m hl).N) :
    (dats m hl 0 c).flushed 11 t = (((cfgA m hl).win 11).blk t).view.read (Elt F) (result m hl c) := by
  show ((cfgA m hl).win 11).cut (grid0.coords t) ((dats m hl 0 c).after 11 t) = _
  rw [left11]
  have h := at11 m hl t
  have h0 : corner m hl t (0 : Fin 2) = (tables m 0 (ix1 (itemAt m hl t)) : BitVec 32).toNat := congrFun h 0
  have h1 : corner m hl t (1 : Fin 2) = (tables m 1 (ix1 (itemAt m hl t)) : BitVec 32).toNat := congrFun h 1
  refine funext fun (y : S512x1024.Idx) => ?_
  have hy0 : (y 0).val < 512 := (y 0).isLt
  have hy1 : (y 1).val < 1024 := (y 1).isLt
  obtain ⟨x, hx⟩ : ∃ x : S81920x2048.Idx, x = (((cfgA m hl).win 11).blk t).view.emb y := ⟨_, rfl⟩
  have hb0 : (x 0).val = corner m hl t (0 : Fin 2) * 512 + 1 * (y 0).val := by rw [hx]; rfl
  have hb1 : (x 1).val = corner m hl t (1 : Fin 2) * 1024 + 1 * (y 1).val := by rw [hx]; rfl
  rw [h0] at hb0
  rw [h1] at hb1
  show blkAt m hl c t y = result m hl c ((((cfgA m hl).win 11).blk t).view.emb y)
  refine Eq.trans ?_ (congrArg (result m hl c) hx)
  unfold result
  have hown : owner m hl x = itemAt m hl t := by
    have hr := owner_row m hl x
    have hc := owner_col m hl x
    rw [hb0] at hr
    rw [hb1] at hc
    exact hl.apart _ _ (BitVec.eq_of_toNat_eq (hr.trans (by omega))) (BitVec.eq_of_toNat_eq (hc.trans (by omega)))
  rw [hown, itemAt_injective m hl (pointOf m hl (itemAt m hl t)) t (itemAt_pointOf m hl _)]
  refine congrArg (blkAt m hl c t) ?_
  funext a; apply Fin.ext
  match a with
  | ⟨0, _⟩ => show (y 0).val = (x 0).val % 512; rw [hb0]; omega
  | ⟨1, _⟩ => show (y 1).val = (x 1).val % 1024; rw [hb1]; omega

/-- The array after the run. -/
theorem final (c : Dev nD) : (dats m hl 0 c).arrAt 11 (cfgA m hl).N = result m hl c :=
  (dats m hl 0 c).arrAt_eq_of_cover 11 _ (fun t _ => written m hl c t) (fun (i : S81920x2048.Idx) => by
    refine ⟨pointOf m hl (owner m hl i), flushes m hl _, ?_⟩
    have h := at11 m hl (pointOf m hl (owner m hl i))
    rw [itemAt_pointOf, owner_row, owner_col] at h
    have h0 : corner m hl (pointOf m hl (owner m hl i)) (0 : Fin 2) = (i 0).val / 512 := congrFun h 0
    have h1 : corner m hl (pointOf m hl (owner m hl i)) (1 : Fin 2) = (i 1).val / 1024 := congrFun h 1
    refine (blk_in_array m hl _ i).mpr fun a => ?_
    match a with
    | ⟨0, _⟩ =>
      show corner m hl (pointOf m hl (owner m hl i)) (0 : Fin 2) * 512 ≤ (i 0).val
        ∧ (i 0).val < corner m hl (pointOf m hl (owner m hl i)) (0 : Fin 2) * 512 + 512
      rw [h0]; omega
    | ⟨1, _⟩ =>
      show corner m hl (pointOf m hl (owner m hl i)) (1 : Fin 2) * 1024 ≤ (i 1).val
        ∧ (i 1).val < corner m hl (pointOf m hl (owner m hl i)) (1 : Fin 2) * 1024 + 1024
      rw [h1]; omega)

/-- The run: the result named, the arguments kept, the machine quiet. -/
theorem run : θ_run defs (onTc (τ := τ) (main (F := F))) ⟨m, fun _ => 0, ρ⟩ fun r => (∀ c : Dev nD,
      r.2.mem ((c.tc : Thread nD τ).loc main_v1) = result m hl c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun r ⟨h, hs⟩ => ⟨fun c => ⟨((h c).1 11).trans (final m hl c),
      ((h c).1 0).trans (((dats m hl 0 c).arrAt_in 0 rfl _).trans ((dats_A m hl c 0).trans (V_kept m c main_arg0 (by decide)))),
      ((h c).1 1).trans (((dats m hl 0 c).arrAt_in 1 rfl _).trans ((dats_A m hl c 1).trans (V_kept m c main_arg1 (by decide)))),
      ((h c).2 main_arg2 (Pipeline.mem_restRefs_of main_arg2 (by decide) (show ∀ w : Fin 12, (spec0 w).arr.view.ref ≠ main_arg2 by decide))).trans (V_kept m c main_arg2 (by decide)),
      ((h c).2 main_arg3 (Pipeline.mem_restRefs_of main_arg3 (by decide) (show ∀ w : Fin 12, (spec0 w).arr.view.ref ≠ main_arg3 by decide))).trans (V_kept m c main_arg3 (by decide)),
      ((h c).2 main_arg4 (Pipeline.mem_restRefs_of main_arg4 (by decide) (show ∀ w : Fin 12, (spec0 w).arr.view.ref ≠ main_arg4 by decide))).trans (V_kept m c main_arg4 (by decide)),
      ((h c).2 main_arg5 (Pipeline.mem_restRefs_of main_arg5 (by decide) (show ∀ w : Fin 12, (spec0 w).arr.view.ref ≠ main_arg5 by decide))).trans (V_kept m c main_arg5 (by decide)),
      ((h c).2 main_arg6 (Pipeline.mem_restRefs_of main_arg6 (by decide) (show ∀ w : Fin 12, (spec0 w).arr.view.ref ≠ main_arg6 by decide))).trans (V_kept m c main_arg6 (by decide)),
      ((h c).2 main_arg7 (Pipeline.mem_restRefs_of main_arg7 (by decide) (show ∀ w : Fin 12, (spec0 w).arr.view.ref ≠ main_arg7 by decide))).trans (V_kept m c main_arg7 (by decide)),
      ((h c).2 main_arg8 (Pipeline.mem_restRefs_of main_arg8 (by decide) (show ∀ w : Fin 12, (spec0 w).arr.view.ref ≠ main_arg8 by decide))).trans (V_kept m c main_arg8 (by decide)),
      ((h c).2 main_arg9 (Pipeline.mem_restRefs_of main_arg9 (by decide) (show ∀ w : Fin 12, (spec0 w).arr.view.ref ≠ main_arg9 by decide))).trans (V_kept m c main_arg9 (by decide)),
      ((h c).2 main_arg10 (Pipeline.mem_restRefs_of main_arg10 (by decide) (show ∀ w : Fin 12, (spec0 w).arr.view.ref ≠ main_arg10 by decide))).trans (V_kept m c main_arg10 (by decide)),
      ((h c).2 main_arg11 (Pipeline.mem_restRefs_of main_arg11 (by decide) (show ∀ w : Fin 12, (spec0 w).arr.view.ref ≠ main_arg11 by decide))).trans (V_kept m c main_arg11 (by decide)),
      ((h c).2 main_arg12 (Pipeline.mem_restRefs_of main_arg12 (by decide) (show ∀ w : Fin 12, (spec0 w).arr.view.ref ≠ main_arg12 by decide))).trans (V_kept m c main_arg12 (by decide))⟩, hs⟩)
    (run_ends m ρ hl)

include hl in
/-- Every run ends quiet, its arguments kept. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun _ h => ⟨fun c => (h.1 c).2, h.2⟩) (run m ρ hl)

end Cert.Kernel5Ideal.Up

end
-- ==== Proof.Up.Tile.lean ====
/-
  What the up projection computes of a block of rows, read at an index: the two halves of every word times their rows of the
  weights, plus the bias, the gate and the up-projection put together.
-/
module

public import proofs.«01_k».proof.Proof.Up.Body
public import Idealize.ShloMosaic.Lib.StableHlo.ReadAt

@[expose] public section

set_option maxRecDepth 16384

noncomputable section

namespace Cert.Up

open Idealize.ShloMosaic

/-- The float whose upper half a word's low half is, and the one whose upper half its high half is. -/
def low (w : BitVec 32) : EReal := Ideal.ofBits .f32 (IntOp.shli .vector w 16#32)
def high (w : BitVec 32) : EReal := Ideal.ofBits .f32 (IntOp.andi w 4294901760#32)

/-- A gate and an up-projection put together. -/
def glu (g u : Ideal .f32) : Ideal .f32 :=
  FloatOps.mulf (FloatOps.mulf (FloatOps.addf (FloatOps.minimumf (Scalar.ofBits .f32 0x40E00000#32) (FloatOps.maximumf (Scalar.ofBits .f32 0xC0E00000#32) u)) (Scalar.ofBits .f32 0x3F800000#32))
      (FloatOps.minimumf g (Scalar.ofBits .f32 0x40E00000#32)))
    (FloatOps.logistic (FloatOps.mulf (Scalar.ofBits .f32 0x3FD9DB23#32) (FloatOps.minimumf g (Scalar.ofBits .f32 0x40E00000#32))))

/-- The products of the words' low halves with the first 1024 rows of a matrix and of their high halves with the last, plus a bias. -/
def proj (x : Fin 1024 → BitVec 32) (w : Fin 2048 → EReal) (b : EReal) : EReal :=
  (∑ d : Fin 1024, low (x d) * w ⟨d.val, by omega⟩) + (∑ d : Fin 1024, high (x d) * w ⟨1024 + d.val, by omega⟩) + b

end Cert.Up

namespace Cert.Kernel5Ideal.Up

open Idealize.ShloMosaic Idealize.ShloMosaic.TcCoe
open Cert.Kernel5Ideal Cert.Kernel5Ideal.Gen
open Cert.Up (low high glu proj)

/-- Eight columns of 128 side by side. -/
theorem columns512 (f : Fin 8 → FVec Ideal S512x128 .f32) (r : Fin 512) (d : Fin 1024) :
    (concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] concatenates_S512x128_S512x128_S512x128_S512x128_S512x128_S512x128_S512x128_S512x128_S512x1024_d1 (ix2 r d) : EReal)
      = f ⟨d.val / 128, by omega⟩ (ix2 r ⟨d.val % 128, by omega⟩) := by
  have at_column (k k' : Fin 8) (l l' : Fin 128) (hk : k.val = k'.val) (hl : l.val = l'.val) : (f k (ix2 r l) : EReal) = f k' (ix2 r l') := by
    rw [Fin.ext hk, Fin.ext hl]
  pointwise []
  have hd := d.isLt
  split_ifs <;> first
    | (exfalso; omega)
    | exact at_column _ _ _ _ (by first | omega | (simp; omega)) (by first | omega | (simp; omega))

/-- A product of a block of rows. -/
theorem product512 (x : FVec Ideal S512x1024 .bf16) (w : FVec Ideal S1024x1024 .bf16) (r : Fin 512) (n : Fin 1024) :
    (matmul dot_S512x1024_S1024x1024_S512x1024_1_0_0_1_n_n none x w (constant S512x1024 .f32 0x00000000#32) (ix2 r n) : EReal) = ∑ d : Fin 1024, x (ix2 r d) * w (ix2 d n) := by
  pointwise []

theorem bias512 (b : FVec Ideal S1x1x1024 .f32) (r : Fin 512) (n : Fin 1024) :
    (broadcastTo S512x1024 (shapeCast S1x1024 b shapeCasts_S1x1x1024_S1x1024) broadcasts_S1x1024_S512x1024 (ix2 r n) : EReal) = b (ix3 0 0 n) := by
  pointwise []

/-- The words' low halves, and their high halves, as the block of rows that the products take. -/
def lows512 (x : Fin 8 → Vec Ideal S512x128 .i32) (s : Fin 8) : FVec Ideal S512x128 .f32 := bitcastToFloat .f32 (shli (x s) (broadcast S512x128 16#32))
def highs512 (x : Fin 8 → Vec Ideal S512x128 .i32) (s : Fin 8) : FVec Ideal S512x128 .f32 := bitcastToFloat .f32 (andi (x s) (broadcast S512x128 4294901760#32))
def side512 (f : Fin 8 → FVec Ideal S512x128 .f32) : FVec Ideal S512x1024 .bf16 :=
  truncf .bf16 (concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] concatenates_S512x128_S512x128_S512x128_S512x128_S512x128_S512x128_S512x128_S512x128_S512x1024_d1) bitsLt_bf16_f32

/-- A projection of a block of rows. -/
def proj512 (x : Fin 8 → Vec Ideal S512x128 .i32) (w : Vec Ideal S2048x1024 .bf16) (b : Vec Ideal S1x1x1024 .f32) : FVec Ideal S512x1024 .f32 :=
  addf (addf (matmul (φ₂ := .bf16) dot_S512x1024_S1024x1024_S512x1024_1_0_0_1_n_n none (side512 (lows512 x)) (lowRows w) (constant S512x1024 .f32 0x00000000#32))
      (matmul (φ₂ := .bf16) dot_S512x1024_S1024x1024_S512x1024_1_0_0_1_n_n none (side512 (highs512 x)) (highRows w) (constant S512x1024 .f32 0x00000000#32)))
    (broadcastTo S512x1024 (shapeCast S1x1024 b shapeCasts_S1x1x1024_S1x1024) broadcasts_S1x1024_S512x1024)

theorem proj512_at (x : Fin 8 → Vec Ideal S512x128 .i32) (w : Vec Ideal S2048x1024 .bf16) (b : Vec Ideal S1x1x1024 .f32) (r : Fin 512) (n : Fin 1024) :
    (proj512 x w b (ix2 r n) : EReal)
      = proj (fun d => x ⟨d.val / 128, by omega⟩ (ix2 r ⟨d.val % 128, by omega⟩)) (fun d => w (ix2 d n)) (b (ix3 0 0 n)) := by
  refine congrArg₂ (· + ·) (congrArg₂ (· + ·) ?_ ?_) (bias512 b r n)
  · refine (product512 _ _ r n).trans (Finset.sum_congr rfl fun d _ => congrArg (· * _) ?_)
    exact columns512 (lows512 x) r d
  · refine (product512 _ _ r n).trans (Finset.sum_congr rfl fun d _ => congrArg (· * _) ?_)
    exact columns512 (highs512 x) r d

/-- Eight columns of 128 side by side. -/
theorem columns256 (f : Fin 8 → FVec Ideal S256x128 .f32) (r : Fin 256) (d : Fin 1024) :
    (concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩] concatenates_S256x128_S256x128_S256x128_S256x128_S256x128_S256x128_S256x128_S256x128_S256x1024_d1 (ix2 r d) : EReal)
      = f ⟨d.val / 128, by omega⟩ (ix2 r ⟨d.val % 128, by omega⟩) := by
  have at_column (k k' : Fin 8) (l l' : Fin 128) (hk : k.val = k'.val) (hl : l.val = l'.val) : (f k (ix2 r l) : EReal) = f k' (ix2 r l') := by
    rw [Fin.ext hk, Fin.ext hl]
  pointwise []
  have hd := d.isLt
  split_ifs <;> first
    | (exfalso; omega)
    | exact at_column _ _ _ _ (by first | omega | (simp; omega)) (by first | omega | (simp; omega))

/-- A product of a block of rows. -/
theorem product256 (x : FVec Ideal S256x1024 .bf16) (w : FVec Ideal S1024x1024 .bf16) (r : Fin 256) (n : Fin 1024) :
    (matmul dot_S256x1024_S1024x1024_S256x1024_1_0_0_1_n_n none x w (constant S256x1024 .f32 0x00000000#32) (ix2 r n) : EReal) = ∑ d : Fin 1024, x (ix2 r d) * w (ix2 d n) := by
  pointwise []

theorem bias256 (b : FVec Ideal S1x1x1024 .f32) (r : Fin 256) (n : Fin 1024) :
    (broadcastTo S256x1024 (shapeCast S1x1024 b shapeCasts_S1x1x1024_S1x1024) broadcasts_S1x1024_S256x1024 (ix2 r n) : EReal) = b (ix3 0 0 n) := by
  pointwise []

/-- The words' low halves, and their high halves, as the block of rows that the products take. -/
def lows256 (x : Fin 8 → Vec Ideal S256x128 .i32) (s : Fin 8) : FVec Ideal S256x128 .f32 := bitcastToFloat .f32 (shli (x s) (broadcast S256x128 16#32))
def highs256 (x : Fin 8 → Vec Ideal S256x128 .i32) (s : Fin 8) : FVec Ideal S256x128 .f32 := bitcastToFloat .f32 (andi (x s) (broadcast S256x128 4294901760#32))
def side256 (f : Fin 8 → FVec Ideal S256x128 .f32) : FVec Ideal S256x1024 .bf16 :=
  truncf .bf16 (concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩] concatenates_S256x128_S256x128_S256x128_S256x128_S256x128_S256x128_S256x128_S256x128_S256x1024_d1) bitsLt_bf16_f32

/-- A projection of a block of rows. -/
def proj256 (x : Fin 8 → Vec Ideal S256x128 .i32) (w : Vec Ideal S2048x1024 .bf16) (b : Vec Ideal S1x1x1024 .f32) : FVec Ideal S256x1024 .f32 :=
  addf (addf (matmul (φ₂ := .bf16) dot_S256x1024_S1024x1024_S256x1024_1_0_0_1_n_n none (side256 (lows256 x)) (lowRows w) (constant S256x1024 .f32 0x00000000#32))
      (matmul (φ₂ := .bf16) dot_S256x1024_S1024x1024_S256x1024_1_0_0_1_n_n none (side256 (highs256 x)) (highRows w) (constant S256x1024 .f32 0x00000000#32)))
    (broadcastTo S256x1024 (shapeCast S1x1024 b shapeCasts_S1x1x1024_S1x1024) broadcasts_S1x1024_S256x1024)

theorem proj256_at (x : Fin 8 → Vec Ideal S256x128 .i32) (w : Vec Ideal S2048x1024 .bf16) (b : Vec Ideal S1x1x1024 .f32) (r : Fin 256) (n : Fin 1024) :
    (proj256 x w b (ix2 r n) : EReal)
      = proj (fun d => x ⟨d.val / 128, by omega⟩ (ix2 r ⟨d.val % 128, by omega⟩)) (fun d => w (ix2 d n)) (b (ix3 0 0 n)) := by
  refine congrArg₂ (· + ·) (congrArg₂ (· + ·) ?_ ?_) (bias256 b r n)
  · refine (product256 _ _ r n).trans (Finset.sum_congr rfl fun d _ => congrArg (· * _) ?_)
    exact columns256 (lows256 x) r d
  · refine (product256 _ _ r n).trans (Finset.sum_congr rfl fun d _ => congrArg (· * _) ?_)
    exact columns256 (highs256 x) r d

theorem full_at (x : Fin 8 → Vec Ideal S512x128 .i32) (wg wu : Vec Ideal S2048x1024 .bf16) (bg bu : Vec Ideal S1x1x1024 .f32) (y : S512x1024.Idx) :
    (full (F := Ideal) x wg wu bg bu y : EReal) = glu (proj512 x wg bg y) (proj512 x wu bu y) := rfl

theorem half_at (x : Fin 8 → Vec Ideal S256x128 .i32) (wg wu : Vec Ideal S2048x1024 .bf16) (bg bu : Vec Ideal S1x1x1024 .f32) (y : S256x1024.Idx) :
    (half (F := Ideal) x wg wu bg bu y : EReal) = glu (proj256 x wg bg y) (proj256 x wu bu y) := rfl

theorem pay37_at (y : S256x1024.Idx) : (k0_pay37 (F := Ideal) y : EReal) = 0 := Ideal.ofBits_zero_bf16
theorem pay3_at (y : S512x1024.Idx) : (k0_pay3 (F := Ideal) y : EReal) = 0 := Ideal.ofBits_zero_bf16

/-- A row of a block's words. -/
abbrev rowOf (a : Vec Ideal S4096x128 .i32) (r : Fin 512) : Fin 1024 → BitVec 32 := fun d =>
  a (ix2 ⟨8 * r.val + d.val / 128, by omega⟩ ⟨d.val % 128, by omega⟩)

/-- A computed row, whichever of the two forms gives it. -/
theorem outAt_row (va vb : BitVec 32) (a : Vec Ideal S4096x128 .i32) (wg wu : Vec Ideal S2048x1024 .bf16) (bg bu : Vec Ideal S1x1x1024 .f32) (r : Fin 512) (n : Fin 1024)
    (h : vb = 1#32 ∨ va = 1#32 ∧ r.val < 256) :
    (outAt (F := Ideal) va vb a wg wu bg bu (ix2 r n) : EReal)
      = glu (proj (rowOf a r) (fun d => wg (ix2 d n)) (bg (ix3 0 0 n))) (proj (rowOf a r) (fun d => wu (ix2 d n)) (bu (ix3 0 0 n))) := by
  unfold outAt
  by_cases hb : vb = 1#32
  · rw [if_pos ((cond2_iff vb).mpr hb)]
    exact (full_at _ _ _ _ _ _).trans (congrArg₂ glu (proj512_at _ wg bg r n) (proj512_at _ wu bu r n))
  · obtain ⟨ha, hr⟩ := h.resolve_left hb
    rw [if_neg (fun hc => hb ((cond2_iff vb).mp hc)), if_pos ((cond3_iff va vb).mpr ⟨ha, hb⟩)]
    unfold halves
    rw [dif_pos (show ((ix2 r n : S512x1024.Idx) 0).val < 256 from hr)]
    exact (half_at _ _ _ _ _ _).trans (congrArg₂ glu (proj256_at _ wg bg ⟨r.val, hr⟩ n) (proj256_at _ wu bu ⟨r.val, hr⟩ n))

/-- A row that is not computed. -/
theorem outAt_zero (va vb : BitVec 32) (a : Vec Ideal S4096x128 .i32) (wg wu : Vec Ideal S2048x1024 .bf16) (bg bu : Vec Ideal S1x1x1024 .f32) (r : Fin 512) (n : Fin 1024)
    (hb : vb ≠ 1#32) (h : va = 1#32 → 256 ≤ r.val) : (outAt (F := Ideal) va vb a wg wu bg bu (ix2 r n) : EReal) = 0 := by
  unfold outAt
  rw [if_neg (fun hc => hb ((cond2_iff vb).mp hc))]
  by_cases ha : va = 1#32
  · rw [if_pos ((cond3_iff va vb).mpr ⟨ha, hb⟩)]
    unfold halves
    rw [dif_neg (show ¬ ((ix2 r n : S512x1024.Idx) 0).val < 256 from Nat.not_lt.mpr (h ha))]
    exact pay37_at _
  · rw [if_neg (fun hc => ha ((cond3_iff va vb).mp hc).1)]
    exact pay3_at _

end Cert.Kernel5Ideal.Up

end
-- ==== Proof.Up.Pre.lean ====
/-
  The precondition of the up projection, read: it asks of the tables what that of the down projection asks of them.
-/
module

public import proofs.«01_k».proof.Proof.Up.Frame
public import proofs.«01_k».proof.Proof.Dn.Pre
public import proofs.«01_k».proof.Proof.Gen.Pre_routed_up

@[expose] public section

set_option maxRecDepth 16384

noncomputable section

namespace Cert.Pre_routed_up.Up

open Idealize.ShloMosaic Idealize.ShloMosaic.Tactic

variable [Facts] [Cert.Pre_routed.Facts]

variable {F : FTy → Type} [FloatOps F] (a0 : IVec S655360x128 32) (a1 : FVec F S2x32x2048x4096 .f32) (a2 : FVec F S32x4096 .f32)
  (rbe rbv sb j e first va vb : IVec S320 32) (pe pj : IVec S4x320 32)

/-- The precondition: every word of every array that its predicate computes is one. -/
abbrev Holds : Prop :=
  (fn (F := F) a0 a1 a2 rbe rbv sb j e first va vb pe pj).1 = (fun _ => 1#1)
  ∧ (fn (F := F) a0 a1 a2 rbe rbv sb j e first va vb pe pj).2.1 = (fun _ => 1#1)
  ∧ (fn (F := F) a0 a1 a2 rbe rbv sb j e first va vb pe pj).2.2.1 = (fun _ => 1#1)
  ∧ (fn (F := F) a0 a1 a2 rbe rbv sb j e first va vb pe pj).2.2.2.1 = (fun _ => 1#1)
  ∧ (fn (F := F) a0 a1 a2 rbe rbv sb j e first va vb pe pj).2.2.2.2.1 = (fun _ => 1#1)
  ∧ (fn (F := F) a0 a1 a2 rbe rbv sb j e first va vb pe pj).2.2.2.2.2.1 = (fun _ => 1#1)
  ∧ (fn (F := F) a0 a1 a2 rbe rbv sb j e first va vb pe pj).2.2.2.2.2.2.1 = (fun _ => 1#1)
  ∧ (fn (F := F) a0 a1 a2 rbe rbv sb j e first va vb pe pj).2.2.2.2.2.2.2.1 = (fun _ => 1#1)
  ∧ (fn (F := F) a0 a1 a2 rbe rbv sb j e first va vb pe pj).2.2.2.2.2.2.2.2.1 = (fun _ => 1#1)
  ∧ (fn (F := F) a0 a1 a2 rbe rbv sb j e first va vb pe pj).2.2.2.2.2.2.2.2.2.1 = (fun _ => 1#1)
  ∧ (fn (F := F) a0 a1 a2 rbe rbv sb j e first va vb pe pj).2.2.2.2.2.2.2.2.2.2.1 = (fun _ => 1#1)
  ∧ (fn (F := F) a0 a1 a2 rbe rbv sb j e first va vb pe pj).2.2.2.2.2.2.2.2.2.2.2.1 = (fun _ => 1#1)
  ∧ (fn (F := F) a0 a1 a2 rbe rbv sb j e first va vb pe pj).2.2.2.2.2.2.2.2.2.2.2.2 = (fun _ => 1#1)

/-- Neither predicate looks at its first three arguments, and of the others they are the same. -/
theorem fn_eq (b0 : FVec F Cert.Pre_routed.S81920x2048 .bf16) (b1 : FVec F Cert.Pre_routed.S2x32x2048x2048 .f32) (b2 : FVec F Cert.Pre_routed.S32x2048 .f32) :
    fn (F := F) a0 a1 a2 rbe rbv sb j e first va vb pe pj = Cert.Pre_routed.fn (F := F) b0 b1 b2 rbe rbv sb j e first va vb pe pj := by sl_kernel_rfl

theorem routed_of (h : Holds a0 a1 a2 rbe rbv sb j e first va vb pe pj) : Cert.Kernel4Ideal.Dn.Routed rbe rbv sb j e first va vb pe pj := by
  unfold Holds at h
  rw [fn_eq a0 a1 a2 rbe rbv sb j e first va vb pe pj (constant _ .bf16 0x0000#16) (constant _ .f32 0x00000000#32) (constant _ .f32 0x00000000#32)] at h
  exact Cert.Pre_routed.Dn.routed_of _ _ _ rbe rbv sb j e first va vb pe pj h

end Cert.Pre_routed_up.Up

namespace Cert.Kernel5Ideal.Up

open Idealize.ShloMosaic Idealize.ShloMosaic.TcCoe
open Cert.Kernel5Ideal

variable {F : FTy → Type} [FloatOps F]

/-- On the memory a launch starts from. -/
theorem routes_of (m : (ℓ : Loc nD τ sig) → Buf (Elt F) ℓ)
    (h : Cert.Pre_routed_up.Up.Holds (F := F) (m (((0 : Dev nD).tc : Thread nD τ).loc main_arg0))
      (m (((0 : Dev nD).tc : Thread nD τ).loc main_arg1))
      (m (((0 : Dev nD).tc : Thread nD τ).loc main_arg2))
      (m (((0 : Dev nD).tc : Thread nD τ).loc main_arg3))
      (m (((0 : Dev nD).tc : Thread nD τ).loc main_arg4))
      (m (((0 : Dev nD).tc : Thread nD τ).loc main_arg5))
      (m (((0 : Dev nD).tc : Thread nD τ).loc main_arg6))
      (m (((0 : Dev nD).tc : Thread nD τ).loc main_arg7))
      (m (((0 : Dev nD).tc : Thread nD τ).loc main_arg8))
      (m (((0 : Dev nD).tc : Thread nD τ).loc main_arg9))
      (m (((0 : Dev nD).tc : Thread nD τ).loc main_arg10))
      (m (((0 : Dev nD).tc : Thread nD τ).loc main_arg11))
      (m (((0 : Dev nD).tc : Thread nD τ).loc main_arg12))) : Routes m :=
  Cert.Pre_routed_up.Up.routed_of _ _ _ _ _ _ _ _ _ _ _ _ _ h

end Cert.Kernel5Ideal.Up

end
-- ==== Proof.Up.Value.lean ====
/-
  The array of the up projection: each row block of 256 that the tables mark is the gate and the up-projection of its rows put
  together, with its expert's weights and biases, and the others are zero; and so is the reference.
-/
module

public import proofs.«01_k».proof.Proof.Up.Run
public import proofs.«01_k».proof.Proof.Up.Tile
public import proofs.«01_k».proof.Proof.Up.Pre
public import proofs.«01_k».proof.Proof.Gen.Reference5Ideal.Run
public import Idealize.ShloMosaic.Lib.StableHlo.ReadAt
public import Idealize.ShloMosaic.Lib.Routing.Ops
public import Idealize.ShloMosaic.Lib.IdealHost

@[expose] public section

set_option maxRecDepth 16384

noncomputable section

namespace Cert.Up

open Idealize.ShloMosaic

/-- A row's words: eight rows of 128 of the array of words. -/
def wordOf (x : (⟨2, ![655360, 128]⟩ : Shape).Idx → BitVec 32) (r : Fin 81920) (d : Fin 1024) : BitVec 32 :=
  x (ix2 (⟨8 * r.val + d.val / 128, by omega⟩ : Fin 655360) (⟨d.val % 128, by omega⟩ : Fin 128))

/-- Row `r`, column `n` of expert `e`'s product. -/
def side (x : (⟨2, ![655360, 128]⟩ : Shape).Idx → BitVec 32) (w : (⟨4, ![2, 32, 2048, 4096]⟩ : Shape).Idx → EReal) (bias : (⟨2, ![32, 4096]⟩ : Shape).Idx → EReal)
    (e : Fin 32) (r : Fin 81920) (n : Fin 4096) : EReal :=
  proj (wordOf x r) (fun d => w (ix4 (1 : Fin 2) e d n)) (bias (ix2 e n))

/-- Row `r`, column `n` of the up projection. -/
def lift (x : (⟨2, ![655360, 128]⟩ : Shape).Idx → BitVec 32) (w : (⟨4, ![2, 32, 2048, 4096]⟩ : Shape).Idx → EReal) (bias : (⟨2, ![32, 4096]⟩ : Shape).Idx → EReal)
    (rbe rbv : (⟨1, ![320]⟩ : Shape).Idx → BitVec 32) (he : ∀ k : Fin 320, (rbe (ix1 k)).toNat < 32) (r : Fin 81920) (n : Fin 2048) : EReal :=
  if rbv (ix1 (⟨r.val / 256, by omega⟩ : Fin 320)) = 1#32 then
    glu (side x w bias ⟨(rbe (ix1 (⟨r.val / 256, by omega⟩ : Fin 320))).toNat, he _⟩ r ⟨n.val, by omega⟩)
      (side x w bias ⟨(rbe (ix1 (⟨r.val / 256, by omega⟩ : Fin 320))).toNat, he _⟩ r ⟨2048 + n.val, by omega⟩)
  else 0

theorem proj_congr {x x' : Fin 1024 → BitVec 32} {w w' : Fin 2048 → EReal} {b b' : EReal} (hx : ∀ d, x d = x' d) (hw : ∀ d, w d = w' d) (hb : b = b') :
    proj x w b = proj x' w' b' := by
  obtain rfl : x = x' := funext hx
  obtain rfl : w = w' := funext hw
  rw [hb]

end Cert.Up

namespace Cert.Kernel5Ideal.Up

open Idealize.ShloMosaic Idealize.ShloMosaic.TcCoe Idealize.ShloMosaic.Tactic Idealize.SL.Sem
open Cert.Kernel5Ideal Cert.Kernel5Ideal.Gen
open Cert.Up (glu proj proj_congr wordOf side lift)

variable (m : (ℓ : Loc nD τ sig) → Buf (Elt Ideal) ℓ) (hl : Routes m) (c : Dev nD)

/-! ## What a point reads -/

theorem bias_at (e : Fin 32) (z : Fin 1) (n : Fin 4096) : (V m c main_v0 (ix3 e z n) : EReal) = m ((c : Thread nD τ).loc main_arg2) (ix2 e n) := by
  unfold V
  after_reads_at

theorem blk0_at (t : Fin (cfgA m hl).N) (a : Fin 4096) (d : Fin 128) (q : Fin 655360)
    (hq : q.val = (tables m 0 (ix1 (itemAt m hl t)) : BitVec 32).toNat * 4096 + a.val) :
    (iblk m hl c 0 t (ix2 a d) : BitVec 32) = m ((c : Thread nD τ).loc main_arg0) (ix2 q d) := by
  refine Eq.trans ?_ (congrFun (V_kept m c main_arg0 (by decide)) (ix2 q d))
  refine congrArg (V m c main_arg0) ?_
  have h := moves0 (tables m) (grid0.coords t)
  funext i; apply Fin.ext
  match i with
  | ⟨0, _⟩ => show cc0_transform_0 k0_off1_inb numel1_S1 (tables m) (grid0.coords t) 0 * 4096 + 1 * a.val = q.val; rw [h, hq, Nat.one_mul]; rfl
  | ⟨1, _⟩ => show cc0_transform_0 k0_off1_inb numel1_S1 (tables m) (grid0.coords t) 1 * 128 + 1 * d.val = d.val; rw [h]; show 0 * 128 + 1 * d.val = d.val; omega

theorem blk9_at (t : Fin (cfgA m hl).N) (b : Fin 1024) (e : Fin 32) (n : Fin 4096)
    (he : e.val = (tables m 2 (ix1 (itemAt m hl t)) : BitVec 32).toNat)
    (hn : n.val = (tables m 1 (ix1 (itemAt m hl t)) : BitVec 32).toNat * 1024 + b.val) :
    (iblk m hl c 9 t (ix3 0 0 b) : EReal) = m ((c : Thread nD τ).loc main_arg2) (ix2 e n) := by
  refine Eq.trans ?_ (bias_at m c e 0 n)
  refine congrArg (V m c main_v0) ?_
  have h := moves9 (tables m) (grid0.coords t)
  funext i; apply Fin.ext
  match i with
  | ⟨0, _⟩ => show cc0_transform_9 k0_off1_inb numel1_S1 (tables m) (grid0.coords t) 0 * 1 + 1 * 0 = e.val; rw [h, he, Nat.mul_one]; rfl
  | ⟨1, _⟩ => show cc0_transform_9 k0_off1_inb numel1_S1 (tables m) (grid0.coords t) 1 * 1 + 1 * 0 = 0; rw [h]; rfl
  | ⟨2, _⟩ => show cc0_transform_9 k0_off1_inb numel1_S1 (tables m) (grid0.coords t) 2 * 1024 + 1 * b.val = n.val; rw [h, hn, Nat.one_mul]; rfl

theorem blk10_at (t : Fin (cfgA m hl).N) (b : Fin 1024) (e : Fin 32) (n : Fin 4096)
    (he : e.val = (tables m 2 (ix1 (itemAt m hl t)) : BitVec 32).toNat)
    (hn : n.val = (2 + (tables m 1 (ix1 (itemAt m hl t)) : BitVec 32).toNat) * 1024 + b.val) :
    (iblk m hl c 10 t (ix3 0 0 b) : EReal) = m ((c : Thread nD τ).loc main_arg2) (ix2 e n) := by
  refine Eq.trans ?_ (bias_at m c e 0 n)
  refine congrArg (V m c main_v0) ?_
  have h := moves10 (tables m) (grid0.coords t)
  funext i; apply Fin.ext
  match i with
  | ⟨0, _⟩ => show cc0_transform_10 k0_off1_inb numel1_S1 (tables m) (grid0.coords t) 0 * 1 + 1 * 0 = e.val; rw [h, he, Nat.mul_one]; rfl
  | ⟨1, _⟩ => show cc0_transform_10 k0_off1_inb numel1_S1 (tables m) (grid0.coords t) 1 * 1 + 1 * 0 = 0; rw [h]; rfl
  | ⟨2, _⟩ =>
    show cc0_transform_10 k0_off1_inb numel1_S1 (tables m) (grid0.coords t) 2 * 1024 + 1 * b.val = n.val
    rw [h, hn, Nat.one_mul]
    exact congrArg (fun z => z * 1024 + b.val) (past _ (hl.j_lt (itemAt m hl t)))

theorem slab_at (s : Fin 2) (i : Fin 320) (d : Fin 2048) (b : Fin 1024) (e : Fin 32) (n : Fin 4096)
    (he : e.val = (tables m 2 (ix1 i) : BitVec 32).toNat) (hn : n.val = (2 * s.val + (tables m 1 (ix1 i) : BitVec 32).toNat) * 1024 + b.val) :
    (slab m hl s c i (ix2 d b) : EReal) = m ((c : Thread nD τ).loc main_arg1) (ix4 (1 : Fin 2) e d n) := by
  refine Eq.trans ?_ (congrFun (V_kept m c main_arg1 (by decide)) (ix4 (1 : Fin 2) e d n))
  obtain rfl : e = (⟨(tables m 2 (ix1 i) : BitVec 32).toNat, hl.e_lt i⟩ : Fin 32) := Fin.ext he
  have hn' : (2 * s.val + (tables m 1 (ix1 i) : BitVec 32).toNat) * 1024 + b.val < 4096 := hn ▸ n.isLt
  obtain rfl : n = (⟨(2 * s.val + (tables m 1 (ix1 i) : BitVec 32).toNat) * 1024 + b.val, hn'⟩ : Fin 4096) := Fin.ext hn
  rfl

/-- The array the kernel leaves. -/
theorem result_at (r : Fin 81920) (n : Fin 2048) :
    (result m hl c (ix2 r n) : EReal)
      = lift (m ((c : Thread nD τ).loc main_arg0)) (m ((c : Thread nD τ).loc main_arg1)) (m ((c : Thread nD τ).loc main_arg2))
          (m (((0 : Dev nD) : Thread nD τ).loc main_arg3)) (m (((0 : Dev nD) : Thread nD τ).loc main_arg4)) hl.rbe_lt r n := by
  have hrow : (tables m 0 (ix1 (owner m hl (ix2 r n))) : BitVec 32).toNat = r.val / 512 := owner_row m hl (ix2 r n)
  have hcol : (tables m 1 (ix1 (owner m hl (ix2 r n))) : BitVec 32).toNat = n.val / 1024 := owner_col m hl (ix2 r n)
  unfold result blkAt
  generalize owner m hl (ix2 r n) = i at hrow hcol
  have hi := itemAt_pointOf m hl i
  rw [hi]
  have hexp := hl.expert i (⟨r.val / 256, by omega⟩ : Fin 320) (by show r.val / 256 / 2 = _; rw [hrow]; omega)
  have hmark : (m (((0 : Dev nD) : Thread nD τ).loc main_arg4) (ix1 (⟨r.val / 256, by omega⟩ : Fin 320)) : BitVec 32) = 1#32
      ↔ (tables m 5 (ix1 i) : BitVec 32) = 1#32 ∨ (tables m 4 (ix1 i) : BitVec 32) = 1#32 ∧ r.val % 512 < 256 := by
    by_cases hp : r.val % 512 < 256
    · rw [hl.first_flag i (⟨r.val / 256, by omega⟩ : Fin 320) (by show r.val / 256 = _; rw [hrow]; omega)]
      exact ⟨fun h => .inr ⟨h, hp⟩, fun h => h.elim (hl.in_order i) (·.1)⟩
    · rw [hl.second_flag i (⟨r.val / 256, by omega⟩ : Fin 320) (by show r.val / 256 = _; rw [hrow]; omega)]
      exact ⟨.inl, fun h => h.elim id (fun w => absurd w.2 hp)⟩
  unfold lift
  by_cases hm : (m (((0 : Dev nD) : Thread nD τ).loc main_arg4) (ix1 (⟨r.val / 256, by omega⟩ : Fin 320)) : BitVec 32) = 1#32
  · rw [if_pos hm]
    refine (outAt_row _ _ _ _ _ _ _ _ _ (hmark.mp hm)).trans ?_
    have words (d : Fin 1024) : rowOf (iblk m hl c 0 (pointOf m hl i)) (⟨r.val % 512, Nat.mod_lt _ (by omega)⟩ : Fin 512) d
        = wordOf (m ((c : Thread nD τ).loc main_arg0)) r d := by
      refine blk0_at m hl c (pointOf m hl i) _ _ _ ?_
      rw [hi, hrow]
      show 8 * r.val + d.val / 128 = r.val / 512 * 4096 + (8 * (r.val % 512) + d.val / 128)
      omega
    have gcol : n.val = n.val / 1024 * 1024 + n.val % 1024 := by omega
    have ucol : 2048 + n.val = (2 + n.val / 1024) * 1024 + n.val % 1024 := by omega
    have het := congrArg BitVec.toNat hexp
    refine congrArg₂ glu (proj_congr words (fun d => ?_) ?_) (proj_congr words (fun d => ?_) ?_)
    · refine slab_at m hl c 0 i d _ _ _ het ?_
      rw [hcol]
      show n.val = (2 * 0 + n.val / 1024) * 1024 + n.val % 1024
      omega
    · refine blk9_at m hl c (pointOf m hl i) _ _ _ ?_ ?_
      · rw [hi]; exact het
      · rw [hi, hcol]; exact gcol
    · refine slab_at m hl c 1 i d _ _ _ het ?_
      rw [hcol]
      show 2048 + n.val = (2 * 1 + n.val / 1024) * 1024 + n.val % 1024
      omega
    · refine blk10_at m hl c (pointOf m hl i) _ _ _ ?_ ?_
      · rw [hi]; exact het
      · rw [hi, hcol]; exact ucol
  · rw [if_neg hm]
    exact outAt_zero _ _ _ _ _ _ _ _ _ (fun h => hm (hmark.mpr (.inl h))) (fun h => Nat.not_lt.mp fun hp => hm (hmark.mpr (.inr ⟨h, hp⟩)))

end Cert.Kernel5Ideal.Up

namespace Cert.Reference5Ideal.Up

open Idealize.ShloMosaic Idealize.ShloMosaic.TcCoe Idealize.SL.Sem
open Cert.Reference5Ideal Cert.Reference5Ideal.Gen
open Cert.Up (low high glu proj proj_congr wordOf side lift)

/-! ## The rows -/

/-- The words as row blocks. -/
def grouped (x : IVec S655360x128 32) : IVec S320x256x1024 32 := shapeCast S320x256x1024 x shapeCasts_S655360x128_S320x256x1024

theorem grouped_at (x : IVec S655360x128 32) (k : Fin 320) (a : Fin 256) (d : Fin 1024) :
    grouped x (ix3 k a d) = wordOf x ⟨k.val * 256 + a.val, by omega⟩ d := by
  have at_word (p p' : Fin 655360) (q q' : Fin 128) (hp : p.val = p'.val) (hq : q.val = q'.val) : x (ix2 p q) = x (ix2 p' q') := by
    rw [Fin.ext hp, Fin.ext hq]
  have hd := d.isLt
  unfold wordOf
  pointwise [grouped]
  exact at_word _ _ _ _ (by first | (dsimp only; omega) | omega) (by first | (dsimp only; omega) | omega)

def lows (v : IVec S320x256x1024 32) : FVec Ideal S320x256x1024 .f32 :=
  bitcastToFloat (F := Ideal) .f32 (Host.shli v (broadcastInDim S320x256x1024 ![] bcast_S_S320x256x1024 (constantI S_ 32 16#32)))
def highs (v : IVec S320x256x1024 32) : FVec Ideal S320x256x1024 .f32 :=
  bitcastToFloat (F := Ideal) .f32 (andi v (broadcastInDim S320x256x1024 ![] bcast_S_S320x256x1024 (constantI S_ 32 4294901760#32)))

theorem lows_at (v : IVec S320x256x1024 32) (y : S320x256x1024.Idx) : (lows v y : EReal) = low (v y) := by
  show Ideal.ofBits .f32 (IntOp.shli .host (v y) 16#32) = Ideal.ofBits .f32 (IntOp.shli .vector (v y) 16#32)
  rfl
theorem highs_at (v : IVec S320x256x1024 32) (y : S320x256x1024.Idx) : (highs v y : EReal) = high (v y) := rfl

/-- Two halves of a row side by side. -/
def joined (p q : FVec Ideal S320x256x1024 .f32) : FVec Ideal S320x256x2048 .f32 :=
  concatenate S320x256x2048 2 [⟨S320x256x1024, p⟩, ⟨S320x256x1024, q⟩] concatenates_S320x256x1024_S320x256x1024_S320x256x2048_d2

theorem joined_at (p q : FVec Ideal S320x256x1024 .f32) (k : Fin 320) (a : Fin 256) (d : Fin 2048) :
    (joined p q (ix3 k a d) : EReal) = if h : d.val < 1024 then p (ix3 k a ⟨d.val, h⟩) else q (ix3 k a ⟨d.val - 1024, by omega⟩) := by
  pointwise [joined]

/-! ## The products -/

/-- The gate and the up-projection of every row, beside one another. -/
def both (x : FVec Ideal S320x256x2048 .f32) (w : FVec Ideal S320x2048x4096 .f32) (b : FVec Ideal S320x4096 .f32) : FVec Ideal S320x256x4096 .f32 :=
  addf (Host.dotGeneral (F := Ideal) dot_S320x256x2048_S320x2048x4096_S320x256x4096_2_1_1_2_0_0 none x w)
    (broadcastInDim S320x256x4096 ![0, 1, 2] bcast_S320x1x4096_S320x256x4096_0_1_2 (broadcastInDim S320x1x4096 ![0, 2] bcast_S320x4096_S320x1x4096_0_2 b))

theorem both_at (x : FVec Ideal S320x256x2048 .f32) (w : FVec Ideal S320x2048x4096 .f32) (b : FVec Ideal S320x4096 .f32) (k : Fin 320) (a : Fin 256) (n : Fin 4096) :
    (both x w b (ix3 k a n) : EReal) = (∑ d : Fin 2048, x (ix3 k a d) * w (ix3 k d n)) + b (ix2 k n) := by
  pointwise [both]

/-- Of the halves of the words. -/
theorem both_words (v : IVec S320x256x1024 32) (w : FVec Ideal S320x2048x4096 .f32) (b : FVec Ideal S320x4096 .f32) (k : Fin 320) (a : Fin 256) (n : Fin 4096) :
    (both (joined (lows v) (highs v)) w b (ix3 k a n) : EReal) = proj (fun d => v (ix3 k a d)) (fun d => w (ix3 k d n)) (b (ix2 k n)) := by
  refine (both_at _ w b k a n).trans (congrArg (· + (b (ix2 k n) : EReal)) ?_)
  refine (Fin.sum_univ_add (a := 1024) (b := 1024) (fun d : Fin 2048 => (joined (lows v) (highs v) (ix3 k a d) : EReal) * w (ix3 k d n))).trans ?_
  refine congrArg₂ (· + ·) (Finset.sum_congr rfl fun d _ => congrArg (· * _) ?_) (Finset.sum_congr rfl fun d _ => congrArg (· * _) ?_)
  · refine (joined_at _ _ k a _).trans ((dif_pos (show d.val < 1024 from d.isLt)).trans ?_)
    exact lows_at v _
  · refine (joined_at _ _ k a _).trans ((dif_neg (show ¬ 1024 + d.val < 1024 by omega)).trans ?_)
    refine (highs_at v _).trans (congrArg (fun z => high (v (ix3 k a z))) (Fin.ext ?_))
    show 1024 + d.val - 1024 = d.val
    omega

/-! ## The gate and the up-projection together -/

abbrev every (bits : BitVec 32) : FVec Ideal S320x256x2048 .f32 := broadcastInDim S320x256x2048 ![] bcast_S_S320x256x2048 (constant S_ .f32 bits)

/-- A gate and an up-projection put together, the sigmoid written out. -/
def gated (g u : FVec Ideal S320x256x2048 .f32) : FVec Ideal S320x256x2048 .f32 :=
  mulf (mulf (addf (minimumf (every 0x40E00000#32) (maximumf (every 0xC0E00000#32) u)) (every 0x3F800000#32)) (minimumf g (every 0x40E00000#32)))
    (Host.divf (every 0x3F800000#32) (addf (every 0x3F800000#32) (Host.exp (Host.negf (mulf (every 0x3FD9DB23#32) (minimumf g (every 0x40E00000#32)))))))

theorem gated_at (g u : FVec Ideal S320x256x2048 .f32) (y : S320x256x2048.Idx) : (gated g u y : EReal) = glu (g y) (u y) := by
  have sigmoid (z : EReal) : Ideal.div (Ideal.ofBits .f32 0x3F800000#32) (Ideal.ofBits .f32 0x3F800000#32 + Ideal.exp (-z)) = Ideal.logistic z := by
    rw [Ideal.ofBits_one_f32]; rfl
  exact congrArg (_ * ·) (sigmoid _)

/-- Where the tables mark the block. -/
def marked (g : FVec Ideal S320x256x2048 .f32) (rbv : IVec S320 32) : FVec Ideal S320x256x2048 .f32 :=
  select (broadcastInDim S320x256x2048 ![0, 1, 2] bcast_S320x1x1_S320x256x2048_0_1_2 (broadcastInDim S320x1x1 ![0] bcast_S320_S320x1x1_0
      (cmpi .eq rbv (broadcastInDim S320 ![] bcast_S_S320 (constantI S_ 32 1#32))))) g (every 0x00000000#32)

theorem marked_at (g : FVec Ideal S320x256x2048 .f32) (rbv : IVec S320 32) (k : Fin 320) (a : Fin 256) (n : Fin 2048) :
    (marked g rbv (ix3 k a n) : EReal) = Scalar.select (IntOp.cmpi .eq (rbv (ix1 k)) 1#32) (g (ix3 k a n)) (Ideal.ofBits .f32 0x00000000#32) := by
  pointwise [marked]

theorem flat_at (x : FVec Ideal S320x256x2048 .f32) (r : Fin 81920) (n : Fin 2048) :
    (shapeCast S81920x2048 x shapeCasts_S320x256x2048_S81920x2048 (ix2 r n) : EReal)
      = x (ix3 (⟨r.val / 256, by omega⟩ : Fin 320) (⟨r.val % 256, by omega⟩ : Fin 256) n) := by
  pointwise []

theorem gate_at (x : FVec Ideal S320x256x4096 .f32) (k : Fin 320) (a : Fin 256) (n : Fin 2048) :
    (extractStridedSlice S320x256x2048 ![0, 0, 0] x slices_S320x256x4096_S320x256x2048_0_0_0 (ix3 k a n) : EReal) = x (ix3 k a ⟨n.val, by omega⟩) := by
  pointwise []

theorem up_at (x : FVec Ideal S320x256x4096 .f32) (k : Fin 320) (a : Fin 256) (n : Fin 2048) :
    (extractStridedSlice S320x256x2048 ![0, 0, 2048] x slices_S320x256x4096_S320x256x2048_0_0_2048 (ix3 k a n) : EReal) = x (ix3 k a ⟨2048 + n.val, by omega⟩) := by
  pointwise []

/-! ## The weights -/

theorem layer_at (w : FVec Ideal S2x32x2048x4096 .f32) (e : Fin 32) (d : Fin 2048) (n : Fin 4096) :
    (shapeCast S32x2048x4096 (extractStridedSlice S1x32x2048x4096 ![1, 0, 0, 0] w slices_S2x32x2048x4096_S1x32x2048x4096_1_0_0_0)
      shapeCasts_S1x32x2048x4096_S32x2048x4096 (ix3 e d n) : EReal) = w (ix4 (1 : Fin 2) e d n) := by
  pointwise []

theorem column_at (v : IVec S320 32) (k : Fin 320) (z : Fin 1) : broadcastInDim S320x1 ![0] bcast_S320_S320x1_0 v (ix2 k z) = v (ix1 k) := by
  pointwise []

/-- Taking whole matrices out of a stack of them. -/
theorem take_at (w : FVec Ideal S32x2048x4096 .f32) (idx : IVec S320x1 32) (k : Fin 320) (e : Fin 32) (he : idx (ix2 k (0 : Fin 1)) = BitVec.ofNat 32 e.val)
    (d : Fin 2048) (n : Fin 4096) : Host.gather gather_S32x2048x4096_S320x1_S320x2048x4096_12_0_n_n_0_1_120484096 w idx (ix3 k d n) = w (ix3 e d n) := by
  unfold Host.gather
  refine congrArg w (funext fun a => Fin.ext ?_)
  show GatherDims.start gather_S32x2048x4096_S320x1_S320x2048x4096_12_0_n_n_0_1_120484096 (ix3 k d n) idx a
    + GatherDims.batchCoord gather_S32x2048x4096_S320x1_S320x2048x4096_12_0_n_n_0_1_120484096 (ix3 k d n) a
    + GatherDims.offCoord gather_S32x2048x4096_S320x1_S320x2048x4096_12_0_n_n_0_1_120484096 (ix3 k d n) a = _
  rw [GatherDims.batchCoord_eq_zero _ _ _ (show a ∉ ([] : List (Fin 3)) from List.not_mem_nil), Nat.add_zero]
  match a with
  | ⟨0, h⟩ =>
    rw [GatherDims.offCoord_eq_zero _ _ _ (fun h => ((GatherDims.mem_sKept _ _).mp h).1 (List.mem_singleton.mpr rfl)), Nat.add_zero]
    have hs : GatherDims.siIdx gather_S32x2048x4096_S320x1_S320x2048x4096_12_0_n_n_0_1_120484096 (ix3 k d n)
        ⟨List.idxOf (0 : Fin 3) ([0] : List (Fin 3)), List.idxOf_lt_length_iff.2 (List.mem_singleton.mpr rfl)⟩ = ix2 k (0 : Fin 1) := by
      funext b; apply Fin.ext
      match b with
      | ⟨0, _⟩ => rfl
      | ⟨1, _⟩ => rfl
    refine (dif_pos (show (0 : Fin 3) ∈ ([0] : List (Fin 3)) from List.mem_singleton.mpr rfl)).trans ?_
    refine (congrArg (fun x => min (idx x).toInt.toNat (32 - 1)) hs).trans ?_
    have hlt := e.isLt
    dsimp only
    rw [he, StableHlo.Predicate.toInt_ofNat_small _ (by omega)]
    show min ((e.val : Int)).toNat (32 - 1) = e.val
    omega
  | ⟨1, h⟩ =>
    have h0 : GatherDims.start gather_S32x2048x4096_S320x1_S320x2048x4096_12_0_n_n_0_1_120484096 (ix3 k d n) idx ⟨1, h⟩ = 0 :=
      dif_neg (show (1 : Fin 3) ∉ ([0] : List (Fin 3)) by decide)
    rw [h0, Nat.zero_add]
    rfl
  | ⟨2, h⟩ =>
    have h0 : GatherDims.start gather_S32x2048x4096_S320x1_S320x2048x4096_12_0_n_n_0_1_120484096 (ix3 k d n) idx ⟨2, h⟩ = 0 :=
      dif_neg (show (2 : Fin 3) ∉ ([0] : List (Fin 3)) by decide)
    rw [h0, Nat.zero_add]
    rfl

/-- Each block's matrix and each block's biases. -/
def stack (w : FVec Ideal S2x32x2048x4096 .f32) (rbe : IVec S320 32) : FVec Ideal S320x2048x4096 .f32 :=
  Host.gather gather_S32x2048x4096_S320x1_S320x2048x4096_12_0_n_n_0_1_120484096
    (shapeCast _ (extractStridedSlice S1x32x2048x4096 ![1, 0, 0, 0] w slices_S2x32x2048x4096_S1x32x2048x4096_1_0_0_0) shapeCasts_S1x32x2048x4096_S32x2048x4096)
    (broadcastInDim S320x1 ![0] bcast_S320_S320x1_0 rbe)
def biases (bias : FVec Ideal S32x4096 .f32) (rbe : IVec S320 32) : FVec Ideal S320x4096 .f32 :=
  Host.gather gather_S32x4096_S320x1_S320x4096_1_0_n_n_0_1_14096 bias (broadcastInDim S320x1 ![0] bcast_S320_S320x1_0 rbe)

section Taken

variable (rbe : IVec S320 32) (he : ∀ k : Fin 320, (rbe (ix1 k)).toNat < 32) (k : Fin 320)

theorem names (z : Fin 1) : broadcastInDim S320x1 ![0] bcast_S320_S320x1_0 rbe (ix2 k z) = BitVec.ofNat 32 (⟨(rbe (ix1 k)).toNat, he k⟩ : Fin 32).val := by
  rw [column_at]
  show _ = BitVec.ofNat 32 (BitVec.toNat _)
  rw [BitVec.ofNat_toNat, BitVec.setWidth_eq]

theorem stack_at (w : FVec Ideal S2x32x2048x4096 .f32) (d : Fin 2048) (n : Fin 4096) :
    (stack w rbe (ix3 k d n) : EReal) = w (ix4 (1 : Fin 2) (⟨(rbe (ix1 k)).toNat, he k⟩ : Fin 32) d n) :=
  (take_at _ _ _ _ (names rbe he k 0) d n).trans (layer_at w _ d n)

theorem biases_at (bias : FVec Ideal S32x4096 .f32) (n : Fin 4096) :
    (biases bias rbe (ix2 k n) : EReal) = bias (ix2 (⟨(rbe (ix1 k)).toNat, he k⟩ : Fin 32) n) :=
  Routing.gather_row _ rfl rfl rfl rfl rfl bias _ _ n _ (names rbe he k 0) (by decide)

theorem both_side (x : IVec S655360x128 32) (w : FVec Ideal S2x32x2048x4096 .f32) (bias : FVec Ideal S32x4096 .f32) (a : Fin 256) (r : Fin 81920)
    (hr : k.val * 256 + a.val = r.val) (n : Fin 4096) :
    (both (joined (lows (grouped x)) (highs (grouped x))) (stack w rbe) (biases bias rbe) (ix3 k a n) : EReal)
      = side x w bias ⟨(rbe (ix1 k)).toNat, he k⟩ r n := by
  have row : (⟨k.val * 256 + a.val, by omega⟩ : Fin 81920) = r := Fin.ext hr
  refine (both_words _ _ _ k a n).trans ?_
  unfold side
  refine proj_congr (fun d => ?_) (fun d => stack_at rbe he k w d n) (biases_at rbe he k bias n)
  exact (grouped_at x k a d).trans (congrArg (fun z => wordOf x z d) row)

end Taken

/-- The reference's result. -/
def projected (x : IVec S655360x128 32) (w : FVec Ideal S2x32x2048x4096 .f32) (bias : FVec Ideal S32x4096 .f32) (rbe rbv : IVec S320 32) :
    FVec Ideal S81920x2048 .bf16 :=
  let p := both (joined (lows (grouped x)) (highs (grouped x))) (stack w rbe) (biases bias rbe)
  truncf .bf16 (shapeCast _ (marked (gated (extractStridedSlice S320x256x2048 ![0, 0, 0] p slices_S320x256x4096_S320x256x2048_0_0_0)
      (extractStridedSlice S320x256x2048 ![0, 0, 2048] p slices_S320x256x4096_S320x256x2048_0_0_2048)) rbv) shapeCasts_S320x256x2048_S81920x2048) bitsLt_bf16_f32

theorem halves_at (p : FVec Ideal S320x256x4096 .f32) (k : Fin 320) (a : Fin 256) (n : Fin 2048) :
    (gated (extractStridedSlice S320x256x2048 ![0, 0, 0] p slices_S320x256x4096_S320x256x2048_0_0_0)
      (extractStridedSlice S320x256x2048 ![0, 0, 2048] p slices_S320x256x4096_S320x256x2048_0_0_2048) (ix3 k a n) : EReal)
      = glu (p (ix3 k a ⟨n.val, by omega⟩)) (p (ix3 k a ⟨2048 + n.val, by omega⟩)) :=
  (gated_at _ _ _).trans (congrArg₂ glu (gate_at p k a n) (up_at p k a n))

theorem rows_at (p : FVec Ideal S320x256x4096 .f32) (rbv : IVec S320 32) (r : Fin 81920) (n : Fin 2048) :
    (truncf .bf16 (shapeCast S81920x2048 (marked (gated (extractStridedSlice S320x256x2048 ![0, 0, 0] p slices_S320x256x4096_S320x256x2048_0_0_0)
      (extractStridedSlice S320x256x2048 ![0, 0, 2048] p slices_S320x256x4096_S320x256x2048_0_0_2048)) rbv) shapeCasts_S320x256x2048_S81920x2048) bitsLt_bf16_f32 (ix2 r n) : EReal)
      = if rbv (ix1 (⟨r.val / 256, by omega⟩ : Fin 320)) = 1#32 then
          glu (p (ix3 ⟨r.val / 256, by omega⟩ ⟨r.val % 256, by omega⟩ ⟨n.val, by omega⟩)) (p (ix3 ⟨r.val / 256, by omega⟩ ⟨r.val % 256, by omega⟩ ⟨2048 + n.val, by omega⟩))
        else 0 := by
  refine (flat_at _ r n).trans ((marked_at _ _ _ _ _).trans ?_)
  by_cases hm : rbv (ix1 (⟨r.val / 256, by omega⟩ : Fin 320)) = 1#32
  · rw [if_pos hm, (Cert.Pre_routed.Dn.eq_one _ _).mpr hm]
    exact halves_at p _ _ n
  · rw [if_neg hm, ValueIdx.eq_zero_of_ne_one (fun h => hm ((Cert.Pre_routed.Dn.eq_one _ _).mp h))]
    exact Ideal.ofBits_zero_f32

theorem projected_at (x : IVec S655360x128 32) (w : FVec Ideal S2x32x2048x4096 .f32) (bias : FVec Ideal S32x4096 .f32) (rbe rbv : IVec S320 32)
    (he : ∀ k : Fin 320, (rbe (ix1 k)).toNat < 32) (r : Fin 81920) (n : Fin 2048) :
    (projected x w bias rbe rbv (ix2 r n) : EReal) = lift x w bias rbe rbv he r n := by
  have row : r.val / 256 * 256 + r.val % 256 = r.val := by omega
  have hp (c : Fin 4096) := both_side rbe he (⟨r.val / 256, by omega⟩ : Fin 320) x w bias (⟨r.val % 256, by omega⟩ : Fin 256) r row c
  unfold projected lift
  refine (rows_at _ rbv r n).trans ?_
  rw [hp, hp]

end Cert.Reference5Ideal.Up

namespace Cert.Up

open Idealize.ShloMosaic Idealize.ShloMosaic.TcCoe Idealize.SL.Sem

/-- The reference's array is the kernel's. -/
theorem result5_eq (m : (ℓ : Loc Cert.Kernel5Ideal.nD Cert.Kernel5Ideal.τ Cert.Kernel5Ideal.sig) → Buf (Elt Ideal) ℓ) (hl : Cert.Kernel5Ideal.Up.Routes m)
    (x : IVec Cert.Reference5Ideal.S655360x128 32) (w : FVec Ideal Cert.Reference5Ideal.S2x32x2048x4096 .f32)
    (bias : FVec Ideal Cert.Reference5Ideal.S32x4096 .f32) (rbe rbv : IVec Cert.Reference5Ideal.S320 32) (c : Dev Cert.Kernel5Ideal.nD)
    (h0 : x = m ((c : Thread Cert.Kernel5Ideal.nD Cert.Kernel5Ideal.τ).loc Cert.Kernel5Ideal.main_arg0))
    (h1 : w = m ((c : Thread Cert.Kernel5Ideal.nD Cert.Kernel5Ideal.τ).loc Cert.Kernel5Ideal.main_arg1))
    (h2 : bias = m ((c : Thread Cert.Kernel5Ideal.nD Cert.Kernel5Ideal.τ).loc Cert.Kernel5Ideal.main_arg2))
    (h3 : rbe = m ((c : Thread Cert.Kernel5Ideal.nD Cert.Kernel5Ideal.τ).loc Cert.Kernel5Ideal.main_arg3))
    (h4 : rbv = m ((c : Thread Cert.Kernel5Ideal.nD Cert.Kernel5Ideal.τ).loc Cert.Kernel5Ideal.main_arg4)) :
    Cert.Reference5Ideal.Up.projected x w bias rbe rbv = Cert.Kernel5Ideal.Up.result m hl c := by
  obtain rfl : c = 0 := Subsingleton.elim _ _
  subst h0 h1 h2 h3 h4
  funext y
  change Cert.Reference5Ideal.S81920x2048.Idx at y
  idx_vars y
  exact (Cert.Reference5Ideal.Up.projected_at _ _ _ _ _ hl.rbe_lt _ _).trans (Cert.Kernel5Ideal.Up.result_at m hl 0 _ _).symm

end Cert.Up

end
-- ==== Proof.lean ====
/- The proof of the certificate's claim, for the retention, the two widths of the input projection, and the experts' down and up projections: every
   run ends quiet with its arguments kept, an idealised kernel is the kernel's text, and its result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel3
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Pre_routed
public import proofs.«01_k».proof.Proof.Gen.Reference4Ideal
public import proofs.«01_k».proof.Proof.Gen.Reference4Ideal.Run
public import proofs.«01_k».proof.Proof.Ret.Value
public import proofs.«01_k».proof.Proof.In2.Value
public import proofs.«01_k».proof.Proof.In3.Value
public import proofs.«01_k».proof.Proof.Dn.Value
public import proofs.«01_k».proof.Proof.Gen.Kernel5
public import proofs.«01_k».proof.Proof.Gen.Pre_routed_up
public import proofs.«01_k».proof.Proof.Gen.Reference5Ideal
public import proofs.«01_k».proof.Proof.Gen.Reference5Ideal.Run
public import proofs.«01_k».proof.Proof.Up.Value
public import Idealize.ShloMosaic.Adequacy
public import Idealize.ShloMosaic.Init

@[expose] public section

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_routed.Gen.facts, Cert.Pre_routed_up.Gen.facts,
  fun m ρ _ => Eq.mp (by sl_kernel_rfl) (Cert.KernelIdeal.Ret.quiet (F := Bits) m ρ),
  fun m ρ _ => Cert.KernelIdeal.Ret.quiet (F := Ideal) m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Eq.mp (by sl_kernel_rfl) (Cert.Kernel2Ideal.Gen.frame (F := Bits) m ρ),
  fun m ρ _ => Cert.Kernel2Ideal.Gen.frame (F := Ideal) m ρ,
  fun m ρ _ => (θ_run Cert.Reference2Ideal.defs _ _).mono (fun r h => ⟨fun c => (h c).2, sem_eq_zero_of_no_sems (by decide) r.2⟩)
    (Cert.Reference2Ideal.Value.run (F := Ideal) m ρ),
  fun m ρ _ => Eq.mp (by sl_kernel_rfl) (Cert.Kernel3Ideal.Gen.frame (F := Bits) m ρ),
  fun m ρ _ => Cert.Kernel3Ideal.Gen.frame (F := Ideal) m ρ,
  fun m ρ _ => (θ_run Cert.Reference3Ideal.defs _ _).mono (fun r h => ⟨fun c => (h c).2, sem_eq_zero_of_no_sems (by decide) r.2⟩)
    (Cert.Reference3Ideal.Value.run (F := Ideal) m ρ),
  fun m ρ pre => Eq.mp (by sl_kernel_rfl) (Cert.Kernel4Ideal.Dn.quiet (F := Bits) m ρ (Cert.Kernel4Ideal.Dn.routes_of (F := Bits) m (pre 0))),
  fun m ρ pre => Cert.Kernel4Ideal.Dn.quiet (F := Ideal) m ρ (Cert.Kernel4Ideal.Dn.routes_of (F := Ideal) m (pre 0)),
  fun m ρ _ => (θ_run Cert.Reference4Ideal.defs _ _).mono (fun r h => ⟨fun c => (h c).2, sem_eq_zero_of_no_sems (by decide) r.2⟩)
    (Cert.Reference4Ideal.Value.run (F := Ideal) m ρ),
  fun m ρ _ => (θ_run Cert.Reference4Ideal.defs _ _).mono (fun r h => ⟨fun c => (h c).2, sem_eq_zero_of_no_sems (by decide) r.2⟩)
    (Cert.Reference4Ideal.Value.run (F := Ideal) m ρ),
  fun m ρ pre => Eq.mp (by sl_kernel_rfl) (Cert.Kernel5Ideal.Up.quiet (F := Bits) m ρ (Cert.Kernel5Ideal.Up.routes_of (F := Bits) m (pre 0))),
  fun m ρ pre => Cert.Kernel5Ideal.Up.quiet (F := Ideal) m ρ (Cert.Kernel5Ideal.Up.routes_of (F := Ideal) m (pre 0)),
  fun m ρ _ => (θ_run Cert.Reference5Ideal.defs _ _).mono (fun r h => ⟨fun c => (h c).2, sem_eq_zero_of_no_sems (by decide) r.2⟩)
    (Cert.Reference5Ideal.Value.run (F := Ideal) m ρ),
  fun m ρ _ => (θ_run Cert.Reference5Ideal.defs _ _).mono (fun r h => ⟨fun c => (h c).2, sem_eq_zero_of_no_sems (by decide) r.2⟩)
    (Cert.Reference5Ideal.Value.run (F := Ideal) m ρ),
  trivial,
  fun m ρ m' ρ' _ hag => ⟨fun c => Cert.KernelIdeal.Ret.result m c, Cert.KernelIdeal.Ret.run m ρ,
    (θ_run _ _ _).mono (fun _ h c => ⟨(h c).1.trans (Cert.Ret.result_eq m m' c (hag c).1 (hag c).2), (h c).2⟩)
      (Cert.ReferenceIdeal.Value.run m' ρ')⟩,
  trivial,
  fun m ρ m' ρ' _ hag => ⟨fun c => Cert.Kernel2Ideal.Value.G5 m c, Cert.Kernel2Ideal.Value.run m ρ,
    (θ_run _ _ _).mono (fun _ h c => ⟨(h c).1.trans (Cert.In.result2_eq m _ _ _ _ _ c (hag c).1 (hag c).2.1 (hag c).2.2.1 (hag c).2.2.2.1 (hag c).2.2.2.2), (h c).2⟩)
      (Cert.Reference2Ideal.Value.run m' ρ')⟩,
  trivial,
  fun m ρ m' ρ' _ hag => ⟨fun c => Cert.Kernel3Ideal.Value.G5 m c, Cert.Kernel3Ideal.Value.run m ρ,
    (θ_run _ _ _).mono (fun _ h c => ⟨(h c).1.trans (Cert.In.result3_eq m _ _ _ _ _ c (hag c).1 (hag c).2.1 (hag c).2.2.1 (hag c).2.2.2.1 (hag c).2.2.2.2), (h c).2⟩)
      (Cert.Reference3Ideal.Value.run m' ρ')⟩,
  trivial,
  fun m ρ m' ρ' pre hag => ⟨fun c => Cert.Kernel4Ideal.Dn.result m (Cert.Kernel4Ideal.Dn.routes_of (F := Ideal) m (pre 0)) c,
    (θ_run _ _ _).mono (fun _ h => h.1) (Cert.Kernel4Ideal.Dn.run m ρ (Cert.Kernel4Ideal.Dn.routes_of (F := Ideal) m (pre 0))),
    (θ_run _ _ _).mono (fun _ h c => ⟨(h c).1.trans (Cert.Dn.result4_eq m (Cert.Kernel4Ideal.Dn.routes_of (F := Ideal) m (pre 0)) _ _ _ _ _ c
      (hag c).1 (hag c).2.1 (hag c).2.2.1 (hag c).2.2.2.1 (hag c).2.2.2.2.1), (h c).2⟩)
      (Cert.Reference4Ideal.Value.run m' ρ')⟩,
  trivial,
  fun m ρ m' ρ' pre hag => ⟨fun c => Cert.Kernel5Ideal.Up.result m (Cert.Kernel5Ideal.Up.routes_of (F := Ideal) m (pre 0)) c,
    (θ_run _ _ _).mono (fun _ h => h.1) (Cert.Kernel5Ideal.Up.run m ρ (Cert.Kernel5Ideal.Up.routes_of (F := Ideal) m (pre 0))),
    (θ_run _ _ _).mono (fun _ h c => ⟨(h c).1.trans (Cert.Up.result5_eq m (Cert.Kernel5Ideal.Up.routes_of (F := Ideal) m (pre 0)) _ _ _ _ _ c
      (hag c).1 (hag c).2.1 (hag c).2.2.1 (hag c).2.2.2.1 (hag c).2.2.2.2.1), (h c).2⟩)
      (Cert.Reference5Ideal.Value.run m' ρ')⟩⟩

end Cert.Proof

end
